-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_Qkv0ReferenceIdeal (m : (ℓ : Loc Cert.Qkv0ReferenceIdeal.nD Cert.Qkv0ReferenceIdeal.τ Cert.Qkv0ReferenceIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1ReferenceIdeal (m : (ℓ : Loc Cert.Qkv1ReferenceIdeal.nD Cert.Qkv1ReferenceIdeal.τ Cert.Qkv1ReferenceIdeal.sig) → Buf (Elt Ideal) ℓ) : Prop :=
  True

def Pre_Qkv2 (m : (ℓ : Loc Cert.Qkv2.nD Cert.Qkv2.τ Cert.Qkv2.sig) → Buf (Elt Bits) ℓ) : Prop :=
  True

def Pre_Qkv2Ideal (m : (ℓ : Loc Cert.Qkv2Ideal.nD Cert.Qkv2Ideal.τ Cert.Qkv2Ideal.sig) → Buf (Elt Ideal) ℓ) : Prop :=
  True

def Pre_Qkv2ReferenceIdeal (m : (ℓ : Loc Cert.Qkv2ReferenceIdeal.nD Cert.Qkv2ReferenceIdeal.τ Cert.Qkv2ReferenceIdeal.sig) → Buf (Elt Ideal) ℓ) : Prop :=
  True

def Pre_Qkv3 (m : (ℓ : Loc Cert.Qkv3.nD Cert.Qkv3.τ Cert.Qkv3.sig) → Buf (Elt Bits) ℓ) : Prop :=
  True

def Pre_Qkv3Ideal (m : (ℓ : Loc Cert.Qkv3Ideal.nD Cert.Qkv3Ideal.τ Cert.Qkv3Ideal.sig) → Buf (Elt Ideal) ℓ) : Prop :=
  True

def Pre_Qkv3ReferenceIdeal (m : (ℓ : Loc Cert.Qkv3ReferenceIdeal.nD Cert.Qkv3ReferenceIdeal.τ Cert.Qkv3ReferenceIdeal.sig) → Buf (Elt Ideal) ℓ) : Prop :=
  True

def Pre_Attn0 (m : (ℓ : Loc Cert.Attn0.nD Cert.Attn0.τ Cert.Attn0.sig) → Buf (Elt Bits) ℓ) : Prop :=
  True

def Pre_Attn0Ideal (m : (ℓ : Loc Cert.Attn0Ideal.nD Cert.Attn0Ideal.τ Cert.Attn0Ideal.sig) → Buf (Elt Ideal) ℓ) : Prop :=
  True

def Pre_Attn0ReferenceIdeal (m : (ℓ : Loc Cert.Attn0ReferenceIdeal.nD Cert.Attn0ReferenceIdeal.τ Cert.Attn0ReferenceIdeal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1ReferenceIdeal (m : (ℓ : Loc Cert.Attn1ReferenceIdeal.nD Cert.Attn1ReferenceIdeal.τ Cert.Attn1ReferenceIdeal.sig) → Buf (Elt Ideal) ℓ) : Prop :=
  True

def Pre_Attn2 (m : (ℓ : Loc Cert.Attn2.nD Cert.Attn2.τ Cert.Attn2.sig) → Buf (Elt Bits) ℓ) : Prop :=
  True

def Pre_Attn2Ideal (m : (ℓ : Loc Cert.Attn2Ideal.nD Cert.Attn2Ideal.τ Cert.Attn2Ideal.sig) → Buf (Elt Ideal) ℓ) : Prop :=
  True

def Pre_Attn2ReferenceIdeal (m : (ℓ : Loc Cert.Attn2ReferenceIdeal.nD Cert.Attn2ReferenceIdeal.τ Cert.Attn2ReferenceIdeal.sig) → Buf (Elt Ideal) ℓ) : Prop :=
  True

def Pre_Attn3 (m : (ℓ : Loc Cert.Attn3.nD Cert.Attn3.τ Cert.Attn3.sig) → Buf (Elt Bits) ℓ) : Prop :=
  True

def Pre_Attn3Ideal (m : (ℓ : Loc Cert.Attn3Ideal.nD Cert.Attn3Ideal.τ Cert.Attn3Ideal.sig) → Buf (Elt Ideal) ℓ) : Prop :=
  True

def Pre_Attn3ReferenceIdeal (m : (ℓ : Loc Cert.Attn3ReferenceIdeal.nD Cert.Attn3ReferenceIdeal.τ Cert.Attn3ReferenceIdeal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0ReferenceIdeal (m : (ℓ : Loc Cert.Ffn0ReferenceIdeal.nD Cert.Ffn0ReferenceIdeal.τ Cert.Ffn0ReferenceIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1ReferenceIdeal (m : (ℓ : Loc Cert.Ffn1ReferenceIdeal.nD Cert.Ffn1ReferenceIdeal.τ Cert.Ffn1ReferenceIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2ReferenceIdeal (m : (ℓ : Loc Cert.Ffn2ReferenceIdeal.nD Cert.Ffn2ReferenceIdeal.τ Cert.Ffn2ReferenceIdeal.sig) → Buf (Elt Ideal) ℓ) : Prop :=
  True

def Pre_Ffn3 (m : (ℓ : Loc Cert.Ffn3.nD Cert.Ffn3.τ Cert.Ffn3.sig) → Buf (Elt Bits) ℓ) : Prop :=
  True

def Pre_Ffn3Ideal (m : (ℓ : Loc Cert.Ffn3Ideal.nD Cert.Ffn3Ideal.τ Cert.Ffn3Ideal.sig) → Buf (Elt Ideal) ℓ) : Prop :=
  True

def Pre_Ffn3ReferenceIdeal (m : (ℓ : Loc Cert.Ffn3ReferenceIdeal.nD Cert.Ffn3ReferenceIdeal.τ Cert.Ffn3ReferenceIdeal.sig) → Buf (Elt Ideal) ℓ) : Prop :=
  True

def Pre_Dout0 (m : (ℓ : Loc Cert.Dout0.nD Cert.Dout0.τ Cert.Dout0.sig) → Buf (Elt Bits) ℓ) : Prop :=
  True

def Pre_Dout0Ideal (m : (ℓ : Loc Cert.Dout0Ideal.nD Cert.Dout0Ideal.τ Cert.Dout0Ideal.sig) → Buf (Elt Ideal) ℓ) : Prop :=
  True

def Pre_Dout0ReferenceIdeal (m : (ℓ : Loc Cert.Dout0ReferenceIdeal.nD Cert.Dout0ReferenceIdeal.τ Cert.Dout0ReferenceIdeal.sig) → Buf (Elt Ideal) ℓ) : Prop :=
  True

def Pre_Dout1 (m : (ℓ : Loc Cert.Dout1.nD Cert.Dout1.τ Cert.Dout1.sig) → Buf (Elt Bits) ℓ) : Prop :=
  True

def Pre_Dout1Ideal (m : (ℓ : Loc Cert.Dout1Ideal.nD Cert.Dout1Ideal.τ Cert.Dout1Ideal.sig) → Buf (Elt Ideal) ℓ) : Prop :=
  True

def Pre_Dout1ReferenceIdeal (m : (ℓ : Loc Cert.Dout1ReferenceIdeal.nD Cert.Dout1ReferenceIdeal.τ Cert.Dout1ReferenceIdeal.sig) → Buf (Elt Ideal) ℓ) : Prop :=
  True

def Pre_Dout2 (m : (ℓ : Loc Cert.Dout2.nD Cert.Dout2.τ Cert.Dout2.sig) → Buf (Elt Bits) ℓ) : Prop :=
  True

def Pre_Dout2Ideal (m : (ℓ : Loc Cert.Dout2Ideal.nD Cert.Dout2Ideal.τ Cert.Dout2Ideal.sig) → Buf (Elt Ideal) ℓ) : Prop :=
  True

def Pre_Dout2ReferenceIdeal (m : (ℓ : Loc Cert.Dout2ReferenceIdeal.nD Cert.Dout2ReferenceIdeal.τ Cert.Dout2ReferenceIdeal.sig) → Buf (Elt Ideal) ℓ) : Prop :=
  True

def Pre_Dout3 (m : (ℓ : Loc Cert.Dout3.nD Cert.Dout3.τ Cert.Dout3.sig) → Buf (Elt Bits) ℓ) : Prop :=
  True

def Pre_Dout3Ideal (m : (ℓ : Loc Cert.Dout3Ideal.nD Cert.Dout3Ideal.τ Cert.Dout3Ideal.sig) → Buf (Elt Ideal) ℓ) : Prop :=
  True

def Pre_Dout3ReferenceIdeal (m : (ℓ : Loc Cert.Dout3ReferenceIdeal.nD Cert.Dout3ReferenceIdeal.τ Cert.Dout3ReferenceIdeal.sig) → Buf (Elt Ideal) ℓ) : Prop :=
  True

def Pre_Dact0 (m : (ℓ : Loc Cert.Dact0.nD Cert.Dact0.τ Cert.Dact0.sig) → Buf (Elt Bits) ℓ) : Prop :=
  True

def Pre_Dact0Ideal (m : (ℓ : Loc Cert.Dact0Ideal.nD Cert.Dact0Ideal.τ Cert.Dact0Ideal.sig) → Buf (Elt Ideal) ℓ) : Prop :=
  True

def Pre_Dact0ReferenceIdeal (m : (ℓ : Loc Cert.Dact0ReferenceIdeal.nD Cert.Dact0ReferenceIdeal.τ Cert.Dact0ReferenceIdeal.sig) → Buf (Elt Ideal) ℓ) : Prop :=
  True

def Pre_Dact1 (m : (ℓ : Loc Cert.Dact1.nD Cert.Dact1.τ Cert.Dact1.sig) → Buf (Elt Bits) ℓ) : Prop :=
  True

def Pre_Dact1Ideal (m : (ℓ : Loc Cert.Dact1Ideal.nD Cert.Dact1Ideal.τ Cert.Dact1Ideal.sig) → Buf (Elt Ideal) ℓ) : Prop :=
  True

def Pre_Dact1ReferenceIdeal (m : (ℓ : Loc Cert.Dact1ReferenceIdeal.nD Cert.Dact1ReferenceIdeal.τ Cert.Dact1ReferenceIdeal.sig) → Buf (Elt Ideal) ℓ) : Prop :=
  True

def Pre_Dact2 (m : (ℓ : Loc Cert.Dact2.nD Cert.Dact2.τ Cert.Dact2.sig) → Buf (Elt Bits) ℓ) : Prop :=
  True

def Pre_Dact2Ideal (m : (ℓ : Loc Cert.Dact2Ideal.nD Cert.Dact2Ideal.τ Cert.Dact2Ideal.sig) → Buf (Elt Ideal) ℓ) : Prop :=
  True

def Pre_Dact2ReferenceIdeal (m : (ℓ : Loc Cert.Dact2ReferenceIdeal.nD Cert.Dact2ReferenceIdeal.τ Cert.Dact2ReferenceIdeal.sig) → Buf (Elt Ideal) ℓ) : Prop :=
  True

def Pre_Dact3 (m : (ℓ : Loc Cert.Dact3.nD Cert.Dact3.τ Cert.Dact3.sig) → Buf (Elt Bits) ℓ) : Prop :=
  True

def Pre_Dact3Ideal (m : (ℓ : Loc Cert.Dact3Ideal.nD Cert.Dact3Ideal.τ Cert.Dact3Ideal.sig) → Buf (Elt Ideal) ℓ) : Prop :=
  True

def Pre_Dact3ReferenceIdeal (m : (ℓ : Loc Cert.Dact3ReferenceIdeal.nD Cert.Dact3ReferenceIdeal.τ Cert.Dact3ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ r.2.sem = fun _ => 0)

def quiescent_Qkv0ReferenceIdeal [hQkv0ReferenceIdeal : Cert.Qkv0ReferenceIdeal.Facts] : Prop :=
  ∀ (m : (ℓ : Loc Cert.Qkv0ReferenceIdeal.nD Cert.Qkv0ReferenceIdeal.τ Cert.Qkv0ReferenceIdeal.sig) → Buf (Elt Ideal) ℓ) (g : Dev Cert.Qkv0ReferenceIdeal.nD → PrngReg), Pre_Qkv0ReferenceIdeal m →
    θ_run (Cert.Qkv0ReferenceIdeal.defs (F := Ideal)) (onTc (τ := Cert.Qkv0ReferenceIdeal.τ) (Cert.Qkv0ReferenceIdeal.main (F := Ideal))) ⟨m, fun _ => 0, g⟩ (fun r => (∀ c : Dev Cert.Qkv0ReferenceIdeal.nD,
      r.2.mem ((c.tc : Thread Cert.Qkv0ReferenceIdeal.nD Cert.Qkv0ReferenceIdeal.τ).loc Cert.Qkv0ReferenceIdeal.main_arg0) = m ((c.tc : Thread Cert.Qkv0ReferenceIdeal.nD Cert.Qkv0ReferenceIdeal.τ).loc Cert.Qkv0ReferenceIdeal.main_arg0)
      ∧ r.2.mem ((c.tc : Thread Cert.Qkv0ReferenceIdeal.nD Cert.Qkv0ReferenceIdeal.τ).loc Cert.Qkv0ReferenceIdeal.main_arg1) = m ((c.tc : Thread Cert.Qkv0ReferenceIdeal.nD Cert.Qkv0ReferenceIdeal.τ).loc Cert.Qkv0ReferenceIdeal.main_arg1))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ r.2.sem = fun _ => 0)

def quiescent_Qkv1ReferenceIdeal [hQkv1ReferenceIdeal : Cert.Qkv1ReferenceIdeal.Facts] : Prop :=
  ∀ (m : (ℓ : Loc Cert.Qkv1ReferenceIdeal.nD Cert.Qkv1ReferenceIdeal.τ Cert.Qkv1ReferenceIdeal.sig) → Buf (Elt Ideal) ℓ) (g : Dev Cert.Qkv1ReferenceIdeal.nD → PrngReg), Pre_Qkv1ReferenceIdeal m →
    θ_run (Cert.Qkv1ReferenceIdeal.defs (F := Ideal)) (onTc (τ := Cert.Qkv1ReferenceIdeal.τ) (Cert.Qkv1ReferenceIdeal.main (F := Ideal))) ⟨m, fun _ => 0, g⟩ (fun r => (∀ c : Dev Cert.Qkv1ReferenceIdeal.nD,
      r.2.mem ((c.tc : Thread Cert.Qkv1ReferenceIdeal.nD Cert.Qkv1ReferenceIdeal.τ).loc Cert.Qkv1ReferenceIdeal.main_arg0) = m ((c.tc : Thread Cert.Qkv1ReferenceIdeal.nD Cert.Qkv1ReferenceIdeal.τ).loc Cert.Qkv1ReferenceIdeal.main_arg0)
      ∧ r.2.mem ((c.tc : Thread Cert.Qkv1ReferenceIdeal.nD Cert.Qkv1ReferenceIdeal.τ).loc Cert.Qkv1ReferenceIdeal.main_arg1) = m ((c.tc : Thread Cert.Qkv1ReferenceIdeal.nD Cert.Qkv1ReferenceIdeal.τ).loc Cert.Qkv1ReferenceIdeal.main_arg1))
      ∧ r.2.sem = fun _ => 0)

def quiescent_Qkv2 [hQkv2 : Cert.Qkv2.Facts] : Prop :=
  ∀ (m : (ℓ : Loc Cert.Qkv2.nD Cert.Qkv2.τ Cert.Qkv2.sig) → Buf (Elt Bits) ℓ) (g : Dev Cert.Qkv2.nD → PrngReg), Pre_Qkv2 m →
    θ_run (Cert.Qkv2.defs (F := Bits)) (onTc (τ := Cert.Qkv2.τ) (Cert.Qkv2.main (F := Bits))) ⟨m, fun _ => 0, g⟩ (fun r => (∀ c : Dev Cert.Qkv2.nD,
      r.2.mem ((c.tc : Thread Cert.Qkv2.nD Cert.Qkv2.τ).loc Cert.Qkv2.main_arg0) = m ((c.tc : Thread Cert.Qkv2.nD Cert.Qkv2.τ).loc Cert.Qkv2.main_arg0)
      ∧ r.2.mem ((c.tc : Thread Cert.Qkv2.nD Cert.Qkv2.τ).loc Cert.Qkv2.main_arg1) = m ((c.tc : Thread Cert.Qkv2.nD Cert.Qkv2.τ).loc Cert.Qkv2.main_arg1))
      ∧ r.2.sem = fun _ => 0)

def quiescent_Qkv2Ideal [hQkv2Ideal : Cert.Qkv2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg), Pre_Qkv2Ideal m →
    θ_run (Cert.Qkv2Ideal.defs (F := Ideal)) (onTc (τ := Cert.Qkv2Ideal.τ) (Cert.Qkv2Ideal.main (F := Ideal))) ⟨m, fun _ => 0, g⟩ (fun r => (∀ c : Dev Cert.Qkv2Ideal.nD,
      r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
      ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1))
      ∧ r.2.sem = fun _ => 0)

def quiescent_Qkv2ReferenceIdeal [hQkv2ReferenceIdeal : Cert.Qkv2ReferenceIdeal.Facts] : Prop :=
  ∀ (m : (ℓ : Loc Cert.Qkv2ReferenceIdeal.nD Cert.Qkv2ReferenceIdeal.τ Cert.Qkv2ReferenceIdeal.sig) → Buf (Elt Ideal) ℓ) (g : Dev Cert.Qkv2ReferenceIdeal.nD → PrngReg), Pre_Qkv2ReferenceIdeal m →
    θ_run (Cert.Qkv2ReferenceIdeal.defs (F := Ideal)) (onTc (τ := Cert.Qkv2ReferenceIdeal.τ) (Cert.Qkv2ReferenceIdeal.main (F := Ideal))) ⟨m, fun _ => 0, g⟩ (fun r => (∀ c : Dev Cert.Qkv2ReferenceIdeal.nD,
      r.2.mem ((c.tc : Thread Cert.Qkv2ReferenceIdeal.nD Cert.Qkv2ReferenceIdeal.τ).loc Cert.Qkv2ReferenceIdeal.main_arg0) = m ((c.tc : Thread Cert.Qkv2ReferenceIdeal.nD Cert.Qkv2ReferenceIdeal.τ).loc Cert.Qkv2ReferenceIdeal.main_arg0)
      ∧ r.2.mem ((c.tc : Thread Cert.Qkv2ReferenceIdeal.nD Cert.Qkv2ReferenceIdeal.τ).loc Cert.Qkv2ReferenceIdeal.main_arg1) = m ((c.tc : Thread Cert.Qkv2ReferenceIdeal.nD Cert.Qkv2ReferenceIdeal.τ).loc Cert.Qkv2ReferenceIdeal.main_arg1))
      ∧ r.2.sem = fun _ => 0)

def quiescent_Qkv3 [hQkv3 : Cert.Qkv3.Facts] : Prop :=
  ∀ (m : (ℓ : Loc Cert.Qkv3.nD Cert.Qkv3.τ Cert.Qkv3.sig) → Buf (Elt Bits) ℓ) (g : Dev Cert.Qkv3.nD → PrngReg), Pre_Qkv3 m →
    θ_run (Cert.Qkv3.defs (F := Bits)) (onTc (τ := Cert.Qkv3.τ) (Cert.Qkv3.main (F := Bits))) ⟨m, fun _ => 0, g⟩ (fun r => (∀ c : Dev Cert.Qkv3.nD,
      r.2.mem ((c.tc : Thread Cert.Qkv3.nD Cert.Qkv3.τ).loc Cert.Qkv3.main_arg0) = m ((c.tc : Thread Cert.Qkv3.nD Cert.Qkv3.τ).loc Cert.Qkv3.main_arg0)
      ∧ r.2.mem ((c.tc : Thread Cert.Qkv3.nD Cert.Qkv3.τ).loc Cert.Qkv3.main_arg1) = m ((c.tc : Thread Cert.Qkv3.nD Cert.Qkv3.τ).loc Cert.Qkv3.main_arg1))
      ∧ r.2.sem = fun _ => 0)

def quiescent_Qkv3Ideal [hQkv3Ideal : Cert.Qkv3Ideal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg), Pre_Qkv3Ideal m →
    θ_run (Cert.Qkv3Ideal.defs (F := Ideal)) (onTc (τ := Cert.Qkv3Ideal.τ) (Cert.Qkv3Ideal.main (F := Ideal))) ⟨m, fun _ => 0, g⟩ (fun r => (∀ c : Dev Cert.Qkv3Ideal.nD,
      r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
      ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1))
      ∧ r.2.sem = fun _ => 0)

def quiescent_Qkv3ReferenceIdeal [hQkv3ReferenceIdeal : Cert.Qkv3ReferenceIdeal.Facts] : Prop :=
  ∀ (m : (ℓ : Loc Cert.Qkv3ReferenceIdeal.nD Cert.Qkv3ReferenceIdeal.τ Cert.Qkv3ReferenceIdeal.sig) → Buf (Elt Ideal) ℓ) (g : Dev Cert.Qkv3ReferenceIdeal.nD → PrngReg), Pre_Qkv3ReferenceIdeal m →
    θ_run (Cert.Qkv3ReferenceIdeal.defs (F := Ideal)) (onTc (τ := Cert.Qkv3ReferenceIdeal.τ) (Cert.Qkv3ReferenceIdeal.main (F := Ideal))) ⟨m, fun _ => 0, g⟩ (fun r => (∀ c : Dev Cert.Qkv3ReferenceIdeal.nD,
      r.2.mem ((c.tc : Thread Cert.Qkv3ReferenceIdeal.nD Cert.Qkv3ReferenceIdeal.τ).loc Cert.Qkv3ReferenceIdeal.main_arg0) = m ((c.tc : Thread Cert.Qkv3ReferenceIdeal.nD Cert.Qkv3ReferenceIdeal.τ).loc Cert.Qkv3ReferenceIdeal.main_arg0)
      ∧ r.2.mem ((c.tc : Thread Cert.Qkv3ReferenceIdeal.nD Cert.Qkv3ReferenceIdeal.τ).loc Cert.Qkv3ReferenceIdeal.main_arg1) = m ((c.tc : Thread Cert.Qkv3ReferenceIdeal.nD Cert.Qkv3ReferenceIdeal.τ).loc Cert.Qkv3ReferenceIdeal.main_arg1))
      ∧ r.2.sem = fun _ => 0)

def quiescent_Attn0 [hAttn0 : Cert.Attn0.Facts] : Prop :=
  ∀ (m : (ℓ : Loc Cert.Attn0.nD Cert.Attn0.τ Cert.Attn0.sig) → Buf (Elt Bits) ℓ) (g : Dev Cert.Attn0.nD → PrngReg), Pre_Attn0 m →
    θ_run (Cert.Attn0.defs (F := Bits)) (onTc (τ := Cert.Attn0.τ) (Cert.Attn0.main (F := Bits))) ⟨m, fun _ => 0, g⟩ (fun r => (∀ c : Dev Cert.Attn0.nD,
      r.2.mem ((c.tc : Thread Cert.Attn0.nD Cert.Attn0.τ).loc Cert.Attn0.main_arg0) = m ((c.tc : Thread Cert.Attn0.nD Cert.Attn0.τ).loc Cert.Attn0.main_arg0)
      ∧ r.2.mem ((c.tc : Thread Cert.Attn0.nD Cert.Attn0.τ).loc Cert.Attn0.main_arg1) = m ((c.tc : Thread Cert.Attn0.nD Cert.Attn0.τ).loc Cert.Attn0.main_arg1))
      ∧ r.2.sem = fun _ => 0)

def quiescent_Attn0Ideal [hAttn0Ideal : Cert.Attn0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
      ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1))
      ∧ r.2.sem = fun _ => 0)

def quiescent_Attn0ReferenceIdeal [hAttn0ReferenceIdeal : Cert.Attn0ReferenceIdeal.Facts] : Prop :=
  ∀ (m : (ℓ : Loc Cert.Attn0ReferenceIdeal.nD Cert.Attn0ReferenceIdeal.τ Cert.Attn0ReferenceIdeal.sig) → Buf (Elt Ideal) ℓ) (g : Dev Cert.Attn0ReferenceIdeal.nD → PrngReg), Pre_Attn0ReferenceIdeal m →
    θ_run (Cert.Attn0ReferenceIdeal.defs (F := Ideal)) (onTc (τ := Cert.Attn0ReferenceIdeal.τ) (Cert.Attn0ReferenceIdeal.main (F := Ideal))) ⟨m, fun _ => 0, g⟩ (fun r => (∀ c : Dev Cert.Attn0ReferenceIdeal.nD,
      r.2.mem ((c.tc : Thread Cert.Attn0ReferenceIdeal.nD Cert.Attn0ReferenceIdeal.τ).loc Cert.Attn0ReferenceIdeal.main_arg0) = m ((c.tc : Thread Cert.Attn0ReferenceIdeal.nD Cert.Attn0ReferenceIdeal.τ).loc Cert.Attn0ReferenceIdeal.main_arg0)
      ∧ r.2.mem ((c.tc : Thread Cert.Attn0ReferenceIdeal.nD Cert.Attn0ReferenceIdeal.τ).loc Cert.Attn0ReferenceIdeal.main_arg1) = m ((c.tc : Thread Cert.Attn0ReferenceIdeal.nD Cert.Attn0ReferenceIdeal.τ).loc Cert.Attn0ReferenceIdeal.main_arg1))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1))
      ∧ r.2.sem = fun _ => 0)

def quiescent_Attn1ReferenceIdeal [hAttn1ReferenceIdeal : Cert.Attn1ReferenceIdeal.Facts] : Prop :=
  ∀ (m : (ℓ : Loc Cert.Attn1ReferenceIdeal.nD Cert.Attn1ReferenceIdeal.τ Cert.Attn1ReferenceIdeal.sig) → Buf (Elt Ideal) ℓ) (g : Dev Cert.Attn1ReferenceIdeal.nD → PrngReg), Pre_Attn1ReferenceIdeal m →
    θ_run (Cert.Attn1ReferenceIdeal.defs (F := Ideal)) (onTc (τ := Cert.Attn1ReferenceIdeal.τ) (Cert.Attn1ReferenceIdeal.main (F := Ideal))) ⟨m, fun _ => 0, g⟩ (fun r => (∀ c : Dev Cert.Attn1ReferenceIdeal.nD,
      r.2.mem ((c.tc : Thread Cert.Attn1ReferenceIdeal.nD Cert.Attn1ReferenceIdeal.τ).loc Cert.Attn1ReferenceIdeal.main_arg0) = m ((c.tc : Thread Cert.Attn1ReferenceIdeal.nD Cert.Attn1ReferenceIdeal.τ).loc Cert.Attn1ReferenceIdeal.main_arg0)
      ∧ r.2.mem ((c.tc : Thread Cert.Attn1ReferenceIdeal.nD Cert.Attn1ReferenceIdeal.τ).loc Cert.Attn1ReferenceIdeal.main_arg1) = m ((c.tc : Thread Cert.Attn1ReferenceIdeal.nD Cert.Attn1ReferenceIdeal.τ).loc Cert.Attn1ReferenceIdeal.main_arg1))
      ∧ r.2.sem = fun _ => 0)

def quiescent_Attn2 [hAttn2 : Cert.Attn2.Facts] : Prop :=
  ∀ (m : (ℓ : Loc Cert.Attn2.nD Cert.Attn2.τ Cert.Attn2.sig) → Buf (Elt Bits) ℓ) (g : Dev Cert.Attn2.nD → PrngReg), Pre_Attn2 m →
    θ_run (Cert.Attn2.defs (F := Bits)) (onTc (τ := Cert.Attn2.τ) (Cert.Attn2.main (F := Bits))) ⟨m, fun _ => 0, g⟩ (fun r => (∀ c : Dev Cert.Attn2.nD,
      r.2.mem ((c.tc : Thread Cert.Attn2.nD Cert.Attn2.τ).loc Cert.Attn2.main_arg0) = m ((c.tc : Thread Cert.Attn2.nD Cert.Attn2.τ).loc Cert.Attn2.main_arg0)
      ∧ r.2.mem ((c.tc : Thread Cert.Attn2.nD Cert.Attn2.τ).loc Cert.Attn2.main_arg1) = m ((c.tc : Thread Cert.Attn2.nD Cert.Attn2.τ).loc Cert.Attn2.main_arg1))
      ∧ r.2.sem = fun _ => 0)

def quiescent_Attn2Ideal [hAttn2Ideal : Cert.Attn2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
      ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1))
      ∧ r.2.sem = fun _ => 0)

def quiescent_Attn2ReferenceIdeal [hAttn2ReferenceIdeal : Cert.Attn2ReferenceIdeal.Facts] : Prop :=
  ∀ (m : (ℓ : Loc Cert.Attn2ReferenceIdeal.nD Cert.Attn2ReferenceIdeal.τ Cert.Attn2ReferenceIdeal.sig) → Buf (Elt Ideal) ℓ) (g : Dev Cert.Attn2ReferenceIdeal.nD → PrngReg), Pre_Attn2ReferenceIdeal m →
    θ_run (Cert.Attn2ReferenceIdeal.defs (F := Ideal)) (onTc (τ := Cert.Attn2ReferenceIdeal.τ) (Cert.Attn2ReferenceIdeal.main (F := Ideal))) ⟨m, fun _ => 0, g⟩ (fun r => (∀ c : Dev Cert.Attn2ReferenceIdeal.nD,
      r.2.mem ((c.tc : Thread Cert.Attn2ReferenceIdeal.nD Cert.Attn2ReferenceIdeal.τ).loc Cert.Attn2ReferenceIdeal.main_arg0) = m ((c.tc : Thread Cert.Attn2ReferenceIdeal.nD Cert.Attn2ReferenceIdeal.τ).loc Cert.Attn2ReferenceIdeal.main_arg0)
      ∧ r.2.mem ((c.tc : Thread Cert.Attn2ReferenceIdeal.nD Cert.Attn2ReferenceIdeal.τ).loc Cert.Attn2ReferenceIdeal.main_arg1) = m ((c.tc : Thread Cert.Attn2ReferenceIdeal.nD Cert.Attn2ReferenceIdeal.τ).loc Cert.Attn2ReferenceIdeal.main_arg1))
      ∧ r.2.sem = fun _ => 0)

def quiescent_Attn3 [hAttn3 : Cert.Attn3.Facts] : Prop :=
  ∀ (m : (ℓ : Loc Cert.Attn3.nD Cert.Attn3.τ Cert.Attn3.sig) → Buf (Elt Bits) ℓ) (g : Dev Cert.Attn3.nD → PrngReg), Pre_Attn3 m →
    θ_run (Cert.Attn3.defs (F := Bits)) (onTc (τ := Cert.Attn3.τ) (Cert.Attn3.main (F := Bits))) ⟨m, fun _ => 0, g⟩ (fun r => (∀ c : Dev Cert.Attn3.nD,
      r.2.mem ((c.tc : Thread Cert.Attn3.nD Cert.Attn3.τ).loc Cert.Attn3.main_arg0) = m ((c.tc : Thread Cert.Attn3.nD Cert.Attn3.τ).loc Cert.Attn3.main_arg0)
      ∧ r.2.mem ((c.tc : Thread Cert.Attn3.nD Cert.Attn3.τ).loc Cert.Attn3.main_arg1) = m ((c.tc : Thread Cert.Attn3.nD Cert.Attn3.τ).loc Cert.Attn3.main_arg1))
      ∧ r.2.sem = fun _ => 0)

def quiescent_Attn3Ideal [hAttn3Ideal : Cert.Attn3Ideal.Facts] : Prop :=
  ∀ (m : (ℓ : Loc Cert.Attn3Ideal.nD Cert.Attn3Ideal.τ Cert.Attn3Ideal.sig) → Buf (Elt Ideal) ℓ) (g : Dev Cert.Attn3Ideal.nD → PrngReg), Pre_Attn3Ideal m →
    θ_run (Cert.Attn3Ideal.defs (F := Ideal)) (onTc (τ := Cert.Attn3Ideal.τ) (Cert.Attn3Ideal.main (F := Ideal))) ⟨m, fun _ => 0, g⟩ (fun r => (∀ c : Dev Cert.Attn3Ideal.nD,
      r.2.mem ((c.tc : Thread Cert.Attn3Ideal.nD Cert.Attn3Ideal.τ).loc Cert.Attn3Ideal.main_arg0) = m ((c.tc : Thread Cert.Attn3Ideal.nD Cert.Attn3Ideal.τ).loc Cert.Attn3Ideal.main_arg0)
      ∧ r.2.mem ((c.tc : Thread Cert.Attn3Ideal.nD Cert.Attn3Ideal.τ).loc Cert.Attn3Ideal.main_arg1) = m ((c.tc : Thread Cert.Attn3Ideal.nD Cert.Attn3Ideal.τ).loc Cert.Attn3Ideal.main_arg1))
      ∧ r.2.sem = fun _ => 0)

def quiescent_Attn3ReferenceIdeal [hAttn3ReferenceIdeal : Cert.Attn3ReferenceIdeal.Facts] : Prop :=
  ∀ (m : (ℓ : Loc Cert.Attn3ReferenceIdeal.nD Cert.Attn3ReferenceIdeal.τ Cert.Attn3ReferenceIdeal.sig) → Buf (Elt Ideal) ℓ) (g : Dev Cert.Attn3ReferenceIdeal.nD → PrngReg), Pre_Attn3ReferenceIdeal m →
    θ_run (Cert.Attn3ReferenceIdeal.defs (F := Ideal)) (onTc (τ := Cert.Attn3ReferenceIdeal.τ) (Cert.Attn3ReferenceIdeal.main (F := Ideal))) ⟨m, fun _ => 0, g⟩ (fun r => (∀ c : Dev Cert.Attn3ReferenceIdeal.nD,
      r.2.mem ((c.tc : Thread Cert.Attn3ReferenceIdeal.nD Cert.Attn3ReferenceIdeal.τ).loc Cert.Attn3ReferenceIdeal.main_arg0) = m ((c.tc : Thread Cert.Attn3ReferenceIdeal.nD Cert.Attn3ReferenceIdeal.τ).loc Cert.Attn3ReferenceIdeal.main_arg0)
      ∧ r.2.mem ((c.tc : Thread Cert.Attn3ReferenceIdeal.nD Cert.Attn3ReferenceIdeal.τ).loc Cert.Attn3ReferenceIdeal.main_arg1) = m ((c.tc : Thread Cert.Attn3ReferenceIdeal.nD Cert.Attn3ReferenceIdeal.τ).loc Cert.Attn3ReferenceIdeal.main_arg1))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1))
      ∧ r.2.sem = fun _ => 0)

def quiescent_Ffn0ReferenceIdeal [hFfn0ReferenceIdeal : Cert.Ffn0ReferenceIdeal.Facts] : Prop :=
  ∀ (m : (ℓ : Loc Cert.Ffn0ReferenceIdeal.nD Cert.Ffn0ReferenceIdeal.τ Cert.Ffn0ReferenceIdeal.sig) → Buf (Elt Ideal) ℓ) (g : Dev Cert.Ffn0ReferenceIdeal.nD → PrngReg), Pre_Ffn0ReferenceIdeal m →
    θ_run (Cert.Ffn0ReferenceIdeal.defs (F := Ideal)) (onTc (τ := Cert.Ffn0ReferenceIdeal.τ) (Cert.Ffn0ReferenceIdeal.main (F := Ideal))) ⟨m, fun _ => 0, g⟩ (fun r => (∀ c : Dev Cert.Ffn0ReferenceIdeal.nD,
      r.2.mem ((c.tc : Thread Cert.Ffn0ReferenceIdeal.nD Cert.Ffn0ReferenceIdeal.τ).loc Cert.Ffn0ReferenceIdeal.main_arg0) = m ((c.tc : Thread Cert.Ffn0ReferenceIdeal.nD Cert.Ffn0ReferenceIdeal.τ).loc Cert.Ffn0ReferenceIdeal.main_arg0)
      ∧ r.2.mem ((c.tc : Thread Cert.Ffn0ReferenceIdeal.nD Cert.Ffn0ReferenceIdeal.τ).loc Cert.Ffn0ReferenceIdeal.main_arg1) = m ((c.tc : Thread Cert.Ffn0ReferenceIdeal.nD Cert.Ffn0ReferenceIdeal.τ).loc Cert.Ffn0ReferenceIdeal.main_arg1))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ r.2.sem = fun _ => 0)

def quiescent_Ffn1ReferenceIdeal [hFfn1ReferenceIdeal : Cert.Ffn1ReferenceIdeal.Facts] : Prop :=
  ∀ (m : (ℓ : Loc Cert.Ffn1ReferenceIdeal.nD Cert.Ffn1ReferenceIdeal.τ Cert.Ffn1ReferenceIdeal.sig) → Buf (Elt Ideal) ℓ) (g : Dev Cert.Ffn1ReferenceIdeal.nD → PrngReg), Pre_Ffn1ReferenceIdeal m →
    θ_run (Cert.Ffn1ReferenceIdeal.defs (F := Ideal)) (onTc (τ := Cert.Ffn1ReferenceIdeal.τ) (Cert.Ffn1ReferenceIdeal.main (F := Ideal))) ⟨m, fun _ => 0, g⟩ (fun r => (∀ c : Dev Cert.Ffn1ReferenceIdeal.nD,
      r.2.mem ((c.tc : Thread Cert.Ffn1ReferenceIdeal.nD Cert.Ffn1ReferenceIdeal.τ).loc Cert.Ffn1ReferenceIdeal.main_arg0) = m ((c.tc : Thread Cert.Ffn1ReferenceIdeal.nD Cert.Ffn1ReferenceIdeal.τ).loc Cert.Ffn1ReferenceIdeal.main_arg0)
      ∧ r.2.mem ((c.tc : Thread Cert.Ffn1ReferenceIdeal.nD Cert.Ffn1ReferenceIdeal.τ).loc Cert.Ffn1ReferenceIdeal.main_arg1) = m ((c.tc : Thread Cert.Ffn1ReferenceIdeal.nD Cert.Ffn1ReferenceIdeal.τ).loc Cert.Ffn1ReferenceIdeal.main_arg1))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1))
      ∧ r.2.sem = fun _ => 0)

def quiescent_Ffn2ReferenceIdeal [hFfn2ReferenceIdeal : Cert.Ffn2ReferenceIdeal.Facts] : Prop :=
  ∀ (m : (ℓ : Loc Cert.Ffn2ReferenceIdeal.nD Cert.Ffn2ReferenceIdeal.τ Cert.Ffn2ReferenceIdeal.sig) → Buf (Elt Ideal) ℓ) (g : Dev Cert.Ffn2ReferenceIdeal.nD → PrngReg), Pre_Ffn2ReferenceIdeal m →
    θ_run (Cert.Ffn2ReferenceIdeal.defs (F := Ideal)) (onTc (τ := Cert.Ffn2ReferenceIdeal.τ) (Cert.Ffn2ReferenceIdeal.main (F := Ideal))) ⟨m, fun _ => 0, g⟩ (fun r => (∀ c : Dev Cert.Ffn2ReferenceIdeal.nD,
      r.2.mem ((c.tc : Thread Cert.Ffn2ReferenceIdeal.nD Cert.Ffn2ReferenceIdeal.τ).loc Cert.Ffn2ReferenceIdeal.main_arg0) = m ((c.tc : Thread Cert.Ffn2ReferenceIdeal.nD Cert.Ffn2ReferenceIdeal.τ).loc Cert.Ffn2ReferenceIdeal.main_arg0)
      ∧ r.2.mem ((c.tc : Thread Cert.Ffn2ReferenceIdeal.nD Cert.Ffn2ReferenceIdeal.τ).loc Cert.Ffn2ReferenceIdeal.main_arg1) = m ((c.tc : Thread Cert.Ffn2ReferenceIdeal.nD Cert.Ffn2ReferenceIdeal.τ).loc Cert.Ffn2ReferenceIdeal.main_arg1))
      ∧ r.2.sem = fun _ => 0)

def quiescent_Ffn3 [hFfn3 : Cert.Ffn3.Facts] : Prop :=
  ∀ (m : (ℓ : Loc Cert.Ffn3.nD Cert.Ffn3.τ Cert.Ffn3.sig) → Buf (Elt Bits) ℓ) (g : Dev Cert.Ffn3.nD → PrngReg), Pre_Ffn3 m →
    θ_run (Cert.Ffn3.defs (F := Bits)) (onTc (τ := Cert.Ffn3.τ) (Cert.Ffn3.main (F := Bits))) ⟨m, fun _ => 0, g⟩ (fun r => (∀ c : Dev Cert.Ffn3.nD,
      r.2.mem ((c.tc : Thread Cert.Ffn3.nD Cert.Ffn3.τ).loc Cert.Ffn3.main_arg0) = m ((c.tc : Thread Cert.Ffn3.nD Cert.Ffn3.τ).loc Cert.Ffn3.main_arg0)
      ∧ r.2.mem ((c.tc : Thread Cert.Ffn3.nD Cert.Ffn3.τ).loc Cert.Ffn3.main_arg1) = m ((c.tc : Thread Cert.Ffn3.nD Cert.Ffn3.τ).loc Cert.Ffn3.main_arg1))
      ∧ r.2.sem = fun _ => 0)

def quiescent_Ffn3Ideal [hFfn3Ideal : Cert.Ffn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg), Pre_Ffn3Ideal m →
    θ_run (Cert.Ffn3Ideal.defs (F := Ideal)) (onTc (τ := Cert.Ffn3Ideal.τ) (Cert.Ffn3Ideal.main (F := Ideal))) ⟨m, fun _ => 0, g⟩ (fun r => (∀ c : Dev Cert.Ffn3Ideal.nD,
      r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
      ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1))
      ∧ r.2.sem = fun _ => 0)

def quiescent_Ffn3ReferenceIdeal [hFfn3ReferenceIdeal : Cert.Ffn3ReferenceIdeal.Facts] : Prop :=
  ∀ (m : (ℓ : Loc Cert.Ffn3ReferenceIdeal.nD Cert.Ffn3ReferenceIdeal.τ Cert.Ffn3ReferenceIdeal.sig) → Buf (Elt Ideal) ℓ) (g : Dev Cert.Ffn3ReferenceIdeal.nD → PrngReg), Pre_Ffn3ReferenceIdeal m →
    θ_run (Cert.Ffn3ReferenceIdeal.defs (F := Ideal)) (onTc (τ := Cert.Ffn3ReferenceIdeal.τ) (Cert.Ffn3ReferenceIdeal.main (F := Ideal))) ⟨m, fun _ => 0, g⟩ (fun r => (∀ c : Dev Cert.Ffn3ReferenceIdeal.nD,
      r.2.mem ((c.tc : Thread Cert.Ffn3ReferenceIdeal.nD Cert.Ffn3ReferenceIdeal.τ).loc Cert.Ffn3ReferenceIdeal.main_arg0) = m ((c.tc : Thread Cert.Ffn3ReferenceIdeal.nD Cert.Ffn3ReferenceIdeal.τ).loc Cert.Ffn3ReferenceIdeal.main_arg0)
      ∧ r.2.mem ((c.tc : Thread Cert.Ffn3ReferenceIdeal.nD Cert.Ffn3ReferenceIdeal.τ).loc Cert.Ffn3ReferenceIdeal.main_arg1) = m ((c.tc : Thread Cert.Ffn3ReferenceIdeal.nD Cert.Ffn3ReferenceIdeal.τ).loc Cert.Ffn3ReferenceIdeal.main_arg1))
      ∧ r.2.sem = fun _ => 0)

def quiescent_Dout0 [hDout0 : Cert.Dout0.Facts] : Prop :=
  ∀ (m : (ℓ : Loc Cert.Dout0.nD Cert.Dout0.τ Cert.Dout0.sig) → Buf (Elt Bits) ℓ) (g : Dev Cert.Dout0.nD → PrngReg), Pre_Dout0 m →
    θ_run (Cert.Dout0.defs (F := Bits)) (onTc (τ := Cert.Dout0.τ) (Cert.Dout0.main (F := Bits))) ⟨m, fun _ => 0, g⟩ (fun r => (∀ c : Dev Cert.Dout0.nD,
      r.2.mem ((c.tc : Thread Cert.Dout0.nD Cert.Dout0.τ).loc Cert.Dout0.main_arg0) = m ((c.tc : Thread Cert.Dout0.nD Cert.Dout0.τ).loc Cert.Dout0.main_arg0)
      ∧ r.2.mem ((c.tc : Thread Cert.Dout0.nD Cert.Dout0.τ).loc Cert.Dout0.main_arg1) = m ((c.tc : Thread Cert.Dout0.nD Cert.Dout0.τ).loc Cert.Dout0.main_arg1))
      ∧ r.2.sem = fun _ => 0)

def quiescent_Dout0Ideal [hDout0Ideal : Cert.Dout0Ideal.Facts] : Prop :=
  ∀ (m : (ℓ : Loc Cert.Dout0Ideal.nD Cert.Dout0Ideal.τ Cert.Dout0Ideal.sig) → Buf (Elt Ideal) ℓ) (g : Dev Cert.Dout0Ideal.nD → PrngReg), Pre_Dout0Ideal m →
    θ_run (Cert.Dout0Ideal.defs (F := Ideal)) (onTc (τ := Cert.Dout0Ideal.τ) (Cert.Dout0Ideal.main (F := Ideal))) ⟨m, fun _ => 0, g⟩ (fun r => (∀ c : Dev Cert.Dout0Ideal.nD,
      r.2.mem ((c.tc : Thread Cert.Dout0Ideal.nD Cert.Dout0Ideal.τ).loc Cert.Dout0Ideal.main_arg0) = m ((c.tc : Thread Cert.Dout0Ideal.nD Cert.Dout0Ideal.τ).loc Cert.Dout0Ideal.main_arg0)
      ∧ r.2.mem ((c.tc : Thread Cert.Dout0Ideal.nD Cert.Dout0Ideal.τ).loc Cert.Dout0Ideal.main_arg1) = m ((c.tc : Thread Cert.Dout0Ideal.nD Cert.Dout0Ideal.τ).loc Cert.Dout0Ideal.main_arg1))
      ∧ r.2.sem = fun _ => 0)

def quiescent_Dout0ReferenceIdeal [hDout0ReferenceIdeal : Cert.Dout0ReferenceIdeal.Facts] : Prop :=
  ∀ (m : (ℓ : Loc Cert.Dout0ReferenceIdeal.nD Cert.Dout0ReferenceIdeal.τ Cert.Dout0ReferenceIdeal.sig) → Buf (Elt Ideal) ℓ) (g : Dev Cert.Dout0ReferenceIdeal.nD → PrngReg), Pre_Dout0ReferenceIdeal m →
    θ_run (Cert.Dout0ReferenceIdeal.defs (F := Ideal)) (onTc (τ := Cert.Dout0ReferenceIdeal.τ) (Cert.Dout0ReferenceIdeal.main (F := Ideal))) ⟨m, fun _ => 0, g⟩ (fun r => (∀ c : Dev Cert.Dout0ReferenceIdeal.nD,
      r.2.mem ((c.tc : Thread Cert.Dout0ReferenceIdeal.nD Cert.Dout0ReferenceIdeal.τ).loc Cert.Dout0ReferenceIdeal.main_arg0) = m ((c.tc : Thread Cert.Dout0ReferenceIdeal.nD Cert.Dout0ReferenceIdeal.τ).loc Cert.Dout0ReferenceIdeal.main_arg0)
      ∧ r.2.mem ((c.tc : Thread Cert.Dout0ReferenceIdeal.nD Cert.Dout0ReferenceIdeal.τ).loc Cert.Dout0ReferenceIdeal.main_arg1) = m ((c.tc : Thread Cert.Dout0ReferenceIdeal.nD Cert.Dout0ReferenceIdeal.τ).loc Cert.Dout0ReferenceIdeal.main_arg1))
      ∧ r.2.sem = fun _ => 0)

def quiescent_Dout1 [hDout1 : Cert.Dout1.Facts] : Prop :=
  ∀ (m : (ℓ : Loc Cert.Dout1.nD Cert.Dout1.τ Cert.Dout1.sig) → Buf (Elt Bits) ℓ) (g : Dev Cert.Dout1.nD → PrngReg), Pre_Dout1 m →
    θ_run (Cert.Dout1.defs (F := Bits)) (onTc (τ := Cert.Dout1.τ) (Cert.Dout1.main (F := Bits))) ⟨m, fun _ => 0, g⟩ (fun r => (∀ c : Dev Cert.Dout1.nD,
      r.2.mem ((c.tc : Thread Cert.Dout1.nD Cert.Dout1.τ).loc Cert.Dout1.main_arg0) = m ((c.tc : Thread Cert.Dout1.nD Cert.Dout1.τ).loc Cert.Dout1.main_arg0)
      ∧ r.2.mem ((c.tc : Thread Cert.Dout1.nD Cert.Dout1.τ).loc Cert.Dout1.main_arg1) = m ((c.tc : Thread Cert.Dout1.nD Cert.Dout1.τ).loc Cert.Dout1.main_arg1))
      ∧ r.2.sem = fun _ => 0)

def quiescent_Dout1Ideal [hDout1Ideal : Cert.Dout1Ideal.Facts] : Prop :=
  ∀ (m : (ℓ : Loc Cert.Dout1Ideal.nD Cert.Dout1Ideal.τ Cert.Dout1Ideal.sig) → Buf (Elt Ideal) ℓ) (g : Dev Cert.Dout1Ideal.nD → PrngReg), Pre_Dout1Ideal m →
    θ_run (Cert.Dout1Ideal.defs (F := Ideal)) (onTc (τ := Cert.Dout1Ideal.τ) (Cert.Dout1Ideal.main (F := Ideal))) ⟨m, fun _ => 0, g⟩ (fun r => (∀ c : Dev Cert.Dout1Ideal.nD,
      r.2.mem ((c.tc : Thread Cert.Dout1Ideal.nD Cert.Dout1Ideal.τ).loc Cert.Dout1Ideal.main_arg0) = m ((c.tc : Thread Cert.Dout1Ideal.nD Cert.Dout1Ideal.τ).loc Cert.Dout1Ideal.main_arg0)
      ∧ r.2.mem ((c.tc : Thread Cert.Dout1Ideal.nD Cert.Dout1Ideal.τ).loc Cert.Dout1Ideal.main_arg1) = m ((c.tc : Thread Cert.Dout1Ideal.nD Cert.Dout1Ideal.τ).loc Cert.Dout1Ideal.main_arg1))
      ∧ r.2.sem = fun _ => 0)

def quiescent_Dout1ReferenceIdeal [hDout1ReferenceIdeal : Cert.Dout1ReferenceIdeal.Facts] : Prop :=
  ∀ (m : (ℓ : Loc Cert.Dout1ReferenceIdeal.nD Cert.Dout1ReferenceIdeal.τ Cert.Dout1ReferenceIdeal.sig) → Buf (Elt Ideal) ℓ) (g : Dev Cert.Dout1ReferenceIdeal.nD → PrngReg), Pre_Dout1ReferenceIdeal m →
    θ_run (Cert.Dout1ReferenceIdeal.defs (F := Ideal)) (onTc (τ := Cert.Dout1ReferenceIdeal.τ) (Cert.Dout1ReferenceIdeal.main (F := Ideal))) ⟨m, fun _ => 0, g⟩ (fun r => (∀ c : Dev Cert.Dout1ReferenceIdeal.nD,
      r.2.mem ((c.tc : Thread Cert.Dout1ReferenceIdeal.nD Cert.Dout1ReferenceIdeal.τ).loc Cert.Dout1ReferenceIdeal.main_arg0) = m ((c.tc : Thread Cert.Dout1ReferenceIdeal.nD Cert.Dout1ReferenceIdeal.τ).loc Cert.Dout1ReferenceIdeal.main_arg0)
      ∧ r.2.mem ((c.tc : Thread Cert.Dout1ReferenceIdeal.nD Cert.Dout1ReferenceIdeal.τ).loc Cert.Dout1ReferenceIdeal.main_arg1) = m ((c.tc : Thread Cert.Dout1ReferenceIdeal.nD Cert.Dout1ReferenceIdeal.τ).loc Cert.Dout1ReferenceIdeal.main_arg1))
      ∧ r.2.sem = fun _ => 0)

def quiescent_Dout2 [hDout2 : Cert.Dout2.Facts] : Prop :=
  ∀ (m : (ℓ : Loc Cert.Dout2.nD Cert.Dout2.τ Cert.Dout2.sig) → Buf (Elt Bits) ℓ) (g : Dev Cert.Dout2.nD → PrngReg), Pre_Dout2 m →
    θ_run (Cert.Dout2.defs (F := Bits)) (onTc (τ := Cert.Dout2.τ) (Cert.Dout2.main (F := Bits))) ⟨m, fun _ => 0, g⟩ (fun r => (∀ c : Dev Cert.Dout2.nD,
      r.2.mem ((c.tc : Thread Cert.Dout2.nD Cert.Dout2.τ).loc Cert.Dout2.main_arg0) = m ((c.tc : Thread Cert.Dout2.nD Cert.Dout2.τ).loc Cert.Dout2.main_arg0)
      ∧ r.2.mem ((c.tc : Thread Cert.Dout2.nD Cert.Dout2.τ).loc Cert.Dout2.main_arg1) = m ((c.tc : Thread Cert.Dout2.nD Cert.Dout2.τ).loc Cert.Dout2.main_arg1))
      ∧ r.2.sem = fun _ => 0)

def quiescent_Dout2Ideal [hDout2Ideal : Cert.Dout2Ideal.Facts] : Prop :=
  ∀ (m : (ℓ : Loc Cert.Dout2Ideal.nD Cert.Dout2Ideal.τ Cert.Dout2Ideal.sig) → Buf (Elt Ideal) ℓ) (g : Dev Cert.Dout2Ideal.nD → PrngReg), Pre_Dout2Ideal m →
    θ_run (Cert.Dout2Ideal.defs (F := Ideal)) (onTc (τ := Cert.Dout2Ideal.τ) (Cert.Dout2Ideal.main (F := Ideal))) ⟨m, fun _ => 0, g⟩ (fun r => (∀ c : Dev Cert.Dout2Ideal.nD,
      r.2.mem ((c.tc : Thread Cert.Dout2Ideal.nD Cert.Dout2Ideal.τ).loc Cert.Dout2Ideal.main_arg0) = m ((c.tc : Thread Cert.Dout2Ideal.nD Cert.Dout2Ideal.τ).loc Cert.Dout2Ideal.main_arg0)
      ∧ r.2.mem ((c.tc : Thread Cert.Dout2Ideal.nD Cert.Dout2Ideal.τ).loc Cert.Dout2Ideal.main_arg1) = m ((c.tc : Thread Cert.Dout2Ideal.nD Cert.Dout2Ideal.τ).loc Cert.Dout2Ideal.main_arg1))
      ∧ r.2.sem = fun _ => 0)

def quiescent_Dout2ReferenceIdeal [hDout2ReferenceIdeal : Cert.Dout2ReferenceIdeal.Facts] : Prop :=
  ∀ (m : (ℓ : Loc Cert.Dout2ReferenceIdeal.nD Cert.Dout2ReferenceIdeal.τ Cert.Dout2ReferenceIdeal.sig) → Buf (Elt Ideal) ℓ) (g : Dev Cert.Dout2ReferenceIdeal.nD → PrngReg), Pre_Dout2ReferenceIdeal m →
    θ_run (Cert.Dout2ReferenceIdeal.defs (F := Ideal)) (onTc (τ := Cert.Dout2ReferenceIdeal.τ) (Cert.Dout2ReferenceIdeal.main (F := Ideal))) ⟨m, fun _ => 0, g⟩ (fun r => (∀ c : Dev Cert.Dout2ReferenceIdeal.nD,
      r.2.mem ((c.tc : Thread Cert.Dout2ReferenceIdeal.nD Cert.Dout2ReferenceIdeal.τ).loc Cert.Dout2ReferenceIdeal.main_arg0) = m ((c.tc : Thread Cert.Dout2ReferenceIdeal.nD Cert.Dout2ReferenceIdeal.τ).loc Cert.Dout2ReferenceIdeal.main_arg0)
      ∧ r.2.mem ((c.tc : Thread Cert.Dout2ReferenceIdeal.nD Cert.Dout2ReferenceIdeal.τ).loc Cert.Dout2ReferenceIdeal.main_arg1) = m ((c.tc : Thread Cert.Dout2ReferenceIdeal.nD Cert.Dout2ReferenceIdeal.τ).loc Cert.Dout2ReferenceIdeal.main_arg1))
      ∧ r.2.sem = fun _ => 0)

def quiescent_Dout3 [hDout3 : Cert.Dout3.Facts] : Prop :=
  ∀ (m : (ℓ : Loc Cert.Dout3.nD Cert.Dout3.τ Cert.Dout3.sig) → Buf (Elt Bits) ℓ) (g : Dev Cert.Dout3.nD → PrngReg), Pre_Dout3 m →
    θ_run (Cert.Dout3.defs (F := Bits)) (onTc (τ := Cert.Dout3.τ) (Cert.Dout3.main (F := Bits))) ⟨m, fun _ => 0, g⟩ (fun r => (∀ c : Dev Cert.Dout3.nD,
      r.2.mem ((c.tc : Thread Cert.Dout3.nD Cert.Dout3.τ).loc Cert.Dout3.main_arg0) = m ((c.tc : Thread Cert.Dout3.nD Cert.Dout3.τ).loc Cert.Dout3.main_arg0)
      ∧ r.2.mem ((c.tc : Thread Cert.Dout3.nD Cert.Dout3.τ).loc Cert.Dout3.main_arg1) = m ((c.tc : Thread Cert.Dout3.nD Cert.Dout3.τ).loc Cert.Dout3.main_arg1))
      ∧ r.2.sem = fun _ => 0)

def quiescent_Dout3Ideal [hDout3Ideal : Cert.Dout3Ideal.Facts] : Prop :=
  ∀ (m : (ℓ : Loc Cert.Dout3Ideal.nD Cert.Dout3Ideal.τ Cert.Dout3Ideal.sig) → Buf (Elt Ideal) ℓ) (g : Dev Cert.Dout3Ideal.nD → PrngReg), Pre_Dout3Ideal m →
    θ_run (Cert.Dout3Ideal.defs (F := Ideal)) (onTc (τ := Cert.Dout3Ideal.τ) (Cert.Dout3Ideal.main (F := Ideal))) ⟨m, fun _ => 0, g⟩ (fun r => (∀ c : Dev Cert.Dout3Ideal.nD,
      r.2.mem ((c.tc : Thread Cert.Dout3Ideal.nD Cert.Dout3Ideal.τ).loc Cert.Dout3Ideal.main_arg0) = m ((c.tc : Thread Cert.Dout3Ideal.nD Cert.Dout3Ideal.τ).loc Cert.Dout3Ideal.main_arg0)
      ∧ r.2.mem ((c.tc : Thread Cert.Dout3Ideal.nD Cert.Dout3Ideal.τ).loc Cert.Dout3Ideal.main_arg1) = m ((c.tc : Thread Cert.Dout3Ideal.nD Cert.Dout3Ideal.τ).loc Cert.Dout3Ideal.main_arg1))
      ∧ r.2.sem = fun _ => 0)

def quiescent_Dout3ReferenceIdeal [hDout3ReferenceIdeal : Cert.Dout3ReferenceIdeal.Facts] : Prop :=
  ∀ (m : (ℓ : Loc Cert.Dout3ReferenceIdeal.nD Cert.Dout3ReferenceIdeal.τ Cert.Dout3ReferenceIdeal.sig) → Buf (Elt Ideal) ℓ) (g : Dev Cert.Dout3ReferenceIdeal.nD → PrngReg), Pre_Dout3ReferenceIdeal m →
    θ_run (Cert.Dout3ReferenceIdeal.defs (F := Ideal)) (onTc (τ := Cert.Dout3ReferenceIdeal.τ) (Cert.Dout3ReferenceIdeal.main (F := Ideal))) ⟨m, fun _ => 0, g⟩ (fun r => (∀ c : Dev Cert.Dout3ReferenceIdeal.nD,
      r.2.mem ((c.tc : Thread Cert.Dout3ReferenceIdeal.nD Cert.Dout3ReferenceIdeal.τ).loc Cert.Dout3ReferenceIdeal.main_arg0) = m ((c.tc : Thread Cert.Dout3ReferenceIdeal.nD Cert.Dout3ReferenceIdeal.τ).loc Cert.Dout3ReferenceIdeal.main_arg0)
      ∧ r.2.mem ((c.tc : Thread Cert.Dout3ReferenceIdeal.nD Cert.Dout3ReferenceIdeal.τ).loc Cert.Dout3ReferenceIdeal.main_arg1) = m ((c.tc : Thread Cert.Dout3ReferenceIdeal.nD Cert.Dout3ReferenceIdeal.τ).loc Cert.Dout3ReferenceIdeal.main_arg1))
      ∧ r.2.sem = fun _ => 0)

def quiescent_Dact0 [hDact0 : Cert.Dact0.Facts] : Prop :=
  ∀ (m : (ℓ : Loc Cert.Dact0.nD Cert.Dact0.τ Cert.Dact0.sig) → Buf (Elt Bits) ℓ) (g : Dev Cert.Dact0.nD → PrngReg), Pre_Dact0 m →
    θ_run (Cert.Dact0.defs (F := Bits)) (onTc (τ := Cert.Dact0.τ) (Cert.Dact0.main (F := Bits))) ⟨m, fun _ => 0, g⟩ (fun r => (∀ c : Dev Cert.Dact0.nD,
      r.2.mem ((c.tc : Thread Cert.Dact0.nD Cert.Dact0.τ).loc Cert.Dact0.main_arg0) = m ((c.tc : Thread Cert.Dact0.nD Cert.Dact0.τ).loc Cert.Dact0.main_arg0)
      ∧ r.2.mem ((c.tc : Thread Cert.Dact0.nD Cert.Dact0.τ).loc Cert.Dact0.main_arg1) = m ((c.tc : Thread Cert.Dact0.nD Cert.Dact0.τ).loc Cert.Dact0.main_arg1))
      ∧ r.2.sem = fun _ => 0)

def quiescent_Dact0Ideal [hDact0Ideal : Cert.Dact0Ideal.Facts] : Prop :=
  ∀ (m : (ℓ : Loc Cert.Dact0Ideal.nD Cert.Dact0Ideal.τ Cert.Dact0Ideal.sig) → Buf (Elt Ideal) ℓ) (g : Dev Cert.Dact0Ideal.nD → PrngReg), Pre_Dact0Ideal m →
    θ_run (Cert.Dact0Ideal.defs (F := Ideal)) (onTc (τ := Cert.Dact0Ideal.τ) (Cert.Dact0Ideal.main (F := Ideal))) ⟨m, fun _ => 0, g⟩ (fun r => (∀ c : Dev Cert.Dact0Ideal.nD,
      r.2.mem ((c.tc : Thread Cert.Dact0Ideal.nD Cert.Dact0Ideal.τ).loc Cert.Dact0Ideal.main_arg0) = m ((c.tc : Thread Cert.Dact0Ideal.nD Cert.Dact0Ideal.τ).loc Cert.Dact0Ideal.main_arg0)
      ∧ r.2.mem ((c.tc : Thread Cert.Dact0Ideal.nD Cert.Dact0Ideal.τ).loc Cert.Dact0Ideal.main_arg1) = m ((c.tc : Thread Cert.Dact0Ideal.nD Cert.Dact0Ideal.τ).loc Cert.Dact0Ideal.main_arg1))
      ∧ r.2.sem = fun _ => 0)

def quiescent_Dact0ReferenceIdeal [hDact0ReferenceIdeal : Cert.Dact0ReferenceIdeal.Facts] : Prop :=
  ∀ (m : (ℓ : Loc Cert.Dact0ReferenceIdeal.nD Cert.Dact0ReferenceIdeal.τ Cert.Dact0ReferenceIdeal.sig) → Buf (Elt Ideal) ℓ) (g : Dev Cert.Dact0ReferenceIdeal.nD → PrngReg), Pre_Dact0ReferenceIdeal m →
    θ_run (Cert.Dact0ReferenceIdeal.defs (F := Ideal)) (onTc (τ := Cert.Dact0ReferenceIdeal.τ) (Cert.Dact0ReferenceIdeal.main (F := Ideal))) ⟨m, fun _ => 0, g⟩ (fun r => (∀ c : Dev Cert.Dact0ReferenceIdeal.nD,
      r.2.mem ((c.tc : Thread Cert.Dact0ReferenceIdeal.nD Cert.Dact0ReferenceIdeal.τ).loc Cert.Dact0ReferenceIdeal.main_arg0) = m ((c.tc : Thread Cert.Dact0ReferenceIdeal.nD Cert.Dact0ReferenceIdeal.τ).loc Cert.Dact0ReferenceIdeal.main_arg0)
      ∧ r.2.mem ((c.tc : Thread Cert.Dact0ReferenceIdeal.nD Cert.Dact0ReferenceIdeal.τ).loc Cert.Dact0ReferenceIdeal.main_arg1) = m ((c.tc : Thread Cert.Dact0ReferenceIdeal.nD Cert.Dact0ReferenceIdeal.τ).loc Cert.Dact0ReferenceIdeal.main_arg1))
      ∧ r.2.sem = fun _ => 0)

def quiescent_Dact1 [hDact1 : Cert.Dact1.Facts] : Prop :=
  ∀ (m : (ℓ : Loc Cert.Dact1.nD Cert.Dact1.τ Cert.Dact1.sig) → Buf (Elt Bits) ℓ) (g : Dev Cert.Dact1.nD → PrngReg), Pre_Dact1 m →
    θ_run (Cert.Dact1.defs (F := Bits)) (onTc (τ := Cert.Dact1.τ) (Cert.Dact1.main (F := Bits))) ⟨m, fun _ => 0, g⟩ (fun r => (∀ c : Dev Cert.Dact1.nD,
      r.2.mem ((c.tc : Thread Cert.Dact1.nD Cert.Dact1.τ).loc Cert.Dact1.main_arg0) = m ((c.tc : Thread Cert.Dact1.nD Cert.Dact1.τ).loc Cert.Dact1.main_arg0)
      ∧ r.2.mem ((c.tc : Thread Cert.Dact1.nD Cert.Dact1.τ).loc Cert.Dact1.main_arg1) = m ((c.tc : Thread Cert.Dact1.nD Cert.Dact1.τ).loc Cert.Dact1.main_arg1))
      ∧ r.2.sem = fun _ => 0)

def quiescent_Dact1Ideal [hDact1Ideal : Cert.Dact1Ideal.Facts] : Prop :=
  ∀ (m : (ℓ : Loc Cert.Dact1Ideal.nD Cert.Dact1Ideal.τ Cert.Dact1Ideal.sig) → Buf (Elt Ideal) ℓ) (g : Dev Cert.Dact1Ideal.nD → PrngReg), Pre_Dact1Ideal m →
    θ_run (Cert.Dact1Ideal.defs (F := Ideal)) (onTc (τ := Cert.Dact1Ideal.τ) (Cert.Dact1Ideal.main (F := Ideal))) ⟨m, fun _ => 0, g⟩ (fun r => (∀ c : Dev Cert.Dact1Ideal.nD,
      r.2.mem ((c.tc : Thread Cert.Dact1Ideal.nD Cert.Dact1Ideal.τ).loc Cert.Dact1Ideal.main_arg0) = m ((c.tc : Thread Cert.Dact1Ideal.nD Cert.Dact1Ideal.τ).loc Cert.Dact1Ideal.main_arg0)
      ∧ r.2.mem ((c.tc : Thread Cert.Dact1Ideal.nD Cert.Dact1Ideal.τ).loc Cert.Dact1Ideal.main_arg1) = m ((c.tc : Thread Cert.Dact1Ideal.nD Cert.Dact1Ideal.τ).loc Cert.Dact1Ideal.main_arg1))
      ∧ r.2.sem = fun _ => 0)

def quiescent_Dact1ReferenceIdeal [hDact1ReferenceIdeal : Cert.Dact1ReferenceIdeal.Facts] : Prop :=
  ∀ (m : (ℓ : Loc Cert.Dact1ReferenceIdeal.nD Cert.Dact1ReferenceIdeal.τ Cert.Dact1ReferenceIdeal.sig) → Buf (Elt Ideal) ℓ) (g : Dev Cert.Dact1ReferenceIdeal.nD → PrngReg), Pre_Dact1ReferenceIdeal m →
    θ_run (Cert.Dact1ReferenceIdeal.defs (F := Ideal)) (onTc (τ := Cert.Dact1ReferenceIdeal.τ) (Cert.Dact1ReferenceIdeal.main (F := Ideal))) ⟨m, fun _ => 0, g⟩ (fun r => (∀ c : Dev Cert.Dact1ReferenceIdeal.nD,
      r.2.mem ((c.tc : Thread Cert.Dact1ReferenceIdeal.nD Cert.Dact1ReferenceIdeal.τ).loc Cert.Dact1ReferenceIdeal.main_arg0) = m ((c.tc : Thread Cert.Dact1ReferenceIdeal.nD Cert.Dact1ReferenceIdeal.τ).loc Cert.Dact1ReferenceIdeal.main_arg0)
      ∧ r.2.mem ((c.tc : Thread Cert.Dact1ReferenceIdeal.nD Cert.Dact1ReferenceIdeal.τ).loc Cert.Dact1ReferenceIdeal.main_arg1) = m ((c.tc : Thread Cert.Dact1ReferenceIdeal.nD Cert.Dact1ReferenceIdeal.τ).loc Cert.Dact1ReferenceIdeal.main_arg1))
      ∧ r.2.sem = fun _ => 0)

def quiescent_Dact2 [hDact2 : Cert.Dact2.Facts] : Prop :=
  ∀ (m : (ℓ : Loc Cert.Dact2.nD Cert.Dact2.τ Cert.Dact2.sig) → Buf (Elt Bits) ℓ) (g : Dev Cert.Dact2.nD → PrngReg), Pre_Dact2 m →
    θ_run (Cert.Dact2.defs (F := Bits)) (onTc (τ := Cert.Dact2.τ) (Cert.Dact2.main (F := Bits))) ⟨m, fun _ => 0, g⟩ (fun r => (∀ c : Dev Cert.Dact2.nD,
      r.2.mem ((c.tc : Thread Cert.Dact2.nD Cert.Dact2.τ).loc Cert.Dact2.main_arg0) = m ((c.tc : Thread Cert.Dact2.nD Cert.Dact2.τ).loc Cert.Dact2.main_arg0)
      ∧ r.2.mem ((c.tc : Thread Cert.Dact2.nD Cert.Dact2.τ).loc Cert.Dact2.main_arg1) = m ((c.tc : Thread Cert.Dact2.nD Cert.Dact2.τ).loc Cert.Dact2.main_arg1))
      ∧ r.2.sem = fun _ => 0)

def quiescent_Dact2Ideal [hDact2Ideal : Cert.Dact2Ideal.Facts] : Prop :=
  ∀ (m : (ℓ : Loc Cert.Dact2Ideal.nD Cert.Dact2Ideal.τ Cert.Dact2Ideal.sig) → Buf (Elt Ideal) ℓ) (g : Dev Cert.Dact2Ideal.nD → PrngReg), Pre_Dact2Ideal m →
    θ_run (Cert.Dact2Ideal.defs (F := Ideal)) (onTc (τ := Cert.Dact2Ideal.τ) (Cert.Dact2Ideal.main (F := Ideal))) ⟨m, fun _ => 0, g⟩ (fun r => (∀ c : Dev Cert.Dact2Ideal.nD,
      r.2.mem ((c.tc : Thread Cert.Dact2Ideal.nD Cert.Dact2Ideal.τ).loc Cert.Dact2Ideal.main_arg0) = m ((c.tc : Thread Cert.Dact2Ideal.nD Cert.Dact2Ideal.τ).loc Cert.Dact2Ideal.main_arg0)
      ∧ r.2.mem ((c.tc : Thread Cert.Dact2Ideal.nD Cert.Dact2Ideal.τ).loc Cert.Dact2Ideal.main_arg1) = m ((c.tc : Thread Cert.Dact2Ideal.nD Cert.Dact2Ideal.τ).loc Cert.Dact2Ideal.main_arg1))
      ∧ r.2.sem = fun _ => 0)

def quiescent_Dact2ReferenceIdeal [hDact2ReferenceIdeal : Cert.Dact2ReferenceIdeal.Facts] : Prop :=
  ∀ (m : (ℓ : Loc Cert.Dact2ReferenceIdeal.nD Cert.Dact2ReferenceIdeal.τ Cert.Dact2ReferenceIdeal.sig) → Buf (Elt Ideal) ℓ) (g : Dev Cert.Dact2ReferenceIdeal.nD → PrngReg), Pre_Dact2ReferenceIdeal m →
    θ_run (Cert.Dact2ReferenceIdeal.defs (F := Ideal)) (onTc (τ := Cert.Dact2ReferenceIdeal.τ) (Cert.Dact2ReferenceIdeal.main (F := Ideal))) ⟨m, fun _ => 0, g⟩ (fun r => (∀ c : Dev Cert.Dact2ReferenceIdeal.nD,
      r.2.mem ((c.tc : Thread Cert.Dact2ReferenceIdeal.nD Cert.Dact2ReferenceIdeal.τ).loc Cert.Dact2ReferenceIdeal.main_arg0) = m ((c.tc : Thread Cert.Dact2ReferenceIdeal.nD Cert.Dact2ReferenceIdeal.τ).loc Cert.Dact2ReferenceIdeal.main_arg0)
      ∧ r.2.mem ((c.tc : Thread Cert.Dact2ReferenceIdeal.nD Cert.Dact2ReferenceIdeal.τ).loc Cert.Dact2ReferenceIdeal.main_arg1) = m ((c.tc : Thread Cert.Dact2ReferenceIdeal.nD Cert.Dact2ReferenceIdeal.τ).loc Cert.Dact2ReferenceIdeal.main_arg1))
      ∧ r.2.sem = fun _ => 0)

def quiescent_Dact3 [hDact3 : Cert.Dact3.Facts] : Prop :=
  ∀ (m : (ℓ : Loc Cert.Dact3.nD Cert.Dact3.τ Cert.Dact3.sig) → Buf (Elt Bits) ℓ) (g : Dev Cert.Dact3.nD → PrngReg), Pre_Dact3 m →
    θ_run (Cert.Dact3.defs (F := Bits)) (onTc (τ := Cert.Dact3.τ) (Cert.Dact3.main (F := Bits))) ⟨m, fun _ => 0, g⟩ (fun r => (∀ c : Dev Cert.Dact3.nD,
      r.2.mem ((c.tc : Thread Cert.Dact3.nD Cert.Dact3.τ).loc Cert.Dact3.main_arg0) = m ((c.tc : Thread Cert.Dact3.nD Cert.Dact3.τ).loc Cert.Dact3.main_arg0)
      ∧ r.2.mem ((c.tc : Thread Cert.Dact3.nD Cert.Dact3.τ).loc Cert.Dact3.main_arg1) = m ((c.tc : Thread Cert.Dact3.nD Cert.Dact3.τ).loc Cert.Dact3.main_arg1))
      ∧ r.2.sem = fun _ => 0)

def quiescent_Dact3Ideal [hDact3Ideal : Cert.Dact3Ideal.Facts] : Prop :=
  ∀ (m : (ℓ : Loc Cert.Dact3Ideal.nD Cert.Dact3Ideal.τ Cert.Dact3Ideal.sig) → Buf (Elt Ideal) ℓ) (g : Dev Cert.Dact3Ideal.nD → PrngReg), Pre_Dact3Ideal m →
    θ_run (Cert.Dact3Ideal.defs (F := Ideal)) (onTc (τ := Cert.Dact3Ideal.τ) (Cert.Dact3Ideal.main (F := Ideal))) ⟨m, fun _ => 0, g⟩ (fun r => (∀ c : Dev Cert.Dact3Ideal.nD,
      r.2.mem ((c.tc : Thread Cert.Dact3Ideal.nD Cert.Dact3Ideal.τ).loc Cert.Dact3Ideal.main_arg0) = m ((c.tc : Thread Cert.Dact3Ideal.nD Cert.Dact3Ideal.τ).loc Cert.Dact3Ideal.main_arg0)
      ∧ r.2.mem ((c.tc : Thread Cert.Dact3Ideal.nD Cert.Dact3Ideal.τ).loc Cert.Dact3Ideal.main_arg1) = m ((c.tc : Thread Cert.Dact3Ideal.nD Cert.Dact3Ideal.τ).loc Cert.Dact3Ideal.main_arg1))
      ∧ r.2.sem = fun _ => 0)

def quiescent_Dact3ReferenceIdeal [hDact3ReferenceIdeal : Cert.Dact3ReferenceIdeal.Facts] : Prop :=
  ∀ (m : (ℓ : Loc Cert.Dact3ReferenceIdeal.nD Cert.Dact3ReferenceIdeal.τ Cert.Dact3ReferenceIdeal.sig) → Buf (Elt Ideal) ℓ) (g : Dev Cert.Dact3ReferenceIdeal.nD → PrngReg), Pre_Dact3ReferenceIdeal m →
    θ_run (Cert.Dact3ReferenceIdeal.defs (F := Ideal)) (onTc (τ := Cert.Dact3ReferenceIdeal.τ) (Cert.Dact3ReferenceIdeal.main (F := Ideal))) ⟨m, fun _ => 0, g⟩ (fun r => (∀ c : Dev Cert.Dact3ReferenceIdeal.nD,
      r.2.mem ((c.tc : Thread Cert.Dact3ReferenceIdeal.nD Cert.Dact3ReferenceIdeal.τ).loc Cert.Dact3ReferenceIdeal.main_arg0) = m ((c.tc : Thread Cert.Dact3ReferenceIdeal.nD Cert.Dact3ReferenceIdeal.τ).loc Cert.Dact3ReferenceIdeal.main_arg0)
      ∧ r.2.mem ((c.tc : Thread Cert.Dact3ReferenceIdeal.nD Cert.Dact3ReferenceIdeal.τ).loc Cert.Dact3ReferenceIdeal.main_arg1) = m ((c.tc : Thread Cert.Dact3ReferenceIdeal.nD Cert.Dact3ReferenceIdeal.τ).loc Cert.Dact3ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v8) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v49) = v0 c
          ∧ r.2.mem ((c.tc : Thread Cert.NormReferenceIdeal.nD Cert.NormReferenceIdeal.τ).loc Cert.NormReferenceIdeal.main_v24) = v1 c
          ∧ r.2.mem ((c.tc : Thread Cert.NormReferenceIdeal.nD Cert.NormReferenceIdeal.τ).loc Cert.NormReferenceIdeal.main_v27) = v2 c
          ∧ r.2.mem ((c.tc : Thread Cert.NormReferenceIdeal.nD Cert.NormReferenceIdeal.τ).loc Cert.NormReferenceIdeal.main_v32) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v41) = v0 c
          ∧ r.2.mem ((c.tc : Thread Cert.PostReferenceIdeal.nD Cert.PostReferenceIdeal.τ).loc Cert.PostReferenceIdeal.main_v21) = v1 c
          ∧ r.2.mem ((c.tc : Thread Cert.PostReferenceIdeal.nD Cert.PostReferenceIdeal.τ).loc Cert.PostReferenceIdeal.main_v24) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3))

def preserves_Qkv0_Qkv0Ideal : Prop :=
  True

def algebraic_Qkv0Ideal_Qkv0ReferenceIdeal [hQkv0Ideal : Cert.Qkv0Ideal.Facts] [hQkv0ReferenceIdeal : Cert.Qkv0ReferenceIdeal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.Qkv0ReferenceIdeal.nD Cert.Qkv0ReferenceIdeal.τ Cert.Qkv0ReferenceIdeal.sig) → Buf (Elt Ideal) ℓ) (g' : Dev Cert.Qkv0ReferenceIdeal.nD → PrngReg), Pre_Qkv0Ideal m →
    (∀ c : Dev Cert.Qkv0Ideal.nD,
      m' ((c.tc : Thread Cert.Qkv0ReferenceIdeal.nD Cert.Qkv0ReferenceIdeal.τ).loc Cert.Qkv0ReferenceIdeal.main_arg0) = m ((c.tc : Thread Cert.Qkv0Ideal.nD Cert.Qkv0Ideal.τ).loc Cert.Qkv0Ideal.main_arg0)
      ∧ m' ((c.tc : Thread Cert.Qkv0ReferenceIdeal.nD Cert.Qkv0ReferenceIdeal.τ).loc Cert.Qkv0ReferenceIdeal.main_arg1) = m ((c.tc : Thread Cert.Qkv0Ideal.nD Cert.Qkv0Ideal.τ).loc Cert.Qkv0Ideal.main_arg1)) →
    ∃ (v0 : (c : Dev Cert.Qkv0Ideal.nD) → Buf (Elt Ideal) ((c.tc : Thread Cert.Qkv0Ideal.nD Cert.Qkv0Ideal.τ).loc Cert.Qkv0Ideal.main_v0)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v0) = v0 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ θ_run (Cert.Qkv0ReferenceIdeal.defs (F := Ideal)) (onTc (τ := Cert.Qkv0ReferenceIdeal.τ) (Cert.Qkv0ReferenceIdeal.main (F := Ideal))) ⟨m', fun _ => 0, g'⟩ (fun r => ∀ c : Dev Cert.Qkv0ReferenceIdeal.nD,
          r.2.mem ((c.tc : Thread Cert.Qkv0ReferenceIdeal.nD Cert.Qkv0ReferenceIdeal.τ).loc Cert.Qkv0ReferenceIdeal.main_v7) = v0 c
          ∧ r.2.mem ((c.tc : Thread Cert.Qkv0ReferenceIdeal.nD Cert.Qkv0ReferenceIdeal.τ).loc Cert.Qkv0ReferenceIdeal.main_arg0) = m' ((c.tc : Thread Cert.Qkv0ReferenceIdeal.nD Cert.Qkv0ReferenceIdeal.τ).loc Cert.Qkv0ReferenceIdeal.main_arg0)
          ∧ r.2.mem ((c.tc : Thread Cert.Qkv0ReferenceIdeal.nD Cert.Qkv0ReferenceIdeal.τ).loc Cert.Qkv0ReferenceIdeal.main_arg1) = m' ((c.tc : Thread Cert.Qkv0ReferenceIdeal.nD Cert.Qkv0ReferenceIdeal.τ).loc Cert.Qkv0ReferenceIdeal.main_arg1))

def preserves_Qkv1_Qkv1Ideal : Prop :=
  True

def algebraic_Qkv1Ideal_Qkv1ReferenceIdeal [hQkv1Ideal : Cert.Qkv1Ideal.Facts] [hQkv1ReferenceIdeal : Cert.Qkv1ReferenceIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1ReferenceIdeal.nD Cert.Qkv1ReferenceIdeal.τ Cert.Qkv1ReferenceIdeal.sig) → Buf (Elt Ideal) ℓ) (g' : Dev Cert.Qkv1ReferenceIdeal.nD → PrngReg), Pre_Qkv1Ideal m →
    (∀ c : Dev Cert.Qkv1Ideal.nD,
      m' ((c.tc : Thread Cert.Qkv1ReferenceIdeal.nD Cert.Qkv1ReferenceIdeal.τ).loc Cert.Qkv1ReferenceIdeal.main_arg0) = m ((c.tc : Thread Cert.Qkv1Ideal.nD Cert.Qkv1Ideal.τ).loc Cert.Qkv1Ideal.main_arg0)
      ∧ m' ((c.tc : Thread Cert.Qkv1ReferenceIdeal.nD Cert.Qkv1ReferenceIdeal.τ).loc Cert.Qkv1ReferenceIdeal.main_arg1) = m ((c.tc : Thread Cert.Qkv1Ideal.nD Cert.Qkv1Ideal.τ).loc Cert.Qkv1Ideal.main_arg1)) →
    ∃ (v0 : (c : Dev Cert.Qkv1Ideal.nD) → Buf (Elt Ideal) ((c.tc : Thread Cert.Qkv1Ideal.nD Cert.Qkv1Ideal.τ).loc Cert.Qkv1Ideal.main_v0)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v0) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ θ_run (Cert.Qkv1ReferenceIdeal.defs (F := Ideal)) (onTc (τ := Cert.Qkv1ReferenceIdeal.τ) (Cert.Qkv1ReferenceIdeal.main (F := Ideal))) ⟨m', fun _ => 0, g'⟩ (fun r => ∀ c : Dev Cert.Qkv1ReferenceIdeal.nD,
          r.2.mem ((c.tc : Thread Cert.Qkv1ReferenceIdeal.nD Cert.Qkv1ReferenceIdeal.τ).loc Cert.Qkv1ReferenceIdeal.main_v7) = v0 c
          ∧ r.2.mem ((c.tc : Thread Cert.Qkv1ReferenceIdeal.nD Cert.Qkv1ReferenceIdeal.τ).loc Cert.Qkv1ReferenceIdeal.main_arg0) = m' ((c.tc : Thread Cert.Qkv1ReferenceIdeal.nD Cert.Qkv1ReferenceIdeal.τ).loc Cert.Qkv1ReferenceIdeal.main_arg0)
          ∧ r.2.mem ((c.tc : Thread Cert.Qkv1ReferenceIdeal.nD Cert.Qkv1ReferenceIdeal.τ).loc Cert.Qkv1ReferenceIdeal.main_arg1) = m' ((c.tc : Thread Cert.Qkv1ReferenceIdeal.nD Cert.Qkv1ReferenceIdeal.τ).loc Cert.Qkv1ReferenceIdeal.main_arg1))

def preserves_Qkv2_Qkv2Ideal : Prop :=
  True

def algebraic_Qkv2Ideal_Qkv2ReferenceIdeal [hQkv2Ideal : Cert.Qkv2Ideal.Facts] [hQkv2ReferenceIdeal : Cert.Qkv2ReferenceIdeal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg)
    (m' : (ℓ : Loc Cert.Qkv2ReferenceIdeal.nD Cert.Qkv2ReferenceIdeal.τ Cert.Qkv2ReferenceIdeal.sig) → Buf (Elt Ideal) ℓ) (g' : Dev Cert.Qkv2ReferenceIdeal.nD → PrngReg), Pre_Qkv2Ideal m →
    (∀ c : Dev Cert.Qkv2Ideal.nD,
      m' ((c.tc : Thread Cert.Qkv2ReferenceIdeal.nD Cert.Qkv2ReferenceIdeal.τ).loc Cert.Qkv2ReferenceIdeal.main_arg0) = m ((c.tc : Thread Cert.Qkv2Ideal.nD Cert.Qkv2Ideal.τ).loc Cert.Qkv2Ideal.main_arg0)
      ∧ m' ((c.tc : Thread Cert.Qkv2ReferenceIdeal.nD Cert.Qkv2ReferenceIdeal.τ).loc Cert.Qkv2ReferenceIdeal.main_arg1) = m ((c.tc : Thread Cert.Qkv2Ideal.nD Cert.Qkv2Ideal.τ).loc Cert.Qkv2Ideal.main_arg1)) →
    ∃ (v0 : (c : Dev Cert.Qkv2Ideal.nD) → Buf (Elt Ideal) ((c.tc : Thread Cert.Qkv2Ideal.nD Cert.Qkv2Ideal.τ).loc Cert.Qkv2Ideal.main_v0)),
      θ_run (Cert.Qkv2Ideal.defs (F := Ideal)) (onTc (τ := Cert.Qkv2Ideal.τ) (Cert.Qkv2Ideal.main (F := Ideal))) ⟨m, fun _ => 0, g⟩ (fun r => ∀ c : Dev Cert.Qkv2Ideal.nD,
          r.2.mem ((c.tc : Thread Cert.Qkv2Ideal.nD Cert.Qkv2Ideal.τ).loc Cert.Qkv2Ideal.main_v0) = v0 c
          ∧ r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
          ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1))
      ∧ θ_run (Cert.Qkv2ReferenceIdeal.defs (F := Ideal)) (onTc (τ := Cert.Qkv2ReferenceIdeal.τ) (Cert.Qkv2ReferenceIdeal.main (F := Ideal))) ⟨m', fun _ => 0, g'⟩ (fun r => ∀ c : Dev Cert.Qkv2ReferenceIdeal.nD,
          r.2.mem ((c.tc : Thread Cert.Qkv2ReferenceIdeal.nD Cert.Qkv2ReferenceIdeal.τ).loc Cert.Qkv2ReferenceIdeal.main_v7) = v0 c
          ∧ r.2.mem ((c.tc : Thread Cert.Qkv2ReferenceIdeal.nD Cert.Qkv2ReferenceIdeal.τ).loc Cert.Qkv2ReferenceIdeal.main_arg0) = m' ((c.tc : Thread Cert.Qkv2ReferenceIdeal.nD Cert.Qkv2ReferenceIdeal.τ).loc Cert.Qkv2ReferenceIdeal.main_arg0)
          ∧ r.2.mem ((c.tc : Thread Cert.Qkv2ReferenceIdeal.nD Cert.Qkv2ReferenceIdeal.τ).loc Cert.Qkv2ReferenceIdeal.main_arg1) = m' ((c.tc : Thread Cert.Qkv2ReferenceIdeal.nD Cert.Qkv2ReferenceIdeal.τ).loc Cert.Qkv2ReferenceIdeal.main_arg1))

def preserves_Qkv3_Qkv3Ideal : Prop :=
  True

def algebraic_Qkv3Ideal_Qkv3ReferenceIdeal [hQkv3Ideal : Cert.Qkv3Ideal.Facts] [hQkv3ReferenceIdeal : Cert.Qkv3ReferenceIdeal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg)
    (m' : (ℓ : Loc Cert.Qkv3ReferenceIdeal.nD Cert.Qkv3ReferenceIdeal.τ Cert.Qkv3ReferenceIdeal.sig) → Buf (Elt Ideal) ℓ) (g' : Dev Cert.Qkv3ReferenceIdeal.nD → PrngReg), Pre_Qkv3Ideal m →
    (∀ c : Dev Cert.Qkv3Ideal.nD,
      m' ((c.tc : Thread Cert.Qkv3ReferenceIdeal.nD Cert.Qkv3ReferenceIdeal.τ).loc Cert.Qkv3ReferenceIdeal.main_arg0) = m ((c.tc : Thread Cert.Qkv3Ideal.nD Cert.Qkv3Ideal.τ).loc Cert.Qkv3Ideal.main_arg0)
      ∧ m' ((c.tc : Thread Cert.Qkv3ReferenceIdeal.nD Cert.Qkv3ReferenceIdeal.τ).loc Cert.Qkv3ReferenceIdeal.main_arg1) = m ((c.tc : Thread Cert.Qkv3Ideal.nD Cert.Qkv3Ideal.τ).loc Cert.Qkv3Ideal.main_arg1)) →
    ∃ (v0 : (c : Dev Cert.Qkv3Ideal.nD) → Buf (Elt Ideal) ((c.tc : Thread Cert.Qkv3Ideal.nD Cert.Qkv3Ideal.τ).loc Cert.Qkv3Ideal.main_v0)),
      θ_run (Cert.Qkv3Ideal.defs (F := Ideal)) (onTc (τ := Cert.Qkv3Ideal.τ) (Cert.Qkv3Ideal.main (F := Ideal))) ⟨m, fun _ => 0, g⟩ (fun r => ∀ c : Dev Cert.Qkv3Ideal.nD,
          r.2.mem ((c.tc : Thread Cert.Qkv3Ideal.nD Cert.Qkv3Ideal.τ).loc Cert.Qkv3Ideal.main_v0) = v0 c
          ∧ r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
          ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1))
      ∧ θ_run (Cert.Qkv3ReferenceIdeal.defs (F := Ideal)) (onTc (τ := Cert.Qkv3ReferenceIdeal.τ) (Cert.Qkv3ReferenceIdeal.main (F := Ideal))) ⟨m', fun _ => 0, g'⟩ (fun r => ∀ c : Dev Cert.Qkv3ReferenceIdeal.nD,
          r.2.mem ((c.tc : Thread Cert.Qkv3ReferenceIdeal.nD Cert.Qkv3ReferenceIdeal.τ).loc Cert.Qkv3ReferenceIdeal.main_v7) = v0 c
          ∧ r.2.mem ((c.tc : Thread Cert.Qkv3ReferenceIdeal.nD Cert.Qkv3ReferenceIdeal.τ).loc Cert.Qkv3ReferenceIdeal.main_arg0) = m' ((c.tc : Thread Cert.Qkv3ReferenceIdeal.nD Cert.Qkv3ReferenceIdeal.τ).loc Cert.Qkv3ReferenceIdeal.main_arg0)
          ∧ r.2.mem ((c.tc : Thread Cert.Qkv3ReferenceIdeal.nD Cert.Qkv3ReferenceIdeal.τ).loc Cert.Qkv3ReferenceIdeal.main_arg1) = m' ((c.tc : Thread Cert.Qkv3ReferenceIdeal.nD Cert.Qkv3ReferenceIdeal.τ).loc Cert.Qkv3ReferenceIdeal.main_arg1))

def preserves_Attn0_Attn0Ideal : Prop :=
  True

def algebraic_Attn0Ideal_Attn0ReferenceIdeal [hAttn0Ideal : Cert.Attn0Ideal.Facts] [hAttn0ReferenceIdeal : Cert.Attn0ReferenceIdeal.Facts] : Prop :=
  ∀ (m : (ℓ : Loc Cert.Attn0Ideal.nD Cert.Attn0Ideal.τ Cert.Attn0Ideal.sig) → Buf (Elt Ideal) ℓ) (g : Dev Cert.Attn0Ideal.nD → PrngReg)
    (m' : (ℓ : Loc Cert.Attn0ReferenceIdeal.nD Cert.Attn0ReferenceIdeal.τ Cert.Attn0ReferenceIdeal.sig) → Buf (Elt Ideal) ℓ) (g' : Dev Cert.Attn0ReferenceIdeal.nD → PrngReg), Pre_Attn0Ideal m →
    (∀ c : Dev Cert.Attn0Ideal.nD,
      m' ((c.tc : Thread Cert.Attn0ReferenceIdeal.nD Cert.Attn0ReferenceIdeal.τ).loc Cert.Attn0ReferenceIdeal.main_arg0) = m ((c.tc : Thread Cert.Attn0Ideal.nD Cert.Attn0Ideal.τ).loc Cert.Attn0Ideal.main_arg0)
      ∧ m' ((c.tc : Thread Cert.Attn0ReferenceIdeal.nD Cert.Attn0ReferenceIdeal.τ).loc Cert.Attn0ReferenceIdeal.main_arg1) = m ((c.tc : Thread Cert.Attn0Ideal.nD Cert.Attn0Ideal.τ).loc Cert.Attn0Ideal.main_arg1)) →
    ∃ (v0 : (c : Dev Cert.Attn0Ideal.nD) → Buf (Elt Ideal) ((c.tc : Thread Cert.Attn0Ideal.nD Cert.Attn0Ideal.τ).loc Cert.Attn0Ideal.main_v0)),
      θ_run (Cert.Attn0Ideal.defs (F := Ideal)) (onTc (τ := Cert.Attn0Ideal.τ) (Cert.Attn0Ideal.main (F := Ideal))) ⟨m, fun _ => 0, g⟩ (fun r => ∀ c : Dev Cert.Attn0Ideal.nD,
          r.2.mem ((c.tc : Thread Cert.Attn0Ideal.nD Cert.Attn0Ideal.τ).loc Cert.Attn0Ideal.main_v0) = v0 c
          ∧ r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
          ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1))
      ∧ θ_run (Cert.Attn0ReferenceIdeal.defs (F := Ideal)) (onTc (τ := Cert.Attn0ReferenceIdeal.τ) (Cert.Attn0ReferenceIdeal.main (F := Ideal))) ⟨m', fun _ => 0, g'⟩ (fun r => ∀ c : Dev Cert.Attn0ReferenceIdeal.nD,
          r.2.mem ((c.tc : Thread Cert.Attn0ReferenceIdeal.nD Cert.Attn0ReferenceIdeal.τ).loc Cert.Attn0ReferenceIdeal.main_v4) = v0 c
          ∧ r.2.mem ((c.tc : Thread Cert.Attn0ReferenceIdeal.nD Cert.Attn0ReferenceIdeal.τ).loc Cert.Attn0ReferenceIdeal.main_arg0) = m' ((c.tc : Thread Cert.Attn0ReferenceIdeal.nD Cert.Attn0ReferenceIdeal.τ).loc Cert.Attn0ReferenceIdeal.main_arg0)
          ∧ r.2.mem ((c.tc : Thread Cert.Attn0ReferenceIdeal.nD Cert.Attn0ReferenceIdeal.τ).loc Cert.Attn0ReferenceIdeal.main_arg1) = m' ((c.tc : Thread Cert.Attn0ReferenceIdeal.nD Cert.Attn0ReferenceIdeal.τ).loc Cert.Attn0ReferenceIdeal.main_arg1))

def preserves_Attn1_Attn1Ideal : Prop :=
  True

def algebraic_Attn1Ideal_Attn1ReferenceIdeal [hAttn1Ideal : Cert.Attn1Ideal.Facts] [hAttn1ReferenceIdeal : Cert.Attn1ReferenceIdeal.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1ReferenceIdeal.nD Cert.Attn1ReferenceIdeal.τ Cert.Attn1ReferenceIdeal.sig) → Buf (Elt Ideal) ℓ) (g' : Dev Cert.Attn1ReferenceIdeal.nD → PrngReg), Pre_Attn1Ideal m →
    (∀ c : Dev Cert.Attn1Ideal.nD,
      m' ((c.tc : Thread Cert.Attn1ReferenceIdeal.nD Cert.Attn1ReferenceIdeal.τ).loc Cert.Attn1ReferenceIdeal.main_arg0) = m ((c.tc : Thread Cert.Attn1Ideal.nD Cert.Attn1Ideal.τ).loc Cert.Attn1Ideal.main_arg0)
      ∧ m' ((c.tc : Thread Cert.Attn1ReferenceIdeal.nD Cert.Attn1ReferenceIdeal.τ).loc Cert.Attn1ReferenceIdeal.main_arg1) = m ((c.tc : Thread Cert.Attn1Ideal.nD Cert.Attn1Ideal.τ).loc Cert.Attn1Ideal.main_arg1)) →
    ∃ (v0 : (c : Dev Cert.Attn1Ideal.nD) → Buf (Elt Ideal) ((c.tc : Thread Cert.Attn1Ideal.nD Cert.Attn1Ideal.τ).loc Cert.Attn1Ideal.main_v0)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v0) = v0 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1))
      ∧ θ_run (Cert.Attn1ReferenceIdeal.defs (F := Ideal)) (onTc (τ := Cert.Attn1ReferenceIdeal.τ) (Cert.Attn1ReferenceIdeal.main (F := Ideal))) ⟨m', fun _ => 0, g'⟩ (fun r => ∀ c : Dev Cert.Attn1ReferenceIdeal.nD,
          r.2.mem ((c.tc : Thread Cert.Attn1ReferenceIdeal.nD Cert.Attn1ReferenceIdeal.τ).loc Cert.Attn1ReferenceIdeal.main_v4) = v0 c
          ∧ r.2.mem ((c.tc : Thread Cert.Attn1ReferenceIdeal.nD Cert.Attn1ReferenceIdeal.τ).loc Cert.Attn1ReferenceIdeal.main_arg0) = m' ((c.tc : Thread Cert.Attn1ReferenceIdeal.nD Cert.Attn1ReferenceIdeal.τ).loc Cert.Attn1ReferenceIdeal.main_arg0)
          ∧ r.2.mem ((c.tc : Thread Cert.Attn1ReferenceIdeal.nD Cert.Attn1ReferenceIdeal.τ).loc Cert.Attn1ReferenceIdeal.main_arg1) = m' ((c.tc : Thread Cert.Attn1ReferenceIdeal.nD Cert.Attn1ReferenceIdeal.τ).loc Cert.Attn1ReferenceIdeal.main_arg1))

def preserves_Attn2_Attn2Ideal : Prop :=
  True

def algebraic_Attn2Ideal_Attn2ReferenceIdeal [hAttn2Ideal : Cert.Attn2Ideal.Facts] [hAttn2ReferenceIdeal : Cert.Attn2ReferenceIdeal.Facts] : Prop :=
  ∀ (m : (ℓ : Loc Cert.Attn2Ideal.nD Cert.Attn2Ideal.τ Cert.Attn2Ideal.sig) → Buf (Elt Ideal) ℓ) (g : Dev Cert.Attn2Ideal.nD → PrngReg)
    (m' : (ℓ : Loc Cert.Attn2ReferenceIdeal.nD Cert.Attn2ReferenceIdeal.τ Cert.Attn2ReferenceIdeal.sig) → Buf (Elt Ideal) ℓ) (g' : Dev Cert.Attn2ReferenceIdeal.nD → PrngReg), Pre_Attn2Ideal m →
    (∀ c : Dev Cert.Attn2Ideal.nD,
      m' ((c.tc : Thread Cert.Attn2ReferenceIdeal.nD Cert.Attn2ReferenceIdeal.τ).loc Cert.Attn2ReferenceIdeal.main_arg0) = m ((c.tc : Thread Cert.Attn2Ideal.nD Cert.Attn2Ideal.τ).loc Cert.Attn2Ideal.main_arg0)
      ∧ m' ((c.tc : Thread Cert.Attn2ReferenceIdeal.nD Cert.Attn2ReferenceIdeal.τ).loc Cert.Attn2ReferenceIdeal.main_arg1) = m ((c.tc : Thread Cert.Attn2Ideal.nD Cert.Attn2Ideal.τ).loc Cert.Attn2Ideal.main_arg1)) →
    ∃ (v0 : (c : Dev Cert.Attn2Ideal.nD) → Buf (Elt Ideal) ((c.tc : Thread Cert.Attn2Ideal.nD Cert.Attn2Ideal.τ).loc Cert.Attn2Ideal.main_v0)),
      θ_run (Cert.Attn2Ideal.defs (F := Ideal)) (onTc (τ := Cert.Attn2Ideal.τ) (Cert.Attn2Ideal.main (F := Ideal))) ⟨m, fun _ => 0, g⟩ (fun r => ∀ c : Dev Cert.Attn2Ideal.nD,
          r.2.mem ((c.tc : Thread Cert.Attn2Ideal.nD Cert.Attn2Ideal.τ).loc Cert.Attn2Ideal.main_v0) = v0 c
          ∧ r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
          ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1))
      ∧ θ_run (Cert.Attn2ReferenceIdeal.defs (F := Ideal)) (onTc (τ := Cert.Attn2ReferenceIdeal.τ) (Cert.Attn2ReferenceIdeal.main (F := Ideal))) ⟨m', fun _ => 0, g'⟩ (fun r => ∀ c : Dev Cert.Attn2ReferenceIdeal.nD,
          r.2.mem ((c.tc : Thread Cert.Attn2ReferenceIdeal.nD Cert.Attn2ReferenceIdeal.τ).loc Cert.Attn2ReferenceIdeal.main_v4) = v0 c
          ∧ r.2.mem ((c.tc : Thread Cert.Attn2ReferenceIdeal.nD Cert.Attn2ReferenceIdeal.τ).loc Cert.Attn2ReferenceIdeal.main_arg0) = m' ((c.tc : Thread Cert.Attn2ReferenceIdeal.nD Cert.Attn2ReferenceIdeal.τ).loc Cert.Attn2ReferenceIdeal.main_arg0)
          ∧ r.2.mem ((c.tc : Thread Cert.Attn2ReferenceIdeal.nD Cert.Attn2ReferenceIdeal.τ).loc Cert.Attn2ReferenceIdeal.main_arg1) = m' ((c.tc : Thread Cert.Attn2ReferenceIdeal.nD Cert.Attn2ReferenceIdeal.τ).loc Cert.Attn2ReferenceIdeal.main_arg1))

def preserves_Attn3_Attn3Ideal : Prop :=
  True

def algebraic_Attn3Ideal_Attn3ReferenceIdeal [hAttn3Ideal : Cert.Attn3Ideal.Facts] [hAttn3ReferenceIdeal : Cert.Attn3ReferenceIdeal.Facts] : Prop :=
  ∀ (m : (ℓ : Loc Cert.Attn3Ideal.nD Cert.Attn3Ideal.τ Cert.Attn3Ideal.sig) → Buf (Elt Ideal) ℓ) (g : Dev Cert.Attn3Ideal.nD → PrngReg)
    (m' : (ℓ : Loc Cert.Attn3ReferenceIdeal.nD Cert.Attn3ReferenceIdeal.τ Cert.Attn3ReferenceIdeal.sig) → Buf (Elt Ideal) ℓ) (g' : Dev Cert.Attn3ReferenceIdeal.nD → PrngReg), Pre_Attn3Ideal m →
    (∀ c : Dev Cert.Attn3Ideal.nD,
      m' ((c.tc : Thread Cert.Attn3ReferenceIdeal.nD Cert.Attn3ReferenceIdeal.τ).loc Cert.Attn3ReferenceIdeal.main_arg0) = m ((c.tc : Thread Cert.Attn3Ideal.nD Cert.Attn3Ideal.τ).loc Cert.Attn3Ideal.main_arg0)
      ∧ m' ((c.tc : Thread Cert.Attn3ReferenceIdeal.nD Cert.Attn3ReferenceIdeal.τ).loc Cert.Attn3ReferenceIdeal.main_arg1) = m ((c.tc : Thread Cert.Attn3Ideal.nD Cert.Attn3Ideal.τ).loc Cert.Attn3Ideal.main_arg1)) →
    ∃ (v0 : (c : Dev Cert.Attn3Ideal.nD) → Buf (Elt Ideal) ((c.tc : Thread Cert.Attn3Ideal.nD Cert.Attn3Ideal.τ).loc Cert.Attn3Ideal.main_v0)),
      θ_run (Cert.Attn3Ideal.defs (F := Ideal)) (onTc (τ := Cert.Attn3Ideal.τ) (Cert.Attn3Ideal.main (F := Ideal))) ⟨m, fun _ => 0, g⟩ (fun r => ∀ c : Dev Cert.Attn3Ideal.nD,
          r.2.mem ((c.tc : Thread Cert.Attn3Ideal.nD Cert.Attn3Ideal.τ).loc Cert.Attn3Ideal.main_v0) = v0 c
          ∧ r.2.mem ((c.tc : Thread Cert.Attn3Ideal.nD Cert.Attn3Ideal.τ).loc Cert.Attn3Ideal.main_arg0) = m ((c.tc : Thread Cert.Attn3Ideal.nD Cert.Attn3Ideal.τ).loc Cert.Attn3Ideal.main_arg0)
          ∧ r.2.mem ((c.tc : Thread Cert.Attn3Ideal.nD Cert.Attn3Ideal.τ).loc Cert.Attn3Ideal.main_arg1) = m ((c.tc : Thread Cert.Attn3Ideal.nD Cert.Attn3Ideal.τ).loc Cert.Attn3Ideal.main_arg1))
      ∧ θ_run (Cert.Attn3ReferenceIdeal.defs (F := Ideal)) (onTc (τ := Cert.Attn3ReferenceIdeal.τ) (Cert.Attn3ReferenceIdeal.main (F := Ideal))) ⟨m', fun _ => 0, g'⟩ (fun r => ∀ c : Dev Cert.Attn3ReferenceIdeal.nD,
          r.2.mem ((c.tc : Thread Cert.Attn3ReferenceIdeal.nD Cert.Attn3ReferenceIdeal.τ).loc Cert.Attn3ReferenceIdeal.main_v4) = v0 c
          ∧ r.2.mem ((c.tc : Thread Cert.Attn3ReferenceIdeal.nD Cert.Attn3ReferenceIdeal.τ).loc Cert.Attn3ReferenceIdeal.main_arg0) = m' ((c.tc : Thread Cert.Attn3ReferenceIdeal.nD Cert.Attn3ReferenceIdeal.τ).loc Cert.Attn3ReferenceIdeal.main_arg0)
          ∧ r.2.mem ((c.tc : Thread Cert.Attn3ReferenceIdeal.nD Cert.Attn3ReferenceIdeal.τ).loc Cert.Attn3ReferenceIdeal.main_arg1) = m' ((c.tc : Thread Cert.Attn3ReferenceIdeal.nD Cert.Attn3ReferenceIdeal.τ).loc Cert.Attn3ReferenceIdeal.main_arg1))

def preserves_Ffn0_Ffn0Ideal : Prop :=
  True

def algebraic_Ffn0Ideal_Ffn0ReferenceIdeal [hFfn0Ideal : Cert.Ffn0Ideal.Facts] [hFfn0ReferenceIdeal : Cert.Ffn0ReferenceIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0ReferenceIdeal.nD Cert.Ffn0ReferenceIdeal.τ Cert.Ffn0ReferenceIdeal.sig) → Buf (Elt Ideal) ℓ) (g' : Dev Cert.Ffn0ReferenceIdeal.nD → PrngReg), Pre_Ffn0Ideal m →
    (∀ c : Dev Cert.Ffn0Ideal.nD,
      m' ((c.tc : Thread Cert.Ffn0ReferenceIdeal.nD Cert.Ffn0ReferenceIdeal.τ).loc Cert.Ffn0ReferenceIdeal.main_arg0) = m ((c.tc : Thread Cert.Ffn0Ideal.nD Cert.Ffn0Ideal.τ).loc Cert.Ffn0Ideal.main_arg0)
      ∧ m' ((c.tc : Thread Cert.Ffn0ReferenceIdeal.nD Cert.Ffn0ReferenceIdeal.τ).loc Cert.Ffn0ReferenceIdeal.main_arg1) = m ((c.tc : Thread Cert.Ffn0Ideal.nD Cert.Ffn0Ideal.τ).loc Cert.Ffn0Ideal.main_arg1)) →
    ∃ (v0 : (c : Dev Cert.Ffn0Ideal.nD) → Buf (Elt Ideal) ((c.tc : Thread Cert.Ffn0Ideal.nD Cert.Ffn0Ideal.τ).loc Cert.Ffn0Ideal.main_v0)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v0) = v0 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1))
      ∧ θ_run (Cert.Ffn0ReferenceIdeal.defs (F := Ideal)) (onTc (τ := Cert.Ffn0ReferenceIdeal.τ) (Cert.Ffn0ReferenceIdeal.main (F := Ideal))) ⟨m', fun _ => 0, g'⟩ (fun r => ∀ c : Dev Cert.Ffn0ReferenceIdeal.nD,
          r.2.mem ((c.tc : Thread Cert.Ffn0ReferenceIdeal.nD Cert.Ffn0ReferenceIdeal.τ).loc Cert.Ffn0ReferenceIdeal.main_v5) = v0 c
          ∧ r.2.mem ((c.tc : Thread Cert.Ffn0ReferenceIdeal.nD Cert.Ffn0ReferenceIdeal.τ).loc Cert.Ffn0ReferenceIdeal.main_arg0) = m' ((c.tc : Thread Cert.Ffn0ReferenceIdeal.nD Cert.Ffn0ReferenceIdeal.τ).loc Cert.Ffn0ReferenceIdeal.main_arg0)
          ∧ r.2.mem ((c.tc : Thread Cert.Ffn0ReferenceIdeal.nD Cert.Ffn0ReferenceIdeal.τ).loc Cert.Ffn0ReferenceIdeal.main_arg1) = m' ((c.tc : Thread Cert.Ffn0ReferenceIdeal.nD Cert.Ffn0ReferenceIdeal.τ).loc Cert.Ffn0ReferenceIdeal.main_arg1))

def preserves_Ffn1_Ffn1Ideal : Prop :=
  True

def algebraic_Ffn1Ideal_Ffn1ReferenceIdeal [hFfn1Ideal : Cert.Ffn1Ideal.Facts] [hFfn1ReferenceIdeal : Cert.Ffn1ReferenceIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1ReferenceIdeal.nD Cert.Ffn1ReferenceIdeal.τ Cert.Ffn1ReferenceIdeal.sig) → Buf (Elt Ideal) ℓ) (g' : Dev Cert.Ffn1ReferenceIdeal.nD → PrngReg), Pre_Ffn1Ideal m →
    (∀ c : Dev Cert.Ffn1Ideal.nD,
      m' ((c.tc : Thread Cert.Ffn1ReferenceIdeal.nD Cert.Ffn1ReferenceIdeal.τ).loc Cert.Ffn1ReferenceIdeal.main_arg0) = m ((c.tc : Thread Cert.Ffn1Ideal.nD Cert.Ffn1Ideal.τ).loc Cert.Ffn1Ideal.main_arg0)
      ∧ m' ((c.tc : Thread Cert.Ffn1ReferenceIdeal.nD Cert.Ffn1ReferenceIdeal.τ).loc Cert.Ffn1ReferenceIdeal.main_arg1) = m ((c.tc : Thread Cert.Ffn1Ideal.nD Cert.Ffn1Ideal.τ).loc Cert.Ffn1Ideal.main_arg1)) →
    ∃ (v0 : (c : Dev Cert.Ffn1Ideal.nD) → Buf (Elt Ideal) ((c.tc : Thread Cert.Ffn1Ideal.nD Cert.Ffn1Ideal.τ).loc Cert.Ffn1Ideal.main_v0)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v0) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ θ_run (Cert.Ffn1ReferenceIdeal.defs (F := Ideal)) (onTc (τ := Cert.Ffn1ReferenceIdeal.τ) (Cert.Ffn1ReferenceIdeal.main (F := Ideal))) ⟨m', fun _ => 0, g'⟩ (fun r => ∀ c : Dev Cert.Ffn1ReferenceIdeal.nD,
          r.2.mem ((c.tc : Thread Cert.Ffn1ReferenceIdeal.nD Cert.Ffn1ReferenceIdeal.τ).loc Cert.Ffn1ReferenceIdeal.main_v5) = v0 c
          ∧ r.2.mem ((c.tc : Thread Cert.Ffn1ReferenceIdeal.nD Cert.Ffn1ReferenceIdeal.τ).loc Cert.Ffn1ReferenceIdeal.main_arg0) = m' ((c.tc : Thread Cert.Ffn1ReferenceIdeal.nD Cert.Ffn1ReferenceIdeal.τ).loc Cert.Ffn1ReferenceIdeal.main_arg0)
          ∧ r.2.mem ((c.tc : Thread Cert.Ffn1ReferenceIdeal.nD Cert.Ffn1ReferenceIdeal.τ).loc Cert.Ffn1ReferenceIdeal.main_arg1) = m' ((c.tc : Thread Cert.Ffn1ReferenceIdeal.nD Cert.Ffn1ReferenceIdeal.τ).loc Cert.Ffn1ReferenceIdeal.main_arg1))

def preserves_Ffn2_Ffn2Ideal : Prop :=
  True

def algebraic_Ffn2Ideal_Ffn2ReferenceIdeal [hFfn2Ideal : Cert.Ffn2Ideal.Facts] [hFfn2ReferenceIdeal : Cert.Ffn2ReferenceIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2ReferenceIdeal.nD Cert.Ffn2ReferenceIdeal.τ Cert.Ffn2ReferenceIdeal.sig) → Buf (Elt Ideal) ℓ) (g' : Dev Cert.Ffn2ReferenceIdeal.nD → PrngReg), Pre_Ffn2Ideal m →
    (∀ c : Dev Cert.Ffn2Ideal.nD,
      m' ((c.tc : Thread Cert.Ffn2ReferenceIdeal.nD Cert.Ffn2ReferenceIdeal.τ).loc Cert.Ffn2ReferenceIdeal.main_arg0) = m ((c.tc : Thread Cert.Ffn2Ideal.nD Cert.Ffn2Ideal.τ).loc Cert.Ffn2Ideal.main_arg0)
      ∧ m' ((c.tc : Thread Cert.Ffn2ReferenceIdeal.nD Cert.Ffn2ReferenceIdeal.τ).loc Cert.Ffn2ReferenceIdeal.main_arg1) = m ((c.tc : Thread Cert.Ffn2Ideal.nD Cert.Ffn2Ideal.τ).loc Cert.Ffn2Ideal.main_arg1)) →
    ∃ (v0 : (c : Dev Cert.Ffn2Ideal.nD) → Buf (Elt Ideal) ((c.tc : Thread Cert.Ffn2Ideal.nD Cert.Ffn2Ideal.τ).loc Cert.Ffn2Ideal.main_v0)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v0) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1))
      ∧ θ_run (Cert.Ffn2ReferenceIdeal.defs (F := Ideal)) (onTc (τ := Cert.Ffn2ReferenceIdeal.τ) (Cert.Ffn2ReferenceIdeal.main (F := Ideal))) ⟨m', fun _ => 0, g'⟩ (fun r => ∀ c : Dev Cert.Ffn2ReferenceIdeal.nD,
          r.2.mem ((c.tc : Thread Cert.Ffn2ReferenceIdeal.nD Cert.Ffn2ReferenceIdeal.τ).loc Cert.Ffn2ReferenceIdeal.main_v5) = v0 c
          ∧ r.2.mem ((c.tc : Thread Cert.Ffn2ReferenceIdeal.nD Cert.Ffn2ReferenceIdeal.τ).loc Cert.Ffn2ReferenceIdeal.main_arg0) = m' ((c.tc : Thread Cert.Ffn2ReferenceIdeal.nD Cert.Ffn2ReferenceIdeal.τ).loc Cert.Ffn2ReferenceIdeal.main_arg0)
          ∧ r.2.mem ((c.tc : Thread Cert.Ffn2ReferenceIdeal.nD Cert.Ffn2ReferenceIdeal.τ).loc Cert.Ffn2ReferenceIdeal.main_arg1) = m' ((c.tc : Thread Cert.Ffn2ReferenceIdeal.nD Cert.Ffn2ReferenceIdeal.τ).loc Cert.Ffn2ReferenceIdeal.main_arg1))

def preserves_Ffn3_Ffn3Ideal : Prop :=
  True

def algebraic_Ffn3Ideal_Ffn3ReferenceIdeal [hFfn3Ideal : Cert.Ffn3Ideal.Facts] [hFfn3ReferenceIdeal : Cert.Ffn3ReferenceIdeal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg)
    (m' : (ℓ : Loc Cert.Ffn3ReferenceIdeal.nD Cert.Ffn3ReferenceIdeal.τ Cert.Ffn3ReferenceIdeal.sig) → Buf (Elt Ideal) ℓ) (g' : Dev Cert.Ffn3ReferenceIdeal.nD → PrngReg), Pre_Ffn3Ideal m →
    (∀ c : Dev Cert.Ffn3Ideal.nD,
      m' ((c.tc : Thread Cert.Ffn3ReferenceIdeal.nD Cert.Ffn3ReferenceIdeal.τ).loc Cert.Ffn3ReferenceIdeal.main_arg0) = m ((c.tc : Thread Cert.Ffn3Ideal.nD Cert.Ffn3Ideal.τ).loc Cert.Ffn3Ideal.main_arg0)
      ∧ m' ((c.tc : Thread Cert.Ffn3ReferenceIdeal.nD Cert.Ffn3ReferenceIdeal.τ).loc Cert.Ffn3ReferenceIdeal.main_arg1) = m ((c.tc : Thread Cert.Ffn3Ideal.nD Cert.Ffn3Ideal.τ).loc Cert.Ffn3Ideal.main_arg1)) →
    ∃ (v0 : (c : Dev Cert.Ffn3Ideal.nD) → Buf (Elt Ideal) ((c.tc : Thread Cert.Ffn3Ideal.nD Cert.Ffn3Ideal.τ).loc Cert.Ffn3Ideal.main_v0)),
      θ_run (Cert.Ffn3Ideal.defs (F := Ideal)) (onTc (τ := Cert.Ffn3Ideal.τ) (Cert.Ffn3Ideal.main (F := Ideal))) ⟨m, fun _ => 0, g⟩ (fun r => ∀ c : Dev Cert.Ffn3Ideal.nD,
          r.2.mem ((c.tc : Thread Cert.Ffn3Ideal.nD Cert.Ffn3Ideal.τ).loc Cert.Ffn3Ideal.main_v0) = v0 c
          ∧ r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
          ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1))
      ∧ θ_run (Cert.Ffn3ReferenceIdeal.defs (F := Ideal)) (onTc (τ := Cert.Ffn3ReferenceIdeal.τ) (Cert.Ffn3ReferenceIdeal.main (F := Ideal))) ⟨m', fun _ => 0, g'⟩ (fun r => ∀ c : Dev Cert.Ffn3ReferenceIdeal.nD,
          r.2.mem ((c.tc : Thread Cert.Ffn3ReferenceIdeal.nD Cert.Ffn3ReferenceIdeal.τ).loc Cert.Ffn3ReferenceIdeal.main_v5) = v0 c
          ∧ r.2.mem ((c.tc : Thread Cert.Ffn3ReferenceIdeal.nD Cert.Ffn3ReferenceIdeal.τ).loc Cert.Ffn3ReferenceIdeal.main_arg0) = m' ((c.tc : Thread Cert.Ffn3ReferenceIdeal.nD Cert.Ffn3ReferenceIdeal.τ).loc Cert.Ffn3ReferenceIdeal.main_arg0)
          ∧ r.2.mem ((c.tc : Thread Cert.Ffn3ReferenceIdeal.nD Cert.Ffn3ReferenceIdeal.τ).loc Cert.Ffn3ReferenceIdeal.main_arg1) = m' ((c.tc : Thread Cert.Ffn3ReferenceIdeal.nD Cert.Ffn3ReferenceIdeal.τ).loc Cert.Ffn3ReferenceIdeal.main_arg1))

def preserves_Dout0_Dout0Ideal : Prop :=
  True

def algebraic_Dout0Ideal_Dout0ReferenceIdeal [hDout0Ideal : Cert.Dout0Ideal.Facts] [hDout0ReferenceIdeal : Cert.Dout0ReferenceIdeal.Facts] : Prop :=
  ∀ (m : (ℓ : Loc Cert.Dout0Ideal.nD Cert.Dout0Ideal.τ Cert.Dout0Ideal.sig) → Buf (Elt Ideal) ℓ) (g : Dev Cert.Dout0Ideal.nD → PrngReg)
    (m' : (ℓ : Loc Cert.Dout0ReferenceIdeal.nD Cert.Dout0ReferenceIdeal.τ Cert.Dout0ReferenceIdeal.sig) → Buf (Elt Ideal) ℓ) (g' : Dev Cert.Dout0ReferenceIdeal.nD → PrngReg), Pre_Dout0Ideal m →
    (∀ c : Dev Cert.Dout0Ideal.nD,
      m' ((c.tc : Thread Cert.Dout0ReferenceIdeal.nD Cert.Dout0ReferenceIdeal.τ).loc Cert.Dout0ReferenceIdeal.main_arg0) = m ((c.tc : Thread Cert.Dout0Ideal.nD Cert.Dout0Ideal.τ).loc Cert.Dout0Ideal.main_arg0)
      ∧ m' ((c.tc : Thread Cert.Dout0ReferenceIdeal.nD Cert.Dout0ReferenceIdeal.τ).loc Cert.Dout0ReferenceIdeal.main_arg1) = m ((c.tc : Thread Cert.Dout0Ideal.nD Cert.Dout0Ideal.τ).loc Cert.Dout0Ideal.main_arg1)) →
    ∃ (v0 : (c : Dev Cert.Dout0Ideal.nD) → Buf (Elt Ideal) ((c.tc : Thread Cert.Dout0Ideal.nD Cert.Dout0Ideal.τ).loc Cert.Dout0Ideal.main_v0)),
      θ_run (Cert.Dout0Ideal.defs (F := Ideal)) (onTc (τ := Cert.Dout0Ideal.τ) (Cert.Dout0Ideal.main (F := Ideal))) ⟨m, fun _ => 0, g⟩ (fun r => ∀ c : Dev Cert.Dout0Ideal.nD,
          r.2.mem ((c.tc : Thread Cert.Dout0Ideal.nD Cert.Dout0Ideal.τ).loc Cert.Dout0Ideal.main_v0) = v0 c
          ∧ r.2.mem ((c.tc : Thread Cert.Dout0Ideal.nD Cert.Dout0Ideal.τ).loc Cert.Dout0Ideal.main_arg0) = m ((c.tc : Thread Cert.Dout0Ideal.nD Cert.Dout0Ideal.τ).loc Cert.Dout0Ideal.main_arg0)
          ∧ r.2.mem ((c.tc : Thread Cert.Dout0Ideal.nD Cert.Dout0Ideal.τ).loc Cert.Dout0Ideal.main_arg1) = m ((c.tc : Thread Cert.Dout0Ideal.nD Cert.Dout0Ideal.τ).loc Cert.Dout0Ideal.main_arg1))
      ∧ θ_run (Cert.Dout0ReferenceIdeal.defs (F := Ideal)) (onTc (τ := Cert.Dout0ReferenceIdeal.τ) (Cert.Dout0ReferenceIdeal.main (F := Ideal))) ⟨m', fun _ => 0, g'⟩ (fun r => ∀ c : Dev Cert.Dout0ReferenceIdeal.nD,
          r.2.mem ((c.tc : Thread Cert.Dout0ReferenceIdeal.nD Cert.Dout0ReferenceIdeal.τ).loc Cert.Dout0ReferenceIdeal.main_v7) = v0 c
          ∧ r.2.mem ((c.tc : Thread Cert.Dout0ReferenceIdeal.nD Cert.Dout0ReferenceIdeal.τ).loc Cert.Dout0ReferenceIdeal.main_arg0) = m' ((c.tc : Thread Cert.Dout0ReferenceIdeal.nD Cert.Dout0ReferenceIdeal.τ).loc Cert.Dout0ReferenceIdeal.main_arg0)
          ∧ r.2.mem ((c.tc : Thread Cert.Dout0ReferenceIdeal.nD Cert.Dout0ReferenceIdeal.τ).loc Cert.Dout0ReferenceIdeal.main_arg1) = m' ((c.tc : Thread Cert.Dout0ReferenceIdeal.nD Cert.Dout0ReferenceIdeal.τ).loc Cert.Dout0ReferenceIdeal.main_arg1))

def preserves_Dout1_Dout1Ideal : Prop :=
  True

def algebraic_Dout1Ideal_Dout1ReferenceIdeal [hDout1Ideal : Cert.Dout1Ideal.Facts] [hDout1ReferenceIdeal : Cert.Dout1ReferenceIdeal.Facts] : Prop :=
  ∀ (m : (ℓ : Loc Cert.Dout1Ideal.nD Cert.Dout1Ideal.τ Cert.Dout1Ideal.sig) → Buf (Elt Ideal) ℓ) (g : Dev Cert.Dout1Ideal.nD → PrngReg)
    (m' : (ℓ : Loc Cert.Dout1ReferenceIdeal.nD Cert.Dout1ReferenceIdeal.τ Cert.Dout1ReferenceIdeal.sig) → Buf (Elt Ideal) ℓ) (g' : Dev Cert.Dout1ReferenceIdeal.nD → PrngReg), Pre_Dout1Ideal m →
    (∀ c : Dev Cert.Dout1Ideal.nD,
      m' ((c.tc : Thread Cert.Dout1ReferenceIdeal.nD Cert.Dout1ReferenceIdeal.τ).loc Cert.Dout1ReferenceIdeal.main_arg0) = m ((c.tc : Thread Cert.Dout1Ideal.nD Cert.Dout1Ideal.τ).loc Cert.Dout1Ideal.main_arg0)
      ∧ m' ((c.tc : Thread Cert.Dout1ReferenceIdeal.nD Cert.Dout1ReferenceIdeal.τ).loc Cert.Dout1ReferenceIdeal.main_arg1) = m ((c.tc : Thread Cert.Dout1Ideal.nD Cert.Dout1Ideal.τ).loc Cert.Dout1Ideal.main_arg1)) →
    ∃ (v0 : (c : Dev Cert.Dout1Ideal.nD) → Buf (Elt Ideal) ((c.tc : Thread Cert.Dout1Ideal.nD Cert.Dout1Ideal.τ).loc Cert.Dout1Ideal.main_v0)),
      θ_run (Cert.Dout1Ideal.defs (F := Ideal)) (onTc (τ := Cert.Dout1Ideal.τ) (Cert.Dout1Ideal.main (F := Ideal))) ⟨m, fun _ => 0, g⟩ (fun r => ∀ c : Dev Cert.Dout1Ideal.nD,
          r.2.mem ((c.tc : Thread Cert.Dout1Ideal.nD Cert.Dout1Ideal.τ).loc Cert.Dout1Ideal.main_v0) = v0 c
          ∧ r.2.mem ((c.tc : Thread Cert.Dout1Ideal.nD Cert.Dout1Ideal.τ).loc Cert.Dout1Ideal.main_arg0) = m ((c.tc : Thread Cert.Dout1Ideal.nD Cert.Dout1Ideal.τ).loc Cert.Dout1Ideal.main_arg0)
          ∧ r.2.mem ((c.tc : Thread Cert.Dout1Ideal.nD Cert.Dout1Ideal.τ).loc Cert.Dout1Ideal.main_arg1) = m ((c.tc : Thread Cert.Dout1Ideal.nD Cert.Dout1Ideal.τ).loc Cert.Dout1Ideal.main_arg1))
      ∧ θ_run (Cert.Dout1ReferenceIdeal.defs (F := Ideal)) (onTc (τ := Cert.Dout1ReferenceIdeal.τ) (Cert.Dout1ReferenceIdeal.main (F := Ideal))) ⟨m', fun _ => 0, g'⟩ (fun r => ∀ c : Dev Cert.Dout1ReferenceIdeal.nD,
          r.2.mem ((c.tc : Thread Cert.Dout1ReferenceIdeal.nD Cert.Dout1ReferenceIdeal.τ).loc Cert.Dout1ReferenceIdeal.main_v7) = v0 c
          ∧ r.2.mem ((c.tc : Thread Cert.Dout1ReferenceIdeal.nD Cert.Dout1ReferenceIdeal.τ).loc Cert.Dout1ReferenceIdeal.main_arg0) = m' ((c.tc : Thread Cert.Dout1ReferenceIdeal.nD Cert.Dout1ReferenceIdeal.τ).loc Cert.Dout1ReferenceIdeal.main_arg0)
          ∧ r.2.mem ((c.tc : Thread Cert.Dout1ReferenceIdeal.nD Cert.Dout1ReferenceIdeal.τ).loc Cert.Dout1ReferenceIdeal.main_arg1) = m' ((c.tc : Thread Cert.Dout1ReferenceIdeal.nD Cert.Dout1ReferenceIdeal.τ).loc Cert.Dout1ReferenceIdeal.main_arg1))

def preserves_Dout2_Dout2Ideal : Prop :=
  True

def algebraic_Dout2Ideal_Dout2ReferenceIdeal [hDout2Ideal : Cert.Dout2Ideal.Facts] [hDout2ReferenceIdeal : Cert.Dout2ReferenceIdeal.Facts] : Prop :=
  ∀ (m : (ℓ : Loc Cert.Dout2Ideal.nD Cert.Dout2Ideal.τ Cert.Dout2Ideal.sig) → Buf (Elt Ideal) ℓ) (g : Dev Cert.Dout2Ideal.nD → PrngReg)
    (m' : (ℓ : Loc Cert.Dout2ReferenceIdeal.nD Cert.Dout2ReferenceIdeal.τ Cert.Dout2ReferenceIdeal.sig) → Buf (Elt Ideal) ℓ) (g' : Dev Cert.Dout2ReferenceIdeal.nD → PrngReg), Pre_Dout2Ideal m →
    (∀ c : Dev Cert.Dout2Ideal.nD,
      m' ((c.tc : Thread Cert.Dout2ReferenceIdeal.nD Cert.Dout2ReferenceIdeal.τ).loc Cert.Dout2ReferenceIdeal.main_arg0) = m ((c.tc : Thread Cert.Dout2Ideal.nD Cert.Dout2Ideal.τ).loc Cert.Dout2Ideal.main_arg0)
      ∧ m' ((c.tc : Thread Cert.Dout2ReferenceIdeal.nD Cert.Dout2ReferenceIdeal.τ).loc Cert.Dout2ReferenceIdeal.main_arg1) = m ((c.tc : Thread Cert.Dout2Ideal.nD Cert.Dout2Ideal.τ).loc Cert.Dout2Ideal.main_arg1)) →
    ∃ (v0 : (c : Dev Cert.Dout2Ideal.nD) → Buf (Elt Ideal) ((c.tc : Thread Cert.Dout2Ideal.nD Cert.Dout2Ideal.τ).loc Cert.Dout2Ideal.main_v0)),
      θ_run (Cert.Dout2Ideal.defs (F := Ideal)) (onTc (τ := Cert.Dout2Ideal.τ) (Cert.Dout2Ideal.main (F := Ideal))) ⟨m, fun _ => 0, g⟩ (fun r => ∀ c : Dev Cert.Dout2Ideal.nD,
          r.2.mem ((c.tc : Thread Cert.Dout2Ideal.nD Cert.Dout2Ideal.τ).loc Cert.Dout2Ideal.main_v0) = v0 c
          ∧ r.2.mem ((c.tc : Thread Cert.Dout2Ideal.nD Cert.Dout2Ideal.τ).loc Cert.Dout2Ideal.main_arg0) = m ((c.tc : Thread Cert.Dout2Ideal.nD Cert.Dout2Ideal.τ).loc Cert.Dout2Ideal.main_arg0)
          ∧ r.2.mem ((c.tc : Thread Cert.Dout2Ideal.nD Cert.Dout2Ideal.τ).loc Cert.Dout2Ideal.main_arg1) = m ((c.tc : Thread Cert.Dout2Ideal.nD Cert.Dout2Ideal.τ).loc Cert.Dout2Ideal.main_arg1))
      ∧ θ_run (Cert.Dout2ReferenceIdeal.defs (F := Ideal)) (onTc (τ := Cert.Dout2ReferenceIdeal.τ) (Cert.Dout2ReferenceIdeal.main (F := Ideal))) ⟨m', fun _ => 0, g'⟩ (fun r => ∀ c : Dev Cert.Dout2ReferenceIdeal.nD,
          r.2.mem ((c.tc : Thread Cert.Dout2ReferenceIdeal.nD Cert.Dout2ReferenceIdeal.τ).loc Cert.Dout2ReferenceIdeal.main_v7) = v0 c
          ∧ r.2.mem ((c.tc : Thread Cert.Dout2ReferenceIdeal.nD Cert.Dout2ReferenceIdeal.τ).loc Cert.Dout2ReferenceIdeal.main_arg0) = m' ((c.tc : Thread Cert.Dout2ReferenceIdeal.nD Cert.Dout2ReferenceIdeal.τ).loc Cert.Dout2ReferenceIdeal.main_arg0)
          ∧ r.2.mem ((c.tc : Thread Cert.Dout2ReferenceIdeal.nD Cert.Dout2ReferenceIdeal.τ).loc Cert.Dout2ReferenceIdeal.main_arg1) = m' ((c.tc : Thread Cert.Dout2ReferenceIdeal.nD Cert.Dout2ReferenceIdeal.τ).loc Cert.Dout2ReferenceIdeal.main_arg1))

def preserves_Dout3_Dout3Ideal : Prop :=
  True

def algebraic_Dout3Ideal_Dout3ReferenceIdeal [hDout3Ideal : Cert.Dout3Ideal.Facts] [hDout3ReferenceIdeal : Cert.Dout3ReferenceIdeal.Facts] : Prop :=
  ∀ (m : (ℓ : Loc Cert.Dout3Ideal.nD Cert.Dout3Ideal.τ Cert.Dout3Ideal.sig) → Buf (Elt Ideal) ℓ) (g : Dev Cert.Dout3Ideal.nD → PrngReg)
    (m' : (ℓ : Loc Cert.Dout3ReferenceIdeal.nD Cert.Dout3ReferenceIdeal.τ Cert.Dout3ReferenceIdeal.sig) → Buf (Elt Ideal) ℓ) (g' : Dev Cert.Dout3ReferenceIdeal.nD → PrngReg), Pre_Dout3Ideal m →
    (∀ c : Dev Cert.Dout3Ideal.nD,
      m' ((c.tc : Thread Cert.Dout3ReferenceIdeal.nD Cert.Dout3ReferenceIdeal.τ).loc Cert.Dout3ReferenceIdeal.main_arg0) = m ((c.tc : Thread Cert.Dout3Ideal.nD Cert.Dout3Ideal.τ).loc Cert.Dout3Ideal.main_arg0)
      ∧ m' ((c.tc : Thread Cert.Dout3ReferenceIdeal.nD Cert.Dout3ReferenceIdeal.τ).loc Cert.Dout3ReferenceIdeal.main_arg1) = m ((c.tc : Thread Cert.Dout3Ideal.nD Cert.Dout3Ideal.τ).loc Cert.Dout3Ideal.main_arg1)) →
    ∃ (v0 : (c : Dev Cert.Dout3Ideal.nD) → Buf (Elt Ideal) ((c.tc : Thread Cert.Dout3Ideal.nD Cert.Dout3Ideal.τ).loc Cert.Dout3Ideal.main_v0)),
      θ_run (Cert.Dout3Ideal.defs (F := Ideal)) (onTc (τ := Cert.Dout3Ideal.τ) (Cert.Dout3Ideal.main (F := Ideal))) ⟨m, fun _ => 0, g⟩ (fun r => ∀ c : Dev Cert.Dout3Ideal.nD,
          r.2.mem ((c.tc : Thread Cert.Dout3Ideal.nD Cert.Dout3Ideal.τ).loc Cert.Dout3Ideal.main_v0) = v0 c
          ∧ r.2.mem ((c.tc : Thread Cert.Dout3Ideal.nD Cert.Dout3Ideal.τ).loc Cert.Dout3Ideal.main_arg0) = m ((c.tc : Thread Cert.Dout3Ideal.nD Cert.Dout3Ideal.τ).loc Cert.Dout3Ideal.main_arg0)
          ∧ r.2.mem ((c.tc : Thread Cert.Dout3Ideal.nD Cert.Dout3Ideal.τ).loc Cert.Dout3Ideal.main_arg1) = m ((c.tc : Thread Cert.Dout3Ideal.nD Cert.Dout3Ideal.τ).loc Cert.Dout3Ideal.main_arg1))
      ∧ θ_run (Cert.Dout3ReferenceIdeal.defs (F := Ideal)) (onTc (τ := Cert.Dout3ReferenceIdeal.τ) (Cert.Dout3ReferenceIdeal.main (F := Ideal))) ⟨m', fun _ => 0, g'⟩ (fun r => ∀ c : Dev Cert.Dout3ReferenceIdeal.nD,
          r.2.mem ((c.tc : Thread Cert.Dout3ReferenceIdeal.nD Cert.Dout3ReferenceIdeal.τ).loc Cert.Dout3ReferenceIdeal.main_v7) = v0 c
          ∧ r.2.mem ((c.tc : Thread Cert.Dout3ReferenceIdeal.nD Cert.Dout3ReferenceIdeal.τ).loc Cert.Dout3ReferenceIdeal.main_arg0) = m' ((c.tc : Thread Cert.Dout3ReferenceIdeal.nD Cert.Dout3ReferenceIdeal.τ).loc Cert.Dout3ReferenceIdeal.main_arg0)
          ∧ r.2.mem ((c.tc : Thread Cert.Dout3ReferenceIdeal.nD Cert.Dout3ReferenceIdeal.τ).loc Cert.Dout3ReferenceIdeal.main_arg1) = m' ((c.tc : Thread Cert.Dout3ReferenceIdeal.nD Cert.Dout3ReferenceIdeal.τ).loc Cert.Dout3ReferenceIdeal.main_arg1))

def preserves_Dact0_Dact0Ideal : Prop :=
  True

def algebraic_Dact0Ideal_Dact0ReferenceIdeal [hDact0Ideal : Cert.Dact0Ideal.Facts] [hDact0ReferenceIdeal : Cert.Dact0ReferenceIdeal.Facts] : Prop :=
  ∀ (m : (ℓ : Loc Cert.Dact0Ideal.nD Cert.Dact0Ideal.τ Cert.Dact0Ideal.sig) → Buf (Elt Ideal) ℓ) (g : Dev Cert.Dact0Ideal.nD → PrngReg)
    (m' : (ℓ : Loc Cert.Dact0ReferenceIdeal.nD Cert.Dact0ReferenceIdeal.τ Cert.Dact0ReferenceIdeal.sig) → Buf (Elt Ideal) ℓ) (g' : Dev Cert.Dact0ReferenceIdeal.nD → PrngReg), Pre_Dact0Ideal m →
    (∀ c : Dev Cert.Dact0Ideal.nD,
      m' ((c.tc : Thread Cert.Dact0ReferenceIdeal.nD Cert.Dact0ReferenceIdeal.τ).loc Cert.Dact0ReferenceIdeal.main_arg0) = m ((c.tc : Thread Cert.Dact0Ideal.nD Cert.Dact0Ideal.τ).loc Cert.Dact0Ideal.main_arg0)
      ∧ m' ((c.tc : Thread Cert.Dact0ReferenceIdeal.nD Cert.Dact0ReferenceIdeal.τ).loc Cert.Dact0ReferenceIdeal.main_arg1) = m ((c.tc : Thread Cert.Dact0Ideal.nD Cert.Dact0Ideal.τ).loc Cert.Dact0Ideal.main_arg1)) →
    ∃ (v0 : (c : Dev Cert.Dact0Ideal.nD) → Buf (Elt Ideal) ((c.tc : Thread Cert.Dact0Ideal.nD Cert.Dact0Ideal.τ).loc Cert.Dact0Ideal.main_v0)),
      θ_run (Cert.Dact0Ideal.defs (F := Ideal)) (onTc (τ := Cert.Dact0Ideal.τ) (Cert.Dact0Ideal.main (F := Ideal))) ⟨m, fun _ => 0, g⟩ (fun r => ∀ c : Dev Cert.Dact0Ideal.nD,
          r.2.mem ((c.tc : Thread Cert.Dact0Ideal.nD Cert.Dact0Ideal.τ).loc Cert.Dact0Ideal.main_v0) = v0 c
          ∧ r.2.mem ((c.tc : Thread Cert.Dact0Ideal.nD Cert.Dact0Ideal.τ).loc Cert.Dact0Ideal.main_arg0) = m ((c.tc : Thread Cert.Dact0Ideal.nD Cert.Dact0Ideal.τ).loc Cert.Dact0Ideal.main_arg0)
          ∧ r.2.mem ((c.tc : Thread Cert.Dact0Ideal.nD Cert.Dact0Ideal.τ).loc Cert.Dact0Ideal.main_arg1) = m ((c.tc : Thread Cert.Dact0Ideal.nD Cert.Dact0Ideal.τ).loc Cert.Dact0Ideal.main_arg1))
      ∧ θ_run (Cert.Dact0ReferenceIdeal.defs (F := Ideal)) (onTc (τ := Cert.Dact0ReferenceIdeal.τ) (Cert.Dact0ReferenceIdeal.main (F := Ideal))) ⟨m', fun _ => 0, g'⟩ (fun r => ∀ c : Dev Cert.Dact0ReferenceIdeal.nD,
          r.2.mem ((c.tc : Thread Cert.Dact0ReferenceIdeal.nD Cert.Dact0ReferenceIdeal.τ).loc Cert.Dact0ReferenceIdeal.main_v7) = v0 c
          ∧ r.2.mem ((c.tc : Thread Cert.Dact0ReferenceIdeal.nD Cert.Dact0ReferenceIdeal.τ).loc Cert.Dact0ReferenceIdeal.main_arg0) = m' ((c.tc : Thread Cert.Dact0ReferenceIdeal.nD Cert.Dact0ReferenceIdeal.τ).loc Cert.Dact0ReferenceIdeal.main_arg0)
          ∧ r.2.mem ((c.tc : Thread Cert.Dact0ReferenceIdeal.nD Cert.Dact0ReferenceIdeal.τ).loc Cert.Dact0ReferenceIdeal.main_arg1) = m' ((c.tc : Thread Cert.Dact0ReferenceIdeal.nD Cert.Dact0ReferenceIdeal.τ).loc Cert.Dact0ReferenceIdeal.main_arg1))

def preserves_Dact1_Dact1Ideal : Prop :=
  True

def algebraic_Dact1Ideal_Dact1ReferenceIdeal [hDact1Ideal : Cert.Dact1Ideal.Facts] [hDact1ReferenceIdeal : Cert.Dact1ReferenceIdeal.Facts] : Prop :=
  ∀ (m : (ℓ : Loc Cert.Dact1Ideal.nD Cert.Dact1Ideal.τ Cert.Dact1Ideal.sig) → Buf (Elt Ideal) ℓ) (g : Dev Cert.Dact1Ideal.nD → PrngReg)
    (m' : (ℓ : Loc Cert.Dact1ReferenceIdeal.nD Cert.Dact1ReferenceIdeal.τ Cert.Dact1ReferenceIdeal.sig) → Buf (Elt Ideal) ℓ) (g' : Dev Cert.Dact1ReferenceIdeal.nD → PrngReg), Pre_Dact1Ideal m →
    (∀ c : Dev Cert.Dact1Ideal.nD,
      m' ((c.tc : Thread Cert.Dact1ReferenceIdeal.nD Cert.Dact1ReferenceIdeal.τ).loc Cert.Dact1ReferenceIdeal.main_arg0) = m ((c.tc : Thread Cert.Dact1Ideal.nD Cert.Dact1Ideal.τ).loc Cert.Dact1Ideal.main_arg0)
      ∧ m' ((c.tc : Thread Cert.Dact1ReferenceIdeal.nD Cert.Dact1ReferenceIdeal.τ).loc Cert.Dact1ReferenceIdeal.main_arg1) = m ((c.tc : Thread Cert.Dact1Ideal.nD Cert.Dact1Ideal.τ).loc Cert.Dact1Ideal.main_arg1)) →
    ∃ (v0 : (c : Dev Cert.Dact1Ideal.nD) → Buf (Elt Ideal) ((c.tc : Thread Cert.Dact1Ideal.nD Cert.Dact1Ideal.τ).loc Cert.Dact1Ideal.main_v0)),
      θ_run (Cert.Dact1Ideal.defs (F := Ideal)) (onTc (τ := Cert.Dact1Ideal.τ) (Cert.Dact1Ideal.main (F := Ideal))) ⟨m, fun _ => 0, g⟩ (fun r => ∀ c : Dev Cert.Dact1Ideal.nD,
          r.2.mem ((c.tc : Thread Cert.Dact1Ideal.nD Cert.Dact1Ideal.τ).loc Cert.Dact1Ideal.main_v0) = v0 c
          ∧ r.2.mem ((c.tc : Thread Cert.Dact1Ideal.nD Cert.Dact1Ideal.τ).loc Cert.Dact1Ideal.main_arg0) = m ((c.tc : Thread Cert.Dact1Ideal.nD Cert.Dact1Ideal.τ).loc Cert.Dact1Ideal.main_arg0)
          ∧ r.2.mem ((c.tc : Thread Cert.Dact1Ideal.nD Cert.Dact1Ideal.τ).loc Cert.Dact1Ideal.main_arg1) = m ((c.tc : Thread Cert.Dact1Ideal.nD Cert.Dact1Ideal.τ).loc Cert.Dact1Ideal.main_arg1))
      ∧ θ_run (Cert.Dact1ReferenceIdeal.defs (F := Ideal)) (onTc (τ := Cert.Dact1ReferenceIdeal.τ) (Cert.Dact1ReferenceIdeal.main (F := Ideal))) ⟨m', fun _ => 0, g'⟩ (fun r => ∀ c : Dev Cert.Dact1ReferenceIdeal.nD,
          r.2.mem ((c.tc : Thread Cert.Dact1ReferenceIdeal.nD Cert.Dact1ReferenceIdeal.τ).loc Cert.Dact1ReferenceIdeal.main_v7) = v0 c
          ∧ r.2.mem ((c.tc : Thread Cert.Dact1ReferenceIdeal.nD Cert.Dact1ReferenceIdeal.τ).loc Cert.Dact1ReferenceIdeal.main_arg0) = m' ((c.tc : Thread Cert.Dact1ReferenceIdeal.nD Cert.Dact1ReferenceIdeal.τ).loc Cert.Dact1ReferenceIdeal.main_arg0)
          ∧ r.2.mem ((c.tc : Thread Cert.Dact1ReferenceIdeal.nD Cert.Dact1ReferenceIdeal.τ).loc Cert.Dact1ReferenceIdeal.main_arg1) = m' ((c.tc : Thread Cert.Dact1ReferenceIdeal.nD Cert.Dact1ReferenceIdeal.τ).loc Cert.Dact1ReferenceIdeal.main_arg1))

def preserves_Dact2_Dact2Ideal : Prop :=
  True

def algebraic_Dact2Ideal_Dact2ReferenceIdeal [hDact2Ideal : Cert.Dact2Ideal.Facts] [hDact2ReferenceIdeal : Cert.Dact2ReferenceIdeal.Facts] : Prop :=
  ∀ (m : (ℓ : Loc Cert.Dact2Ideal.nD Cert.Dact2Ideal.τ Cert.Dact2Ideal.sig) → Buf (Elt Ideal) ℓ) (g : Dev Cert.Dact2Ideal.nD → PrngReg)
    (m' : (ℓ : Loc Cert.Dact2ReferenceIdeal.nD Cert.Dact2ReferenceIdeal.τ Cert.Dact2ReferenceIdeal.sig) → Buf (Elt Ideal) ℓ) (g' : Dev Cert.Dact2ReferenceIdeal.nD → PrngReg), Pre_Dact2Ideal m →
    (∀ c : Dev Cert.Dact2Ideal.nD,
      m' ((c.tc : Thread Cert.Dact2ReferenceIdeal.nD Cert.Dact2ReferenceIdeal.τ).loc Cert.Dact2ReferenceIdeal.main_arg0) = m ((c.tc : Thread Cert.Dact2Ideal.nD Cert.Dact2Ideal.τ).loc Cert.Dact2Ideal.main_arg0)
      ∧ m' ((c.tc : Thread Cert.Dact2ReferenceIdeal.nD Cert.Dact2ReferenceIdeal.τ).loc Cert.Dact2ReferenceIdeal.main_arg1) = m ((c.tc : Thread Cert.Dact2Ideal.nD Cert.Dact2Ideal.τ).loc Cert.Dact2Ideal.main_arg1)) →
    ∃ (v0 : (c : Dev Cert.Dact2Ideal.nD) → Buf (Elt Ideal) ((c.tc : Thread Cert.Dact2Ideal.nD Cert.Dact2Ideal.τ).loc Cert.Dact2Ideal.main_v0)),
      θ_run (Cert.Dact2Ideal.defs (F := Ideal)) (onTc (τ := Cert.Dact2Ideal.τ) (Cert.Dact2Ideal.main (F := Ideal))) ⟨m, fun _ => 0, g⟩ (fun r => ∀ c : Dev Cert.Dact2Ideal.nD,
          r.2.mem ((c.tc : Thread Cert.Dact2Ideal.nD Cert.Dact2Ideal.τ).loc Cert.Dact2Ideal.main_v0) = v0 c
          ∧ r.2.mem ((c.tc : Thread Cert.Dact2Ideal.nD Cert.Dact2Ideal.τ).loc Cert.Dact2Ideal.main_arg0) = m ((c.tc : Thread Cert.Dact2Ideal.nD Cert.Dact2Ideal.τ).loc Cert.Dact2Ideal.main_arg0)
          ∧ r.2.mem ((c.tc : Thread Cert.Dact2Ideal.nD Cert.Dact2Ideal.τ).loc Cert.Dact2Ideal.main_arg1) = m ((c.tc : Thread Cert.Dact2Ideal.nD Cert.Dact2Ideal.τ).loc Cert.Dact2Ideal.main_arg1))
      ∧ θ_run (Cert.Dact2ReferenceIdeal.defs (F := Ideal)) (onTc (τ := Cert.Dact2ReferenceIdeal.τ) (Cert.Dact2ReferenceIdeal.main (F := Ideal))) ⟨m', fun _ => 0, g'⟩ (fun r => ∀ c : Dev Cert.Dact2ReferenceIdeal.nD,
          r.2.mem ((c.tc : Thread Cert.Dact2ReferenceIdeal.nD Cert.Dact2ReferenceIdeal.τ).loc Cert.Dact2ReferenceIdeal.main_v7) = v0 c
          ∧ r.2.mem ((c.tc : Thread Cert.Dact2ReferenceIdeal.nD Cert.Dact2ReferenceIdeal.τ).loc Cert.Dact2ReferenceIdeal.main_arg0) = m' ((c.tc : Thread Cert.Dact2ReferenceIdeal.nD Cert.Dact2ReferenceIdeal.τ).loc Cert.Dact2ReferenceIdeal.main_arg0)
          ∧ r.2.mem ((c.tc : Thread Cert.Dact2ReferenceIdeal.nD Cert.Dact2ReferenceIdeal.τ).loc Cert.Dact2ReferenceIdeal.main_arg1) = m' ((c.tc : Thread Cert.Dact2ReferenceIdeal.nD Cert.Dact2ReferenceIdeal.τ).loc Cert.Dact2ReferenceIdeal.main_arg1))

def preserves_Dact3_Dact3Ideal : Prop :=
  True

def algebraic_Dact3Ideal_Dact3ReferenceIdeal [hDact3Ideal : Cert.Dact3Ideal.Facts] [hDact3ReferenceIdeal : Cert.Dact3ReferenceIdeal.Facts] : Prop :=
  ∀ (m : (ℓ : Loc Cert.Dact3Ideal.nD Cert.Dact3Ideal.τ Cert.Dact3Ideal.sig) → Buf (Elt Ideal) ℓ) (g : Dev Cert.Dact3Ideal.nD → PrngReg)
    (m' : (ℓ : Loc Cert.Dact3ReferenceIdeal.nD Cert.Dact3ReferenceIdeal.τ Cert.Dact3ReferenceIdeal.sig) → Buf (Elt Ideal) ℓ) (g' : Dev Cert.Dact3ReferenceIdeal.nD → PrngReg), Pre_Dact3Ideal m →
    (∀ c : Dev Cert.Dact3Ideal.nD,
      m' ((c.tc : Thread Cert.Dact3ReferenceIdeal.nD Cert.Dact3ReferenceIdeal.τ).loc Cert.Dact3ReferenceIdeal.main_arg0) = m ((c.tc : Thread Cert.Dact3Ideal.nD Cert.Dact3Ideal.τ).loc Cert.Dact3Ideal.main_arg0)
      ∧ m' ((c.tc : Thread Cert.Dact3ReferenceIdeal.nD Cert.Dact3ReferenceIdeal.τ).loc Cert.Dact3ReferenceIdeal.main_arg1) = m ((c.tc : Thread Cert.Dact3Ideal.nD Cert.Dact3Ideal.τ).loc Cert.Dact3Ideal.main_arg1)) →
    ∃ (v0 : (c : Dev Cert.Dact3Ideal.nD) → Buf (Elt Ideal) ((c.tc : Thread Cert.Dact3Ideal.nD Cert.Dact3Ideal.τ).loc Cert.Dact3Ideal.main_v0)),
      θ_run (Cert.Dact3Ideal.defs (F := Ideal)) (onTc (τ := Cert.Dact3Ideal.τ) (Cert.Dact3Ideal.main (F := Ideal))) ⟨m, fun _ => 0, g⟩ (fun r => ∀ c : Dev Cert.Dact3Ideal.nD,
          r.2.mem ((c.tc : Thread Cert.Dact3Ideal.nD Cert.Dact3Ideal.τ).loc Cert.Dact3Ideal.main_v0) = v0 c
          ∧ r.2.mem ((c.tc : Thread Cert.Dact3Ideal.nD Cert.Dact3Ideal.τ).loc Cert.Dact3Ideal.main_arg0) = m ((c.tc : Thread Cert.Dact3Ideal.nD Cert.Dact3Ideal.τ).loc Cert.Dact3Ideal.main_arg0)
          ∧ r.2.mem ((c.tc : Thread Cert.Dact3Ideal.nD Cert.Dact3Ideal.τ).loc Cert.Dact3Ideal.main_arg1) = m ((c.tc : Thread Cert.Dact3Ideal.nD Cert.Dact3Ideal.τ).loc Cert.Dact3Ideal.main_arg1))
      ∧ θ_run (Cert.Dact3ReferenceIdeal.defs (F := Ideal)) (onTc (τ := Cert.Dact3ReferenceIdeal.τ) (Cert.Dact3ReferenceIdeal.main (F := Ideal))) ⟨m', fun _ => 0, g'⟩ (fun r => ∀ c : Dev Cert.Dact3ReferenceIdeal.nD,
          r.2.mem ((c.tc : Thread Cert.Dact3ReferenceIdeal.nD Cert.Dact3ReferenceIdeal.τ).loc Cert.Dact3ReferenceIdeal.main_v7) = v0 c
          ∧ r.2.mem ((c.tc : Thread Cert.Dact3ReferenceIdeal.nD Cert.Dact3ReferenceIdeal.τ).loc Cert.Dact3ReferenceIdeal.main_arg0) = m' ((c.tc : Thread Cert.Dact3ReferenceIdeal.nD Cert.Dact3ReferenceIdeal.τ).loc Cert.Dact3ReferenceIdeal.main_arg0)
          ∧ r.2.mem ((c.tc : Thread Cert.Dact3ReferenceIdeal.nD Cert.Dact3ReferenceIdeal.τ).loc Cert.Dact3ReferenceIdeal.main_arg1) = m' ((c.tc : Thread Cert.Dact3ReferenceIdeal.nD Cert.Dact3ReferenceIdeal.τ).loc Cert.Dact3ReferenceIdeal.main_arg1))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hOut : Cert.Out.Facts) (hOutIdeal : Cert.OutIdeal.Facts) (hOutReferenceIdeal : Cert.OutReferenceIdeal.Facts) (hProj : Cert.Proj.Facts) (hProjIdeal : Cert.ProjIdeal.Facts) (hProjReferenceIdeal : Cert.ProjReferenceIdeal.Facts) (hNorm : Cert.Norm.Facts) (hNormIdeal : Cert.NormIdeal.Facts) (hNormReferenceIdeal : Cert.NormReferenceIdeal.Facts) (hPost : Cert.Post.Facts) (hPostIdeal : Cert.PostIdeal.Facts) (hPostReferenceIdeal : Cert.PostReferenceIdeal.Facts) (hQkv0 : Cert.Qkv0.Facts) (hQkv0Ideal : Cert.Qkv0Ideal.Facts) (hQkv0ReferenceIdeal : Cert.Qkv0ReferenceIdeal.Facts) (hQkv1 : Cert.Qkv1.Facts) (hQkv1Ideal : Cert.Qkv1Ideal.Facts) (hQkv1ReferenceIdeal : Cert.Qkv1ReferenceIdeal.Facts) (hQkv2 : Cert.Qkv2.Facts) (hQkv2Ideal : Cert.Qkv2Ideal.Facts) (hQkv2ReferenceIdeal : Cert.Qkv2ReferenceIdeal.Facts) (hQkv3 : Cert.Qkv3.Facts) (hQkv3Ideal : Cert.Qkv3Ideal.Facts) (hQkv3ReferenceIdeal : Cert.Qkv3ReferenceIdeal.Facts) (hAttn0 : Cert.Attn0.Facts) (hAttn0Ideal : Cert.Attn0Ideal.Facts) (hAttn0ReferenceIdeal : Cert.Attn0ReferenceIdeal.Facts) (hAttn1 : Cert.Attn1.Facts) (hAttn1Ideal : Cert.Attn1Ideal.Facts) (hAttn1ReferenceIdeal : Cert.Attn1ReferenceIdeal.Facts) (hAttn2 : Cert.Attn2.Facts) (hAttn2Ideal : Cert.Attn2Ideal.Facts) (hAttn2ReferenceIdeal : Cert.Attn2ReferenceIdeal.Facts) (hAttn3 : Cert.Attn3.Facts) (hAttn3Ideal : Cert.Attn3Ideal.Facts) (hAttn3ReferenceIdeal : Cert.Attn3ReferenceIdeal.Facts) (hFfn0 : Cert.Ffn0.Facts) (hFfn0Ideal : Cert.Ffn0Ideal.Facts) (hFfn0ReferenceIdeal : Cert.Ffn0ReferenceIdeal.Facts) (hFfn1 : Cert.Ffn1.Facts) (hFfn1Ideal : Cert.Ffn1Ideal.Facts) (hFfn1ReferenceIdeal : Cert.Ffn1ReferenceIdeal.Facts) (hFfn2 : Cert.Ffn2.Facts) (hFfn2Ideal : Cert.Ffn2Ideal.Facts) (hFfn2ReferenceIdeal : Cert.Ffn2ReferenceIdeal.Facts) (hFfn3 : Cert.Ffn3.Facts) (hFfn3Ideal : Cert.Ffn3Ideal.Facts) (hFfn3ReferenceIdeal : Cert.Ffn3ReferenceIdeal.Facts) (hDout0 : Cert.Dout0.Facts) (hDout0Ideal : Cert.Dout0Ideal.Facts) (hDout0ReferenceIdeal : Cert.Dout0ReferenceIdeal.Facts) (hDout1 : Cert.Dout1.Facts) (hDout1Ideal : Cert.Dout1Ideal.Facts) (hDout1ReferenceIdeal : Cert.Dout1ReferenceIdeal.Facts) (hDout2 : Cert.Dout2.Facts) (hDout2Ideal : Cert.Dout2Ideal.Facts) (hDout2ReferenceIdeal : Cert.Dout2ReferenceIdeal.Facts) (hDout3 : Cert.Dout3.Facts) (hDout3Ideal : Cert.Dout3Ideal.Facts) (hDout3ReferenceIdeal : Cert.Dout3ReferenceIdeal.Facts) (hDact0 : Cert.Dact0.Facts) (hDact0Ideal : Cert.Dact0Ideal.Facts) (hDact0ReferenceIdeal : Cert.Dact0ReferenceIdeal.Facts) (hDact1 : Cert.Dact1.Facts) (hDact1Ideal : Cert.Dact1Ideal.Facts) (hDact1ReferenceIdeal : Cert.Dact1ReferenceIdeal.Facts) (hDact2 : Cert.Dact2.Facts) (hDact2Ideal : Cert.Dact2Ideal.Facts) (hDact2ReferenceIdeal : Cert.Dact2ReferenceIdeal.Facts) (hDact3 : Cert.Dact3.Facts) (hDact3Ideal : Cert.Dact3Ideal.Facts) (hDact3ReferenceIdeal : Cert.Dact3ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ quiescent_Out (hOut := hOut)
    ∧ quiescent_OutIdeal (hOutIdeal := hOutIdeal)
    ∧ quiescent_OutReferenceIdeal (hOutReferenceIdeal := hOutReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Post (hPost := hPost)
    ∧ quiescent_PostIdeal (hPostIdeal := hPostIdeal)
    ∧ quiescent_PostReferenceIdeal (hPostReferenceIdeal := hPostReferenceIdeal)
    ∧ quiescent_Qkv0 (hQkv0 := hQkv0)
    ∧ quiescent_Qkv0Ideal (hQkv0Ideal := hQkv0Ideal)
    ∧ quiescent_Qkv0ReferenceIdeal (hQkv0ReferenceIdeal := hQkv0ReferenceIdeal)
    ∧ quiescent_Qkv1 (hQkv1 := hQkv1)
    ∧ quiescent_Qkv1Ideal (hQkv1Ideal := hQkv1Ideal)
    ∧ quiescent_Qkv1ReferenceIdeal (hQkv1ReferenceIdeal := hQkv1ReferenceIdeal)
    ∧ quiescent_Qkv2 (hQkv2 := hQkv2)
    ∧ quiescent_Qkv2Ideal (hQkv2Ideal := hQkv2Ideal)
    ∧ quiescent_Qkv2ReferenceIdeal (hQkv2ReferenceIdeal := hQkv2ReferenceIdeal)
    ∧ quiescent_Qkv3 (hQkv3 := hQkv3)
    ∧ quiescent_Qkv3Ideal (hQkv3Ideal := hQkv3Ideal)
    ∧ quiescent_Qkv3ReferenceIdeal (hQkv3ReferenceIdeal := hQkv3ReferenceIdeal)
    ∧ quiescent_Attn0 (hAttn0 := hAttn0)
    ∧ quiescent_Attn0Ideal (hAttn0Ideal := hAttn0Ideal)
    ∧ quiescent_Attn0ReferenceIdeal (hAttn0ReferenceIdeal := hAttn0ReferenceIdeal)
    ∧ quiescent_Attn1 (hAttn1 := hAttn1)
    ∧ quiescent_Attn1Ideal (hAttn1Ideal := hAttn1Ideal)
    ∧ quiescent_Attn1ReferenceIdeal (hAttn1ReferenceIdeal := hAttn1ReferenceIdeal)
    ∧ quiescent_Attn2 (hAttn2 := hAttn2)
    ∧ quiescent_Attn2Ideal (hAttn2Ideal := hAttn2Ideal)
    ∧ quiescent_Attn2ReferenceIdeal (hAttn2ReferenceIdeal := hAttn2ReferenceIdeal)
    ∧ quiescent_Attn3 (hAttn3 := hAttn3)
    ∧ quiescent_Attn3Ideal (hAttn3Ideal := hAttn3Ideal)
    ∧ quiescent_Attn3ReferenceIdeal (hAttn3ReferenceIdeal := hAttn3ReferenceIdeal)
    ∧ quiescent_Ffn0 (hFfn0 := hFfn0)
    ∧ quiescent_Ffn0Ideal (hFfn0Ideal := hFfn0Ideal)
    ∧ quiescent_Ffn0ReferenceIdeal (hFfn0ReferenceIdeal := hFfn0ReferenceIdeal)
    ∧ quiescent_Ffn1 (hFfn1 := hFfn1)
    ∧ quiescent_Ffn1Ideal (hFfn1Ideal := hFfn1Ideal)
    ∧ quiescent_Ffn1ReferenceIdeal (hFfn1ReferenceIdeal := hFfn1ReferenceIdeal)
    ∧ quiescent_Ffn2 (hFfn2 := hFfn2)
    ∧ quiescent_Ffn2Ideal (hFfn2Ideal := hFfn2Ideal)
    ∧ quiescent_Ffn2ReferenceIdeal (hFfn2ReferenceIdeal := hFfn2ReferenceIdeal)
    ∧ quiescent_Ffn3 (hFfn3 := hFfn3)
    ∧ quiescent_Ffn3Ideal (hFfn3Ideal := hFfn3Ideal)
    ∧ quiescent_Ffn3ReferenceIdeal (hFfn3ReferenceIdeal := hFfn3ReferenceIdeal)
    ∧ quiescent_Dout0 (hDout0 := hDout0)
    ∧ quiescent_Dout0Ideal (hDout0Ideal := hDout0Ideal)
    ∧ quiescent_Dout0ReferenceIdeal (hDout0ReferenceIdeal := hDout0ReferenceIdeal)
    ∧ quiescent_Dout1 (hDout1 := hDout1)
    ∧ quiescent_Dout1Ideal (hDout1Ideal := hDout1Ideal)
    ∧ quiescent_Dout1ReferenceIdeal (hDout1ReferenceIdeal := hDout1ReferenceIdeal)
    ∧ quiescent_Dout2 (hDout2 := hDout2)
    ∧ quiescent_Dout2Ideal (hDout2Ideal := hDout2Ideal)
    ∧ quiescent_Dout2ReferenceIdeal (hDout2ReferenceIdeal := hDout2ReferenceIdeal)
    ∧ quiescent_Dout3 (hDout3 := hDout3)
    ∧ quiescent_Dout3Ideal (hDout3Ideal := hDout3Ideal)
    ∧ quiescent_Dout3ReferenceIdeal (hDout3ReferenceIdeal := hDout3ReferenceIdeal)
    ∧ quiescent_Dact0 (hDact0 := hDact0)
    ∧ quiescent_Dact0Ideal (hDact0Ideal := hDact0Ideal)
    ∧ quiescent_Dact0ReferenceIdeal (hDact0ReferenceIdeal := hDact0ReferenceIdeal)
    ∧ quiescent_Dact1 (hDact1 := hDact1)
    ∧ quiescent_Dact1Ideal (hDact1Ideal := hDact1Ideal)
    ∧ quiescent_Dact1ReferenceIdeal (hDact1ReferenceIdeal := hDact1ReferenceIdeal)
    ∧ quiescent_Dact2 (hDact2 := hDact2)
    ∧ quiescent_Dact2Ideal (hDact2Ideal := hDact2Ideal)
    ∧ quiescent_Dact2ReferenceIdeal (hDact2ReferenceIdeal := hDact2ReferenceIdeal)
    ∧ quiescent_Dact3 (hDact3 := hDact3)
    ∧ quiescent_Dact3Ideal (hDact3Ideal := hDact3Ideal)
    ∧ quiescent_Dact3ReferenceIdeal (hDact3ReferenceIdeal := hDact3ReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Out_OutIdeal
    ∧ algebraic_OutIdeal_OutReferenceIdeal (hOutIdeal := hOutIdeal) (hOutReferenceIdeal := hOutReferenceIdeal)
    ∧ preserves_Proj_ProjIdeal
    ∧ algebraic_ProjIdeal_ProjReferenceIdeal (hProjIdeal := hProjIdeal) (hProjReferenceIdeal := hProjReferenceIdeal)
    ∧ preserves_Norm_NormIdeal
    ∧ algebraic_NormIdeal_NormReferenceIdeal (hNormIdeal := hNormIdeal) (hNormReferenceIdeal := hNormReferenceIdeal)
    ∧ preserves_Post_PostIdeal
    ∧ algebraic_PostIdeal_PostReferenceIdeal (hPostIdeal := hPostIdeal) (hPostReferenceIdeal := hPostReferenceIdeal)
    ∧ preserves_Qkv0_Qkv0Ideal
    ∧ algebraic_Qkv0Ideal_Qkv0ReferenceIdeal (hQkv0Ideal := hQkv0Ideal) (hQkv0ReferenceIdeal := hQkv0ReferenceIdeal)
    ∧ preserves_Qkv1_Qkv1Ideal
    ∧ algebraic_Qkv1Ideal_Qkv1ReferenceIdeal (hQkv1Ideal := hQkv1Ideal) (hQkv1ReferenceIdeal := hQkv1ReferenceIdeal)
    ∧ preserves_Qkv2_Qkv2Ideal
    ∧ algebraic_Qkv2Ideal_Qkv2ReferenceIdeal (hQkv2Ideal := hQkv2Ideal) (hQkv2ReferenceIdeal := hQkv2ReferenceIdeal)
    ∧ preserves_Qkv3_Qkv3Ideal
    ∧ algebraic_Qkv3Ideal_Qkv3ReferenceIdeal (hQkv3Ideal := hQkv3Ideal) (hQkv3ReferenceIdeal := hQkv3ReferenceIdeal)
    ∧ preserves_Attn0_Attn0Ideal
    ∧ algebraic_Attn0Ideal_Attn0ReferenceIdeal (hAttn0Ideal := hAttn0Ideal) (hAttn0ReferenceIdeal := hAttn0ReferenceIdeal)
    ∧ preserves_Attn1_Attn1Ideal
    ∧ algebraic_Attn1Ideal_Attn1ReferenceIdeal (hAttn1Ideal := hAttn1Ideal) (hAttn1ReferenceIdeal := hAttn1ReferenceIdeal)
    ∧ preserves_Attn2_Attn2Ideal
    ∧ algebraic_Attn2Ideal_Attn2ReferenceIdeal (hAttn2Ideal := hAttn2Ideal) (hAttn2ReferenceIdeal := hAttn2ReferenceIdeal)
    ∧ preserves_Attn3_Attn3Ideal
    ∧ algebraic_Attn3Ideal_Attn3ReferenceIdeal (hAttn3Ideal := hAttn3Ideal) (hAttn3ReferenceIdeal := hAttn3ReferenceIdeal)
    ∧ preserves_Ffn0_Ffn0Ideal
    ∧ algebraic_Ffn0Ideal_Ffn0ReferenceIdeal (hFfn0Ideal := hFfn0Ideal) (hFfn0ReferenceIdeal := hFfn0ReferenceIdeal)
    ∧ preserves_Ffn1_Ffn1Ideal
    ∧ algebraic_Ffn1Ideal_Ffn1ReferenceIdeal (hFfn1Ideal := hFfn1Ideal) (hFfn1ReferenceIdeal := hFfn1ReferenceIdeal)
    ∧ preserves_Ffn2_Ffn2Ideal
    ∧ algebraic_Ffn2Ideal_Ffn2ReferenceIdeal (hFfn2Ideal := hFfn2Ideal) (hFfn2ReferenceIdeal := hFfn2ReferenceIdeal)
    ∧ preserves_Ffn3_Ffn3Ideal
    ∧ algebraic_Ffn3Ideal_Ffn3ReferenceIdeal (hFfn3Ideal := hFfn3Ideal) (hFfn3ReferenceIdeal := hFfn3ReferenceIdeal)
    ∧ preserves_Dout0_Dout0Ideal
    ∧ algebraic_Dout0Ideal_Dout0ReferenceIdeal (hDout0Ideal := hDout0Ideal) (hDout0ReferenceIdeal := hDout0ReferenceIdeal)
    ∧ preserves_Dout1_Dout1Ideal
    ∧ algebraic_Dout1Ideal_Dout1ReferenceIdeal (hDout1Ideal := hDout1Ideal) (hDout1ReferenceIdeal := hDout1ReferenceIdeal)
    ∧ preserves_Dout2_Dout2Ideal
    ∧ algebraic_Dout2Ideal_Dout2ReferenceIdeal (hDout2Ideal := hDout2Ideal) (hDout2ReferenceIdeal := hDout2ReferenceIdeal)
    ∧ preserves_Dout3_Dout3Ideal
    ∧ algebraic_Dout3Ideal_Dout3ReferenceIdeal (hDout3Ideal := hDout3Ideal) (hDout3ReferenceIdeal := hDout3ReferenceIdeal)
    ∧ preserves_Dact0_Dact0Ideal
    ∧ algebraic_Dact0Ideal_Dact0ReferenceIdeal (hDact0Ideal := hDact0Ideal) (hDact0ReferenceIdeal := hDact0ReferenceIdeal)
    ∧ preserves_Dact1_Dact1Ideal
    ∧ algebraic_Dact1Ideal_Dact1ReferenceIdeal (hDact1Ideal := hDact1Ideal) (hDact1ReferenceIdeal := hDact1ReferenceIdeal)
    ∧ preserves_Dact2_Dact2Ideal
    ∧ algebraic_Dact2Ideal_Dact2ReferenceIdeal (hDact2Ideal := hDact2Ideal) (hDact2ReferenceIdeal := hDact2ReferenceIdeal)
    ∧ preserves_Dact3_Dact3Ideal
    ∧ algebraic_Dact3Ideal_Dact3ReferenceIdeal (hDact3Ideal := hDact3Ideal) (hDact3ReferenceIdeal := hDact3ReferenceIdeal)
-- ==== Pre_finite.lean ====
abbrev S3x4096x1024 : Shape := ⟨3, ![3, 4096, 1024]⟩
abbrev S4096x1024 : Shape := ⟨2, ![4096, 1024]⟩
abbrev S4096x128 : Shape := ⟨2, ![4096, 128]⟩
abbrev S4096x16 : Shape := ⟨2, ![4096, 16]⟩
abbrev S_ : Shape := ⟨0, ![]⟩

class Facts : Prop where
  slices_S4096x128_S4096x16_0_0 : S4096x128.Slices ![0, 0] S4096x16
  bcast_S_S4096x16 : S_.BroadcastsInDim S4096x16 (![] : Fin 0 → Fin S4096x16.rank)
  reducesTo_S4096x16_S_d0_1 : S4096x16.ReducesTo [0, 1] S_
  h_S_ : 0 < S_.numel
  bitsLt_bf16_f32 : FTy.bits .bf16 < FTy.bits .f32
  bcast_S_S3x4096x1024 : S_.BroadcastsInDim S3x4096x1024 (![] : Fin 0 → Fin S3x4096x1024.rank)
  reducesTo_S3x4096x1024_S_d0_1_2 : S3x4096x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S3x4096x1024 .bf16) (main_arg1 : FVec F S4096x1024 .bf16) (main_arg2 : FVec F S4096x128 .f32) : IVec S_ 1 :=
  let main_v0 : FVec F S4096x16 .f32 := (extractStridedSlice S4096x16 ![0, 0] · slices_S4096x128_S4096x16_0_0) main_arg2
  let main_v1 : FVec F S4096x16 .f32 := Host.absf main_v0
  let main_cst : FVec F S_ .f32 := constant S_ .f32 0x7F800000#32
  let main_v2 : FVec F S4096x16 .f32 := broadcastInDim S4096x16 ![] bcast_S_S4096x16 main_cst
  let main_v3 : IVec S4096x16 1 := cmpf .olt main_v1 main_v2
  let main_c : IVec S_ 1 := constantI S_ 1 1#1
  let main_v4 : IVec S_ 1 := (fun x v => Host.reduce IntOp.andi x v reducesTo_S4096x16_S_d0_1 h_S_) main_v3 main_c
  let main_v5 : FVec F S3x4096x1024 .f32 := (extf .f32 · bitsLt_bf16_f32) main_arg0
  let main_v6 : FVec F S3x4096x1024 .f32 := Host.absf main_v5
  let main_cst_0 : FVec F S_ .f32 := constant S_ .f32 0x7F800000#32
  let main_v7 : FVec F S3x4096x1024 .f32 := broadcastInDim S3x4096x1024 ![] bcast_S_S3x4096x1024 main_cst_0
  let main_v8 : IVec S3x4096x1024 1 := cmpf .olt main_v6 main_v7
  let main_c_1 : IVec S_ 1 := constantI S_ 1 1#1
  let main_v9 : IVec S_ 1 := (fun x v => Host.reduce IntOp.andi x v reducesTo_S3x4096x1024_S_d0_1_2 h_S_) main_v8 main_c_1
  let main_v10 : IVec S_ 1 := andi main_v4 main_v9
  let main_v11 : FVec F S4096x1024 .f32 := (extf .f32 · bitsLt_bf16_f32) main_arg1
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Kernel.lean ====
abbrev S3x4096x1024 : Shape := ⟨3, ![3, 4096, 1024]⟩
abbrev S4096x1024 : Shape := ⟨2, ![4096, 1024]⟩
abbrev S4096x128 : Shape := ⟨2, ![4096, 128]⟩
abbrev S4096x16 : Shape := ⟨2, ![4096, 16]⟩
abbrev S16x4096 : Shape := ⟨2, ![16, 4096]⟩
abbrev S1x4096x1024 : Shape := ⟨3, ![1, 4096, 1024]⟩
abbrev S4096x4096 : Shape := ⟨2, ![4096, 4096]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S1x4096x4096 : Shape := ⟨3, ![1, 4096, 4096]⟩
abbrev S16x4096x1 : Shape := ⟨3, ![16, 4096, 1]⟩
abbrev S16x1x4096 : Shape := ⟨3, ![16, 1, 4096]⟩
abbrev S8x2x4096 : Shape := ⟨3, ![8, 2, 4096]⟩
abbrev S8x4096x2 : Shape := ⟨3, ![8, 4096, 2]⟩
abbrev S8x4096x2x64 : Shape := ⟨4, ![8, 4096, 2, 64]⟩
abbrev S8x4096x128 : Shape := ⟨3, ![8, 4096, 128]⟩
abbrev S1x1024x128 : Shape := ⟨3, ![1, 1024, 128]⟩
abbrev S1x4096x128 : Shape := ⟨3, ![1, 4096, 128]⟩
abbrev S1024x128 : Shape := ⟨2, ![1024, 128]⟩
abbrev S1x2x4096 : Shape := ⟨3, ![1, 2, 4096]⟩
abbrev S3x4096x128 : Shape := ⟨3, ![3, 4096, 128]⟩
abbrev S2x4096 : Shape := ⟨2, ![2, 4096]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S1024x256 : Shape := ⟨2, ![1024, 256]⟩
abbrev S1x1x256 : Shape := ⟨3, ![1, 1, 256]⟩
abbrev S1x256 : Shape := ⟨2, ![1, 256]⟩
abbrev S256 : Shape := ⟨1, ![256]⟩
abbrev S1024x512 : Shape := ⟨2, ![1024, 512]⟩
abbrev S512x128 : Shape := ⟨2, ![512, 128]⟩
abbrev S2048x256 : Shape := ⟨2, ![2048, 256]⟩
abbrev S2048x128 : Shape := ⟨2, ![2048, 128]⟩

abbrev nBuf : Space → Nat
  | .hbm => 66
  | .vmem => 24
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .bf16⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S1x4096x1024, .bf16⟩
  | .hbm, ⟨6, _⟩ => ⟨S4096x1024, .bf16⟩
  | .hbm, ⟨7, _⟩ => ⟨S1x4096x1024, .bf16⟩
  | .hbm, ⟨8, _⟩ => ⟨S4096x1024, .bf16⟩
  | .hbm, ⟨9, _⟩ => ⟨S4096x4096, .i32⟩
  | .hbm, ⟨10, _⟩ => ⟨S4096x4096, .i32⟩
  | .hbm, ⟨11, _⟩ => ⟨S4096x1024, .f32⟩
  | .hbm, ⟨12, _⟩ => ⟨S4096x16x64, .f32⟩
  | .hbm, ⟨13, _⟩ => ⟨S16x4096x64, .f32⟩
  | .hbm, ⟨14, _⟩ => ⟨S4096x1024, .f32⟩
  | .hbm, ⟨15, _⟩ => ⟨S4096x16x64, .f32⟩
  | .hbm, ⟨16, _⟩ => ⟨S16x4096x64, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S4096x4096, .i1⟩
  | .hbm, ⟨22, _⟩ => ⟨S1x4096x4096, .i1⟩
  | .hbm, ⟨23, _⟩ => ⟨S16x4096x1, .f32⟩
  | .hbm, ⟨24, _⟩ => ⟨S16x1x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S_, .f32⟩
  | .hbm, ⟨31, _⟩ => ⟨S16x4096x4096, .i1⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S1x4096x1024, .bf16⟩
  | .hbm, ⟨46, _⟩ => ⟨S4096x1024, .bf16⟩
  | .hbm, ⟨47, _⟩ => ⟨S4096x1024, .f32⟩
  | .hbm, ⟨48, _⟩ => ⟨S4096x16x64, .f32⟩
  | .hbm, ⟨49, _⟩ => ⟨S16x4096x64, .f32⟩
  | .hbm, ⟨50, _⟩ => ⟨S16x4096x64, .f32⟩
  | .hbm, ⟨51, _⟩ => ⟨S16x4096, .f32⟩
  | .hbm, ⟨52, _⟩ => ⟨S16x4096, .f32⟩
  | .hbm, ⟨53, _⟩ => ⟨S4096x16x64, .f32⟩
  | .hbm, ⟨54, _⟩ => ⟨S4096x1024, .f32⟩
  | .hbm, ⟨55, _⟩ => ⟨S4096x1024, .bf16⟩
  | .hbm, ⟨56, _⟩ => ⟨S8x2x4096, .f32⟩
  | .hbm, ⟨57, _⟩ => ⟨S8x4096x2, .f32⟩
  | .hbm, ⟨58, _⟩ => ⟨S8x4096x2x64, .f32⟩
  | .hbm, ⟨59, _⟩ => ⟨S8x4096x128, .f32⟩
  | .hbm, ⟨60, _⟩ => ⟨S4096x16, .f32⟩
  | .hbm, ⟨61, _⟩ => ⟨S16x4096, .f32⟩
  | .hbm, ⟨62, _⟩ => ⟨S8x2x4096, .f32⟩
  | .hbm, ⟨63, _⟩ => ⟨S3x4096x1024, .bf16⟩
  | .hbm, ⟨64, _⟩ => ⟨S8x4096x128, .f32⟩
  | .hbm, ⟨65, _⟩ => ⟨S8x2x4096, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1024x128, .f32⟩
  | .local _ .vmem, ⟨13, _⟩ => ⟨S1024x128, .f32⟩
  | .local _ .vmem, ⟨14, _⟩ => ⟨S1x2x4096, .f32⟩
  | .local _ .vmem, ⟨15, _⟩ => ⟨S1x2x4096, .f32⟩
  | .local _ .vmem, ⟨16, _⟩ => ⟨S3x4096x128, .bf16⟩
  | .local _ .vmem, ⟨17, _⟩ => ⟨S3x4096x128, .bf16⟩
  | .local _ .vmem, ⟨18, _⟩ => ⟨S1x1024x128, .f32⟩
  | .local _ .vmem, ⟨19, _⟩ => ⟨S1x1024x128, .f32⟩
  | .local _ .vmem, ⟨20, _⟩ => ⟨S1x2x4096, .f32⟩
  | .local _ .vmem, ⟨21, _⟩ => ⟨S1x2x4096, .f32⟩
  | .local _ .vmem, ⟨22, _⟩ => ⟨S4096x128, .f32⟩
  | .local _ .vmem, ⟨23, _⟩ => ⟨S4096x128, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53_0 : Ref sig .tc := ⟨.hbm, 63, rfl⟩
abbrev main_v53_1 : Ref sig .tc := ⟨.hbm, 64, rfl⟩
abbrev main_v53_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_30 : BitVec 32 := 0#32
  let arg1 : BitVec 32 := BitVec.ofNat 32 (i 1).val
  let c4_i32 : BitVec 32 := 4#32
  let v63 : BitVec 32 := Scalar.muli arg1 c4_i32
  let v65 : BitVec 32 := Scalar.subi v63 c0_i32_30
  let c1_i32_31 : BitVec 32 := 1#32
  let v67 : BitVec 32 := Scalar.divsi v65 c1_i32_31
  let v68 : BitVec 32 := Scalar.muli v67 c1_i32_31
  let v69 : BitVec 32 := Scalar.addi c0_i32_30 v68
  let c1_i32_32 : BitVec 32 := 1#32
  ⟨c0_i32_30, v69, c1_i32_32⟩
def k0_mult1 (i : grid0.Coords) (k0_t1 : Fin (k0_t1_loop i).trips) : BitVec 32 :=
  let c0_i32_30 : BitVec 32 := 0#32
  let c1_i32_32 : BitVec 32 := 1#32
  let arg15 : BitVec 32 := Scf.iv c0_i32_30 c1_i32_32 k0_t1
  let c256_i32_200 : BitVec 32 := 256#32
  let v542 : BitVec 32 := Scalar.muli arg15 c256_i32_200
  v542
def k0_off1 (i : grid0.Coords) (k0_t1 : Fin (k0_t1_loop i).trips) : Fin 3 → Nat :=
  let c0_201 : Index := 0#32
  let c0_i32_30 : BitVec 32 := 0#32
  let c1_i32_32 : BitVec 32 := 1#32
  let arg15 : BitVec 32 := Scf.iv c0_i32_30 c1_i32_32 k0_t1
  let c256_i32_200 : BitVec 32 := 256#32
  let v542 : BitVec 32 := Scalar.muli arg15 c256_i32_200
  let v543 : BitVec 32 := v542
  let v544 : Index := Scalar.indexCast v543
  let c0_202 : Index := 0#32
  ![0, v544.toNat, 0]
def k0_off2 (i : grid0.Coords) (k0_t1 : Fin (k0_t1_loop i).trips) : Fin 3 → Nat :=
  let c0_210 : Index := 0#32
  let c0_211 : Index := 0#32
  let c0_i32_30 : BitVec 32 := 0#32
  let c1_i32_32 : BitVec 32 := 1#32
  let arg15 : BitVec 32 := Scf.iv c0_i32_30 c1_i32_32 k0_t1
  let c256_i32_200 : BitVec 32 := 256#32
  let v542 : BitVec 32 := Scalar.muli arg15 c256_i32_200
  let v543 : BitVec 32 := v542
  let v561 : Index := Scalar.indexCast v543
  ![0, 0, v561.toNat]
def k0_off3 (i : grid0.Coords) (k0_t1 : Fin (k0_t1_loop i).trips) : Fin 3 → Nat :=
  let c0_220 : Index := 0#32
  let c1_221 : Index := 1#32
  let c0_i32_30 : BitVec 32 := 0#32
  let c1_i32_32 : BitVec 32 := 1#32
  let arg15 : BitVec 32 := Scf.iv c0_i32_30 c1_i32_32 k0_t1
  let c256_i32_200 : BitVec 32 := 256#32
  let v542 : BitVec 32 := Scalar.muli arg15 c256_i32_200
  let v543 : BitVec 32 := v542
  let v591 : Index := Scalar.indexCast v543
  ![0, 1, v591.toNat]
def k0_off4 (i : grid0.Coords) (k0_t1 : Fin (k0_t1_loop i).trips) : Fin 2 → Nat :=
  let c0_i32_30 : BitVec 32 := 0#32
  let c1_i32_32 : BitVec 32 := 1#32
  let arg15 : BitVec 32 := Scf.iv c0_i32_30 c1_i32_32 k0_t1
  let c256_i32_200 : BitVec 32 := 256#32
  let v542 : BitVec 32 := Scalar.muli arg15 c256_i32_200
  let v543 : BitVec 32 := v542
  let v624 : Index := Scalar.indexCast v543
  let c0_230 : Index := 0#32
  ![v624.toNat, 0]
@[reducible] def k0_t2_loop (i : grid0.Coords) : Scf.Loop 32 :=
  let c0_i32_30 : BitVec 32 := 0#32
  let arg1 : BitVec 32 := BitVec.ofNat 32 (i 1).val
  let c4_i32 : BitVec 32 := 4#32
  let v63 : BitVec 32 := Scalar.muli arg1 c4_i32
  let v65 : BitVec 32 := Scalar.subi v63 c0_i32_30
  let c1_i32_31 : BitVec 32 := 1#32
  let v67 : BitVec 32 := Scalar.divsi v65 c1_i32_31
  let v68 : BitVec 32 := Scalar.muli v67 c1_i32_31
  let v69 : BitVec 32 := Scalar.addi c0_i32_30 v68
  let v66 : BitVec 32 := Scalar.addi c0_i32_30 v65
  let c1_i32_33 : BitVec 32 := 1#32
  ⟨v69, v66, c1_i32_33⟩
def k0_mult2 (i : grid0.Coords) (k0_t2 : Fin (k0_t2_loop i).trips) : BitVec 32 :=
  let c0_i32_30 : BitVec 32 := 0#32
  let arg1 : BitVec 32 := BitVec.ofNat 32 (i 1).val
  let c4_i32 : BitVec 32 := 4#32
  let v63 : BitVec 32 := Scalar.muli arg1 c4_i32
  let v65 : BitVec 32 := Scalar.subi v63 c0_i32_30
  let c1_i32_31 : BitVec 32 := 1#32
  let v67 : BitVec 32 := Scalar.divsi v65 c1_i32_31
  let v68 : BitVec 32 := Scalar.muli v67 c1_i32_31
  let v69 : BitVec 32 := Scalar.addi c0_i32_30 v68
  let c1_i32_33 : BitVec 32 := 1#32
  let arg15 : BitVec 32 := Scf.iv v69 c1_i32_33 k0_t2
  let c256_i32_200 : BitVec 32 := 256#32
  let v542 : BitVec 32 := Scalar.muli arg15 c256_i32_200
  v542
def k0_off5 (i : grid0.Coords) (k0_t2 : Fin (k0_t2_loop i).trips) : Fin 3 → Nat :=
  let c0_201 : Index := 0#32
  let c0_i32_30 : BitVec 32 := 0#32
  let arg1 : BitVec 32 := BitVec.ofNat 32 (i 1).val
  let c4_i32 : BitVec 32 := 4#32
  let v63 : BitVec 32 := Scalar.muli arg1 c4_i32
  let v65 : BitVec 32 := Scalar.subi v63 c0_i32_30
  let c1_i32_31 : BitVec 32 := 1#32
  let v67 : BitVec 32 := Scalar.divsi v65 c1_i32_31
  let v68 : BitVec 32 := Scalar.muli v67 c1_i32_31
  let v69 : BitVec 32 := Scalar.addi c0_i32_30 v68
  let c1_i32_33 : BitVec 32 := 1#32
  let arg15 : BitVec 32 := Scf.iv v69 c1_i32_33 k0_t2
  let c256_i32_200 : BitVec 32 := 256#32
  let v542 : BitVec 32 := Scalar.muli arg15 c256_i32_200
  let v543 : BitVec 32 := v542
  let v544 : Index := Scalar.indexCast v543
  let c0_202 : Index := 0#32
  ![0, v544.toNat, 0]
def k0_off6 (i : grid0.Coords) (k0_t2 : Fin (k0_t2_loop i).trips) : Fin 3 → Nat :=
  let c0_210 : Index := 0#32
  let c0_211 : Index := 0#32
  let c0_i32_30 : BitVec 32 := 0#32
  let arg1 : BitVec 32 := BitVec.ofNat 32 (i 1).val
  let c4_i32 : BitVec 32 := 4#32
  let v63 : BitVec 32 := Scalar.muli arg1 c4_i32
  let v65 : BitVec 32 := Scalar.subi v63 c0_i32_30
  let c1_i32_31 : BitVec 32 := 1#32
  let v67 : BitVec 32 := Scalar.divsi v65 c1_i32_31
  let v68 : BitVec 32 := Scalar.muli v67 c1_i32_31
  let v69 : BitVec 32 := Scalar.addi c0_i32_30 v68
  let c1_i32_33 : BitVec 32 := 1#32
  let arg15 : BitVec 32 := Scf.iv v69 c1_i32_33 k0_t2
  let c256_i32_200 : BitVec 32 := 256#32
  let v542 : BitVec 32 := Scalar.muli arg15 c256_i32_200
  let v543 : BitVec 32 := v542
  let v561 : Index := Scalar.indexCast v543
  ![0, 0, v561.toNat]
def k0_off7 (i : grid0.Coords) (k0_t2 : Fin (k0_t2_loop i).trips) : Fin 3 → Nat :=
  let c0_220 : Index := 0#32
  let c1_221 : Index := 1#32
  let c0_i32_30 : BitVec 32 := 0#32
  let arg1 : BitVec 32 := BitVec.ofNat 32 (i 1).val
  let c4_i32 : BitVec 32 := 4#32
  let v63 : BitVec 32 := Scalar.muli arg1 c4_i32
  let v65 : BitVec 32 := Scalar.subi v63 c0_i32_30
  let c1_i32_31 : BitVec 32 := 1#32
  let v67 : BitVec 32 := Scalar.divsi v65 c1_i32_31
  let v68 : BitVec 32 := Scalar.muli v67 c1_i32_31
  let v69 : BitVec 32 := Scalar.addi c0_i32_30 v68
  let c1_i32_33 : BitVec 32 := 1#32
  let arg15 : BitVec 32 := Scf.iv v69 c1_i32_33 k0_t2
  let c256_i32_200 : BitVec 32 := 256#32
  let v542 : BitVec 32 := Scalar.muli arg15 c256_i32_200
  let v543 : BitVec 32 := v542
  let v591 : Index := Scalar.indexCast v543
  ![0, 1, v591.toNat]
def k0_off8 (i : grid0.Coords) (k0_t2 : Fin (k0_t2_loop i).trips) : Fin 2 → Nat :=
  let c0_i32_30 : BitVec 32 := 0#32
  let arg1 : BitVec 32 := BitVec.ofNat 32 (i 1).val
  let c4_i32 : BitVec 32 := 4#32
  let v63 : BitVec 32 := Scalar.muli arg1 c4_i32
  let v65 : BitVec 32 := Scalar.subi v63 c0_i32_30
  let c1_i32_31 : BitVec 32 := 1#32
  let v67 : BitVec 32 := Scalar.divsi v65 c1_i32_31
  let v68 : BitVec 32 := Scalar.muli v67 c1_i32_31
  let v69 : BitVec 32 := Scalar.addi c0_i32_30 v68
  let c1_i32_33 : BitVec 32 := 1#32
  let arg15 : BitVec 32 := Scf.iv v69 c1_i32_33 k0_t2
  let c256_i32_200 : BitVec 32 := 256#32
  let v542 : BitVec 32 := Scalar.muli arg15 c256_i32_200
  let v543 : BitVec 32 := v542
  let v624 : Index := Scalar.indexCast v543
  let c0_230 : Index := 0#32
  ![v624.toNat, 0]
def k0_mult3 (i : grid0.Coords) : BitVec 32 :=
  let arg1 : BitVec 32 := BitVec.ofNat 32 (i 1).val
  let c4_i32_34 : BitVec 32 := 4#32
  let v72 : BitVec 32 := Scalar.muli arg1 c4_i32_34
  let c0_i32_35 : BitVec 32 := 0#32
  let v73 : BitVec 32 := Scalar.addi v72 c0_i32_35
  let c256_i32 : BitVec 32 := 256#32
  let v79 : BitVec 32 := Scalar.muli v73 c256_i32
  v79
def k0_off9 (i : grid0.Coords) (c0_i32_35 : BitVec 32) : Fin 3 → Nat :=
  let c0_37 : Index := 0#32
  let arg1 : BitVec 32 := BitVec.ofNat 32 (i 1).val
  let c4_i32_34 : BitVec 32 := 4#32
  let v72 : BitVec 32 := Scalar.muli arg1 c4_i32_34
  let v73 : BitVec 32 := Scalar.addi v72 c0_i32_35
  let c256_i32 : BitVec 32 := 256#32
  let v79 : BitVec 32 := Scalar.muli v73 c256_i32
  let v80 : BitVec 32 := v79
  let v81 : Index := Scalar.indexCast v80
  let c0_38 : Index := 0#32
  ![0, v81.toNat, 0]
def k0_off10 (i : grid0.Coords) (c0_i32_35 : BitVec 32) : Fin 3 → Nat :=
  let c0_46 : Index := 0#32
  let c0_47 : Index := 0#32
  let arg1 : BitVec 32 := BitVec.ofNat 32 (i 1).val
  let c4_i32_34 : BitVec 32 := 4#32
  let v72 : BitVec 32 := Scalar.muli arg1 c4_i32_34
  let v73 : BitVec 32 := Scalar.addi v72 c0_i32_35
  let c256_i32 : BitVec 32 := 256#32
  let v79 : BitVec 32 := Scalar.muli v73 c256_i32
  let v80 : BitVec 32 := v79
  let v98 : Index := Scalar.indexCast v80
  ![0, 0, v98.toNat]
def k0_off11 (i : grid0.Coords) (c0_i32_35 : BitVec 32) : Fin 3 → Nat :=
  let c0_57 : Index := 0#32
  let c1 : Index := 1#32
  let arg1 : BitVec 32 := BitVec.ofNat 32 (i 1).val
  let c4_i32_34 : BitVec 32 := 4#32
  let v72 : BitVec 32 := Scalar.muli arg1 c4_i32_34
  let v73 : BitVec 32 := Scalar.addi v72 c0_i32_35
  let c256_i32 : BitVec 32 := 256#32
  let v79 : BitVec 32 := Scalar.muli v73 c256_i32
  let v80 : BitVec 32 := v79
  let v130 : Index := Scalar.indexCast v80
  ![0, 1, v130.toNat]
def k0_off12 (i : grid0.Coords) (c0_i32_35 : BitVec 32) : Fin 2 → Nat :=
  let arg1 : BitVec 32 := BitVec.ofNat 32 (i 1).val
  let c4_i32_34 : BitVec 32 := 4#32
  let v72 : BitVec 32 := Scalar.muli arg1 c4_i32_34
  let v73 : BitVec 32 := Scalar.addi v72 c0_i32_35
  let c256_i32 : BitVec 32 := 256#32
  let v79 : BitVec 32 := Scalar.muli v73 c256_i32
  let v80 : BitVec 32 := v79
  let v165 : Index := Scalar.indexCast v80
  let c0_67 : Index := 0#32
  ![v165.toNat, 0]
def k0_mult4 (i : grid0.Coords) : BitVec 32 :=
  let arg1 : BitVec 32 := BitVec.ofNat 32 (i 1).val
  let c4_i32_73 : BitVec 32 := 4#32
  let v185 : BitVec 32 := Scalar.muli arg1 c4_i32_73
  let c1_i32_74 : BitVec 32 := 1#32
  let v186 : BitVec 32 := Scalar.addi v185 c1_i32_74
  let c256_i32_76 : BitVec 32 := 256#32
  let v192 : BitVec 32 := Scalar.muli v186 c256_i32_76
  v192
def k0_mult5 (i : grid0.Coords) : BitVec 32 :=
  let arg1 : BitVec 32 := BitVec.ofNat 32 (i 1).val
  let c4_i32_114 : BitVec 32 := 4#32
  let v298 : BitVec 32 := Scalar.muli arg1 c4_i32_114
  let c2_i32_115 : BitVec 32 := 2#32
  let v299 : BitVec 32 := Scalar.addi v298 c2_i32_115
  let c256_i32_116 : BitVec 32 := 256#32
  let v305 : BitVec 32 := Scalar.muli v299 c256_i32_116
  v305
def k0_mult6 (i : grid0.Coords) : BitVec 32 :=
  let arg1 : BitVec 32 := BitVec.ofNat 32 (i 1).val
  let c4_i32_154 : BitVec 32 := 4#32
  let v411 : BitVec 32 := Scalar.muli arg1 c4_i32_154
  let c3_i32 : BitVec 32 := 3#32
  let v412 : BitVec 32 := Scalar.addi v411 c3_i32
  let c256_i32_155 : BitVec 32 := 256#32
  let v418 : BitVec 32 := Scalar.muli v412 c256_i32_155
  v418
def k0_mult7 (i : grid0.Coords) : BitVec 32 :=
  let arg1 : BitVec 32 := BitVec.ofNat 32 (i 1).val
  let c1024_i32 : BitVec 32 := 1024#32
  let v525 : BitVec 32 := Scalar.muli arg1 c1024_i32
  v525
def k0_off13 (i : grid0.Coords) : Fin 3 → Nat :=
  let c0_193 : Index := 0#32
  let arg1 : BitVec 32 := BitVec.ofNat 32 (i 1).val
  let c1024_i32 : BitVec 32 := 1024#32
  let v525 : BitVec 32 := Scalar.muli arg1 c1024_i32
  let v526 : BitVec 32 := v525
  let v527 : Index := Scalar.indexCast v526
  let c0_194 : Index := 0#32
  ![0, v527.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S3x4096x1024 : Shape := ⟨3, ![3, 4096, 1024]⟩
abbrev S4096x1024 : Shape := ⟨2, ![4096, 1024]⟩
abbrev S4096x128 : Shape := ⟨2, ![4096, 128]⟩
abbrev S4096x16 : Shape := ⟨2, ![4096, 16]⟩
abbrev S16x4096 : Shape := ⟨2, ![16, 4096]⟩
abbrev S1x4096x1024 : Shape := ⟨3, ![1, 4096, 1024]⟩
abbrev S4096x4096 : Shape := ⟨2, ![4096, 4096]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S1x4096x4096 : Shape := ⟨3, ![1, 4096, 4096]⟩
abbrev S16x4096x1 : Shape := ⟨3, ![16, 4096, 1]⟩
abbrev S16x1x4096 : Shape := ⟨3, ![16, 1, 4096]⟩
abbrev S16x64x4096 : Shape := ⟨3, ![16, 64, 4096]⟩
abbrev S8x2x4096 : Shape := ⟨3, ![8, 2, 4096]⟩
abbrev S8x4096x2 : Shape := ⟨3, ![8, 4096, 2]⟩
abbrev S8x4096x2x64 : Shape := ⟨4, ![8, 4096, 2, 64]⟩
abbrev S8x4096x128 : Shape := ⟨3, ![8, 4096, 128]⟩

abbrev nBuf : Space → Nat
  | .hbm => 133
  | .vmem => 0
  | .smem => 0
  | _ => 0

abbrev hbmTy0_0 (i : Nat) : BufTy := match i % 128 with
  | 0 => ⟨S3x4096x1024, .bf16⟩
  | 1 => ⟨S4096x1024, .bf16⟩
  | 2 => ⟨S4096x128, .f32⟩
  | 3 => ⟨S4096x16, .f32⟩
  | 4 => ⟨S16x4096, .f32⟩
  | 5 => ⟨S3x4096x1024, .f32⟩
  | 6 => ⟨S1x4096x1024, .f32⟩
  | 7 => ⟨S4096x1024, .f32⟩
  | 8 => ⟨S1x4096x1024, .f32⟩
  | 9 => ⟨S4096x1024, .f32⟩
  | 10 => ⟨S1x4096x1024, .f32⟩
  | 11 => ⟨S4096x1024, .f32⟩
  | 12 => ⟨S4096x4096, .i32⟩
  | 13 => ⟨S4096x4096, .i32⟩
  | 14 => ⟨S4096x16x64, .f32⟩
  | 15 => ⟨S16x4096x64, .f32⟩
  | 16 => ⟨S4096x16x64, .f32⟩
  | 17 => ⟨S16x4096x64, .f32⟩
  | 18 => ⟨S16x4096x4096, .f32⟩
  | 19 => ⟨S_, .f32⟩
  | 20 => ⟨S16x4096x4096, .f32⟩
  | 21 => ⟨S16x4096x4096, .f32⟩
  | 22 => ⟨S4096x4096, .i1⟩
  | 23 => ⟨S1x4096x4096, .i1⟩
  | 24 => ⟨S16x4096x1, .f32⟩
  | 25 => ⟨S16x1x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S_, .f32⟩
  | 31 => ⟨S_, .f32⟩
  | 32 => ⟨S16x4096x4096, .i1⟩
  | 33 => ⟨S16x4096x4096, .f32⟩
  | 34 => ⟨S16x4096x4096, .f32⟩
  | 35 => ⟨S_, .f32⟩
  | 36 => ⟨S16x4096x4096, .f32⟩
  | 37 => ⟨S_, .f32⟩
  | 38 => ⟨S16x4096, .f32⟩
  | 39 => ⟨S16x4096x1, .f32⟩
  | 40 => ⟨S16x4096x4096, .f32⟩
  | 41 => ⟨S16x4096x4096, .i1⟩
  | 42 => ⟨S16x4096x4096, .f32⟩
  | 43 => ⟨S_, .f32⟩
  | 44 => ⟨S16x4096, .f32⟩
  | 45 => ⟨S_, .f32⟩
  | 46 => ⟨S16x4096, .f32⟩
  | 47 => ⟨S16x4096, .f32⟩
  | 48 => ⟨S_, .f32⟩
  | 49 => ⟨S16x4096, .f32⟩
  | 50 => ⟨S16x4096, .i1⟩
  | 51 => ⟨S_, .f32⟩
  | 52 => ⟨S16x4096, .f32⟩
  | 53 => ⟨S16x4096, .i1⟩
  | 54 => ⟨S_, .f32⟩
  | 55 => ⟨S16x4096, .f32⟩
  | 56 => ⟨S_, .f32⟩
  | 57 => ⟨S16x4096, .f32⟩
  | 58 => ⟨S_, .f32⟩
  | 59 => ⟨S16x4096, .f32⟩
  | 60 => ⟨S16x4096, .f32⟩
  | 61 => ⟨S16x4096, .f32⟩
  | 62 => ⟨S16x4096x1, .f32⟩
  | 63 => ⟨S16x4096x4096, .f32⟩
  | 64 => ⟨S16x4096x4096, .f32⟩
  | 65 => ⟨S16x4096x4096, .f32⟩
  | 66 => ⟨S_, .f32⟩
  | 67 => ⟨S16x4096, .f32⟩
  | 68 => ⟨S16x4096x1, .f32⟩
  | 69 => ⟨S16x4096x4096, .f32⟩
  | 70 => ⟨S16x4096x4096, .f32⟩
  | 71 => ⟨S16x4096x1, .f32⟩
  | 72 => ⟨S_, .f32⟩
  | 73 => ⟨S16x4096x1, .f32⟩
  | 74 => ⟨S16x4096x1, .f32⟩
  | 75 => ⟨S4096x16x64, .f32⟩
  | 76 => ⟨S16x4096x64, .f32⟩
  | 77 => ⟨S16x4096x64, .f32⟩
  | 78 => ⟨S4096x1024, .f32⟩
  | 79 => ⟨S4096x16x64, .f32⟩
  | 80 => ⟨S16x4096x64, .f32⟩
  | 81 => ⟨S16x64x4096, .f32⟩
  | 82 => ⟨S16x4096x64, .f32⟩
  | 83 => ⟨S16x4096x4096, .f32⟩
  | 84 => ⟨S4096x16x64, .f32⟩
  | 85 => ⟨S4096x1024, .f32⟩
  | 86 => ⟨S16x4096x4096, .f32⟩
  | 87 => ⟨S16x4096x4096, .f32⟩
  | 88 => ⟨S16x4096x4096, .f32⟩
  | 89 => ⟨S_, .f32⟩
  | 90 => ⟨S16x4096, .f32⟩
  | 91 => ⟨S16x4096x1, .f32⟩
  | 92 => ⟨S16x4096x1, .f32⟩
  | 93 => ⟨S16x4096x4096, .f32⟩
  | 94 => ⟨S16x4096x4096, .f32⟩
  | 95 => ⟨S_, .f32⟩
  | 96 => ⟨S16x4096, .f32⟩
  | 97 => ⟨S16x4096x4096, .f32⟩
  | 98 => ⟨S16x4096x4096, .f32⟩
  | 99 => ⟨S16x4096x4096, .f32⟩
  | 100 => ⟨S_, .f32⟩
  | 101 => ⟨S16x4096x4096, .f32⟩
  | 102 => ⟨S16x4096x4096, .f32⟩
  | 103 => ⟨S_, .f32⟩
  | 104 => ⟨S16x4096, .f32⟩
  | 105 => ⟨S16x4096x1, .f32⟩
  | 106 => ⟨S16x4096x4096, .f32⟩
  | 107 => ⟨S_, .f32⟩
  | 108 => ⟨S16x4096, .f32⟩
  | 109 => ⟨S16x1x4096, .f32⟩
  | 110 => ⟨S_, .f32⟩
  | 111 => ⟨S16x4096, .f32⟩
  | 112 => ⟨S_, .f32⟩
  | 113 => ⟨S16x4096, .f32⟩
  | 114 => ⟨S_, .f32⟩
  | 115 => ⟨S16x4096x4096, .f32⟩
  | 116 => ⟨S16x4096x4096, .f32⟩
  | 117 => ⟨S16x4096x64, .f32⟩
  | 118 => ⟨S16x4096x64, .f32⟩
  | 119 => ⟨S4096x16x64, .f32⟩
  | 120 => ⟨S4096x1024, .f32⟩
  | 121 => ⟨S4096x16x64, .f32⟩
  | 122 => ⟨S4096x1024, .f32⟩
  | 123 => ⟨S1x4096x1024, .f32⟩
  | 124 => ⟨S1x4096x1024, .f32⟩
  | 125 => ⟨S1x4096x1024, .f32⟩
  | 126 => ⟨S3x4096x1024, .f32⟩
  | 127 => ⟨S3x4096x1024, .bf16⟩
  | _ => ⟨S3x4096x1024, .bf16⟩

abbrev hbmTy0_1 (i : Nat) : BufTy := match i % 128 with
  | 0 => ⟨S8x2x4096, .f32⟩
  | 1 => ⟨S8x4096x2, .f32⟩
  | 2 => ⟨S8x4096x2x64, .f32⟩
  | 3 => ⟨S8x4096x128, .f32⟩
  | 4 => ⟨S8x2x4096, .f32⟩
  | _ => ⟨S3x4096x1024, .bf16⟩

abbrev hbmTy (i : Nat) : BufTy := match i / 128 with
  | 0 => hbmTy0_0 i
  | 1 => hbmTy0_1 i
  | _ => ⟨S3x4096x1024, .bf16⟩

abbrev bufTy : (tb : Table) → Fin (tcTables nBuf tb) → BufTy
  | .hbm, ⟨i, _⟩ => hbmTy i
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x1024 : Shape := ⟨2, ![4096, 1024]⟩
abbrev S3x4096x1024 : Shape := ⟨3, ![3, 4096, 1024]⟩
abbrev S1024x3072 : Shape := ⟨2, ![1024, 3072]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x1024 : Shape := ⟨2, ![4096, 1024]⟩
abbrev S3x4096x1024 : Shape := ⟨3, ![3, 4096, 1024]⟩
abbrev S4096x3x1024 : Shape := ⟨3, ![4096, 3, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S3x4096x1024, .f32⟩
  | .hbm, ⟨3, _⟩ => ⟨S4096x3x1024, .f32⟩
  | .hbm, ⟨4, _⟩ => ⟨S4096x3072, .f32⟩
  | .hbm, ⟨5, _⟩ => ⟨S_, .f32⟩
  | .hbm, ⟨6, _⟩ => ⟨S1024x3072, .f32⟩
  | .hbm, ⟨7, _⟩ => ⟨S4096x1024, .f32⟩
  | .hbm, ⟨8, _⟩ => ⟨S4096x3072, .f32⟩
  | .hbm, ⟨9, _⟩ => ⟨S3072x1024, .f32⟩
  | .hbm, ⟨10, _⟩ => ⟨S1024x3072, .f32⟩
  | .hbm, ⟨11, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Post.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PostReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Qkv0.lean ====
abbrev S4096x1024 : Shape := ⟨2, ![4096, 1024]⟩
abbrev S4x1024x3072 : Shape := ⟨3, ![4, 1024, 3072]⟩
abbrev S3x4096x1024 : Shape := ⟨3, ![3, 4096, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S3x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv0ReferenceIdeal.lean ====
abbrev S4096x1024 : Shape := ⟨2, ![4096, 1024]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S4096x3072 : Shape := ⟨2, ![4096, 3072]⟩
abbrev S4096x3x1024 : Shape := ⟨3, ![4096, 3, 1024]⟩
abbrev S3x4096x1024 : Shape := ⟨3, ![3, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S4096x1024, .f32⟩
  | .hbm, ⟨3, _⟩ => ⟨S1x1024x3072, .bf16⟩
  | .hbm, ⟨4, _⟩ => ⟨S1024x3072, .bf16⟩
  | .hbm, ⟨5, _⟩ => ⟨S1024x3072, .f32⟩
  | .hbm, ⟨6, _⟩ => ⟨S4096x3072, .f32⟩
  | .hbm, ⟨7, _⟩ => ⟨S4096x3072, .bf16⟩
  | .hbm, ⟨8, _⟩ => ⟨S4096x3x1024, .bf16⟩
  | .hbm, ⟨9, _⟩ => ⟨S3x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Qkv1.lean ====
abbrev S4096x1024 : Shape := ⟨2, ![4096, 1024]⟩
abbrev S4x1024x3072 : Shape := ⟨3, ![4, 1024, 3072]⟩
abbrev S3x4096x1024 : Shape := ⟨3, ![3, 4096, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S3x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv1ReferenceIdeal.lean ====
abbrev S4096x1024 : Shape := ⟨2, ![4096, 1024]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S4096x3072 : Shape := ⟨2, ![4096, 3072]⟩
abbrev S4096x3x1024 : Shape := ⟨3, ![4096, 3, 1024]⟩
abbrev S3x4096x1024 : Shape := ⟨3, ![3, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S4096x1024, .f32⟩
  | .hbm, ⟨3, _⟩ => ⟨S1x1024x3072, .bf16⟩
  | .hbm, ⟨4, _⟩ => ⟨S1024x3072, .bf16⟩
  | .hbm, ⟨5, _⟩ => ⟨S1024x3072, .f32⟩
  | .hbm, ⟨6, _⟩ => ⟨S4096x3072, .f32⟩
  | .hbm, ⟨7, _⟩ => ⟨S4096x3072, .bf16⟩
  | .hbm, ⟨8, _⟩ => ⟨S4096x3x1024, .bf16⟩
  | .hbm, ⟨9, _⟩ => ⟨S3x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Qkv2.lean ====
abbrev S4096x1024 : Shape := ⟨2, ![4096, 1024]⟩
abbrev S4x1024x3072 : Shape := ⟨3, ![4, 1024, 3072]⟩
abbrev S3x4096x1024 : Shape := ⟨3, ![3, 4096, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S3x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let c0_i32_0 : BitVec 32 := 0#32
  ![c2_i32.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv2ReferenceIdeal.lean ====
abbrev S4096x1024 : Shape := ⟨2, ![4096, 1024]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S4096x3072 : Shape := ⟨2, ![4096, 3072]⟩
abbrev S4096x3x1024 : Shape := ⟨3, ![4096, 3, 1024]⟩
abbrev S3x4096x1024 : Shape := ⟨3, ![3, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S4096x1024, .f32⟩
  | .hbm, ⟨3, _⟩ => ⟨S1x1024x3072, .bf16⟩
  | .hbm, ⟨4, _⟩ => ⟨S1024x3072, .bf16⟩
  | .hbm, ⟨5, _⟩ => ⟨S1024x3072, .f32⟩
  | .hbm, ⟨6, _⟩ => ⟨S4096x3072, .f32⟩
  | .hbm, ⟨7, _⟩ => ⟨S4096x3072, .bf16⟩
  | .hbm, ⟨8, _⟩ => ⟨S4096x3x1024, .bf16⟩
  | .hbm, ⟨9, _⟩ => ⟨S3x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Qkv3.lean ====
abbrev S4096x1024 : Shape := ⟨2, ![4096, 1024]⟩
abbrev S4x1024x3072 : Shape := ⟨3, ![4, 1024, 3072]⟩
abbrev S3x4096x1024 : Shape := ⟨3, ![3, 4096, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S3x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let c0_i32_0 : BitVec 32 := 0#32
  ![c3_i32.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv3ReferenceIdeal.lean ====
abbrev S4096x1024 : Shape := ⟨2, ![4096, 1024]⟩
abbrev S4x1024x3072 : Shape := ⟨3, ![4, 1024, 3072]⟩
abbrev S1x1024x3072 : Shape := ⟨3, ![1, 1024, 3072]⟩
abbrev S1024x3072 : Shape := ⟨2, ![1024, 3072]⟩
abbrev S4096x3072 : Shape := ⟨2, ![4096, 3072]⟩
abbrev S4096x3x1024 : Shape := ⟨3, ![4096, 3, 1024]⟩
abbrev S3x4096x1024 : Shape := ⟨3, ![3, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x3072, .bf16⟩
  | .hbm, ⟨2, _⟩ => ⟨S4096x1024, .f32⟩
  | .hbm, ⟨3, _⟩ => ⟨S1x1024x3072, .bf16⟩
  | .hbm, ⟨4, _⟩ => ⟨S1024x3072, .bf16⟩
  | .hbm, ⟨5, _⟩ => ⟨S1024x3072, .f32⟩
  | .hbm, ⟨6, _⟩ => ⟨S4096x3072, .f32⟩
  | .hbm, ⟨7, _⟩ => ⟨S4096x3072, .bf16⟩
  | .hbm, ⟨8, _⟩ => ⟨S4096x3x1024, .bf16⟩
  | .hbm, ⟨9, _⟩ => ⟨S3x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Attn0.lean ====
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Attn0ReferenceIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Attn1.lean ====
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Attn1ReferenceIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Attn2.lean ====
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let c0_i32_0 : BitVec 32 := 0#32
  ![c2_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Attn2ReferenceIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Attn3.lean ====
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let c0_i32_0 : BitVec 32 := 0#32
  ![c3_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Attn3ReferenceIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ffn0.lean ====
abbrev S4096x1024 : Shape := ⟨2, ![4096, 1024]⟩
abbrev S4x1024x2816 : Shape := ⟨3, ![4, 1024, 2816]⟩
abbrev S4096x2816 : Shape := ⟨2, ![4096, 2816]⟩
abbrev S2048x1024 : Shape := ⟨2, ![2048, 1024]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn0ReferenceIdeal.lean ====
abbrev S4096x1024 : Shape := ⟨2, ![4096, 1024]⟩
abbrev S4x1024x2816 : Shape := ⟨3, ![4, 1024, 2816]⟩
abbrev S1x1024x2816 : Shape := ⟨3, ![1, 1024, 2816]⟩
abbrev S1024x2816 : Shape := ⟨2, ![1024, 2816]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x1024, .f32⟩
  | .hbm, ⟨3, _⟩ => ⟨S1x1024x2816, .bf16⟩
  | .hbm, ⟨4, _⟩ => ⟨S1024x2816, .bf16⟩
  | .hbm, ⟨5, _⟩ => ⟨S1024x2816, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ffn1.lean ====
abbrev S4096x1024 : Shape := ⟨2, ![4096, 1024]⟩
abbrev S4x1024x2816 : Shape := ⟨3, ![4, 1024, 2816]⟩
abbrev S4096x2816 : Shape := ⟨2, ![4096, 2816]⟩
abbrev S2048x1024 : Shape := ⟨2, ![2048, 1024]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1ReferenceIdeal.lean ====
abbrev S4096x1024 : Shape := ⟨2, ![4096, 1024]⟩
abbrev S4x1024x2816 : Shape := ⟨3, ![4, 1024, 2816]⟩
abbrev S1x1024x2816 : Shape := ⟨3, ![1, 1024, 2816]⟩
abbrev S1024x2816 : Shape := ⟨2, ![1024, 2816]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x1024, .f32⟩
  | .hbm, ⟨3, _⟩ => ⟨S1x1024x2816, .bf16⟩
  | .hbm, ⟨4, _⟩ => ⟨S1024x2816, .bf16⟩
  | .hbm, ⟨5, _⟩ => ⟨S1024x2816, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ffn2.lean ====
abbrev S4096x1024 : Shape := ⟨2, ![4096, 1024]⟩
abbrev S4x1024x2816 : Shape := ⟨3, ![4, 1024, 2816]⟩
abbrev S4096x2816 : Shape := ⟨2, ![4096, 2816]⟩
abbrev S2048x1024 : Shape := ⟨2, ![2048, 1024]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let c0_i32_0 : BitVec 32 := 0#32
  ![c2_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2ReferenceIdeal.lean ====
abbrev S4096x1024 : Shape := ⟨2, ![4096, 1024]⟩
abbrev S4x1024x2816 : Shape := ⟨3, ![4, 1024, 2816]⟩
abbrev S1x1024x2816 : Shape := ⟨3, ![1, 1024, 2816]⟩
abbrev S1024x2816 : Shape := ⟨2, ![1024, 2816]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x1024, .f32⟩
  | .hbm, ⟨3, _⟩ => ⟨S1x1024x2816, .bf16⟩
  | .hbm, ⟨4, _⟩ => ⟨S1024x2816, .bf16⟩
  | .hbm, ⟨5, _⟩ => ⟨S1024x2816, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ffn3.lean ====
abbrev S4096x1024 : Shape := ⟨2, ![4096, 1024]⟩
abbrev S4x1024x2816 : Shape := ⟨3, ![4, 1024, 2816]⟩
abbrev S4096x2816 : Shape := ⟨2, ![4096, 2816]⟩
abbrev S2048x1024 : Shape := ⟨2, ![2048, 1024]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let c0_i32_0 : BitVec 32 := 0#32
  ![c3_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn3ReferenceIdeal.lean ====
abbrev S4096x1024 : Shape := ⟨2, ![4096, 1024]⟩
abbrev S4x1024x2816 : Shape := ⟨3, ![4, 1024, 2816]⟩
abbrev S1x1024x2816 : Shape := ⟨3, ![1, 1024, 2816]⟩
abbrev S1024x2816 : Shape := ⟨2, ![1024, 2816]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x2816, .bf16⟩
  | .hbm, ⟨2, _⟩ => ⟨S4096x1024, .f32⟩
  | .hbm, ⟨3, _⟩ => ⟨S1x1024x2816, .bf16⟩
  | .hbm, ⟨4, _⟩ => ⟨S1024x2816, .bf16⟩
  | .hbm, ⟨5, _⟩ => ⟨S1024x2816, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Dout0.lean ====
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dout0ReferenceIdeal.lean ====
abbrev S4096x1024 : Shape := ⟨2, ![4096, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dout1.lean ====
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dout1ReferenceIdeal.lean ====
abbrev S4096x1024 : Shape := ⟨2, ![4096, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dout2.lean ====
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dout2ReferenceIdeal.lean ====
abbrev S4096x1024 : Shape := ⟨2, ![4096, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dout3.lean ====
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dout3ReferenceIdeal.lean ====
abbrev S4096x1024 : Shape := ⟨2, ![4096, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dact0.lean ====
abbrev S4096x1024 : Shape := ⟨2, ![4096, 1024]⟩
abbrev S4x2816x1024 : Shape := ⟨3, ![4, 2816, 1024]⟩
abbrev S4096x2816 : Shape := ⟨2, ![4096, 2816]⟩
abbrev S2048x1024 : Shape := ⟨2, ![2048, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact0ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dact1.lean ====
abbrev S4096x1024 : Shape := ⟨2, ![4096, 1024]⟩
abbrev S4x2816x1024 : Shape := ⟨3, ![4, 2816, 1024]⟩
abbrev S4096x2816 : Shape := ⟨2, ![4096, 2816]⟩
abbrev S2048x1024 : Shape := ⟨2, ![2048, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact1ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dact2.lean ====
abbrev S4096x1024 : Shape := ⟨2, ![4096, 1024]⟩
abbrev S4x2816x1024 : Shape := ⟨3, ![4, 2816, 1024]⟩
abbrev S4096x2816 : Shape := ⟨2, ![4096, 2816]⟩
abbrev S2048x1024 : Shape := ⟨2, ![2048, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact2ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dact3.lean ====
abbrev S4096x1024 : Shape := ⟨2, ![4096, 1024]⟩
abbrev S4x2816x1024 : Shape := ⟨3, ![4, 2816, 1024]⟩
abbrev S4096x2816 : Shape := ⟨2, ![4096, 2816]⟩
abbrev S2048x1024 : Shape := ⟨2, ![2048, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact3ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Mm.Down.lean ====
/- The gradient of a weight, a product over the 4096 rows in 4 steps: what the call's array ends holding, and the reference's sum. -/
module

public import proofs.«01_k».proof.Proof.Gen.DownIdeal.Value
public import proofs.«01_k».proof.Proof.Gen.DownReferenceIdeal.Run
public import proofs.«01_k».proof.Proof.Gen.DownReferenceIdeal.Read
public import Idealize.ShloMosaic.Lib.Pointwise
public import Idealize.ShloMosaic.Lib.Tactic

@[expose] public section

set_option maxRecDepth 16384

noncomputable section

namespace Cert.Down

open Cert.DownIdeal Cert.DownIdeal.Gen Idealize.ShloMosaic Idealize.ShloMosaic.TcCoe Idealize.ShloMosaic.Tactic Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt Ideal) ℓ)

section Points
variable {F : FTy → Type} [FloatOps F] (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .f32) (h6 : a6.IsWhole)
  (x : Vec F S1024x1408 .bf16) (y : Vec F S1024x1024 .bf16) (s : Vec F S1408x1024 .f32)

/-- The first of the steps leaves its product in the scratch. -/
theorem stepA (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1408) hz, View.ld_unit_zero (S := S1024x1024) hz]

/-- A middle step adds its product. -/
theorem stepB (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]

/-- The last step adds its product and writes the block out. -/
theorem stepC (hc0 : ¬cond0_0 i) (hc1 : ¬cond0_1 i) (hc2 : cond0_2 i) :
    out0_C_2 c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]

end Points

section Payloads
variable (x : FVec Ideal S1024x1408 .bf16) (y : FVec Ideal S1024x1024 .bf16) (s : FVec Ideal S1408x1024 .f32) (p : Fin 1408) (q : Fin 1024)

theorem part_apply : k0_pay1 (F := Ideal) x y (ix2 p q) = ∑ k : Fin 1024, x (ix2 k p) * y (ix2 k q) := by
  pointwise [k0_pay1]

theorem pay2_apply : k0_pay2 (F := Ideal) x y (ix2 p q) = ∑ k : Fin 1024, x (ix2 k p) * y (ix2 k q) := by
  rw [← part_apply]; pointwise [k0_pay2]
theorem pay3_apply : k0_pay3 (F := Ideal) x y s (ix2 p q) = s (ix2 p q) + ∑ k : Fin 1024, x (ix2 k p) * y (ix2 k q) := by
  rw [← part_apply]; pointwise [k0_pay3]
theorem pay4_apply : k0_pay4 (F := Ideal) x y s (ix2 p q) = s (ix2 p q) + ∑ k : Fin 1024, x (ix2 k p) * y (ix2 k q) := by
  rw [← part_apply]; pointwise [k0_pay4]
end Payloads

/-- The two arrays the call is given. -/
abbrev aX (c : Dev nD) : FVec Ideal S4096x2816 .bf16 := m ((c.tc : Thread nD τ).loc main_arg0)
abbrev aY (c : Dev nD) : FVec Ideal S4096x1024 .bf16 := m ((c.tc : Thread nD τ).loc main_arg1)

theorem idx_0 : ∀ t : Fin cfg0.N, win0_0.index t = ![t.val % 4, t.val / 4] := by decide +kernel
theorem idx_1 : ∀ t : Fin cfg0.N, win0_1.index t = ![t.val % 4, t.val / 4 % 1] := by decide +kernel

theorem iblk_0 (c : Dev nD) (t : Fin cfg0.N) (k : Fin 1024) (p : Fin 1408) (r : Fin 4096) (i : Fin 2816) (hr : r.val = t.val % 4 * 1024 + k.val) (hi : i.val = t.val / 4 * 1408 + p.val) :
    (iblk m c 0 t : FVec Ideal S1024x1408 .bf16) (ix2 k p) = aX m c (ix2 r i) := by
  have h := idx_0 t
  unfold iblk
  rw [View.read_apply]
  show V m c main_arg0 _ = m (c.tc.loc main_arg0) _
  unfold V
  congr 1
  funext a
  apply Fin.ext
  match a with
  | ⟨0, _⟩ => show win0_0.index t 0 * 1024 + 1 * k.val = r.val; rw [h, hr]; show t.val % 4 * 1024 + 1 * k.val = _; omega
  | ⟨1, _⟩ => show win0_0.index t 1 * 1408 + 1 * p.val = i.val; rw [h, hi]; show t.val / 4 * 1408 + 1 * p.val = _; omega

theorem iblk_1 (c : Dev nD) (t : Fin cfg0.N) (k : Fin 1024) (q : Fin 1024) (r : Fin 4096) (j : Fin 1024) (hr : r.val = t.val % 4 * 1024 + k.val) (hj : j.val = t.val / 4 % 1 * 1024 + q.val) :
    (iblk m c 1 t : FVec Ideal S1024x1024 .bf16) (ix2 k q) = aY m c (ix2 r j) := by
  have h := idx_1 t
  unfold iblk
  rw [View.read_apply]
  show V m c main_arg1 _ = m (c.tc.loc main_arg1) _
  unfold V
  congr 1
  funext a
  apply Fin.ext
  match a with
  | ⟨0, _⟩ => show win0_1.index t 0 * 1024 + 1 * k.val = r.val; rw [h, hr]; show t.val % 4 * 1024 + 1 * k.val = _; omega
  | ⟨1, _⟩ => show win0_1.index t 1 * 1024 + 1 * q.val = j.val; rw [h, hj]; show t.val / 4 % 1 * 1024 + 1 * q.val = _; omega

/-- The two blocks a point reads. -/
abbrev bX (c : Dev nD) (t : Fin cfg0.N) : FVec Ideal S1024x1408 .bf16 := iblk m c 0 t
abbrev bY (c : Dev nD) (t : Fin cfg0.N) : FVec Ideal S1024x1024 .bf16 := iblk m c 1 t

/-- The term of row `r` in the entry's sum. -/
def term (c : Dev nD) (i : Fin 2816) (j : Fin 1024) (r : Fin 4096) : EReal := aX m c (ix2 r i) * aY m c (ix2 r j)

/-- Step `k`'s part of it. -/
def step (c : Dev nD) (i : Fin 2816) (j : Fin 1024) (k : Fin 4) : EReal := ∑ t : Fin 1024, term m c i j ⟨k.val * 1024 + t.val, by omega⟩

theorem step_eq (c : Dev nD) (i : Fin 2816) (j : Fin 1024) (t : Fin cfg0.N) (k : Fin 4) (p : Fin 1408) (q : Fin 1024) (hk : t.val % 4 = k.val)
    (hi : i.val = t.val / 4 * 1408 + p.val) (hj : j.val = t.val / 4 % 1 * 1024 + q.val) :
    ∑ k : Fin 1024, bX m c t (ix2 k p) * bY m c t (ix2 k q) = step m c i j k :=
  Finset.sum_congr rfl fun e _ => congrArg₂ (fun u v : EReal => u * v) (iblk_0 m c t e p ⟨k.val * 1024 + e.val, by omega⟩ i (by rw [hk]) hi) (iblk_1 m c t e q ⟨k.val * 1024 + e.val, by omega⟩ j (by rw [hk]) hj)

section Entries
variable (c : Dev nD) (i : Fin 2816) (j : Fin 1024) (p : Fin 1408) (q : Fin 1024)

theorem after0 (t : Fin cfg0.N) (h : t.val % 4 = 0) (hi : i.val = t.val / 4 * 1408 + p.val) (hj : j.val = t.val / 4 % 1 * 1024 + q.val) :
    (outsAt0 m c t.val t.isLt).2 (ix2 p q) = step m c i j 0 := by
  rw [outsAt0_A m c t h (by omega) (by omega)]
  dsimp only
  rw [stepA, pay2_apply]
  exact step_eq m c i j t 0 p q h hi hj

theorem afterNext (n : Fin 4) (h0 : 1 ≤ n.val) (h2 : n.val ≤ 2) (t : Fin cfg0.N) (h : t.val % 4 = n.val) (hi : i.val = t.val / 4 * 1408 + p.val) (hj : j.val = t.val / 4 % 1 * 1024 + q.val) :
    (outsAt0 m c t.val t.isLt).2 (ix2 p q) = (outsAt0 m c (t.val - 1) (Nat.lt_of_le_of_lt (Nat.sub_le _ _) t.isLt)).2 (ix2 p q) + step m c i j n := by
  rw [outsAt0_B m c t (by omega) (by omega) (by omega)]
  dsimp only
  rw [stepB, pay3_apply]
  exact congrArg _ (step_eq m c i j t n p q h hi hj)

theorem afterLast (t : Fin cfg0.N) (h : t.val % 4 = 3) (hi : i.val = t.val / 4 * 1408 + p.val) (hj : j.val = t.val / 4 % 1 * 1024 + q.val) :
    (outsAt0 m c t.val t.isLt).1 (ix2 p q) = ∑ r : Fin 4096, term m c i j r := by
  have hN : cfg0.N = 8 := N_0
  rw [outsAt0_C m c t (by omega) (by omega) h]
  dsimp only
  rw [stepC, pay4_apply, step_eq m c i j t 3 p q h hi hj,
    afterNext m c i j p q 2 (by decide) (by decide) ⟨t.val - 1, by omega⟩ (by show (t.val - 1) % 4 = 2; omega) (by show i.val = (t.val - 1) / 4 * 1408 + p.val; omega) (by show j.val = (t.val - 1) / 4 % 1 * 1024 + q.val; omega),
    afterNext m c i j p q 1 (by decide) (by decide) ⟨t.val - 1 - 1, by omega⟩ (by show (t.val - 1 - 1) % 4 = 1; omega) (by show i.val = (t.val - 1 - 1) / 4 * 1408 + p.val; omega) (by show j.val = (t.val - 1 - 1) / 4 % 1 * 1024 + q.val; omega),
    after0 m c i j p q ⟨t.val - 1 - 1 - 1, by omega⟩ (by show (t.val - 1 - 1 - 1) % 4 = 0; omega) (by show i.val = (t.val - 1 - 1 - 1) / 4 * 1408 + p.val; omega) (by show j.val = (t.val - 1 - 1 - 1) / 4 % 1 * 1024 + q.val; omega),
    Fin.sum_univ_tiles 4 1024 rfl, Fin.sum_univ_four]
  rfl

/-- What the array ends holding: the whole sum at every entry. -/
theorem final_apply : Value.G2 m c (ix2 i j) = ∑ r : Fin 4096, term m c i j r := by
  have hN : cfg0.N = 8 := N_0
  have hp : Value.pt2Of (ix2 i j) = 4 * (i.val / 1408) + 4 * (j.val / 1024) + 3 := by
    show 4 * (1 * (i.val / 1408 - 0) + 1 * (j.val / 1024 - 0)) + 3 = _
    omega
  have hlt : Value.pt2Of (ix2 i j) < cfg0.N := by rw [hp]; omega
  unfold Value.G2
  rw [dif_pos hlt, ← Value.outsAt0_sweep m c _ hlt]
  have hl : Value.loc2Of (ix2 i j) = ix2 (⟨i.val % 1408, by omega⟩ : Fin 1408) (⟨j.val % 1024, by omega⟩ : Fin 1024) := by
    funext a
    match a with
    | ⟨0, _⟩ => rfl
    | ⟨1, _⟩ => rfl
  rw [hl]
  exact afterLast m c i j _ _ ⟨Value.pt2Of (ix2 i j), hlt⟩ (by show Value.pt2Of (ix2 i j) % 4 = 3; rw [hp]; omega)
    (by show i.val = Value.pt2Of (ix2 i j) / 4 * 1408 + i.val % 1408; rw [hp]; omega) (by show j.val = Value.pt2Of (ix2 i j) / 4 % 1 * 1024 + j.val % 1024; rw [hp]; omega)

end Entries

/-- What the array ends holding is the reference's gradient. -/
theorem equal (c : Dev nD) : Value.G2 m c = Cert.DownReferenceIdeal.Read.val_main_v6 (F := Ideal) (aX m c) (aY m c) := by
  funext k
  obtain ⟨i, j, rfl⟩ : ∃ (a : Fin 2816) (b : Fin 1024), k = ix2 a b := ⟨k 0, k 1, eq_ix2 k⟩
  have e : Cert.DownReferenceIdeal.Read.val_main_v6 (F := Ideal) (aX m c) (aY m c) (ix2 i j) = Cert.DownReferenceIdeal.Read.val_main_v5 (F := Ideal) (aX m c) (aY m c) (ix2 i j) := rfl
  refine (final_apply m c i j).trans (Eq.symm (Eq.trans e ?_))
  rw [Cert.DownReferenceIdeal.Read.val_main_v5_apply, Cert.DownReferenceIdeal.Read.val_main_v4_apply]
  refine Finset.sum_congr (M := EReal) rfl fun r _ => ?_
  have hx : Cert.DownReferenceIdeal.Read.ridx_main_v4 (Cert.DownReferenceIdeal.Read.idx_main_v5 (ix2 i j)) r = ix2 r i := by
    funext a
    match a with
    | ⟨0, _⟩ => rfl
    | ⟨1, _⟩ => rfl
  have hy : Cert.DownReferenceIdeal.Read.lidx_main_v4 (Cert.DownReferenceIdeal.Read.idx_main_v5 (ix2 i j)) r = ix2 r j := by
    funext a
    match a with
    | ⟨0, _⟩ => rfl
    | ⟨1, _⟩ => rfl
  rw [hx, hy]
  exact mul_comm (aY m c (ix2 r j)) (aX m c (ix2 r i))

end Cert.Down
-- ==== Proof.Mm.Up.lean ====
/- The gradient of a weight, a product over the 4096 rows in 4 steps: what the call's array ends holding, and the reference's sum. -/
module

public import proofs.«01_k».proof.Proof.Gen.UpIdeal.Value
public import proofs.«01_k».proof.Proof.Gen.UpReferenceIdeal.Run
public import proofs.«01_k».proof.Proof.Gen.UpReferenceIdeal.Read
public import Idealize.ShloMosaic.Lib.Pointwise
public import Idealize.ShloMosaic.Lib.Tactic

@[expose] public section

set_option maxRecDepth 16384

noncomputable section

namespace Cert.Up

open Cert.UpIdeal Cert.UpIdeal.Gen Idealize.ShloMosaic Idealize.ShloMosaic.TcCoe Idealize.ShloMosaic.Tactic Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt Ideal) ℓ)

section Points
variable {F : FTy → Type} [FloatOps F] (c : Dev nD) (i : grid0.Coords) (a3 : Memref sig .tc .vmem S1024x1024 .bf16) (h3 : a3.IsWhole) (a4 : Memref sig .tc .vmem S1024x256 .bf16) (h4 : a4.IsWhole)
  (a5 : Memref sig .tc .vmem S1024x256 .bf16) (h5 : a5.IsWhole) (a6 : Memref sig .tc .vmem S1024x256 .f32) (h6 : a6.IsWhole)
  (x : Vec F S1024x1024 .bf16) (y : Vec F S1024x256 .bf16) (s : Vec F S1024x256 .f32)

/-- The first of the steps leaves its product in the scratch. -/
theorem stepA (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x256) hz]

/-- A middle step adds its product. -/
theorem stepB (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  simp only [View.readAt_eq_ld, h3.read_unread, h4.read_unread, h6.read_unread, View.ld_unit_zero (S := S1024x1024) hz, View.ld_unit_zero (S := S1024x256) hz, View.ld_unit_zero (S := S1024x256) hz]

/-- The last step adds its product and writes the block out. -/
theorem stepC (hc0 : ¬cond0_0 i) (hc1 : ¬cond0_1 i) (hc2 : cond0_2 i) :
    out0_C_2 c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  rw [View.canon_unit_zero hz]
  simp only [View.readAt_eq_ld, h3.read_unread, h4.read_unread, h6.read_unread, View.ld_unit_zero (S := S1024x1024) hz, View.ld_unit_zero (S := S1024x256) hz, View.ld_unit_zero (S := S1024x256) hz]

end Points

section Payloads
variable (x : FVec Ideal S1024x1024 .bf16) (y : FVec Ideal S1024x256 .bf16) (s : FVec Ideal S1024x256 .f32) (p : Fin 1024) (q : Fin 256)

theorem part_apply : k0_pay1 (F := Ideal) x y (ix2 p q) = ∑ k : Fin 1024, x (ix2 k p) * y (ix2 k q) := by
  pointwise [k0_pay1]

theorem pay2_apply : k0_pay2 (F := Ideal) x y (ix2 p q) = ∑ k : Fin 1024, x (ix2 k p) * y (ix2 k q) := by
  rw [← part_apply]; pointwise [k0_pay2]
theorem pay3_apply : k0_pay3 (F := Ideal) x y s (ix2 p q) = s (ix2 p q) + ∑ k : Fin 1024, x (ix2 k p) * y (ix2 k q) := by
  rw [← part_apply]; pointwise [k0_pay3]
theorem pay4_apply : k0_pay4 (F := Ideal) x y s (ix2 p q) = s (ix2 p q) + ∑ k : Fin 1024, x (ix2 k p) * y (ix2 k q) := by
  rw [← part_apply]; pointwise [k0_pay4]
end Payloads

/-- The two arrays the call is given. -/
abbrev aX (c : Dev nD) : FVec Ideal S4096x1024 .bf16 := m ((c.tc : Thread nD τ).loc main_arg0)
abbrev aY (c : Dev nD) : FVec Ideal S4096x2816 .bf16 := m ((c.tc : Thread nD τ).loc main_arg1)

theorem idx_0 : ∀ t : Fin cfg0.N, win0_0.index t = ![t.val % 4, t.val / 44] := by decide +kernel
theorem idx_1 : ∀ t : Fin cfg0.N, win0_1.index t = ![t.val % 4, t.val / 4 % 11] := by decide +kernel

theorem iblk_0 (c : Dev nD) (t : Fin cfg0.N) (k : Fin 1024) (p : Fin 1024) (r : Fin 4096) (i : Fin 1024) (hr : r.val = t.val % 4 * 1024 + k.val) (hi : i.val = t.val / 44 * 1024 + p.val) :
    (iblk m c 0 t : FVec Ideal S1024x1024 .bf16) (ix2 k p) = aX m c (ix2 r i) := by
  have h := idx_0 t
  unfold iblk
  rw [View.read_apply]
  show V m c main_arg0 _ = m (c.tc.loc main_arg0) _
  unfold V
  congr 1
  funext a
  apply Fin.ext
  match a with
  | ⟨0, _⟩ => show win0_0.index t 0 * 1024 + 1 * k.val = r.val; rw [h, hr]; show t.val % 4 * 1024 + 1 * k.val = _; omega
  | ⟨1, _⟩ => show win0_0.index t 1 * 1024 + 1 * p.val = i.val; rw [h, hi]; show t.val / 44 * 1024 + 1 * p.val = _; omega

theorem iblk_1 (c : Dev nD) (t : Fin cfg0.N) (k : Fin 1024) (q : Fin 256) (r : Fin 4096) (j : Fin 2816) (hr : r.val = t.val % 4 * 1024 + k.val) (hj : j.val = t.val / 4 % 11 * 256 + q.val) :
    (iblk m c 1 t : FVec Ideal S1024x256 .bf16) (ix2 k q) = aY m c (ix2 r j) := by
  have h := idx_1 t
  unfold iblk
  rw [View.read_apply]
  show V m c main_arg1 _ = m (c.tc.loc main_arg1) _
  unfold V
  congr 1
  funext a
  apply Fin.ext
  match a with
  | ⟨0, _⟩ => show win0_1.index t 0 * 1024 + 1 * k.val = r.val; rw [h, hr]; show t.val % 4 * 1024 + 1 * k.val = _; omega
  | ⟨1, _⟩ => show win0_1.index t 1 * 256 + 1 * q.val = j.val; rw [h, hj]; show t.val / 4 % 11 * 256 + 1 * q.val = _; omega

/-- The two blocks a point reads. -/
abbrev bX (c : Dev nD) (t : Fin cfg0.N) : FVec Ideal S1024x1024 .bf16 := iblk m c 0 t
abbrev bY (c : Dev nD) (t : Fin cfg0.N) : FVec Ideal S1024x256 .bf16 := iblk m c 1 t

/-- The term of row `r` in the entry's sum. -/
def term (c : Dev nD) (i : Fin 1024) (j : Fin 2816) (r : Fin 4096) : EReal := aX m c (ix2 r i) * aY m c (ix2 r j)

/-- Step `k`'s part of it. -/
def step (c : Dev nD) (i : Fin 1024) (j : Fin 2816) (k : Fin 4) : EReal := ∑ t : Fin 1024, term m c i j ⟨k.val * 1024 + t.val, by omega⟩

theorem step_eq (c : Dev nD) (i : Fin 1024) (j : Fin 2816) (t : Fin cfg0.N) (k : Fin 4) (p : Fin 1024) (q : Fin 256) (hk : t.val % 4 = k.val)
    (hi : i.val = t.val / 44 * 1024 + p.val) (hj : j.val = t.val / 4 % 11 * 256 + q.val) :
    ∑ k : Fin 1024, bX m c t (ix2 k p) * bY m c t (ix2 k q) = step m c i j k :=
  Finset.sum_congr rfl fun e _ => congrArg₂ (fun u v : EReal => u * v) (iblk_0 m c t e p ⟨k.val * 1024 + e.val, by omega⟩ i (by rw [hk]) hi) (iblk_1 m c t e q ⟨k.val * 1024 + e.val, by omega⟩ j (by rw [hk]) hj)

section Entries
variable (c : Dev nD) (i : Fin 1024) (j : Fin 2816) (p : Fin 1024) (q : Fin 256)

theorem after0 (t : Fin cfg0.N) (h : t.val % 4 = 0) (hi : i.val = t.val / 44 * 1024 + p.val) (hj : j.val = t.val / 4 % 11 * 256 + q.val) :
    (outsAt0 m c t.val t.isLt).2 (ix2 p q) = step m c i j 0 := by
  rw [outsAt0_A m c t h (by omega) (by omega)]
  dsimp only
  rw [stepA, pay2_apply]
  exact step_eq m c i j t 0 p q h hi hj

theorem afterNext (n : Fin 4) (h0 : 1 ≤ n.val) (h2 : n.val ≤ 2) (t : Fin cfg0.N) (h : t.val % 4 = n.val) (hi : i.val = t.val / 44 * 1024 + p.val) (hj : j.val = t.val / 4 % 11 * 256 + q.val) :
    (outsAt0 m c t.val t.isLt).2 (ix2 p q) = (outsAt0 m c (t.val - 1) (Nat.lt_of_le_of_lt (Nat.sub_le _ _) t.isLt)).2 (ix2 p q) + step m c i j n := by
  rw [outsAt0_B m c t (by omega) (by omega) (by omega)]
  dsimp only
  rw [stepB, pay3_apply]
  exact congrArg _ (step_eq m c i j t n p q h hi hj)

theorem afterLast (t : Fin cfg0.N) (h : t.val % 4 = 3) (hi : i.val = t.val / 44 * 1024 + p.val) (hj : j.val = t.val / 4 % 11 * 256 + q.val) :
    (outsAt0 m c t.val t.isLt).1 (ix2 p q) = ∑ r : Fin 4096, term m c i j r := by
  have hN : cfg0.N = 44 := N_0
  rw [outsAt0_C m c t (by omega) (by omega) h]
  dsimp only
  rw [stepC, pay4_apply, step_eq m c i j t 3 p q h hi hj,
    afterNext m c i j p q 2 (by decide) (by decide) ⟨t.val - 1, by omega⟩ (by show (t.val - 1) % 4 = 2; omega) (by show i.val = (t.val - 1) / 44 * 1024 + p.val; omega) (by show j.val = (t.val - 1) / 4 % 11 * 256 + q.val; omega),
    afterNext m c i j p q 1 (by decide) (by decide) ⟨t.val - 1 - 1, by omega⟩ (by show (t.val - 1 - 1) % 4 = 1; omega) (by show i.val = (t.val - 1 - 1) / 44 * 1024 + p.val; omega) (by show j.val = (t.val - 1 - 1) / 4 % 11 * 256 + q.val; omega),
    after0 m c i j p q ⟨t.val - 1 - 1 - 1, by omega⟩ (by show (t.val - 1 - 1 - 1) % 4 = 0; omega) (by show i.val = (t.val - 1 - 1 - 1) / 44 * 1024 + p.val; omega) (by show j.val = (t.val - 1 - 1 - 1) / 4 % 11 * 256 + q.val; omega),
    Fin.sum_univ_tiles 4 1024 rfl, Fin.sum_univ_four]
  rfl

/-- What the array ends holding: the whole sum at every entry. -/
theorem final_apply : Value.G2 m c (ix2 i j) = ∑ r : Fin 4096, term m c i j r := by
  have hN : cfg0.N = 44 := N_0
  have hp : Value.pt2Of (ix2 i j) = 44 * (i.val / 1024) + 4 * (j.val / 256) + 3 := by
    show 4 * (11 * (i.val / 1024 - 0) + 1 * (j.val / 256 - 0)) + 3 = _
    omega
  have hlt : Value.pt2Of (ix2 i j) < cfg0.N := by rw [hp]; omega
  unfold Value.G2
  rw [dif_pos hlt, ← Value.outsAt0_sweep m c _ hlt]
  have hl : Value.loc2Of (ix2 i j) = ix2 (⟨i.val % 1024, by omega⟩ : Fin 1024) (⟨j.val % 256, by omega⟩ : Fin 256) := by
    funext a
    match a with
    | ⟨0, _⟩ => rfl
    | ⟨1, _⟩ => rfl
  rw [hl]
  exact afterLast m c i j _ _ ⟨Value.pt2Of (ix2 i j), hlt⟩ (by show Value.pt2Of (ix2 i j) % 4 = 3; rw [hp]; omega)
    (by show i.val = Value.pt2Of (ix2 i j) / 44 * 1024 + i.val % 1024; rw [hp]; omega) (by show j.val = Value.pt2Of (ix2 i j) / 4 % 11 * 256 + j.val % 256; rw [hp]; omega)

end Entries

/-- What the array ends holding is the reference's gradient. -/
theorem equal (c : Dev nD) : Value.G2 m c = Cert.UpReferenceIdeal.Read.val_main_v6 (F := Ideal) (aX m c) (aY m c) := by
  funext k
  obtain ⟨i, j, rfl⟩ : ∃ (a : Fin 1024) (b : Fin 2816), k = ix2 a b := ⟨k 0, k 1, eq_ix2 k⟩
  have e : Cert.UpReferenceIdeal.Read.val_main_v6 (F := Ideal) (aX m c) (aY m c) (ix2 i j) = Cert.UpReferenceIdeal.Read.val_main_v5 (F := Ideal) (aX m c) (aY m c) (ix2 i j) := rfl
  refine (final_apply m c i j).trans (Eq.symm (Eq.trans e ?_))
  rw [Cert.UpReferenceIdeal.Read.val_main_v5_apply, Cert.UpReferenceIdeal.Read.val_main_v4_apply]
  refine Finset.sum_congr (M := EReal) rfl fun r _ => ?_
  have hx : Cert.UpReferenceIdeal.Read.ridx_main_v4 (Cert.UpReferenceIdeal.Read.idx_main_v5 (ix2 i j)) r = ix2 r i := by
    funext a
    match a with
    | ⟨0, _⟩ => rfl
    | ⟨1, _⟩ => rfl
  have hy : Cert.UpReferenceIdeal.Read.lidx_main_v4 (Cert.UpReferenceIdeal.Read.idx_main_v5 (ix2 i j)) r = ix2 r j := by
    funext a
    match a with
    | ⟨0, _⟩ => rfl
    | ⟨1, _⟩ => rfl
  rw [hx, hy]
  exact mul_comm (aY m c (ix2 r j)) (aX m c (ix2 r i))

end Cert.Up
-- ==== Proof.Mm.Out.lean ====
/- The gradient of a weight, a product over the 4096 rows in 4 steps: what the call's array ends holding, and the reference's sum. -/
module

public import proofs.«01_k».proof.Proof.Gen.OutIdeal.Value
public import proofs.«01_k».proof.Proof.Gen.OutReferenceIdeal.Run
public import proofs.«01_k».proof.Proof.Gen.OutReferenceIdeal.Read
public import Idealize.ShloMosaic.Lib.Pointwise
public import Idealize.ShloMosaic.Lib.Tactic

@[expose] public section

set_option maxRecDepth 16384

noncomputable section

namespace Cert.Out

open Cert.OutIdeal Cert.OutIdeal.Gen Idealize.ShloMosaic Idealize.ShloMosaic.TcCoe Idealize.ShloMosaic.Tactic Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt Ideal) ℓ)

section Points
variable {F : FTy → Type} [FloatOps F] (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x : Vec F S1024x1024 .bf16) (y : Vec F S1024x1024 .bf16) (s : Vec F S1024x1024 .f32)

/-- The first of the steps leaves its product in the scratch. -/
theorem stepA (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x1024) hz]

/-- A middle step adds its product. -/
theorem stepB (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]

/-- The last step adds its product and writes the block out. -/
theorem stepC (hc0 : ¬cond0_0 i) (hc1 : ¬cond0_1 i) (hc2 : cond0_2 i) :
    out0_C_2 c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]

end Points

section Payloads
variable (x : FVec Ideal S1024x1024 .bf16) (y : FVec Ideal S1024x1024 .bf16) (s : FVec Ideal S1024x1024 .f32) (p : Fin 1024) (q : Fin 1024)

theorem part_apply : k0_pay1 (F := Ideal) x y (ix2 p q) = ∑ k : Fin 1024, x (ix2 k p) * y (ix2 k q) := by
  pointwise [k0_pay1]

theorem pay2_apply : k0_pay2 (F := Ideal) x y (ix2 p q) = ∑ k : Fin 1024, x (ix2 k p) * y (ix2 k q) := by
  rw [← part_apply]; pointwise [k0_pay2]
theorem pay3_apply : k0_pay3 (F := Ideal) x y s (ix2 p q) = s (ix2 p q) + ∑ k : Fin 1024, x (ix2 k p) * y (ix2 k q) := by
  rw [← part_apply]; pointwise [k0_pay3]
theorem pay4_apply : k0_pay4 (F := Ideal) x y s (ix2 p q) = s (ix2 p q) + ∑ k : Fin 1024, x (ix2 k p) * y (ix2 k q) := by
  rw [← part_apply]; pointwise [k0_pay4]
end Payloads

/-- The two arrays the call is given. -/
abbrev aX (c : Dev nD) : FVec Ideal S4096x1024 .bf16 := m ((c.tc : Thread nD τ).loc main_arg0)
abbrev aY (c : Dev nD) : FVec Ideal S4096x1024 .bf16 := m ((c.tc : Thread nD τ).loc main_arg1)

theorem idx_0 : ∀ t : Fin cfg0.N, win0_0.index t = ![t.val % 4, t.val / 4] := by decide +kernel
theorem idx_1 : ∀ t : Fin cfg0.N, win0_1.index t = ![t.val % 4, t.val / 4 % 1] := by decide +kernel

theorem iblk_0 (c : Dev nD) (t : Fin cfg0.N) (k : Fin 1024) (p : Fin 1024) (r : Fin 4096) (i : Fin 1024) (hr : r.val = t.val % 4 * 1024 + k.val) (hi : i.val = t.val / 4 * 1024 + p.val) :
    (iblk m c 0 t : FVec Ideal S1024x1024 .bf16) (ix2 k p) = aX m c (ix2 r i) := by
  have h := idx_0 t
  unfold iblk
  rw [View.read_apply]
  show V m c main_arg0 _ = m (c.tc.loc main_arg0) _
  unfold V
  congr 1
  funext a
  apply Fin.ext
  match a with
  | ⟨0, _⟩ => show win0_0.index t 0 * 1024 + 1 * k.val = r.val; rw [h, hr]; show t.val % 4 * 1024 + 1 * k.val = _; omega
  | ⟨1, _⟩ => show win0_0.index t 1 * 1024 + 1 * p.val = i.val; rw [h, hi]; show t.val / 4 * 1024 + 1 * p.val = _; omega

theorem iblk_1 (c : Dev nD) (t : Fin cfg0.N) (k : Fin 1024) (q : Fin 1024) (r : Fin 4096) (j : Fin 1024) (hr : r.val = t.val % 4 * 1024 + k.val) (hj : j.val = t.val / 4 % 1 * 1024 + q.val) :
    (iblk m c 1 t : FVec Ideal S1024x1024 .bf16) (ix2 k q) = aY m c (ix2 r j) := by
  have h := idx_1 t
  unfold iblk
  rw [View.read_apply]
  show V m c main_arg1 _ = m (c.tc.loc main_arg1) _
  unfold V
  congr 1
  funext a
  apply Fin.ext
  match a with
  | ⟨0, _⟩ => show win0_1.index t 0 * 1024 + 1 * k.val = r.val; rw [h, hr]; show t.val % 4 * 1024 + 1 * k.val = _; omega
  | ⟨1, _⟩ => show win0_1.index t 1 * 1024 + 1 * q.val = j.val; rw [h, hj]; show t.val / 4 % 1 * 1024 + 1 * q.val = _; omega

/-- The two blocks a point reads. -/
abbrev bX (c : Dev nD) (t : Fin cfg0.N) : FVec Ideal S1024x1024 .bf16 := iblk m c 0 t
abbrev bY (c : Dev nD) (t : Fin cfg0.N) : FVec Ideal S1024x1024 .bf16 := iblk m c 1 t

/-- The term of row `r` in the entry's sum. -/
def term (c : Dev nD) (i : Fin 1024) (j : Fin 1024) (r : Fin 4096) : EReal := aX m c (ix2 r i) * aY m c (ix2 r j)

/-- Step `k`'s part of it. -/
def step (c : Dev nD) (i : Fin 1024) (j : Fin 1024) (k : Fin 4) : EReal := ∑ t : Fin 1024, term m c i j ⟨k.val * 1024 + t.val, by omega⟩

theorem step_eq (c : Dev nD) (i : Fin 1024) (j : Fin 1024) (t : Fin cfg0.N) (k : Fin 4) (p : Fin 1024) (q : Fin 1024) (hk : t.val % 4 = k.val)
    (hi : i.val = t.val / 4 * 1024 + p.val) (hj : j.val = t.val / 4 % 1 * 1024 + q.val) :
    ∑ k : Fin 1024, bX m c t (ix2 k p) * bY m c t (ix2 k q) = step m c i j k :=
  Finset.sum_congr rfl fun e _ => congrArg₂ (fun u v : EReal => u * v) (iblk_0 m c t e p ⟨k.val * 1024 + e.val, by omega⟩ i (by rw [hk]) hi) (iblk_1 m c t e q ⟨k.val * 1024 + e.val, by omega⟩ j (by rw [hk]) hj)

section Entries
variable (c : Dev nD) (i : Fin 1024) (j : Fin 1024) (p : Fin 1024) (q : Fin 1024)

theorem after0 (t : Fin cfg0.N) (h : t.val % 4 = 0) (hi : i.val = t.val / 4 * 1024 + p.val) (hj : j.val = t.val / 4 % 1 * 1024 + q.val) :
    (outsAt0 m c t.val t.isLt).2 (ix2 p q) = step m c i j 0 := by
  rw [outsAt0_A m c t h (by omega) (by omega)]
  dsimp only
  rw [stepA, pay2_apply]
  exact step_eq m c i j t 0 p q h hi hj

theorem afterNext (n : Fin 4) (h0 : 1 ≤ n.val) (h2 : n.val ≤ 2) (t : Fin cfg0.N) (h : t.val % 4 = n.val) (hi : i.val = t.val / 4 * 1024 + p.val) (hj : j.val = t.val / 4 % 1 * 1024 + q.val) :
    (outsAt0 m c t.val t.isLt).2 (ix2 p q) = (outsAt0 m c (t.val - 1) (Nat.lt_of_le_of_lt (Nat.sub_le _ _) t.isLt)).2 (ix2 p q) + step m c i j n := by
  rw [outsAt0_B m c t (by omega) (by omega) (by omega)]
  dsimp only
  rw [stepB, pay3_apply]
  exact congrArg _ (step_eq m c i j t n p q h hi hj)

theorem afterLast (t : Fin cfg0.N) (h : t.val % 4 = 3) (hi : i.val = t.val / 4 * 1024 + p.val) (hj : j.val = t.val / 4 % 1 * 1024 + q.val) :
    (outsAt0 m c t.val t.isLt).1 (ix2 p q) = ∑ r : Fin 4096, term m c i j r := by
  have hN : cfg0.N = 4 := N_0
  rw [outsAt0_C m c t (by omega) (by omega) h]
  dsimp only
  rw [stepC, pay4_apply, step_eq m c i j t 3 p q h hi hj,
    afterNext m c i j p q 2 (by decide) (by decide) ⟨t.val - 1, by omega⟩ (by show (t.val - 1) % 4 = 2; omega) (by show i.val = (t.val - 1) / 4 * 1024 + p.val; omega) (by show j.val = (t.val - 1) / 4 % 1 * 1024 + q.val; omega),
    afterNext m c i j p q 1 (by decide) (by decide) ⟨t.val - 1 - 1, by omega⟩ (by show (t.val - 1 - 1) % 4 = 1; omega) (by show i.val = (t.val - 1 - 1) / 4 * 1024 + p.val; omega) (by show j.val = (t.val - 1 - 1) / 4 % 1 * 1024 + q.val; omega),
    after0 m c i j p q ⟨t.val - 1 - 1 - 1, by omega⟩ (by show (t.val - 1 - 1 - 1) % 4 = 0; omega) (by show i.val = (t.val - 1 - 1 - 1) / 4 * 1024 + p.val; omega) (by show j.val = (t.val - 1 - 1 - 1) / 4 % 1 * 1024 + q.val; omega),
    Fin.sum_univ_tiles 4 1024 rfl, Fin.sum_univ_four]
  rfl

/-- What the array ends holding: the whole sum at every entry. -/
theorem final_apply : Value.G2 m c (ix2 i j) = ∑ r : Fin 4096, term m c i j r := by
  have hN : cfg0.N = 4 := N_0
  have hp : Value.pt2Of (ix2 i j) = 4 * (i.val / 1024) + 4 * (j.val / 1024) + 3 := by
    show 4 * (1 * (i.val / 1024 - 0) + 1 * (j.val / 1024 - 0)) + 3 = _
    omega
  have hlt : Value.pt2Of (ix2 i j) < cfg0.N := by rw [hp]; omega
  unfold Value.G2
  rw [dif_pos hlt, ← Value.outsAt0_sweep m c _ hlt]
  have hl : Value.loc2Of (ix2 i j) = ix2 (⟨i.val % 1024, by omega⟩ : Fin 1024) (⟨j.val % 1024, by omega⟩ : Fin 1024) := by
    funext a
    match a with
    | ⟨0, _⟩ => rfl
    | ⟨1, _⟩ => rfl
  rw [hl]
  exact afterLast m c i j _ _ ⟨Value.pt2Of (ix2 i j), hlt⟩ (by show Value.pt2Of (ix2 i j) % 4 = 3; rw [hp]; omega)
    (by show i.val = Value.pt2Of (ix2 i j) / 4 * 1024 + i.val % 1024; rw [hp]; omega) (by show j.val = Value.pt2Of (ix2 i j) / 4 % 1 * 1024 + j.val % 1024; rw [hp]; omega)

end Entries

/-- What the array ends holding is the reference's gradient. -/
theorem equal (c : Dev nD) : Value.G2 m c = Cert.OutReferenceIdeal.Read.val_main_v6 (F := Ideal) (aX m c) (aY m c) := by
  funext k
  obtain ⟨i, j, rfl⟩ : ∃ (a : Fin 1024) (b : Fin 1024), k = ix2 a b := ⟨k 0, k 1, eq_ix2 k⟩
  have e : Cert.OutReferenceIdeal.Read.val_main_v6 (F := Ideal) (aX m c) (aY m c) (ix2 i j) = Cert.OutReferenceIdeal.Read.val_main_v5 (F := Ideal) (aX m c) (aY m c) (ix2 i j) := rfl
  refine (final_apply m c i j).trans (Eq.symm (Eq.trans e ?_))
  rw [Cert.OutReferenceIdeal.Read.val_main_v5_apply, Cert.OutReferenceIdeal.Read.val_main_v4_apply]
  refine Finset.sum_congr (M := EReal) rfl fun r _ => ?_
  have hx : Cert.OutReferenceIdeal.Read.ridx_main_v4 (Cert.OutReferenceIdeal.Read.idx_main_v5 (ix2 i j)) r = ix2 r i := by
    funext a
    match a with
    | ⟨0, _⟩ => rfl
    | ⟨1, _⟩ => rfl
  have hy : Cert.OutReferenceIdeal.Read.lidx_main_v4 (Cert.OutReferenceIdeal.Read.idx_main_v5 (ix2 i j)) r = ix2 r j := by
    funext a
    match a with
    | ⟨0, _⟩ => rfl
    | ⟨1, _⟩ => rfl
  rw [hx, hy]
  exact mul_comm (aY m c (ix2 r j)) (aX m c (ix2 r i))

end Cert.Out
-- ==== Proof.Mm.Proj.lean ====
/- The gradient of a weight, a product over the 4096 rows in 4 steps: what the call's array ends holding, and the reference's sum. -/
module

public import proofs.«01_k».proof.Proof.Gen.ProjIdeal.Value
public import proofs.«01_k».proof.Proof.Gen.ProjReferenceIdeal.Run
public import proofs.«01_k».proof.Proof.Gen.ProjReferenceIdeal.Read
public import Idealize.ShloMosaic.Lib.Pointwise
public import Idealize.ShloMosaic.Lib.Tactic

@[expose] public section

set_option maxRecDepth 16384

noncomputable section

namespace Cert.Proj

open Cert.ProjIdeal Cert.ProjIdeal.Gen Idealize.ShloMosaic Idealize.ShloMosaic.TcCoe Idealize.ShloMosaic.Tactic Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt Ideal) ℓ)

section Points
variable {F : FTy → Type} [FloatOps F] (c : Dev nD) (i : grid0.Coords) (a3 : Memref sig .tc .vmem S1024x1024 .bf16) (h3 : a3.IsWhole) (a4 : Memref sig .tc .vmem S1x1024x1024 .bf16) (h4 : a4.IsWhole)
  (a5 : Memref sig .tc .vmem S1024x1024 .bf16) (h5 : a5.IsWhole) (a6 : Memref sig .tc .vmem S1024x1024 .f32) (h6 : a6.IsWhole)
  (x : Vec F S1024x1024 .bf16) (y : Vec F S1x1024x1024 .bf16) (s : Vec F S1024x1024 .f32)

/-- The first of the steps leaves its product in the scratch. -/
theorem stepA (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1x1024x1024) hz3]

/-- A middle step adds its product. -/
theorem stepB (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  simp only [View.readAt_eq_ld, h3.read_unread, h4.read_unread, h6.read_unread, View.ld_unit_zero (S := S1024x1024) hz, View.ld_unit_zero (S := S1x1024x1024) hz3, View.ld_unit_zero (S := S1024x1024) hz]

/-- The last step adds its product and writes the block out. -/
theorem stepC (hc0 : ¬cond0_0 i) (hc1 : ¬cond0_1 i) (hc2 : cond0_2 i) :
    out0_C_2 c i a3 h3 a4 h4 a5 h5 a6 h6 hc0 hc1 hc2 x y s = k0_pay4 x y s := by
  unfold out0_C_2
  rw [View.read_writes_eq_canon _ _ _ (cover0_C_2 c i a3 h3 a4 h4 a5 h5 a6 h6 hc0 hc1 hc2 x y s)]
  unfold kernelRun0_C
  dsimp only
  rw [View.canon_unit_zero hz]
  simp only [View.readAt_eq_ld, h3.read_unread, h4.read_unread, h6.read_unread, View.ld_unit_zero (S := S1024x1024) hz, View.ld_unit_zero (S := S1x1024x1024) hz3, View.ld_unit_zero (S := S1024x1024) hz]

end Points

section Payloads
variable (x : FVec Ideal S1024x1024 .bf16) (y : FVec Ideal S1x1024x1024 .bf16) (s : FVec Ideal S1024x1024 .f32) (p : Fin 1024) (q : Fin 1024)

theorem part_apply : k0_pay1 (F := Ideal) x y (ix2 p q) = ∑ k : Fin 1024, x (ix2 k p) * y (ix3 0 k q) := by
  pointwise [k0_pay1]

theorem pay2_apply : k0_pay2 (F := Ideal) x y (ix2 p q) = ∑ k : Fin 1024, x (ix2 k p) * y (ix3 0 k q) := by
  rw [← part_apply]; pointwise [k0_pay2]
theorem pay3_apply : k0_pay3 (F := Ideal) x y s (ix2 p q) = s (ix2 p q) + ∑ k : Fin 1024, x (ix2 k p) * y (ix3 0 k q) := by
  rw [← part_apply]; pointwise [k0_pay3]
theorem pay4_apply : k0_pay4 (F := Ideal) x y s (ix2 p q) = s (ix2 p q) + ∑ k : Fin 1024, x (ix2 k p) * y (ix3 0 k q) := by
  rw [← part_apply]; pointwise [k0_pay4]
end Payloads

/-- The two arrays the call is given. -/
abbrev aX (c : Dev nD) : FVec Ideal S4096x1024 .bf16 := m ((c.tc : Thread nD τ).loc main_arg0)
abbrev aY (c : Dev nD) : FVec Ideal S3x4096x1024 .bf16 := m ((c.tc : Thread nD τ).loc main_arg1)

theorem idx_0 : ∀ t : Fin cfg0.N, win0_0.index t = ![t.val % 4, t.val / 12] := by decide +kernel
theorem idx_1 : ∀ t : Fin cfg0.N, win0_1.index t = ![t.val / 4 % 3, t.val % 4, 0] := by decide +kernel

theorem iblk_0 (c : Dev nD) (t : Fin cfg0.N) (k : Fin 1024) (p : Fin 1024) (r : Fin 4096) (i : Fin 1024) (hr : r.val = t.val % 4 * 1024 + k.val) (hi : i.val = t.val / 12 * 1024 + p.val) :
    (iblk m c 0 t : FVec Ideal S1024x1024 .bf16) (ix2 k p) = aX m c (ix2 r i) := by
  have h := idx_0 t
  unfold iblk
  rw [View.read_apply]
  show V m c main_arg0 _ = m (c.tc.loc main_arg0) _
  unfold V
  congr 1
  funext a
  apply Fin.ext
  match a with
  | ⟨0, _⟩ => show win0_0.index t 0 * 1024 + 1 * k.val = r.val; rw [h, hr]; show t.val % 4 * 1024 + 1 * k.val = _; omega
  | ⟨1, _⟩ => show win0_0.index t 1 * 1024 + 1 * p.val = i.val; rw [h, hi]; show t.val / 12 * 1024 + 1 * p.val = _; omega

theorem iblk_1 (c : Dev nD) (t : Fin cfg0.N) (k : Fin 1024) (q : Fin 1024) (r : Fin 4096) (j : Fin 3072) (hr : r.val = t.val % 4 * 1024 + k.val) (hj : j.val = t.val / 4 % 3 * 1024 + q.val) :
    (iblk m c 1 t : FVec Ideal S1x1024x1024 .bf16) (ix3 0 k q) = aY m c (ix3 ⟨j.val / 1024, by omega⟩ r ⟨j.val % 1024, by omega⟩) := by
  have h := idx_1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = j.val / 1024; rw [h, hj]; show t.val / 4 % 3 * 1 + 1 * 0 = _; omega
  | ⟨1, _⟩ => show win0_1.index t 1 * 1024 + 1 * k.val = r.val; rw [h, hr]; show t.val % 4 * 1024 + 1 * k.val = _; omega
  | ⟨2, _⟩ => show win0_1.index t 2 * 1024 + 1 * q.val = j.val % 1024; rw [h, hj]; show 0 * 1024 + 1 * q.val = _; omega

/-- The two blocks a point reads. -/
abbrev bX (c : Dev nD) (t : Fin cfg0.N) : FVec Ideal S1024x1024 .bf16 := iblk m c 0 t
abbrev bY (c : Dev nD) (t : Fin cfg0.N) : FVec Ideal S1x1024x1024 .bf16 := iblk m c 1 t

/-- The term of row `r` in the entry's sum. -/
def term (c : Dev nD) (i : Fin 1024) (j : Fin 3072) (r : Fin 4096) : EReal := aX m c (ix2 r i) * aY m c (ix3 ⟨j.val / 1024, by omega⟩ r ⟨j.val % 1024, by omega⟩)

/-- Step `k`'s part of it. -/
def step (c : Dev nD) (i : Fin 1024) (j : Fin 3072) (k : Fin 4) : EReal := ∑ t : Fin 1024, term m c i j ⟨k.val * 1024 + t.val, by omega⟩

theorem step_eq (c : Dev nD) (i : Fin 1024) (j : Fin 3072) (t : Fin cfg0.N) (k : Fin 4) (p : Fin 1024) (q : Fin 1024) (hk : t.val % 4 = k.val)
    (hi : i.val = t.val / 12 * 1024 + p.val) (hj : j.val = t.val / 4 % 3 * 1024 + q.val) :
    ∑ k : Fin 1024, bX m c t (ix2 k p) * bY m c t (ix3 0 k q) = step m c i j k :=
  Finset.sum_congr rfl fun e _ => congrArg₂ (fun u v : EReal => u * v) (iblk_0 m c t e p ⟨k.val * 1024 + e.val, by omega⟩ i (by rw [hk]) hi) (iblk_1 m c t e q ⟨k.val * 1024 + e.val, by omega⟩ j (by rw [hk]) hj)

section Entries
variable (c : Dev nD) (i : Fin 1024) (j : Fin 3072) (p : Fin 1024) (q : Fin 1024)

theorem after0 (t : Fin cfg0.N) (h : t.val % 4 = 0) (hi : i.val = t.val / 12 * 1024 + p.val) (hj : j.val = t.val / 4 % 3 * 1024 + q.val) :
    (outsAt0 m c t.val t.isLt).2 (ix2 p q) = step m c i j 0 := by
  rw [outsAt0_A m c t h (by omega) (by omega)]
  dsimp only
  rw [stepA, pay2_apply]
  exact step_eq m c i j t 0 p q h hi hj

theorem afterNext (n : Fin 4) (h0 : 1 ≤ n.val) (h2 : n.val ≤ 2) (t : Fin cfg0.N) (h : t.val % 4 = n.val) (hi : i.val = t.val / 12 * 1024 + p.val) (hj : j.val = t.val / 4 % 3 * 1024 + q.val) :
    (outsAt0 m c t.val t.isLt).2 (ix2 p q) = (outsAt0 m c (t.val - 1) (Nat.lt_of_le_of_lt (Nat.sub_le _ _) t.isLt)).2 (ix2 p q) + step m c i j n := by
  rw [outsAt0_B m c t (by omega) (by omega) (by omega)]
  dsimp only
  rw [stepB, pay3_apply]
  exact congrArg _ (step_eq m c i j t n p q h hi hj)

theorem afterLast (t : Fin cfg0.N) (h : t.val % 4 = 3) (hi : i.val = t.val / 12 * 1024 + p.val) (hj : j.val = t.val / 4 % 3 * 1024 + q.val) :
    (outsAt0 m c t.val t.isLt).1 (ix2 p q) = ∑ r : Fin 4096, term m c i j r := by
  have hN : cfg0.N = 12 := N_0
  rw [outsAt0_C m c t (by omega) (by omega) h]
  dsimp only
  rw [stepC, pay4_apply, step_eq m c i j t 3 p q h hi hj,
    afterNext m c i j p q 2 (by decide) (by decide) ⟨t.val - 1, by omega⟩ (by show (t.val - 1) % 4 = 2; omega) (by show i.val = (t.val - 1) / 12 * 1024 + p.val; omega) (by show j.val = (t.val - 1) / 4 % 3 * 1024 + q.val; omega),
    afterNext m c i j p q 1 (by decide) (by decide) ⟨t.val - 1 - 1, by omega⟩ (by show (t.val - 1 - 1) % 4 = 1; omega) (by show i.val = (t.val - 1 - 1) / 12 * 1024 + p.val; omega) (by show j.val = (t.val - 1 - 1) / 4 % 3 * 1024 + q.val; omega),
    after0 m c i j p q ⟨t.val - 1 - 1 - 1, by omega⟩ (by show (t.val - 1 - 1 - 1) % 4 = 0; omega) (by show i.val = (t.val - 1 - 1 - 1) / 12 * 1024 + p.val; omega) (by show j.val = (t.val - 1 - 1 - 1) / 4 % 3 * 1024 + q.val; omega),
    Fin.sum_univ_tiles 4 1024 rfl, Fin.sum_univ_four]
  rfl

/-- What the array ends holding: the whole sum at every entry. -/
theorem final_apply : Value.G2 m c (ix2 i j) = ∑ r : Fin 4096, term m c i j r := by
  have hN : cfg0.N = 12 := N_0
  have hp : Value.pt2Of (ix2 i j) = 12 * (i.val / 1024) + 4 * (j.val / 1024) + 3 := by
    show 4 * (3 * (i.val / 1024 - 0) + 1 * (j.val / 1024 - 0)) + 3 = _
    omega
  have hlt : Value.pt2Of (ix2 i j) < cfg0.N := by rw [hp]; omega
  unfold Value.G2
  rw [dif_pos hlt, ← Value.outsAt0_sweep m c _ hlt]
  have hl : Value.loc2Of (ix2 i j) = ix2 (⟨i.val % 1024, by omega⟩ : Fin 1024) (⟨j.val % 1024, by omega⟩ : Fin 1024) := by
    funext a
    match a with
    | ⟨0, _⟩ => rfl
    | ⟨1, _⟩ => rfl
  rw [hl]
  exact afterLast m c i j _ _ ⟨Value.pt2Of (ix2 i j), hlt⟩ (by show Value.pt2Of (ix2 i j) % 4 = 3; rw [hp]; omega)
    (by show i.val = Value.pt2Of (ix2 i j) / 12 * 1024 + i.val % 1024; rw [hp]; omega) (by show j.val = Value.pt2Of (ix2 i j) / 4 % 3 * 1024 + j.val % 1024; rw [hp]; omega)

end Entries

/-- What the array ends holding is the reference's gradient. -/
theorem equal (c : Dev nD) : Value.G2 m c = Cert.ProjReferenceIdeal.Read.val_main_v8 (F := Ideal) (aX m c) (aY m c) := by
  funext k
  obtain ⟨i, j, rfl⟩ : ∃ (a : Fin 1024) (b : Fin 3072), k = ix2 a b := ⟨k 0, k 1, eq_ix2 k⟩
  have e : Cert.ProjReferenceIdeal.Read.val_main_v8 (F := Ideal) (aX m c) (aY m c) (ix2 i j) = Cert.ProjReferenceIdeal.Read.val_main_v7 (F := Ideal) (aX m c) (aY m c) (ix2 i j) := rfl
  refine (final_apply m c i j).trans (Eq.symm (Eq.trans e ?_))
  rw [Cert.ProjReferenceIdeal.Read.val_main_v7_apply, Cert.ProjReferenceIdeal.Read.val_main_v6_apply]
  refine Finset.sum_congr (M := EReal) rfl fun r _ => ?_
  have hx : Cert.ProjReferenceIdeal.Read.ridx_main_v6 (Cert.ProjReferenceIdeal.Read.idx_main_v7 (ix2 i j)) r = ix2 r i := by
    funext a
    match a with
    | ⟨0, _⟩ => rfl
    | ⟨1, _⟩ => rfl
  have hy : Cert.ProjReferenceIdeal.Read.lidx_main_v6 (Cert.ProjReferenceIdeal.Read.idx_main_v7 (ix2 i j)) r = ix2 r j := by
    funext a
    match a with
    | ⟨0, _⟩ => rfl
    | ⟨1, _⟩ => rfl
  rw [hx, hy]
  rw [Cert.ProjReferenceIdeal.Read.val_main_v2_apply, Cert.ProjReferenceIdeal.Read.val_main_v1_apply]
  have hz : Cert.ProjReferenceIdeal.Read.idx_main_v1 (Cert.ProjReferenceIdeal.Read.idx_main_v2 (ix2 r j)) = ix3 (⟨j.val / 1024, by omega⟩ : Fin 3) r (⟨j.val % 1024, by omega⟩ : Fin 1024) := by
    funext a
    apply Fin.ext
    match a with
    | ⟨0, _⟩ => show (r.val * 3072 + j.val) / 1024 % 3 = j.val / 1024; omega
    | ⟨1, _⟩ => show (r.val * 3072 + j.val) / 3072 = r.val; omega
    | ⟨2, _⟩ => show (r.val * 3072 + j.val) % 1024 = j.val % 1024; omega
  rw [hz]
  exact mul_comm (aY m c (ix3 (⟨j.val / 1024, by omega⟩ : Fin 3) r (⟨j.val % 1024, by omega⟩ : Fin 1024))) (aX m c (ix2 r i))

end Cert.Proj
-- ==== Proof.Mm.Rms.lean ====
/- The pull-back of the root-mean-square norm, written in two ways over the extended reals. -/
module

public import Idealize.ShloMosaic.PureOps.Ideal
public import Mathlib.Data.EReal.Operations
public import Mathlib.Data.EReal.Inv
public import Idealize.ShloMosaic.Lib.Pointwise

@[expose] public section

noncomputable section

namespace Cert.Rms

open Idealize.ShloMosaic

/-- A sum of squares is not negative. -/
theorem sq_nonneg (x : EReal) : 0 ≤ x * x := by
  rcases le_total 0 x with h | h
  · exact mul_nonneg h h
  · have h' : 0 ≤ -x := EReal.neg_nonneg.mpr h
    have := mul_nonneg h' h'
    rwa [neg_mul_neg] at this

/-- The reciprocal root of a positive number is a real number, and its quotient by the number its cube; of infinity both are zero. -/
theorem factor (s : EReal) (hs : 0 ≤ s) (e : ℝ) (he : 0 < e) :
    ∃ ρ : ℝ, 0 ≤ ρ ∧ Ideal.rsqrt (s + (e : EReal)) = (ρ : EReal) ∧ Ideal.div (ρ : EReal) (s + (e : EReal)) = ((ρ * ρ * ρ : ℝ) : EReal) := by
  induction s using EReal.rec with
  | bot => exact absurd hs (by simp)
  | top =>
    refine ⟨0, le_refl _, ?_, ?_⟩
    · rw [EReal.top_add_coe, Ideal.rsqrt_top, EReal.coe_zero]
    · rw [EReal.top_add_coe, Ideal.div, if_neg (by simp)]; simp
  | coe r =>
    have hr : 0 ≤ r := EReal.coe_nonneg.mp hs
    have hp : 0 < r + e := by linarith
    refine ⟨(Real.sqrt (r + e))⁻¹, by positivity, ?_, ?_⟩
    · rw [← EReal.coe_add, Ideal.rsqrt_coe, if_neg (not_lt.mpr hp.le), if_neg hp.ne']
    · rw [← EReal.coe_add, Ideal.div_coe hp.ne', ← EReal.coe_mul]
      congr 1
      have h := Real.mul_self_sqrt hp.le
      have h0 : Real.sqrt (r + e) ≠ 0 := (Real.sqrt_pos.mpr hp).ne'
      have : 1 / (r + e) = (Real.sqrt (r + e))⁻¹ * (Real.sqrt (r + e))⁻¹ := by
        rw [← mul_inv, h, one_div]
      rw [this]; ring

/-- A real factor that is not negative goes into a sum. -/
theorem mul_sum {n : ℕ} (ρ : ℝ) (h : 0 ≤ ρ) (f : Fin n → EReal) : (ρ : EReal) * ∑ k, f k = ∑ k, (ρ : EReal) * f k := by
  classical
  induction (Finset.univ : Finset (Fin n)) using Finset.induction_on with
  | empty => simp
  | insert a s ha ih =>
    rw [Finset.sum_insert ha, Finset.sum_insert ha, EReal.left_distrib_of_nonneg_of_ne_top (EReal.coe_nonneg.mpr h) (EReal.coe_ne_top _), ih]

/-- Twice a number is the number added to itself. -/
theorem twice (y : EReal) : y + y = ((2 : ℝ) : EReal) * y := by
  have h : ((2 : ℝ) : EReal) = 1 + 1 := by rw [← EReal.coe_one, ← EReal.coe_add]; norm_num
  rw [h, EReal.right_distrib_of_nonneg zero_le_one zero_le_one, one_mul]

/-- One entry of a row's pull-back: with the norm's factor `ρ` taken out (`D` is what is added to it), and by the pull-backs of product, root, mean and square. -/
theorem pull {n : ℕ} (D gi xi : EReal) (gd x : Fin n → EReal) (ρ : ℝ) (h : 0 ≤ ρ) :
    D + (ρ : EReal) * (gi - xi * (ρ : EReal) * Ideal.div (∑ k, gd k * (x k * (ρ : EReal))) ((1024 : ℝ) : EReal))
      = D + gi * (ρ : EReal) + xi * Ideal.div ((∑ k, x k * gd k) * (((-1 / 2 : ℝ) : EReal) * ((ρ * ρ * ρ : ℝ) : EReal))) ((1024 : ℝ) : EReal)
        + Ideal.div ((∑ k, x k * gd k) * (((-1 / 2 : ℝ) : EReal) * ((ρ * ρ * ρ : ℝ) : EReal))) ((1024 : ℝ) : EReal) * xi := by
  have hS : ∑ k, gd k * (x k * (ρ : EReal)) = (ρ : EReal) * ∑ k, x k * gd k := by
    rw [mul_sum ρ h]
    exact Finset.sum_congr rfl fun k _ => by rw [mul_comm (x k) (gd k), ← mul_assoc, mul_comm]
  rw [hS, Ideal.div_coe (by norm_num), Ideal.div_coe (by norm_num)]
  generalize (∑ k, x k * gd k) = S
  have hk : xi * (ρ : EReal) * ((ρ : EReal) * S * ((1 / 1024 : ℝ) : EReal)) = S * xi * ((ρ * ρ / 1024 : ℝ) : EReal) := by
    rw [show ((ρ * ρ / 1024 : ℝ) : EReal) = (ρ : EReal) * (ρ : EReal) * ((1 / 1024 : ℝ) : EReal) by
      rw [← EReal.coe_mul, ← EReal.coe_mul]; congr 1; ring]
    ac_rfl
  have hr : xi * (S * (((-1 / 2 : ℝ) : EReal) * ((ρ * ρ * ρ : ℝ) : EReal)) * ((1 / 1024 : ℝ) : EReal)) = S * xi * ((-(ρ * ρ * ρ) / 2048 : ℝ) : EReal) := by
    rw [show ((-(ρ * ρ * ρ) / 2048 : ℝ) : EReal) = ((-1 / 2 : ℝ) : EReal) * ((ρ * ρ * ρ : ℝ) : EReal) * ((1 / 1024 : ℝ) : EReal) by
      rw [← EReal.coe_mul, ← EReal.coe_mul]; congr 1; ring]
    ac_rfl
  rw [mul_comm _ xi, hk, hr, sub_eq_add_neg, EReal.left_distrib_of_nonneg_of_ne_top (EReal.coe_nonneg.mpr h) (EReal.coe_ne_top _),
    add_assoc (D + gi * (ρ : EReal)), twice, mul_comm (ρ : EReal) gi, ← add_assoc]
  congr 1
  generalize S * xi = W
  rw [← neg_one_mul, show (-1 : EReal) = ((-1 : ℝ) : EReal) by simp,
    show ((-(ρ * ρ * ρ) / 2048 : ℝ) : EReal) = ((1 / 2 : ℝ) : EReal) * (((-1 : ℝ) : EReal) * ((ρ : EReal) * ((ρ * ρ / 1024 : ℝ) : EReal))) by
      rw [← EReal.coe_mul, ← EReal.coe_mul, ← EReal.coe_mul]; congr 1; ring]
  rw [show ((2 : ℝ) : EReal) * (W * (((1 / 2 : ℝ) : EReal) * (((-1 : ℝ) : EReal) * ((ρ : EReal) * ((ρ * ρ / 1024 : ℝ) : EReal)))))
      = ((2 : ℝ) : EReal) * ((1 / 2 : ℝ) : EReal) * (((-1 : ℝ) : EReal) * ((ρ : EReal) * ((ρ * ρ / 1024 : ℝ) : EReal)) * W) by ac_rfl,
    ← EReal.coe_mul, show (2 * (1 / 2) : ℝ) = 1 by norm_num, EReal.coe_one, one_mul]
  ac_rfl

/-- The float literals of the two programs. -/
theorem lit1024 : Ideal.ofBits .f32 0x44800000#32 = ((1024 : ℝ) : EReal) := by
  simp [Ideal.ofBits, Ideal.ieee, -EReal.coe_mul]; norm_num
theorem litHalf : Ideal.ofBits .f32 0xBF000000#32 = ((-1 / 2 : ℝ) : EReal) := by
  simp [Ideal.ofBits, Ideal.ieee, -EReal.coe_mul]; norm_num
theorem litEps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The sum over a tile's 512 rows. -/
def tile (g : Fin 4096 → EReal) (k : Fin 8) : EReal := ∑ p : Fin 512, g ⟨k.val * 512 + p.val, by omega⟩

/-- What is added to tile by tile ends as the sum over all the rows. -/
theorem total (a : (n : ℕ) → n < 8 → EReal) (g : Fin 4096 → EReal) (h0 : a 0 (by decide) = 0 + tile g 0)
    (hs : ∀ (n : ℕ) (h : n + 1 < 8), a (n + 1) h = a n (Nat.lt_of_succ_lt h) + tile g ⟨n + 1, h⟩) : a 7 (by decide) = ∑ r, g r := by
  rw [Fin.sum_univ_tiles 8 512 rfl, Fin.sum_univ_eight, hs 6, hs 5, hs 4, hs 3, hs 2, hs 1, hs 0, h0, zero_add]
  rfl

/-- The mean of a row's squares with the small number added, and the norm's factor. -/
def den (x : Fin 1024 → EReal) : EReal := Ideal.div (∑ k, x k * x k) (Ideal.ofBits .f32 0x44800000#32) + Ideal.ofBits .f32 0x358637BD#32
def rho (x : Fin 1024 → EReal) : EReal := Ideal.rsqrt (den x)

/-- One entry of a row's pull-back, in the two programs' words. -/
theorem row (D gi xi : EReal) (gd x : Fin 1024 → EReal) :
    D + rho x * (gi - xi * rho x * Ideal.div (∑ k, gd k * (x k * rho x)) (Ideal.ofBits .f32 0x44800000#32))
      = D + gi * rho x + xi * Ideal.div ((∑ k, x k * gd k) * (Ideal.ofBits .f32 0xBF000000#32 * Ideal.div (rho x) (den x))) (Ideal.ofBits .f32 0x44800000#32)
        + Ideal.div ((∑ k, x k * gd k) * (Ideal.ofBits .f32 0xBF000000#32 * Ideal.div (rho x) (den x))) (Ideal.ofBits .f32 0x44800000#32) * xi := by
  obtain ⟨e, he, hE⟩ := litEps
  have hs : 0 ≤ Ideal.div (∑ k, x k * x k) ((1024 : ℝ) : EReal) := by
    rw [Ideal.div_coe (by norm_num)]
    exact mul_nonneg (Finset.sum_nonneg fun k _ => sq_nonneg (x k)) (EReal.coe_nonneg.mpr (by norm_num))
  obtain ⟨ρ, h, h1, h2⟩ := factor _ hs e he
  have hd : den x = Ideal.div (∑ k, x k * x k) ((1024 : ℝ) : EReal) + (e : EReal) := by rw [den, lit1024, hE]
  have hr : rho x = (ρ : EReal) := by rw [rho, hd, h1]
  rw [hr, hd, h2, lit1024, litHalf]
  exact pull D gi xi gd x ρ h

end Cert.Rms

end
-- ==== Proof.Mm.Norm.lean ====
/- The gradient of the norm before the attention, in 8 tiles of 512 rows: what the call's arrays end holding, and the reference's pull-back. -/
module

public import proofs.«01_k».proof.Proof.Gen.NormIdeal.Value
public import proofs.«01_k».proof.Proof.Gen.NormReferenceIdeal.Run
public import proofs.«01_k».proof.Proof.Gen.NormReferenceIdeal.Read
public import proofs.«01_k».proof.Proof.Mm.Rms
public import Idealize.ShloMosaic.Lib.Pointwise
public import Idealize.ShloMosaic.Lib.Tactic
public import Idealize.ShloMosaic.Lib.Pipeline.ValueKit.Basic
public import Idealize.ShloMosaic.Lib.Pipeline.ValueKit.Geometry

@[expose] public section

set_option maxRecDepth 16384

noncomputable section

namespace Cert.Norm

open Cert.NormIdeal Cert.NormIdeal.Gen Idealize.ShloMosaic Idealize.ShloMosaic.TcCoe Idealize.ShloMosaic.Tactic Idealize.SL.Sem

theorem hz : (![0, 0] : Fin 2 → Nat) = fun _ => 0 := funext fun a => by fin_cases a <;> rfl

variable (m : (ℓ : Loc nD τ sig) → Buf (Elt Ideal) ℓ)

section Points
variable {F : FTy → Type} [FloatOps F] (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole)
  (x0 x1 : Vec F S512x1024 .f32) (x2 x3 : Vec F S1x1024 .f32) (x4 : Vec F S512x1024 .f32) (y6 y7 y8 : Vec F S1x1024 .f32)

/-- The first tile's rows. -/
theorem outA5 (hc0 : cond0_0 i) :
    out0_A_5 c i a1 h1 a2 h2 a3 h3 a4 h4 a5 h5 a6 h6 a7 h7 a8 h8 a9 h9 hc0 x0 x1 x2 x3 x4 = k0_pay7 x1 x0 x2 x3 x4 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  rw [View.canon_unit_zero hz]
  simp only [View.readAt_eq_ld, h1.read_unread, h2.read_unread, h3.read_unread, h4.read_unread, h5.read_unread, View.ld_unit_zero (S := S512x1024) hz, View.ld_unit_zero (S := S1x1024) hz]

/-- The first tile's sums for the shift. -/
theorem outA6 (hc0 : cond0_0 i) :
    out0_A_6 c i a1 h1 a2 h2 a3 h3 a4 h4 a5 h5 a6 h6 a7 h7 a8 h8 a9 h9 hc0 x0 x1 x2 x3 x4 = k0_pay1 x0 k0_pay8 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  rw [View.canon_cons_unit_zero hz]
  simp only [kernelRun0_A.sl.r, kernelRun0_A.sl.r_1, kernelRun0_A.sl.r_2, kernelRun0_A.sl.r_3, kernelRun0_A.sl.v36, View.readAt_eq_ld, h1.read_unread, h2.read_unread, h3.read_unread, h4.read_unread, h5.read_unread, View.ld_unit_zero (S := S512x1024) hz, View.ld_unit_zero (S := S1x1024) hz]
  unfold kernelRun0_A.sl.H6_1
  refine congrArg (fun y => k0_pay1 x0 y) ?_
  exact View.readCov_unit_zero a7.view hz _ _

/-- The first tile's sums for the scale. -/
theorem outA7 (hc0 : cond0_0 i) :
    out0_A_7 c i a1 h1 a2 h2 a3 h3 a4 h4 a5 h5 a6 h6 a7 h7 a8 h8 a9 h9 hc0 x0 x1 x2 x3 x4 = k0_pay2 x0 x2 (k0_pay5 x1) k0_pay9 := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  rw [View.canon_cons_unit_zero hz]
  simp only [kernelRun0_A.sl.r, kernelRun0_A.sl.r_1, kernelRun0_A.sl.r_2, kernelRun0_A.sl.r_3, kernelRun0_A.sl.v42, View.readAt_eq_ld, h1.read_unread, h2.read_unread, h3.read_unread, h4.read_unread, h5.read_unread, View.ld_unit_zero (S := S512x1024) hz, View.ld_unit_zero (S := S1x1024) hz]
  unfold kernelRun0_A.sl.H7_1
  refine congrArg (fun y => k0_pay2 x0 x2 (k0_pay5 x1) y) ?_
  exact View.readCov_unit_zero a8.view hz _ _

/-- The first tile's sums for the weight. -/
theorem outA8 (hc0 : cond0_0 i) :
    out0_A_8 c i a1 h1 a2 h2 a3 h3 a4 h4 a5 h5 a6 h6 a7 h7 a8 h8 a9 h9 hc0 x0 x1 x2 x3 x4 = k0_pay3 (k0_pay5 x1) (k0_pay6 x0 x3) k0_pay10 := by
  unfold out0_A_8
  rw [View.read_writes_eq_canon _ _ _ (cover0_A_8 c i a1 h1 a2 h2 a3 h3 a4 h4 a5 h5 a6 h6 a7 h7 a8 h8 a9 h9 hc0 x0 x1 x2 x3 x4)]
  unfold kernelRun0_A
  dsimp only
  rw [View.canon_cons_unit_zero hz]
  simp only [kernelRun0_A.sl.r, kernelRun0_A.sl.r_1, kernelRun0_A.sl.r_2, kernelRun0_A.sl.r_3, kernelRun0_A.sl.v51, View.readAt_eq_ld, h1.read_unread, h2.read_unread, h3.read_unread, h4.read_unread, h5.read_unread, View.ld_unit_zero (S := S512x1024) hz, View.ld_unit_zero (S := S1x1024) hz]
  unfold kernelRun0_A.sl.H8_1
  refine congrArg (fun y => k0_pay3 (k0_pay5 x1) (k0_pay6 x0 x3) y) ?_
  exact View.readCov_unit_zero a9.view hz _ _

/-- A later tile's rows. -/
theorem outB5 (hc0 : ¬cond0_0 i) :
    out0_B_5 c i a1 h1 a2 h2 a3 h3 a4 h4 a5 h5 a6 h6 a7 h7 a8 h8 a9 h9 hc0 x0 x1 x2 x3 x4 y6 y7 y8 = k0_pay7 x1 x0 x2 x3 x4 := by
  unfold out0_B_5
  rw [View.read_writes_eq_canon _ _ _ (cover0_B_5 c i a1 h1 a2 h2 a3 h3 a4 h4 a5 h5 a6 h6 a7 h7 a8 h8 a9 h9 hc0 x0 x1 x2 x3 x4 y6 y7 y8)]
  unfold kernelRun0_B
  dsimp only
  rw [View.canon_unit_zero hz]
  simp only [View.readAt_eq_ld, h1.read_unread, h2.read_unread, h3.read_unread, h4.read_unread, h5.read_unread, h7.read_unread, h8.read_unread, h9.read_unread, View.ld_unit_zero (S := S512x1024) hz, View.ld_unit_zero (S := S1x1024) hz]

/-- A later tile's sums for the shift. -/
theorem outB6 (hc0 : ¬cond0_0 i) :
    out0_B_6 c i a1 h1 a2 h2 a3 h3 a4 h4 a5 h5 a6 h6 a7 h7 a8 h8 a9 h9 hc0 x0 x1 x2 x3 x4 y6 y7 y8 = k0_pay1 x0 y6 := by
  unfold out0_B_6
  rw [View.read_writes_eq_canon _ _ _ (cover0_B_6 c i a1 h1 a2 h2 a3 h3 a4 h4 a5 h5 a6 h6 a7 h7 a8 h8 a9 h9 hc0 x0 x1 x2 x3 x4 y6 y7 y8)]
  unfold kernelRun0_B
  dsimp only
  rw [View.canon_unit_zero hz]
  simp only [kernelRun0_B.sl.r, kernelRun0_B.sl.r_1, kernelRun0_B.sl.r_2, kernelRun0_B.sl.r_3, View.readAt_eq_ld, h1.read_unread, h2.read_unread, h3.read_unread, h4.read_unread, h5.read_unread, h7.read_unread, h8.read_unread, h9.read_unread, View.ld_unit_zero (S := S512x1024) hz, View.ld_unit_zero (S := S1x1024) hz]

/-- A later tile's sums for the scale. -/
theorem outB7 (hc0 : ¬cond0_0 i) :
    out0_B_7 c i a1 h1 a2 h2 a3 h3 a4 h4 a5 h5 a6 h6 a7 h7 a8 h8 a9 h9 hc0 x0 x1 x2 x3 x4 y6 y7 y8 = k0_pay2 x0 x2 (k0_pay5 x1) y7 := by
  unfold out0_B_7
  rw [View.read_writes_eq_canon _ _ _ (cover0_B_7 c i a1 h1 a2 h2 a3 h3 a4 h4 a5 h5 a6 h6 a7 h7 a8 h8 a9 h9 hc0 x0 x1 x2 x3 x4 y6 y7 y8)]
  unfold kernelRun0_B
  dsimp only
  rw [View.canon_unit_zero hz]
  simp only [kernelRun0_B.sl.r, kernelRun0_B.sl.r_1, kernelRun0_B.sl.r_2, kernelRun0_B.sl.r_3, View.readAt_eq_ld, h1.read_unread, h2.read_unread, h3.read_unread, h4.read_unread, h5.read_unread, h7.read_unread, h8.read_unread, h9.read_unread, View.ld_unit_zero (S := S512x1024) hz, View.ld_unit_zero (S := S1x1024) hz]

/-- A later tile's sums for the weight. -/
theorem outB8 (hc0 : ¬cond0_0 i) :
    out0_B_8 c i a1 h1 a2 h2 a3 h3 a4 h4 a5 h5 a6 h6 a7 h7 a8 h8 a9 h9 hc0 x0 x1 x2 x3 x4 y6 y7 y8 = k0_pay3 (k0_pay5 x1) (k0_pay6 x0 x3) y8 := by
  unfold out0_B_8
  rw [View.read_writes_eq_canon _ _ _ (cover0_B_8 c i a1 h1 a2 h2 a3 h3 a4 h4 a5 h5 a6 h6 a7 h7 a8 h8 a9 h9 hc0 x0 x1 x2 x3 x4 y6 y7 y8)]
  unfold kernelRun0_B
  dsimp only
  rw [View.canon_unit_zero hz]
  simp only [kernelRun0_B.sl.r, kernelRun0_B.sl.r_1, kernelRun0_B.sl.r_2, kernelRun0_B.sl.r_3, View.readAt_eq_ld, h1.read_unread, h2.read_unread, h3.read_unread, h4.read_unread, h5.read_unread, h7.read_unread, h8.read_unread, h9.read_unread, View.ld_unit_zero (S := S512x1024) hz, View.ld_unit_zero (S := S1x1024) hz]

end Points

section Payloads
variable (x0 x1 x4 : FVec Ideal S512x1024 .f32) (x2 x3 y : FVec Ideal S1x1024 .f32) (p : Fin 512) (q : Fin 1024)

theorem pay4_apply : k0_pay4 (F := Ideal) x1 (ix2 p 0) = Ideal.rsqrt (Ideal.div (∑ k : Fin 1024, x1 (ix2 p k) * x1 (ix2 p k)) (Ideal.ofBits .f32 0x44800000#32) + Ideal.ofBits .f32 0x358637BD#32) := by
  pointwise [k0_pay4]

theorem pay5_apply : k0_pay5 (F := Ideal) x1 (ix2 p q) = x1 (ix2 p q) * k0_pay4 (F := Ideal) x1 (ix2 p 0) := by
  pointwise [k0_pay5]

theorem pay6_apply : k0_pay6 (F := Ideal) x0 x3 (ix2 p q) = x0 (ix2 p q) * (Ideal.ofBits .f32 0x3F800000#32 + x3 (ix2 0 q)) := by
  pointwise [k0_pay6]

theorem pay7_apply : k0_pay7 (F := Ideal) x1 x0 x2 x3 x4 (ix2 p q) = x4 (ix2 p q) + k0_pay4 (F := Ideal) x1 (ix2 p 0) * (k0_pay6 (F := Ideal) x0 x3 (ix2 p q) * x2 (ix2 0 q) - k0_pay5 (F := Ideal) x1 (ix2 p q)
    * Ideal.div (∑ k : Fin 1024, k0_pay6 (F := Ideal) x0 x3 (ix2 p k) * x2 (ix2 0 k) * k0_pay5 (F := Ideal) x1 (ix2 p k)) (Ideal.ofBits .f32 0x44800000#32)) := by
  pointwise [k0_pay7]

theorem pay1_apply : k0_pay1 (F := Ideal) x0 y (ix2 0 q) = y (ix2 0 q) + ∑ p : Fin 512, x0 (ix2 p q) := by
  pointwise [k0_pay1]

theorem pay2_apply (h : FVec Ideal S512x1024 .f32) : k0_pay2 (F := Ideal) x0 x2 h y (ix2 0 q) = y (ix2 0 q) + ∑ p : Fin 512, x0 (ix2 p q) * (h (ix2 p q) * x2 (ix2 0 q)) := by
  pointwise [k0_pay2]

theorem pay3_apply (h d : FVec Ideal S512x1024 .f32) : k0_pay3 (F := Ideal) h d y (ix2 0 q) = y (ix2 0 q) + ∑ p : Fin 512, d (ix2 p q) * h (ix2 p q) := by
  pointwise [k0_pay3]

theorem pay8_apply : k0_pay8 (F := Ideal) (ix2 0 q) = 0 := by
  pointwise [k0_pay8]
theorem pay9_apply : k0_pay9 (F := Ideal) (ix2 0 q) = 0 := by
  pointwise [k0_pay9]
theorem pay10_apply : k0_pay10 (F := Ideal) (ix2 0 q) = 0 := by
  pointwise [k0_pay10]
end Payloads

/-- The arrays the call is given. -/
abbrev aH (c : Dev nD) : FVec Ideal S4096x1024 .f32 := m ((c.tc : Thread nD τ).loc main_arg0)
abbrev aX (c : Dev nD) : FVec Ideal S4096x1024 .f32 := m ((c.tc : Thread nD τ).loc main_arg1)
abbrev aG (c : Dev nD) : FVec Ideal S1x1024 .f32 := m ((c.tc : Thread nD τ).loc main_arg2)
abbrev aS (c : Dev nD) : FVec Ideal S1x1024 .f32 := m ((c.tc : Thread nD τ).loc main_arg3)
abbrev aD (c : Dev nD) : FVec Ideal S4096x1024 .f32 := m ((c.tc : Thread nD τ).loc main_arg4)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![t.val, 0] := by decide +kernel
theorem idx_5 : ∀ t : Fin cfg0.N, win0_5.index t = ![t.val, 0] := by decide +kernel

section Blocks
variable (c : Dev nD) (t : Fin cfg0.N) (p : Fin 512) (q : Fin 1024) (r : Fin 4096) (hr : r.val = t.val * 512 + p.val)

/-- A block's rows are the array's rows of the tile; a vector's block is the vector. -/
theorem iblk_0 (hr : r.val = t.val * 512 + p.val) : (iblk m c 0 t : FVec Ideal S512x1024 .f32) (ix2 p q) = aH m c (ix2 r q) := by
  have h := idx_0 t
  unfold iblk
  rw [View.read_apply]
  show V m c main_arg0 _ = m (c.tc.loc main_arg0) _
  unfold V
  congr 1
  funext a
  apply Fin.ext
  match a with
  | ⟨0, _⟩ => show win0_0.index t 0 * 512 + 1 * p.val = r.val; rw [h, hr]; show t.val * 512 + 1 * p.val = _; omega
  | ⟨1, _⟩ => show win0_0.index t 1 * 1024 + 1 * q.val = q.val; rw [h]; show 0 * 1024 + 1 * q.val = _; omega

theorem iblk_1 (hr : r.val = t.val * 512 + p.val) : (iblk m c 1 t : FVec Ideal S512x1024 .f32) (ix2 p q) = aX m c (ix2 r q) := by
  have h := idx_1 t
  unfold iblk
  rw [View.read_apply]
  show V m c main_arg1 _ = m (c.tc.loc main_arg1) _
  unfold V
  congr 1
  funext a
  apply Fin.ext
  match a with
  | ⟨0, _⟩ => show win0_1.index t 0 * 512 + 1 * p.val = r.val; rw [h, hr]; show t.val * 512 + 1 * p.val = _; omega
  | ⟨1, _⟩ => show win0_1.index t 1 * 1024 + 1 * q.val = q.val; rw [h]; show 0 * 1024 + 1 * q.val = _; omega

theorem iblk_4 (hr : r.val = t.val * 512 + p.val) : (iblk m c 4 t : FVec Ideal S512x1024 .f32) (ix2 p q) = aD m c (ix2 r q) := by
  have h := idx_4 t
  unfold iblk
  rw [View.read_apply]
  show V m c main_arg4 _ = m (c.tc.loc main_arg4) _
  unfold V
  congr 1
  funext a
  apply Fin.ext
  match a with
  | ⟨0, _⟩ => show win0_4.index t 0 * 512 + 1 * p.val = r.val; rw [h, hr]; show t.val * 512 + 1 * p.val = _; omega
  | ⟨1, _⟩ => show win0_4.index t 1 * 1024 + 1 * q.val = q.val; rw [h]; show 0 * 1024 + 1 * q.val = _; omega

theorem iblk_2 : (iblk m c 2 t : FVec Ideal S1x1024 .f32) (ix2 0 q) = aG m c (ix2 0 q) := by
  have h := idx_2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [h]; rfl
  | ⟨1, _⟩ => show win0_2.index t 1 * 1024 + 1 * q.val = q.val; rw [h]; show 0 * 1024 + 1 * q.val = _; omega

theorem iblk_3 : (iblk m c 3 t : FVec Ideal S1x1024 .f32) (ix2 0 q) = aS m c (ix2 0 q) := by
  have h := idx_3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = 0; rw [h]; rfl
  | ⟨1, _⟩ => show win0_3.index t 1 * 1024 + 1 * q.val = q.val; rw [h]; show 0 * 1024 + 1 * q.val = _; omega

end Blocks

/-- The blocks a point reads. -/
abbrev bH (c : Dev nD) (t : Fin cfg0.N) : FVec Ideal S512x1024 .f32 := iblk m c 0 t
abbrev bX (c : Dev nD) (t : Fin cfg0.N) : FVec Ideal S512x1024 .f32 := iblk m c 1 t
abbrev bG (c : Dev nD) (t : Fin cfg0.N) : FVec Ideal S1x1024 .f32 := iblk m c 2 t
abbrev bS (c : Dev nD) (t : Fin cfg0.N) : FVec Ideal S1x1024 .f32 := iblk m c 3 t
abbrev bD (c : Dev nD) (t : Fin cfg0.N) : FVec Ideal S512x1024 .f32 := iblk m c 4 t

/-- A row's norm factor, its gradient after the scale, and that after the weight. -/
def rhoOf (c : Dev nD) (r : Fin 4096) : EReal := Cert.Rms.rho fun k => aX m c (ix2 r k)
def dn (c : Dev nD) (r : Fin 4096) (q : Fin 1024) : EReal := aH m c (ix2 r q) * (Ideal.ofBits .f32 0x3F800000#32 + aS m c (ix2 0 q))
def gd (c : Dev nD) (r : Fin 4096) (q : Fin 1024) : EReal := dn m c r q * aG m c (ix2 0 q)

/-- What the arrays' entries end holding. -/
def outX (c : Dev nD) (r : Fin 4096) (q : Fin 1024) : EReal := aD m c (ix2 r q) + rhoOf m c r * (gd m c r q - aX m c (ix2 r q) * rhoOf m c r
    * Ideal.div (∑ k : Fin 1024, gd m c r k * (aX m c (ix2 r k) * rhoOf m c r)) (Ideal.ofBits .f32 0x44800000#32))
def termShift (c : Dev nD) (q : Fin 1024) (r : Fin 4096) : EReal := aH m c (ix2 r q)
def termScale (c : Dev nD) (q : Fin 1024) (r : Fin 4096) : EReal := aH m c (ix2 r q) * (aX m c (ix2 r q) * rhoOf m c r * aG m c (ix2 0 q))
def termG (c : Dev nD) (q : Fin 1024) (r : Fin 4096) : EReal := dn m c r q * (aX m c (ix2 r q) * rhoOf m c r)

section Entries
variable (c : Dev nD) (t : Fin cfg0.N) (p : Fin 512) (q : Fin 1024) (r : Fin 4096)

theorem rho_eq (hr : r.val = t.val * 512 + p.val) : k0_pay4 (F := Ideal) (bX m c t) (ix2 p 0) = rhoOf m c r := by
  have h : ∀ k : Fin 1024, bX m c t (ix2 p k) = aX m c (ix2 r k) := fun k => iblk_1 m c t p k r hr
  rw [pay4_apply]
  simp only [h]
  rfl

theorem xh_eq (hr : r.val = t.val * 512 + p.val) : k0_pay5 (F := Ideal) (bX m c t) (ix2 p q) = aX m c (ix2 r q) * rhoOf m c r := by
  rw [pay5_apply, rho_eq m c t p r hr]
  exact congrArg (fun u : EReal => u * rhoOf m c r) (iblk_1 m c t p q r hr)

theorem dn_eq (hr : r.val = t.val * 512 + p.val) : k0_pay6 (F := Ideal) (bH m c t) (bS m c t) (ix2 p q) = dn m c r q := by
  rw [pay6_apply]
  exact congrArg₂ (fun u v : EReal => u * (Ideal.ofBits .f32 0x3F800000#32 + v)) (iblk_0 m c t p q r hr) (iblk_3 m c t q)

theorem rows_eq (hr : r.val = t.val * 512 + p.val) : (outsAt0 m c t.val t.isLt).1 (ix2 p q) = outX m c r q := by
  have hN : cfg0.N = 8 := N_0
  have e : (outsAt0 m c t.val t.isLt).1 = k0_pay7 (F := Ideal) (bX m c t) (bH m c t) (bG m c t) (bS m c t) (bD m c t) := by
    by_cases h0 : t.val % 8 = 0
    · rw [outsAt0_A m c t h0]
      dsimp only
      rw [outA5]
    · rw [outsAt0_B m c t h0]
      dsimp only
      rw [outB5]
  have hG : ∀ k : Fin 1024, bG m c t (ix2 0 k) = aG m c (ix2 0 k) := fun k => iblk_2 m c t k
  have hD : bD m c t (ix2 p q) = aD m c (ix2 r q) := iblk_4 m c t p q r hr
  have hx : ∀ k : Fin 1024, k0_pay5 (F := Ideal) (bX m c t) (ix2 p k) = aX m c (ix2 r k) * rhoOf m c r := fun k => xh_eq m c t p k r hr
  have hd : ∀ k : Fin 1024, k0_pay6 (F := Ideal) (bH m c t) (bS m c t) (ix2 p k) = dn m c r k := fun k => dn_eq m c t p k r hr
  rw [e, pay7_apply, rho_eq m c t p r hr]
  simp only [hG, hD, hx, hd]
  rfl

theorem shift_part (k : Fin 8) (hk : t.val = k.val) : ∑ p : Fin 512, bH m c t (ix2 p q) = Cert.Rms.tile (termShift m c q) k :=
  Finset.sum_congr (M := EReal) rfl fun p _ => iblk_0 m c t p q ⟨k.val * 512 + p.val, by omega⟩ (by rw [hk])

theorem scale_part (k : Fin 8) (hk : t.val = k.val) : ∑ p : Fin 512, bH m c t (ix2 p q) * (k0_pay5 (F := Ideal) (bX m c t) (ix2 p q) * bG m c t (ix2 0 q)) = Cert.Rms.tile (termScale m c q) k := by
  refine Finset.sum_congr (M := EReal) rfl fun p _ => ?_
  rw [xh_eq m c t p q ⟨k.val * 512 + p.val, by omega⟩ (by rw [hk])]
  exact congrArg₂ (fun u v : EReal => u * (aX m c (ix2 _ q) * rhoOf m c _ * v)) (iblk_0 m c t p q ⟨k.val * 512 + p.val, by omega⟩ (by rw [hk])) (iblk_2 m c t q)

theorem g_part (k : Fin 8) (hk : t.val = k.val) : ∑ p : Fin 512, k0_pay6 (F := Ideal) (bH m c t) (bS m c t) (ix2 p q) * k0_pay5 (F := Ideal) (bX m c t) (ix2 p q) = Cert.Rms.tile (termG m c q) k := by
  refine Finset.sum_congr (M := EReal) rfl fun p _ => ?_
  rw [xh_eq m c t p q ⟨k.val * 512 + p.val, by omega⟩ (by rw [hk]), dn_eq m c t p q ⟨k.val * 512 + p.val, by omega⟩ (by rw [hk])]
  rfl

end Entries

section Sums
variable (c : Dev nD) (q : Fin 1024)

theorem lt_of {n : ℕ} (h : n < 8) : n < cfg0.N := lt_of_lt_of_eq h N_0.symm

theorem shift_sum : (outsAt0 m c 7 (lt_of (by decide))).2.1 (ix2 0 q) = ∑ r, termShift m c q r := by
  refine Cert.Rms.total (fun n h => (outsAt0 m c n (lt_of h)).2.1 (ix2 0 q)) _ ?_ fun n h => ?_
  · have e := outsAt0_A m c ⟨0, lt_of (by decide)⟩ rfl
    dsimp only at e ⊢
    rw [e]
    dsimp only
    rw [outA6, pay1_apply, pay8_apply, shift_part m c ⟨0, lt_of (by decide)⟩ q 0 rfl]
  · have e := outsAt0_B m c ⟨n + 1, lt_of h⟩ (by show ¬(n + 1) % 8 = 0; omega)
    dsimp only at e ⊢
    rw [e]
    dsimp only
    rw [outB6, pay1_apply, shift_part m c ⟨n + 1, lt_of h⟩ q ⟨n + 1, h⟩ rfl]
    rfl

theorem scale_sum : (outsAt0 m c 7 (lt_of (by decide))).2.2.1 (ix2 0 q) = ∑ r, termScale m c q r := by
  refine Cert.Rms.total (fun n h => (outsAt0 m c n (lt_of h)).2.2.1 (ix2 0 q)) _ ?_ fun n h => ?_
  · have e := outsAt0_A m c ⟨0, lt_of (by decide)⟩ rfl
    dsimp only at e ⊢
    rw [e]
    dsimp only
    rw [outA7, pay2_apply, pay9_apply, scale_part m c ⟨0, lt_of (by decide)⟩ q 0 rfl]
  · have e := outsAt0_B m c ⟨n + 1, lt_of h⟩ (by show ¬(n + 1) % 8 = 0; omega)
    dsimp only at e ⊢
    rw [e]
    dsimp only
    rw [outB7, pay2_apply, scale_part m c ⟨n + 1, lt_of h⟩ q ⟨n + 1, h⟩ rfl]
    rfl

theorem g_sum : (outsAt0 m c 7 (lt_of (by decide))).2.2.2 (ix2 0 q) = ∑ r, termG m c q r := by
  refine Cert.Rms.total (fun n h => (outsAt0 m c n (lt_of h)).2.2.2 (ix2 0 q)) _ ?_ fun n h => ?_
  · have e := outsAt0_A m c ⟨0, lt_of (by decide)⟩ rfl
    dsimp only at e ⊢
    rw [e]
    dsimp only
    rw [outA8, pay3_apply, pay10_apply, g_part m c ⟨0, lt_of (by decide)⟩ q 0 rfl]
  · have e := outsAt0_B m c ⟨n + 1, lt_of h⟩ (by show ¬(n + 1) % 8 = 0; omega)
    dsimp only at e ⊢
    rw [e]
    dsimp only
    rw [outB8, pay3_apply, g_part m c ⟨n + 1, lt_of h⟩ q ⟨n + 1, h⟩ rfl]
    rfl

end Sums

section Reference
open Cert.NormReferenceIdeal.Read
variable (h x : FVec Ideal S4096x1024 .f32) (g s : FVec Ideal S1x1024 .f32) (d : FVec Ideal S4096x1024 .f32) (r : Fin 4096) (q : Fin 1024)

theorem ref7 : val_main_v7 (F := Ideal) x (ix2 r 0) = Cert.Rms.den fun k => x (ix2 r k) := by
  unfold Cert.Rms.den
  pointwise [val_main_v7, val_main_v6, val_main_v5, val_main_v4, val_main_v3, val_main_v2, val_main_v1, val_main_cst_2, val_main_cst_1, val_main_cst_0]
theorem ref8 : val_main_v8 (F := Ideal) x (ix2 r 0) = Cert.Rms.rho fun k => x (ix2 r k) := by
  unfold Cert.Rms.rho
  rw [← ref7]
  rfl
theorem ref13 : val_main_v13 (F := Ideal) x (ix2 r q) = x (ix2 r q) * Cert.Rms.rho fun k => x (ix2 r k) := by
  rw [← ref8]
  pointwise [val_main_v13, val_main_v12]
theorem ref24 : val_main_v24 (F := Ideal) h (ix2 0 q) = ∑ r : Fin 4096, h (ix2 r q) := by
  pointwise [val_main_v24, val_main_v23, val_main_cst_5]
theorem ref25 : val_main_v25 (F := Ideal) h x g (ix2 r q) = val_main_v13 (F := Ideal) x (ix2 r q) * g (ix2 0 q) * h (ix2 r q) := by
  pointwise [val_main_v25, val_main_v15, val_main_v14, val_main_v22]
theorem ref27 : val_main_v27 (F := Ideal) h x g (ix2 0 q) = ∑ r : Fin 4096, val_main_v25 (F := Ideal) h x g (ix2 r q) := by
  pointwise [val_main_v27, val_main_v26, val_main_cst_6]
theorem ref29 : val_main_v29 (F := Ideal) h s (ix2 r q) = h (ix2 r q) * (Ideal.ofBits .f32 0x3F800000#32 + s (ix2 0 q)) := by
  pointwise [val_main_v29, val_main_v28, val_main_v22, val_main_v17, val_main_v16, val_main_cst_4]
theorem ref32 : val_main_v32 (F := Ideal) h x s (ix2 0 q) = ∑ r : Fin 4096, val_main_v13 (F := Ideal) x (ix2 r q) * val_main_v29 (F := Ideal) h s (ix2 r q) := by
  pointwise [val_main_v32, val_main_v31, val_main_v30, val_main_cst_7]
theorem ref34 : val_main_v34 (F := Ideal) h g s (ix2 r q) = val_main_v29 (F := Ideal) h s (ix2 r q) * g (ix2 0 q) := by
  pointwise [val_main_v34, val_main_v33]
theorem ref37 : val_main_v37 (F := Ideal) h x g s (ix2 r 0) = ∑ k : Fin 1024, x (ix2 r k) * val_main_v34 (F := Ideal) h g s (ix2 r k) := by
  pointwise [val_main_v37, val_main_v36, val_main_v35, val_main_cst_8]
theorem ref45 : val_main_v45 (F := Ideal) h x g s (ix2 r q) = Ideal.div (val_main_v37 (F := Ideal) h x g s (ix2 r 0) * (Ideal.ofBits .f32 0xBF000000#32 * Ideal.div (val_main_v8 (F := Ideal) x (ix2 r 0)) (val_main_v7 (F := Ideal) x (ix2 r 0)))) (Ideal.ofBits .f32 0x44800000#32) := by
  pointwise [val_main_v45, val_main_v44, val_main_v43, val_main_v42, val_main_v41, val_main_v11, val_main_v10, val_main_v9, val_main_cst_10, val_main_cst_9, val_main_cst_3]
  exact Fin.sum_univ_one _
theorem ref49 : val_main_v49 (F := Ideal) h x g s d (ix2 r q) = d (ix2 r q) + val_main_v34 (F := Ideal) h g s (ix2 r q) * val_main_v8 (F := Ideal) x (ix2 r 0) + x (ix2 r q) * val_main_v45 (F := Ideal) h x g s (ix2 r q) + val_main_v45 (F := Ideal) h x g s (ix2 r q) * x (ix2 r q) := by
  pointwise [val_main_v49, val_main_v48, val_main_v47, val_main_v46, val_main_v40, val_main_v39, val_main_v38]

end Reference

section Arrays
open Cert.NormReferenceIdeal.Read
variable (c : Dev nD)

/-- The last tile. -/
def tl : Fin cfg0.N := ⟨7, lt_of (by decide)⟩

/-- The rows' own quotient is the reference's, entry by entry. -/
theorem outX_eq (r : Fin 4096) (q : Fin 1024) : outX m c r q = val_main_v49 (F := Ideal) (aH m c) (aX m c) (aG m c) (aS m c) (aD m c) (ix2 r q) := by
  have hg : ∀ k : Fin 1024, val_main_v34 (F := Ideal) (aH m c) (aG m c) (aS m c) (ix2 r k) = gd m c r k := fun k => by
    rw [ref34, ref29]
    rfl
  rw [ref49, ref45, ref37, ref8, ref7]
  simp only [hg]
  exact Cert.Rms.row _ _ _ (fun k => gd m c r k) (fun k => aX m c (ix2 r k))

theorem arr5 : (dats m 0 c).arrAt 5 cfg0.N = val_main_v49 (F := Ideal) (aH m c) (aX m c) (aG m c) (aS m c) (aD m c) := by
  refine (dats m 0 c).arrAt_eq_of_covers 5 _ (by decide +kernel) fun t hf y => ?_
  blk_simp
  rw [after0_5]
  obtain ⟨p, q, rfl⟩ : ∃ (p : Fin 512) (q : Fin 1024), y = ix2 p q := ⟨y 0, y 1, eq_ix2 y⟩
  have ht : t.val < 8 := lt_of_lt_of_eq t.isLt N_0
  have hr : t.val * 512 + p.val < 4096 := by omega
  refine (rows_eq m c t p q ⟨_, hr⟩ rfl).trans ((outX_eq m c ⟨_, hr⟩ q).trans (congrArg _ ?_))
  have h := idx_5 t
  funext a
  apply Fin.ext
  match a with
  | ⟨0, _⟩ => show t.val * 512 + p.val = win0_5.index t 0 * 512 + 1 * p.val; rw [h]; show _ = t.val * 512 + 1 * p.val; omega
  | ⟨1, _⟩ => show q.val = win0_5.index t 1 * 1024 + 1 * q.val; rw [h]; show _ = 0 * 1024 + 1 * q.val; omega

/-- The shift's gradient. -/
theorem arr6 : (dats m 0 c).arrAt 6 cfg0.N = val_main_v24 (F := Ideal) (aH m c) := by
  refine (dats m 0 c).arrAt_eq_of_after_last 6 tl (by decide +kernel) _ fun y => ?_
  blk_simp
  rw [after0_6]
  obtain ⟨p, q, rfl⟩ : ∃ (p : Fin 1) (q : Fin 1024), y = ix2 p q := ⟨y 0, y 1, eq_ix2 y⟩
  obtain rfl : p = 0 := Subsingleton.elim _ _
  exact (shift_sum m c q).trans (ref24 _ q).symm

/-- The scale's gradient. -/
theorem arr7 : (dats m 0 c).arrAt 7 cfg0.N = val_main_v27 (F := Ideal) (aH m c) (aX m c) (aG m c) := by
  refine (dats m 0 c).arrAt_eq_of_after_last 7 tl (by decide +kernel) _ fun y => ?_
  blk_simp
  rw [after0_7]
  obtain ⟨p, q, rfl⟩ : ∃ (p : Fin 1) (q : Fin 1024), y = ix2 p q := ⟨y 0, y 1, eq_ix2 y⟩
  obtain rfl : p = 0 := Subsingleton.elim _ _
  refine (scale_sum m c q).trans (Eq.trans (Finset.sum_congr (M := EReal) rfl fun r _ => ?_) (ref27 _ _ _ q).symm)
  rw [ref25, ref13]
  exact mul_comm _ _

/-- The weight's gradient. -/
theorem arr8 : (dats m 0 c).arrAt 8 cfg0.N = val_main_v32 (F := Ideal) (aH m c) (aX m c) (aS m c) := by
  refine (dats m 0 c).arrAt_eq_of_after_last 8 tl (by decide +kernel) _ fun y => ?_
  blk_simp
  rw [after0_8]
  obtain ⟨p, q, rfl⟩ : ∃ (p : Fin 1) (q : Fin 1024), y = ix2 p q := ⟨y 0, y 1, eq_ix2 y⟩
  obtain rfl : p = 0 := Subsingleton.elim _ _
  refine (g_sum m c q).trans (Eq.trans (Finset.sum_congr (M := EReal) rfl fun r _ => ?_) (ref32 _ _ _ q).symm)
  rw [ref13, ref29]
  exact mul_comm _ _

end Arrays

end Cert.Norm
-- ==== Proof.Mm.Post.lean ====
/- The gradient of the norm and the gate after the attention, in 8 tiles of 512 rows: what the call's arrays end holding, and the reference's pull-back. -/
module

public import proofs.«01_k».proof.Proof.Gen.PostIdeal.Value
public import proofs.«01_k».proof.Proof.Gen.PostReferenceIdeal.Run
public import proofs.«01_k».proof.Proof.Gen.PostReferenceIdeal.Read
public import proofs.«01_k».proof.Proof.Mm.Rms
public import Idealize.ShloMosaic.Lib.Pointwise
public import Idealize.ShloMosaic.Lib.Tactic
public import Idealize.ShloMosaic.Lib.Pipeline.ValueKit.Basic
public import Idealize.ShloMosaic.Lib.Pipeline.ValueKit.Geometry

@[expose] public section

set_option maxRecDepth 16384

noncomputable section

namespace Cert.Post

open Cert.PostIdeal Cert.PostIdeal.Gen Idealize.ShloMosaic Idealize.ShloMosaic.TcCoe Idealize.ShloMosaic.Tactic Idealize.SL.Sem

theorem hz : (![0, 0] : Fin 2 → Nat) = fun _ => 0 := funext fun a => by fin_cases a <;> rfl

variable (m : (ℓ : Loc nD τ sig) → Buf (Elt Ideal) ℓ)

section Points
variable {F : FTy → Type} [FloatOps F] (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S512x1024 .bf16) (h5 : a5.IsWhole) (a6 : Memref sig .tc .vmem S1x1024 .f32) (h6 : a6.IsWhole) (a7 : Memref sig .tc .vmem S1x1024 .f32) (h7 : a7.IsWhole)
  (x0 x1 : Vec F S512x1024 .f32) (x2 x3 : Vec F S1x1024 .f32) (y5 y6 : Vec F S1x1024 .f32)

/-- The first tile's rows. -/
theorem outA4 (hc0 : cond0_0 i) :
    out0_A_4 c i a1 h1 a2 h2 a3 h3 a4 h4 a5 h5 a6 h6 a7 h7 hc0 x0 x1 x2 x3 = k0_pay6 x1 x0 x2 x3 := by
  unfold out0_A_4
  rw [View.read_writes_eq_canon _ _ _ (cover0_A_4 c i a1 h1 a2 h2 a3 h3 a4 h4 a5 h5 a6 h6 a7 h7 hc0 x0 x1 x2 x3)]
  unfold kernelRun0_A
  dsimp only
  rw [View.canon_unit_zero hz]
  simp only [View.readAt_eq_ld, h1.read_unread, h2.read_unread, h3.read_unread, h4.read_unread, View.ld_unit_zero (S := S512x1024) hz, View.ld_unit_zero (S := S1x1024) hz]

/-- The first tile's sums for the gate. -/
theorem outA5 (hc0 : cond0_0 i) :
    out0_A_5 c i a1 h1 a2 h2 a3 h3 a4 h4 a5 h5 a6 h6 a7 h7 hc0 x0 x1 x2 x3 = k0_pay1 (k0_pay9 k0_pay7) (k0_pay10 x1 x0 x2) := by
  unfold out0_A_5
  rw [View.read_writes_eq_canon _ _ _ (cover0_A_5 c i a1 h1 a2 h2 a3 h3 a4 h4 a5 h5 a6 h6 a7 h7 hc0 x0 x1 x2 x3)]
  unfold kernelRun0_A
  dsimp only
  rw [View.canon_cons_unit_zero hz]
  simp only [kernelRun0_A.sl.r, kernelRun0_A.sl.r_1, kernelRun0_A.sl.r_2, kernelRun0_A.sl.r_3, kernelRun0_A.sl.v33, View.readAt_eq_ld, h1.read_unread, h2.read_unread, h3.read_unread, h4.read_unread, View.ld_unit_zero (S := S512x1024) hz, View.ld_unit_zero (S := S1x1024) hz]
  unfold kernelRun0_A.sl.H5_1
  refine congrArg (fun y => k0_pay1 (k0_pay9 y) (k0_pay10 x1 x0 x2)) ?_
  exact View.readCov_unit_zero a6.view hz _ _

/-- The first tile's sums for the weight. -/
theorem outA6 (hc0 : cond0_0 i) :
    out0_A_6 c i a1 h1 a2 h2 a3 h3 a4 h4 a5 h5 a6 h6 a7 h7 hc0 x0 x1 x2 x3 = k0_pay2 (k0_pay4 x1) (k0_pay5 x0 x3) k0_pay8 := by
  unfold out0_A_6
  rw [View.read_writes_eq_canon _ _ _ (cover0_A_6 c i a1 h1 a2 h2 a3 h3 a4 h4 a5 h5 a6 h6 a7 h7 hc0 x0 x1 x2 x3)]
  unfold kernelRun0_A
  dsimp only
  rw [View.canon_cons_unit_zero hz]
  simp only [kernelRun0_A.sl.r, kernelRun0_A.sl.r_1, kernelRun0_A.sl.r_2, kernelRun0_A.sl.r_3, kernelRun0_A.sl.v42, View.readAt_eq_ld, h1.read_unread, h2.read_unread, h3.read_unread, h4.read_unread, View.ld_unit_zero (S := S512x1024) hz, View.ld_unit_zero (S := S1x1024) hz]
  unfold kernelRun0_A.sl.H6_1
  refine congrArg (fun y => k0_pay2 (k0_pay4 x1) (k0_pay5 x0 x3) y) ?_
  exact View.readCov_unit_zero a7.view hz _ _

/-- A later tile's rows. -/
theorem outB4 (hc0 : ¬cond0_0 i) :
    out0_B_4 c i a1 h1 a2 h2 a3 h3 a4 h4 a5 h5 a6 h6 a7 h7 hc0 x0 x1 x2 x3 y5 y6 = k0_pay6 x1 x0 x2 x3 := by
  unfold out0_B_4
  rw [View.read_writes_eq_canon _ _ _ (cover0_B_4 c i a1 h1 a2 h2 a3 h3 a4 h4 a5 h5 a6 h6 a7 h7 hc0 x0 x1 x2 x3 y5 y6)]
  unfold kernelRun0_B
  dsimp only
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

/-- A later tile's sums for the gate. -/
theorem outB5 (hc0 : ¬cond0_0 i) :
    out0_B_5 c i a1 h1 a2 h2 a3 h3 a4 h4 a5 h5 a6 h6 a7 h7 hc0 x0 x1 x2 x3 y5 y6 = k0_pay1 (k0_pay9 y5) (k0_pay10 x1 x0 x2) := by
  unfold out0_B_5
  rw [View.read_writes_eq_canon _ _ _ (cover0_B_5 c i a1 h1 a2 h2 a3 h3 a4 h4 a5 h5 a6 h6 a7 h7 hc0 x0 x1 x2 x3 y5 y6)]
  unfold kernelRun0_B
  dsimp only
  rw [View.canon_unit_zero hz]
  simp only [kernelRun0_B.sl.r, kernelRun0_B.sl.r_1, kernelRun0_B.sl.r_2, kernelRun0_B.sl.r_3, View.readAt_eq_ld, h1.read_unread, h2.read_unread, h3.read_unread, h4.read_unread, h6.read_unread, h7.read_unread, View.ld_unit_zero (S := S512x1024) hz, View.ld_unit_zero (S := S1x1024) hz]

/-- A later tile's sums for the weight. -/
theorem outB6 (hc0 : ¬cond0_0 i) :
    out0_B_6 c i a1 h1 a2 h2 a3 h3 a4 h4 a5 h5 a6 h6 a7 h7 hc0 x0 x1 x2 x3 y5 y6 = k0_pay2 (k0_pay4 x1) (k0_pay5 x0 x3) y6 := by
  unfold out0_B_6
  rw [View.read_writes_eq_canon _ _ _ (cover0_B_6 c i a1 h1 a2 h2 a3 h3 a4 h4 a5 h5 a6 h6 a7 h7 hc0 x0 x1 x2 x3 y5 y6)]
  unfold kernelRun0_B
  dsimp only
  rw [View.canon_unit_zero hz]
  simp only [kernelRun0_B.sl.r, kernelRun0_B.sl.r_1, kernelRun0_B.sl.r_2, kernelRun0_B.sl.r_3, View.readAt_eq_ld, h1.read_unread, h2.read_unread, h3.read_unread, h4.read_unread, h6.read_unread, h7.read_unread, View.ld_unit_zero (S := S512x1024) hz, View.ld_unit_zero (S := S1x1024) hz]

end Points

section Payloads
variable (x0 x1 : FVec Ideal S512x1024 .f32) (x2 x3 y : FVec Ideal S1x1024 .f32) (p : Fin 512) (q : Fin 1024)

theorem pay3_apply : k0_pay3 (F := Ideal) x1 (ix2 p 0) = Ideal.rsqrt (Ideal.div (∑ k : Fin 1024, x1 (ix2 p k) * x1 (ix2 p k)) (Ideal.ofBits .f32 0x44800000#32) + Ideal.ofBits .f32 0x358637BD#32) := by
  pointwise [k0_pay3]
theorem pay4_apply : k0_pay4 (F := Ideal) x1 (ix2 p q) = x1 (ix2 p q) * k0_pay3 (F := Ideal) x1 (ix2 p 0) := by
  pointwise [k0_pay4]
theorem pay5_apply : k0_pay5 (F := Ideal) x0 x3 (ix2 p q) = x0 (ix2 p q) * x3 (ix2 0 q) := by
  pointwise [k0_pay5]
theorem pay6_apply : k0_pay6 (F := Ideal) x1 x0 x2 x3 (ix2 p q) = k0_pay3 (F := Ideal) x1 (ix2 p 0) * (k0_pay5 (F := Ideal) x0 x3 (ix2 p q) * x2 (ix2 0 q) - k0_pay4 (F := Ideal) x1 (ix2 p q)
    * Ideal.div (∑ k : Fin 1024, k0_pay5 (F := Ideal) x0 x3 (ix2 p k) * x2 (ix2 0 k) * k0_pay4 (F := Ideal) x1 (ix2 p k)) (Ideal.ofBits .f32 0x44800000#32)) := by
  pointwise [k0_pay6]
theorem pay1_apply : k0_pay1 (F := Ideal) (k0_pay9 (F := Ideal) y) (k0_pay10 (F := Ideal) x1 x0 x2) (ix2 0 q) = y (ix2 0 q) + ∑ p : Fin 512, x0 (ix2 p q) * (k0_pay4 (F := Ideal) x1 (ix2 p q) * x2 (ix2 0 q)) := by
  pointwise [k0_pay1, k0_pay9, k0_pay10]
theorem pay2_apply (h d : FVec Ideal S512x1024 .f32) : k0_pay2 (F := Ideal) h d y (ix2 0 q) = y (ix2 0 q) + ∑ p : Fin 512, d (ix2 p q) * h (ix2 p q) := by
  pointwise [k0_pay2]
theorem pay7_apply : k0_pay7 (F := Ideal) (ix2 0 q) = 0 := by
  pointwise [k0_pay7]
theorem pay8_apply : k0_pay8 (F := Ideal) (ix2 0 q) = 0 := by
  pointwise [k0_pay8]
end Payloads

/-- The arrays the call is given. -/
abbrev aD (c : Dev nD) : FVec Ideal S4096x1024 .f32 := m ((c.tc : Thread nD τ).loc main_arg0)
abbrev aU (c : Dev nD) : FVec Ideal S4096x1024 .f32 := m ((c.tc : Thread nD τ).loc main_arg1)
abbrev aG (c : Dev nD) : FVec Ideal S1x1024 .f32 := m ((c.tc : Thread nD τ).loc main_arg2)
abbrev aT (c : Dev nD) : FVec Ideal S1x1024 .f32 := m ((c.tc : Thread nD τ).loc main_arg3)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![t.val, 0] := by decide +kernel

section Blocks
variable (c : Dev nD) (t : Fin cfg0.N) (p : Fin 512) (q : Fin 1024) (r : Fin 4096) (hr : r.val = t.val * 512 + p.val)

/-- A block's rows are the array's rows of the tile; a vector's block is the vector. -/
theorem iblk_0 (hr : r.val = t.val * 512 + p.val) : (iblk m c 0 t : FVec Ideal S512x1024 .f32) (ix2 p q) = aD m c (ix2 r q) := by
  have h := idx_0 t
  unfold iblk
  rw [View.read_apply]
  show V m c main_arg0 _ = m (c.tc.loc main_arg0) _
  unfold V
  congr 1
  funext a
  apply Fin.ext
  match a with
  | ⟨0, _⟩ => show win0_0.index t 0 * 512 + 1 * p.val = r.val; rw [h, hr]; show t.val * 512 + 1 * p.val = _; omega
  | ⟨1, _⟩ => show win0_0.index t 1 * 1024 + 1 * q.val = q.val; rw [h]; show 0 * 1024 + 1 * q.val = _; omega

theorem iblk_1 (hr : r.val = t.val * 512 + p.val) : (iblk m c 1 t : FVec Ideal S512x1024 .f32) (ix2 p q) = aU m c (ix2 r q) := by
  have h := idx_1 t
  unfold iblk
  rw [View.read_apply]
  show V m c main_arg1 _ = m (c.tc.loc main_arg1) _
  unfold V
  congr 1
  funext a
  apply Fin.ext
  match a with
  | ⟨0, _⟩ => show win0_1.index t 0 * 512 + 1 * p.val = r.val; rw [h, hr]; show t.val * 512 + 1 * p.val = _; omega
  | ⟨1, _⟩ => show win0_1.index t 1 * 1024 + 1 * q.val = q.val; rw [h]; show 0 * 1024 + 1 * q.val = _; omega

theorem iblk_2 : (iblk m c 2 t : FVec Ideal S1x1024 .f32) (ix2 0 q) = aG m c (ix2 0 q) := by
  have h := idx_2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [h]; rfl
  | ⟨1, _⟩ => show win0_2.index t 1 * 1024 + 1 * q.val = q.val; rw [h]; show 0 * 1024 + 1 * q.val = _; omega

theorem iblk_3 : (iblk m c 3 t : FVec Ideal S1x1024 .f32) (ix2 0 q) = aT m c (ix2 0 q) := by
  have h := idx_3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = 0; rw [h]; rfl
  | ⟨1, _⟩ => show win0_3.index t 1 * 1024 + 1 * q.val = q.val; rw [h]; show 0 * 1024 + 1 * q.val = _; omega

end Blocks

/-- The blocks a point reads. -/
abbrev bD (c : Dev nD) (t : Fin cfg0.N) : FVec Ideal S512x1024 .f32 := iblk m c 0 t
abbrev bU (c : Dev nD) (t : Fin cfg0.N) : FVec Ideal S512x1024 .f32 := iblk m c 1 t
abbrev bG (c : Dev nD) (t : Fin cfg0.N) : FVec Ideal S1x1024 .f32 := iblk m c 2 t
abbrev bT (c : Dev nD) (t : Fin cfg0.N) : FVec Ideal S1x1024 .f32 := iblk m c 3 t

/-- A row's norm factor, its gradient after the gate, and that after the weight. -/
def rhoOf (c : Dev nD) (r : Fin 4096) : EReal := Cert.Rms.rho fun k => aU m c (ix2 r k)
def dn (c : Dev nD) (r : Fin 4096) (q : Fin 1024) : EReal := aD m c (ix2 r q) * aT m c (ix2 0 q)
def gd (c : Dev nD) (r : Fin 4096) (q : Fin 1024) : EReal := dn m c r q * aG m c (ix2 0 q)

/-- What the arrays' entries end holding. -/
def outU (c : Dev nD) (r : Fin 4096) (q : Fin 1024) : EReal := rhoOf m c r * (gd m c r q - aU m c (ix2 r q) * rhoOf m c r
    * Ideal.div (∑ k : Fin 1024, gd m c r k * (aU m c (ix2 r k) * rhoOf m c r)) (Ideal.ofBits .f32 0x44800000#32))
def termGate (c : Dev nD) (q : Fin 1024) (r : Fin 4096) : EReal := aD m c (ix2 r q) * (aU m c (ix2 r q) * rhoOf m c r * aG m c (ix2 0 q))
def termG (c : Dev nD) (q : Fin 1024) (r : Fin 4096) : EReal := dn m c r q * (aU m c (ix2 r q) * rhoOf m c r)

section Entries
variable (c : Dev nD) (t : Fin cfg0.N) (p : Fin 512) (q : Fin 1024) (r : Fin 4096)

theorem rho_eq (hr : r.val = t.val * 512 + p.val) : k0_pay3 (F := Ideal) (bU m c t) (ix2 p 0) = rhoOf m c r := by
  have h : ∀ k : Fin 1024, bU m c t (ix2 p k) = aU m c (ix2 r k) := fun k => iblk_1 m c t p k r hr
  rw [pay3_apply]
  simp only [h]
  rfl

theorem uh_eq (hr : r.val = t.val * 512 + p.val) : k0_pay4 (F := Ideal) (bU m c t) (ix2 p q) = aU m c (ix2 r q) * rhoOf m c r := by
  rw [pay4_apply, rho_eq m c t p r hr]
  exact congrArg (fun u : EReal => u * rhoOf m c r) (iblk_1 m c t p q r hr)

theorem dn_eq (hr : r.val = t.val * 512 + p.val) : k0_pay5 (F := Ideal) (bD m c t) (bT m c t) (ix2 p q) = dn m c r q := by
  rw [pay5_apply]
  exact congrArg₂ (fun u v : EReal => u * v) (iblk_0 m c t p q r hr) (iblk_3 m c t q)

theorem rows_eq (hr : r.val = t.val * 512 + p.val) : (outsAt0 m c t.val t.isLt).1 (ix2 p q) = outU m c r q := by
  have hN : cfg0.N = 8 := N_0
  have e : (outsAt0 m c t.val t.isLt).1 = k0_pay6 (F := Ideal) (bU m c t) (bD m c t) (bG m c t) (bT m c t) := by
    by_cases h0 : t.val % 8 = 0
    · rw [outsAt0_A m c t h0]
      dsimp only
      rw [outA4]
    · rw [outsAt0_B m c t h0]
      dsimp only
      rw [outB4]
  have hG : ∀ k : Fin 1024, bG m c t (ix2 0 k) = aG m c (ix2 0 k) := fun k => iblk_2 m c t k
  have hx : ∀ k : Fin 1024, k0_pay4 (F := Ideal) (bU m c t) (ix2 p k) = aU m c (ix2 r k) * rhoOf m c r := fun k => uh_eq m c t p k r hr
  have hd : ∀ k : Fin 1024, k0_pay5 (F := Ideal) (bD m c t) (bT m c t) (ix2 p k) = dn m c r k := fun k => dn_eq m c t p k r hr
  rw [e, pay6_apply, rho_eq m c t p r hr]
  simp only [hG, hx, hd]
  rfl

theorem gate_part (k : Fin 8) (hk : t.val = k.val) : ∑ p : Fin 512, bD m c t (ix2 p q) * (k0_pay4 (F := Ideal) (bU m c t) (ix2 p q) * bG m c t (ix2 0 q)) = Cert.Rms.tile (termGate m c q) k := by
  refine Finset.sum_congr (M := EReal) rfl fun p _ => ?_
  rw [uh_eq m c t p q ⟨k.val * 512 + p.val, by omega⟩ (by rw [hk])]
  exact congrArg₂ (fun u v : EReal => u * (aU m c (ix2 _ q) * rhoOf m c _ * v)) (iblk_0 m c t p q ⟨k.val * 512 + p.val, by omega⟩ (by rw [hk])) (iblk_2 m c t q)

theorem g_part (k : Fin 8) (hk : t.val = k.val) : ∑ p : Fin 512, k0_pay5 (F := Ideal) (bD m c t) (bT m c t) (ix2 p q) * k0_pay4 (F := Ideal) (bU m c t) (ix2 p q) = Cert.Rms.tile (termG m c q) k := by
  refine Finset.sum_congr (M := EReal) rfl fun p _ => ?_
  rw [uh_eq m c t p q ⟨k.val * 512 + p.val, by omega⟩ (by rw [hk]), dn_eq m c t p q ⟨k.val * 512 + p.val, by omega⟩ (by rw [hk])]
  rfl

end Entries

section Sums
variable (c : Dev nD) (q : Fin 1024)

theorem lt_of {n : ℕ} (h : n < 8) : n < cfg0.N := lt_of_lt_of_eq h N_0.symm

theorem gate_sum : (outsAt0 m c 7 (lt_of (by decide))).2.1 (ix2 0 q) = ∑ r, termGate m c q r := by
  refine Cert.Rms.total (fun n h => (outsAt0 m c n (lt_of h)).2.1 (ix2 0 q)) _ ?_ fun n h => ?_
  · have e := outsAt0_A m c ⟨0, lt_of (by decide)⟩ rfl
    dsimp only at e ⊢
    rw [e]
    dsimp only
    rw [outA5, pay1_apply, pay7_apply, gate_part m c ⟨0, lt_of (by decide)⟩ q 0 rfl]
  · have e := outsAt0_B m c ⟨n + 1, lt_of h⟩ (by show ¬(n + 1) % 8 = 0; omega)
    dsimp only at e ⊢
    rw [e]
    dsimp only
    rw [outB5, pay1_apply, gate_part m c ⟨n + 1, lt_of h⟩ q ⟨n + 1, h⟩ rfl]
    rfl

theorem g_sum : (outsAt0 m c 7 (lt_of (by decide))).2.2 (ix2 0 q) = ∑ r, termG m c q r := by
  refine Cert.Rms.total (fun n h => (outsAt0 m c n (lt_of h)).2.2 (ix2 0 q)) _ ?_ fun n h => ?_
  · have e := outsAt0_A m c ⟨0, lt_of (by decide)⟩ rfl
    dsimp only at e ⊢
    rw [e]
    dsimp only
    rw [outA6, pay2_apply, pay8_apply, g_part m c ⟨0, lt_of (by decide)⟩ q 0 rfl]
  · have e := outsAt0_B m c ⟨n + 1, lt_of h⟩ (by show ¬(n + 1) % 8 = 0; omega)
    dsimp only at e ⊢
    rw [e]
    dsimp only
    rw [outB6, pay2_apply, g_part m c ⟨n + 1, lt_of h⟩ q ⟨n + 1, h⟩ rfl]
    rfl

end Sums

section Reference
open Cert.PostReferenceIdeal.Read
variable (d u : FVec Ideal S4096x1024 .f32) (g s : FVec Ideal S1x1024 .f32) (r : Fin 4096) (q : Fin 1024)

theorem ref6 : val_main_v6 (F := Ideal) u (ix2 r 0) = Cert.Rms.den fun k => u (ix2 r k) := by
  unfold Cert.Rms.den
  pointwise [val_main_v6, val_main_v5, val_main_v4, val_main_v3, val_main_v2, val_main_v1, val_main_v0, val_main_cst_1, val_main_cst_0, val_main_cst]
theorem ref7 : val_main_v7 (F := Ideal) u (ix2 r 0) = Cert.Rms.rho fun k => u (ix2 r k) := by
  unfold Cert.Rms.rho
  rw [← ref6]
  rfl
theorem ref12 : val_main_v12 (F := Ideal) u (ix2 r q) = u (ix2 r q) * Cert.Rms.rho fun k => u (ix2 r k) := by
  rw [← ref7]
  pointwise [val_main_v12, val_main_v11]
theorem ref18 : val_main_v18 (F := Ideal) d s (ix2 r q) = s (ix2 0 q) * d (ix2 r q) := by
  pointwise [val_main_v18, val_main_v17]
theorem ref19 : val_main_v19 (F := Ideal) d u g (ix2 r q) = d (ix2 r q) * (val_main_v12 (F := Ideal) u (ix2 r q) * g (ix2 0 q)) := by
  pointwise [val_main_v19, val_main_v14, val_main_v13]
theorem ref21 : val_main_v21 (F := Ideal) d u g (ix2 0 q) = ∑ r : Fin 4096, val_main_v19 (F := Ideal) d u g (ix2 r q) := by
  pointwise [val_main_v21, val_main_v20, val_main_cst_3]
theorem ref24 : val_main_v24 (F := Ideal) d u s (ix2 0 q) = ∑ r : Fin 4096, val_main_v12 (F := Ideal) u (ix2 r q) * val_main_v18 (F := Ideal) d s (ix2 r q) := by
  pointwise [val_main_v24, val_main_v23, val_main_v22, val_main_cst_4]
theorem ref26 : val_main_v26 (F := Ideal) d g s (ix2 r q) = val_main_v18 (F := Ideal) d s (ix2 r q) * g (ix2 0 q) := by
  pointwise [val_main_v26, val_main_v25]
theorem ref29 : val_main_v29 (F := Ideal) d u g s (ix2 r 0) = ∑ k : Fin 1024, u (ix2 r k) * val_main_v26 (F := Ideal) d g s (ix2 r k) := by
  pointwise [val_main_v29, val_main_v28, val_main_v27, val_main_cst_5]
theorem ref36 : val_main_v36 (F := Ideal) d u g s (ix2 r q) = Ideal.div (val_main_v29 (F := Ideal) d u g s (ix2 r 0) * (Ideal.ofBits .f32 0xBF000000#32 * Ideal.div (val_main_v7 (F := Ideal) u (ix2 r 0)) (val_main_v6 (F := Ideal) u (ix2 r 0)))) (Ideal.ofBits .f32 0x44800000#32) := by
  pointwise [val_main_v36, val_main_v35, val_main_v34, val_main_v33, val_main_v32, val_main_v10, val_main_v9, val_main_v8, val_main_cst_7, val_main_cst_6, val_main_cst_2]
  exact Fin.sum_univ_one _
theorem ref41 : val_main_v41 (F := Ideal) d u g s (ix2 r q) = val_main_v26 (F := Ideal) d g s (ix2 r q) * val_main_v7 (F := Ideal) u (ix2 r 0) + u (ix2 r q) * val_main_v36 (F := Ideal) d u g s (ix2 r q) + val_main_v36 (F := Ideal) d u g s (ix2 r q) * u (ix2 r q) := by
  pointwise [val_main_v41, val_main_v40, val_main_v39, val_main_v38, val_main_v37, val_main_v31, val_main_v30]

end Reference

section Arrays
open Cert.PostReferenceIdeal.Read
variable (c : Dev nD)

/-- The last tile. -/
def tl : Fin cfg0.N := ⟨7, lt_of (by decide)⟩

/-- The rows' own quotient is the reference's, entry by entry. -/
theorem outU_eq (r : Fin 4096) (q : Fin 1024) : outU m c r q = val_main_v41 (F := Ideal) (aD m c) (aU m c) (aG m c) (aT m c) (ix2 r q) := by
  have hg : ∀ k : Fin 1024, val_main_v26 (F := Ideal) (aD m c) (aG m c) (aT m c) (ix2 r k) = gd m c r k := fun k => by
    rw [ref26, ref18]
    exact congrArg (fun u : EReal => u * aG m c (ix2 0 k)) (mul_comm (aT m c (ix2 0 k) : EReal) (aD m c (ix2 r k)))
  rw [ref41, ref36, ref29, ref7, ref6]
  simp only [hg]
  have h := Cert.Rms.row 0 (gd m c r q) (aU m c (ix2 r q)) (fun k => gd m c r k) (fun k => aU m c (ix2 r k))
  rw [zero_add, zero_add] at h
  exact h

theorem arr4 : (dats m 0 c).arrAt 4 cfg0.N = val_main_v41 (F := Ideal) (aD m c) (aU m c) (aG m c) (aT m c) := by
  refine (dats m 0 c).arrAt_eq_of_covers 4 _ (by decide +kernel) fun t hf y => ?_
  blk_simp
  rw [after0_4]
  obtain ⟨p, q, rfl⟩ : ∃ (p : Fin 512) (q : Fin 1024), y = ix2 p q := ⟨y 0, y 1, eq_ix2 y⟩
  have ht : t.val < 8 := lt_of_lt_of_eq t.isLt N_0
  have hr : t.val * 512 + p.val < 4096 := by omega
  refine (rows_eq m c t p q ⟨_, hr⟩ rfl).trans ((outU_eq m c ⟨_, hr⟩ q).trans (congrArg _ ?_))
  have h := idx_4 t
  funext a
  apply Fin.ext
  match a with
  | ⟨0, _⟩ => show t.val * 512 + p.val = win0_4.index t 0 * 512 + 1 * p.val; rw [h]; show _ = t.val * 512 + 1 * p.val; omega
  | ⟨1, _⟩ => show q.val = win0_4.index t 1 * 1024 + 1 * q.val; rw [h]; show _ = 0 * 1024 + 1 * q.val; omega

/-- The gate's gradient. -/
theorem arr5 : (dats m 0 c).arrAt 5 cfg0.N = val_main_v21 (F := Ideal) (aD m c) (aU m c) (aG m c) := by
  refine (dats m 0 c).arrAt_eq_of_after_last 5 tl (by decide +kernel) _ fun y => ?_
  blk_simp
  rw [after0_5]
  obtain ⟨p, q, rfl⟩ : ∃ (p : Fin 1) (q : Fin 1024), y = ix2 p q := ⟨y 0, y 1, eq_ix2 y⟩
  obtain rfl : p = 0 := Subsingleton.elim _ _
  refine (gate_sum m c q).trans (Eq.trans (Finset.sum_congr (M := EReal) rfl fun r _ => ?_) (ref21 _ _ _ q).symm)
  rw [ref19, ref12]
  rfl

/-- The weight's gradient. -/
theorem arr6 : (dats m 0 c).arrAt 6 cfg0.N = val_main_v24 (F := Ideal) (aD m c) (aU m c) (aT m c) := by
  refine (dats m 0 c).arrAt_eq_of_after_last 6 tl (by decide +kernel) _ fun y => ?_
  blk_simp
  rw [after0_6]
  obtain ⟨p, q, rfl⟩ : ∃ (p : Fin 1) (q : Fin 1024), y = ix2 p q := ⟨y 0, y 1, eq_ix2 y⟩
  obtain rfl : p = 0 := Subsingleton.elim _ _
  refine (g_sum m c q).trans (Eq.trans (Finset.sum_congr (M := EReal) rfl fun r _ => ?_) (ref24 _ _ _ q).symm)
  rw [ref12, ref18, mul_comm (aT m c (ix2 0 q) : EReal)]
  exact mul_comm _ _

end Arrays

end Cert.Post
-- ==== Proof.Mm.Step.lean ====
/- Where an entry of a block lies in its array. -/
module

public import Idealize.ShloMosaic.Lib.Pointwise
public import Idealize.ShloMosaic.Lib.Tactic
public import Idealize.ShloMosaic.Lib.Pipeline.ValueKit

@[expose] public section

namespace Cert.Step

/-- An entry of a block at a place other than the first. -/
theorem at_ {i r : ℕ} (n p : ℕ) (h : i = r) : i * n + 1 * p = r * n + p := by rw [h, one_mul]

/-- An entry of a block at the first place. -/
theorem at0 {i : ℕ} (n p : ℕ) (h : i = 0) : i * n + 1 * p = p := by rw [h, one_mul, zero_mul, zero_add]

/-- An entry of a block one entry thick. -/
theorem at1 {i r : ℕ} (h : i = r) : i * 1 + 1 * 0 = r := by omega

/-- Two sums of products, term by term. -/
theorem sums {f f' g g' : Fin 1024 → EReal} (hf : ∀ k, f k = f' k) (hg : ∀ k, g k = g' k) : ∑ k, f k * g k = ∑ k, f' k * g' k := Finset.sum_congr rfl fun k _ => by rw [hf, hg]

end Cert.Step

end
-- ==== Proof.Mm.Qkv.lean ====
/- The forward product of q, k and v, in one step: the array each layer's call leaves, and the reference's. -/
module

public import proofs.«01_k».proof.Proof.Mm.Step
public import proofs.«01_k».proof.Proof.Gen.Qkv0Ideal.Value
public import proofs.«01_k».proof.Proof.Gen.Qkv0ReferenceIdeal.Read
public import proofs.«01_k».proof.Proof.Gen.Qkv1Ideal.Value
public import proofs.«01_k».proof.Proof.Gen.Qkv1ReferenceIdeal.Read
public import proofs.«01_k».proof.Proof.Gen.Qkv2Ideal.Value
public import proofs.«01_k».proof.Proof.Gen.Qkv2ReferenceIdeal.Read
public import proofs.«01_k».proof.Proof.Gen.Qkv3Ideal.Value
public import proofs.«01_k».proof.Proof.Gen.Qkv3ReferenceIdeal.Read

@[expose] public section

set_option maxRecDepth 16384

noncomputable section

open Idealize.ShloMosaic Idealize.ShloMosaic.TcCoe Idealize.ShloMosaic.Tactic Idealize.SL.Sem

/-! ### Layer 0 -/

namespace Cert.Qkv0

open Cert.Qkv0Ideal Cert.Qkv0Ideal.Gen Cert.Qkv0ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix3 0 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x3072 .bf16 := m ((c.tc : Thread nD τ).loc main_arg1)

/-- The reference's entry. -/
theorem ref (x : FVec Ideal S4096x1024 .bf16) (y : FVec Ideal S4x1024x3072 .bf16) (e : Fin 3) (r : Fin 4096) (q : Fin 1024) (j : Fin 3072) (hj : j.val = e.val * 1024 + q.val) :
    val_main_v7 (F := Ideal) x y (ix3 e r q) = ∑ k : Fin 1024, x (ix2 r k) * y (ix3 0 k j) := by
  have hi : idx_main_v6 (idx_main_v7 (ix3 e r q)) = ix2 r j := by
    funext a
    apply Fin.ext
    match a with
    | ⟨0, _⟩ => show ((r.val * 3 + e.val) * 1024 + q.val) / 3072 = r.val; omega
    | ⟨1, _⟩ => show ((r.val * 3 + e.val) * 1024 + q.val) % 3072 = j.val; omega
  rw [val_main_v7_apply, val_main_v6_apply, hi]
  pointwise [val_main_v5, val_main_v4, val_main_v0, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 3, 0]) t)
  have h1 := congrFun ((by decide +kernel : ∀ t : Fin cfg0.N, win0_1.index t = ![0, 0, t.val % 3]) t)
  have h2 := congrFun ((by decide +kernel : ∀ t : Fin cfg0.N, win0_2.index t = ![t.val % 3, t.val / 3, 0]) t)
  have ht : t.val < 6 := lt_of_lt_of_eq t.isLt N_0
  blk_simp
  rw [after0_2]
  unfold outsAt0
  frame_out
  obtain ⟨o, p, q, rfl⟩ : ∃ (o : Fin 1) (p : Fin 2048) (q : Fin 1024), y = ix3 o p q := ⟨y 0, y 1, y 2, eq_ix3 y⟩
  obtain rfl : o = 0 := Subsingleton.elim _ _
  have hr : t.val / 3 * 2048 + p.val < 4096 := by omega
  have hj : t.val % 3 * 1024 + q.val < 3072 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 k q) = aY m c (ix3 0 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨t.val % 3, by omega⟩ ⟨_, hr⟩ q ⟨_, hj⟩ rfl).symm.trans (congrArg _ (funext fun a => Fin.ext ?_))
  match a with
  | ⟨0, _⟩ => exact (Step.at1 (h2 0)).symm
  | ⟨1, _⟩ => exact (Step.at_ 2048 p.val (h2 1)).symm
  | ⟨2, _⟩ => exact (Step.at0 1024 q.val (h2 2)).symm

end Cert.Qkv0

/-! ### Layer 1 -/

namespace Cert.Qkv1

open Cert.Qkv1Ideal Cert.Qkv1Ideal.Gen Cert.Qkv1ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix3 0 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x3072 .bf16 := m ((c.tc : Thread nD τ).loc main_arg1)

/-- The reference's entry. -/
theorem ref (x : FVec Ideal S4096x1024 .bf16) (y : FVec Ideal S4x1024x3072 .bf16) (e : Fin 3) (r : Fin 4096) (q : Fin 1024) (j : Fin 3072) (hj : j.val = e.val * 1024 + q.val) :
    val_main_v7 (F := Ideal) x y (ix3 e r q) = ∑ k : Fin 1024, x (ix2 r k) * y (ix3 1 k j) := by
  have hi : idx_main_v6 (idx_main_v7 (ix3 e r q)) = ix2 r j := by
    funext a
    apply Fin.ext
    match a with
    | ⟨0, _⟩ => show ((r.val * 3 + e.val) * 1024 + q.val) / 3072 = r.val; omega
    | ⟨1, _⟩ => show ((r.val * 3 + e.val) * 1024 + q.val) % 3072 = j.val; omega
  rw [val_main_v7_apply, val_main_v6_apply, hi]
  pointwise [val_main_v5, val_main_v4, val_main_v0, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 3, 0]) t)
  have h1 := congrFun ((by decide +kernel : ∀ t : Fin cfg0.N, win0_1.index t = ![1, 0, t.val % 3]) t)
  have h2 := congrFun ((by decide +kernel : ∀ t : Fin cfg0.N, win0_2.index t = ![t.val % 3, t.val / 3, 0]) t)
  have ht : t.val < 6 := lt_of_lt_of_eq t.isLt N_0
  blk_simp
  rw [after0_2]
  unfold outsAt0
  frame_out
  obtain ⟨o, p, q, rfl⟩ : ∃ (o : Fin 1) (p : Fin 2048) (q : Fin 1024), y = ix3 o p q := ⟨y 0, y 1, y 2, eq_ix3 y⟩
  obtain rfl : o = 0 := Subsingleton.elim _ _
  have hr : t.val / 3 * 2048 + p.val < 4096 := by omega
  have hj : t.val % 3 * 1024 + q.val < 3072 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 k q) = aY m c (ix3 1 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨t.val % 3, by omega⟩ ⟨_, hr⟩ q ⟨_, hj⟩ rfl).symm.trans (congrArg _ (funext fun a => Fin.ext ?_))
  match a with
  | ⟨0, _⟩ => exact (Step.at1 (h2 0)).symm
  | ⟨1, _⟩ => exact (Step.at_ 2048 p.val (h2 1)).symm
  | ⟨2, _⟩ => exact (Step.at0 1024 q.val (h2 2)).symm

end Cert.Qkv1

/-! ### Layer 2 -/

namespace Cert.Qkv2

open Cert.Qkv2Ideal Cert.Qkv2Ideal.Gen Cert.Qkv2ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix3 0 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x3072 .bf16 := m ((c.tc : Thread nD τ).loc main_arg1)

/-- The reference's entry. -/
theorem ref (x : FVec Ideal S4096x1024 .bf16) (y : FVec Ideal S4x1024x3072 .bf16) (e : Fin 3) (r : Fin 4096) (q : Fin 1024) (j : Fin 3072) (hj : j.val = e.val * 1024 + q.val) :
    val_main_v7 (F := Ideal) x y (ix3 e r q) = ∑ k : Fin 1024, x (ix2 r k) * y (ix3 2 k j) := by
  have hi : idx_main_v6 (idx_main_v7 (ix3 e r q)) = ix2 r j := by
    funext a
    apply Fin.ext
    match a with
    | ⟨0, _⟩ => show ((r.val * 3 + e.val) * 1024 + q.val) / 3072 = r.val; omega
    | ⟨1, _⟩ => show ((r.val * 3 + e.val) * 1024 + q.val) % 3072 = j.val; omega
  rw [val_main_v7_apply, val_main_v6_apply, hi]
  pointwise [val_main_v5, val_main_v4, val_main_v0, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 3, 0]) t)
  have h1 := congrFun ((by decide +kernel : ∀ t : Fin cfg0.N, win0_1.index t = ![2, 0, t.val % 3]) t)
  have h2 := congrFun ((by decide +kernel : ∀ t : Fin cfg0.N, win0_2.index t = ![t.val % 3, t.val / 3, 0]) t)
  have ht : t.val < 6 := lt_of_lt_of_eq t.isLt N_0
  blk_simp
  rw [after0_2]
  unfold outsAt0
  frame_out
  obtain ⟨o, p, q, rfl⟩ : ∃ (o : Fin 1) (p : Fin 2048) (q : Fin 1024), y = ix3 o p q := ⟨y 0, y 1, y 2, eq_ix3 y⟩
  obtain rfl : o = 0 := Subsingleton.elim _ _
  have hr : t.val / 3 * 2048 + p.val < 4096 := by omega
  have hj : t.val % 3 * 1024 + q.val < 3072 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 k q) = aY m c (ix3 2 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨t.val % 3, by omega⟩ ⟨_, hr⟩ q ⟨_, hj⟩ rfl).symm.trans (congrArg _ (funext fun a => Fin.ext ?_))
  match a with
  | ⟨0, _⟩ => exact (Step.at1 (h2 0)).symm
  | ⟨1, _⟩ => exact (Step.at_ 2048 p.val (h2 1)).symm
  | ⟨2, _⟩ => exact (Step.at0 1024 q.val (h2 2)).symm

end Cert.Qkv2

/-! ### Layer 3 -/

namespace Cert.Qkv3

open Cert.Qkv3Ideal Cert.Qkv3Ideal.Gen Cert.Qkv3ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix3 0 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x3072 .bf16 := m ((c.tc : Thread nD τ).loc main_arg1)

/-- The reference's entry. -/
theorem ref (x : FVec Ideal S4096x1024 .bf16) (y : FVec Ideal S4x1024x3072 .bf16) (e : Fin 3) (r : Fin 4096) (q : Fin 1024) (j : Fin 3072) (hj : j.val = e.val * 1024 + q.val) :
    val_main_v7 (F := Ideal) x y (ix3 e r q) = ∑ k : Fin 1024, x (ix2 r k) * y (ix3 3 k j) := by
  have hi : idx_main_v6 (idx_main_v7 (ix3 e r q)) = ix2 r j := by
    funext a
    apply Fin.ext
    match a with
    | ⟨0, _⟩ => show ((r.val * 3 + e.val) * 1024 + q.val) / 3072 = r.val; omega
    | ⟨1, _⟩ => show ((r.val * 3 + e.val) * 1024 + q.val) % 3072 = j.val; omega
  rw [val_main_v7_apply, val_main_v6_apply, hi]
  pointwise [val_main_v5, val_main_v4, val_main_v0, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 3, 0]) t)
  have h1 := congrFun ((by decide +kernel : ∀ t : Fin cfg0.N, win0_1.index t = ![3, 0, t.val % 3]) t)
  have h2 := congrFun ((by decide +kernel : ∀ t : Fin cfg0.N, win0_2.index t = ![t.val % 3, t.val / 3, 0]) t)
  have ht : t.val < 6 := lt_of_lt_of_eq t.isLt N_0
  blk_simp
  rw [after0_2]
  unfold outsAt0
  frame_out
  obtain ⟨o, p, q, rfl⟩ : ∃ (o : Fin 1) (p : Fin 2048) (q : Fin 1024), y = ix3 o p q := ⟨y 0, y 1, y 2, eq_ix3 y⟩
  obtain rfl : o = 0 := Subsingleton.elim _ _
  have hr : t.val / 3 * 2048 + p.val < 4096 := by omega
  have hj : t.val % 3 * 1024 + q.val < 3072 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 k q) = aY m c (ix3 3 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨t.val % 3, by omega⟩ ⟨_, hr⟩ q ⟨_, hj⟩ rfl).symm.trans (congrArg _ (funext fun a => Fin.ext ?_))
  match a with
  | ⟨0, _⟩ => exact (Step.at1 (h2 0)).symm
  | ⟨1, _⟩ => exact (Step.at_ 2048 p.val (h2 1)).symm
  | ⟨2, _⟩ => exact (Step.at0 1024 q.val (h2 2)).symm

end Cert.Qkv3

end
-- ==== Proof.Mm.Attn.lean ====
/- The forward product after the attention, in one step: the array each layer's call leaves, and the reference's. -/
module

public import proofs.«01_k».proof.Proof.Mm.Step
public import proofs.«01_k».proof.Proof.Gen.Attn0Ideal.Value
public import proofs.«01_k».proof.Proof.Gen.Attn0ReferenceIdeal.Read
public import proofs.«01_k».proof.Proof.Gen.Attn1Ideal.Value
public import proofs.«01_k».proof.Proof.Gen.Attn1ReferenceIdeal.Read
public import proofs.«01_k».proof.Proof.Gen.Attn2Ideal.Value
public import proofs.«01_k».proof.Proof.Gen.Attn2ReferenceIdeal.Read
public import proofs.«01_k».proof.Proof.Gen.Attn3Ideal.Value
public import proofs.«01_k».proof.Proof.Gen.Attn3ReferenceIdeal.Read

@[expose] public section

set_option maxRecDepth 16384

noncomputable section

open Idealize.ShloMosaic Idealize.ShloMosaic.TcCoe Idealize.ShloMosaic.Tactic Idealize.SL.Sem

/-! ### Layer 0 -/

namespace Cert.Attn0

open Cert.Attn0Ideal Cert.Attn0Ideal.Gen Cert.Attn0ReferenceIdeal.Read

variable (m : (ℓ : Loc nD τ sig) → Buf (Elt Ideal) ℓ) (c : Dev nD)

/-- What a point writes: a product. -/
theorem pay (x : FVec Ideal S1024x1024 .bf16) (y : FVec Ideal S1x1024x1024 .bf16) (p : Fin 1024) (q : Fin 1024) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v4 (F := Ideal) x y (ix2 r j) = ∑ k : Fin 1024, x (ix2 r k) * y (ix3 0 k j) := by
  pointwise [val_main_v4, val_main_v0, val_main_v3, val_main_v2, val_main_v1]

/-- The two arrays agree. -/
theorem equal : (dats m 0 c).arrAt 2 cfg0.N = val_main_v4 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![0, 0, t.val % 1]) t)
  have h2 := congrFun ((by decide +kernel : ∀ t : Fin cfg0.N, win0_2.index t = ![t.val / 1, t.val % 1]) t)
  have ht : t.val < 4 := lt_of_lt_of_eq t.isLt N_0
  blk_simp
  rw [after0_2]
  unfold outsAt0
  frame_out
  obtain ⟨p, q, rfl⟩ : ∃ (p : Fin 1024) (q : Fin 1024), y = ix2 p q := ⟨y 0, y 1, eq_ix2 y⟩
  have hr : t.val / 1 * 1024 + p.val < 4096 := by omega
  have hj : t.val % 1 * 1024 + q.val < 1024 := by omega
  have hb : ∀ k : Fin 1024, (iblk m c 0 t : FVec Ideal S1024x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 1024 p.val (h0 0)
    | ⟨1, _⟩ => exact Step.at0 1024 k.val (h0 1)
  have hw : ∀ k : Fin 1024, (iblk m c 1 t : FVec Ideal S1x1024x1024 .bf16) (ix3 0 k q) = aY m c (ix3 0 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 1024 p.val (h2 0)).symm
  | ⟨1, _⟩ => exact (Step.at_ 1024 q.val (h2 1)).symm

end Cert.Attn0

/-! ### Layer 1 -/

namespace Cert.Attn1

open Cert.Attn1Ideal Cert.Attn1Ideal.Gen Cert.Attn1ReferenceIdeal.Read

variable (m : (ℓ : Loc nD τ sig) → Buf (Elt Ideal) ℓ) (c : Dev nD)

/-- What a point writes: a product. -/
theorem pay (x : FVec Ideal S1024x1024 .bf16) (y : FVec Ideal S1x1024x1024 .bf16) (p : Fin 1024) (q : Fin 1024) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v4 (F := Ideal) x y (ix2 r j) = ∑ k : Fin 1024, x (ix2 r k) * y (ix3 1 k j) := by
  pointwise [val_main_v4, val_main_v0, val_main_v3, val_main_v2, val_main_v1]

/-- The two arrays agree. -/
theorem equal : (dats m 0 c).arrAt 2 cfg0.N = val_main_v4 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![1, 0, t.val % 1]) t)
  have h2 := congrFun ((by decide +kernel : ∀ t : Fin cfg0.N, win0_2.index t = ![t.val / 1, t.val % 1]) t)
  have ht : t.val < 4 := lt_of_lt_of_eq t.isLt N_0
  blk_simp
  rw [after0_2]
  unfold outsAt0
  frame_out
  obtain ⟨p, q, rfl⟩ : ∃ (p : Fin 1024) (q : Fin 1024), y = ix2 p q := ⟨y 0, y 1, eq_ix2 y⟩
  have hr : t.val / 1 * 1024 + p.val < 4096 := by omega
  have hj : t.val % 1 * 1024 + q.val < 1024 := by omega
  have hb : ∀ k : Fin 1024, (iblk m c 0 t : FVec Ideal S1024x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 1024 p.val (h0 0)
    | ⟨1, _⟩ => exact Step.at0 1024 k.val (h0 1)
  have hw : ∀ k : Fin 1024, (iblk m c 1 t : FVec Ideal S1x1024x1024 .bf16) (ix3 0 k q) = aY m c (ix3 1 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 1024 p.val (h2 0)).symm
  | ⟨1, _⟩ => exact (Step.at_ 1024 q.val (h2 1)).symm

end Cert.Attn1

/-! ### Layer 2 -/

namespace Cert.Attn2

open Cert.Attn2Ideal Cert.Attn2Ideal.Gen Cert.Attn2ReferenceIdeal.Read

variable (m : (ℓ : Loc nD τ sig) → Buf (Elt Ideal) ℓ) (c : Dev nD)

/-- What a point writes: a product. -/
theorem pay (x : FVec Ideal S1024x1024 .bf16) (y : FVec Ideal S1x1024x1024 .bf16) (p : Fin 1024) (q : Fin 1024) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v4 (F := Ideal) x y (ix2 r j) = ∑ k : Fin 1024, x (ix2 r k) * y (ix3 2 k j) := by
  pointwise [val_main_v4, val_main_v0, val_main_v3, val_main_v2, val_main_v1]

/-- The two arrays agree. -/
theorem equal : (dats m 0 c).arrAt 2 cfg0.N = val_main_v4 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![2, 0, t.val % 1]) t)
  have h2 := congrFun ((by decide +kernel : ∀ t : Fin cfg0.N, win0_2.index t = ![t.val / 1, t.val % 1]) t)
  have ht : t.val < 4 := lt_of_lt_of_eq t.isLt N_0
  blk_simp
  rw [after0_2]
  unfold outsAt0
  frame_out
  obtain ⟨p, q, rfl⟩ : ∃ (p : Fin 1024) (q : Fin 1024), y = ix2 p q := ⟨y 0, y 1, eq_ix2 y⟩
  have hr : t.val / 1 * 1024 + p.val < 4096 := by omega
  have hj : t.val % 1 * 1024 + q.val < 1024 := by omega
  have hb : ∀ k : Fin 1024, (iblk m c 0 t : FVec Ideal S1024x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 1024 p.val (h0 0)
    | ⟨1, _⟩ => exact Step.at0 1024 k.val (h0 1)
  have hw : ∀ k : Fin 1024, (iblk m c 1 t : FVec Ideal S1x1024x1024 .bf16) (ix3 0 k q) = aY m c (ix3 2 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 1024 p.val (h2 0)).symm
  | ⟨1, _⟩ => exact (Step.at_ 1024 q.val (h2 1)).symm

end Cert.Attn2

/-! ### Layer 3 -/

namespace Cert.Attn3

open Cert.Attn3Ideal Cert.Attn3Ideal.Gen Cert.Attn3ReferenceIdeal.Read

variable (m : (ℓ : Loc nD τ sig) → Buf (Elt Ideal) ℓ) (c : Dev nD)

/-- What a point writes: a product. -/
theorem pay (x : FVec Ideal S1024x1024 .bf16) (y : FVec Ideal S1x1024x1024 .bf16) (p : Fin 1024) (q : Fin 1024) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v4 (F := Ideal) x y (ix2 r j) = ∑ k : Fin 1024, x (ix2 r k) * y (ix3 3 k j) := by
  pointwise [val_main_v4, val_main_v0, val_main_v3, val_main_v2, val_main_v1]

/-- The two arrays agree. -/
theorem equal : (dats m 0 c).arrAt 2 cfg0.N = val_main_v4 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![3, 0, t.val % 1]) t)
  have h2 := congrFun ((by decide +kernel : ∀ t : Fin cfg0.N, win0_2.index t = ![t.val / 1, t.val % 1]) t)
  have ht : t.val < 4 := lt_of_lt_of_eq t.isLt N_0
  blk_simp
  rw [after0_2]
  unfold outsAt0
  frame_out
  obtain ⟨p, q, rfl⟩ : ∃ (p : Fin 1024) (q : Fin 1024), y = ix2 p q := ⟨y 0, y 1, eq_ix2 y⟩
  have hr : t.val / 1 * 1024 + p.val < 4096 := by omega
  have hj : t.val % 1 * 1024 + q.val < 1024 := by omega
  have hb : ∀ k : Fin 1024, (iblk m c 0 t : FVec Ideal S1024x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 1024 p.val (h0 0)
    | ⟨1, _⟩ => exact Step.at0 1024 k.val (h0 1)
  have hw : ∀ k : Fin 1024, (iblk m c 1 t : FVec Ideal S1x1024x1024 .bf16) (ix3 0 k q) = aY m c (ix3 3 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 1024 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 1024 p.val (h2 0)).symm
  | ⟨1, _⟩ => exact (Step.at_ 1024 q.val (h2 1)).symm

end Cert.Attn3

end
-- ==== Proof.Mm.Ffn.lean ====
/- The forward product of the gate and of the up projection, in one step: the array each layer's call leaves, and the reference's. -/
module

public import proofs.«01_k».proof.Proof.Mm.Step
public import proofs.«01_k».proof.Proof.Gen.Ffn0Ideal.Value
public import proofs.«01_k».proof.Proof.Gen.Ffn0ReferenceIdeal.Read
public import proofs.«01_k».proof.Proof.Gen.Ffn1Ideal.Value
public import proofs.«01_k».proof.Proof.Gen.Ffn1ReferenceIdeal.Read
public import proofs.«01_k».proof.Proof.Gen.Ffn2Ideal.Value
public import proofs.«01_k».proof.Proof.Gen.Ffn2ReferenceIdeal.Read
public import proofs.«01_k».proof.Proof.Gen.Ffn3Ideal.Value
public import proofs.«01_k».proof.Proof.Gen.Ffn3ReferenceIdeal.Read

@[expose] public section

set_option maxRecDepth 16384

noncomputable section

open Idealize.ShloMosaic Idealize.ShloMosaic.TcCoe Idealize.ShloMosaic.Tactic Idealize.SL.Sem

/-! ### Layer 0 -/

namespace Cert.Ffn0

open Cert.Ffn0Ideal Cert.Ffn0Ideal.Gen Cert.Ffn0ReferenceIdeal.Read

variable (m : (ℓ : Loc nD τ sig) → Buf (Elt Ideal) ℓ) (c : Dev nD)

/-- What a point writes: a product. -/
theorem pay (x : FVec Ideal S2048x1024 .bf16) (y : FVec Ideal S1x1024x256 .bf16) (p : Fin 2048) (q : Fin 256) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x2816 .bf16 := m ((c.tc : Thread nD τ).loc main_arg1)

/-- The reference's entry. -/
theorem ref (x : FVec Ideal S4096x1024 .bf16) (y : FVec Ideal S4x1024x2816 .bf16) (r : Fin 4096) (j : Fin 2816) :
    val_main_v5 (F := Ideal) x y (ix2 r j) = ∑ k : Fin 1024, x (ix2 r k) * y (ix3 0 k j) := by
  pointwise [val_main_v5, val_main_v4, val_main_v0, val_main_v3, val_main_v2, val_main_v1]

/-- The two arrays agree. -/
theorem equal : (dats m 0 c).arrAt 2 cfg0.N = val_main_v5 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![0, 0, t.val % 11]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x256 .bf16) (ix3 0 k q) = aY m c (ix3 0 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 256 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Ffn0

/-! ### Layer 1 -/

namespace Cert.Ffn1

open Cert.Ffn1Ideal Cert.Ffn1Ideal.Gen Cert.Ffn1ReferenceIdeal.Read

variable (m : (ℓ : Loc nD τ sig) → Buf (Elt Ideal) ℓ) (c : Dev nD)

/-- What a point writes: a product. -/
theorem pay (x : FVec Ideal S2048x1024 .bf16) (y : FVec Ideal S1x1024x256 .bf16) (p : Fin 2048) (q : Fin 256) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x2816 .bf16 := m ((c.tc : Thread nD τ).loc main_arg1)

/-- The reference's entry. -/
theorem ref (x : FVec Ideal S4096x1024 .bf16) (y : FVec Ideal S4x1024x2816 .bf16) (r : Fin 4096) (j : Fin 2816) :
    val_main_v5 (F := Ideal) x y (ix2 r j) = ∑ k : Fin 1024, x (ix2 r k) * y (ix3 1 k j) := by
  pointwise [val_main_v5, val_main_v4, val_main_v0, val_main_v3, val_main_v2, val_main_v1]

/-- The two arrays agree. -/
theorem equal : (dats m 0 c).arrAt 2 cfg0.N = val_main_v5 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![1, 0, t.val % 11]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x256 .bf16) (ix3 0 k q) = aY m c (ix3 1 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 256 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Ffn1

/-! ### Layer 2 -/

namespace Cert.Ffn2

open Cert.Ffn2Ideal Cert.Ffn2Ideal.Gen Cert.Ffn2ReferenceIdeal.Read

variable (m : (ℓ : Loc nD τ sig) → Buf (Elt Ideal) ℓ) (c : Dev nD)

/-- What a point writes: a product. -/
theorem pay (x : FVec Ideal S2048x1024 .bf16) (y : FVec Ideal S1x1024x256 .bf16) (p : Fin 2048) (q : Fin 256) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x2816 .bf16 := m ((c.tc : Thread nD τ).loc main_arg1)

/-- The reference's entry. -/
theorem ref (x : FVec Ideal S4096x1024 .bf16) (y : FVec Ideal S4x1024x2816 .bf16) (r : Fin 4096) (j : Fin 2816) :
    val_main_v5 (F := Ideal) x y (ix2 r j) = ∑ k : Fin 1024, x (ix2 r k) * y (ix3 2 k j) := by
  pointwise [val_main_v5, val_main_v4, val_main_v0, val_main_v3, val_main_v2, val_main_v1]

/-- The two arrays agree. -/
theorem equal : (dats m 0 c).arrAt 2 cfg0.N = val_main_v5 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![2, 0, t.val % 11]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x256 .bf16) (ix3 0 k q) = aY m c (ix3 2 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 256 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Ffn2

/-! ### Layer 3 -/

namespace Cert.Ffn3

open Cert.Ffn3Ideal Cert.Ffn3Ideal.Gen Cert.Ffn3ReferenceIdeal.Read

variable (m : (ℓ : Loc nD τ sig) → Buf (Elt Ideal) ℓ) (c : Dev nD)

/-- What a point writes: a product. -/
theorem pay (x : FVec Ideal S2048x1024 .bf16) (y : FVec Ideal S1x1024x256 .bf16) (p : Fin 2048) (q : Fin 256) : k0_pay1 (F := Ideal) x y (ix2 p q) = ∑ k : Fin 1024, x (ix2 p k) * y (ix3 0 k q) := by
  pointwise [k0_pay1]

/-- The call's two arrays. -/
abbrev aX : FVec Ideal S4096x1024 .bf16 := m ((c.tc : Thread nD τ).loc main_arg0)
abbrev aY : FVec Ideal S4x1024x2816 .bf16 := m ((c.tc : Thread nD τ).loc main_arg1)

/-- The reference's entry. -/
theorem ref (x : FVec Ideal S4096x1024 .bf16) (y : FVec Ideal S4x1024x2816 .bf16) (r : Fin 4096) (j : Fin 2816) :
    val_main_v5 (F := Ideal) x y (ix2 r j) = ∑ k : Fin 1024, x (ix2 r k) * y (ix3 3 k j) := by
  pointwise [val_main_v5, val_main_v4, val_main_v0, val_main_v3, val_main_v2, val_main_v1]

/-- The two arrays agree. -/
theorem equal : (dats m 0 c).arrAt 2 cfg0.N = val_main_v5 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![3, 0, t.val % 11]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x256 .bf16) (ix3 0 k q) = aY m c (ix3 3 k ⟨_, hj⟩) := fun k => by
    unfold iblk
    rw [View.read_apply]
    refine congrArg (aY m c) (funext fun a => Fin.ext ?_)
    match a with
    | ⟨0, _⟩ => exact Step.at1 (h1 0)
    | ⟨1, _⟩ => exact Step.at0 1024 k.val (h1 1)
    | ⟨2, _⟩ => exact Step.at_ 256 q.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Ffn3

end
-- ==== Proof.Mm.Dout.lean ====
/- The gradient of the attention's rows through the output projection, in one step: the array each layer's call leaves, and the reference's. -/
module

public import proofs.«01_k».proof.Proof.Mm.Step
public import proofs.«01_k».proof.Proof.Gen.Dout0Ideal.Value
public import proofs.«01_k».proof.Proof.Gen.Dout0ReferenceIdeal.Read
public import proofs.«01_k».proof.Proof.Gen.Dout1Ideal.Value
public import proofs.«01_k».proof.Proof.Gen.Dout1ReferenceIdeal.Read
public import proofs.«01_k».proof.Proof.Gen.Dout2Ideal.Value
public import proofs.«01_k».proof.Proof.Gen.Dout2ReferenceIdeal.Read
public import proofs.«01_k».proof.Proof.Gen.Dout3Ideal.Value
public import proofs.«01_k».proof.Proof.Gen.Dout3ReferenceIdeal.Read

@[expose] public section

set_option maxRecDepth 16384

noncomputable section

open Idealize.ShloMosaic Idealize.ShloMosaic.TcCoe Idealize.ShloMosaic.Tactic Idealize.SL.Sem

/-! ### Layer 0 -/

namespace Cert.Dout0

open Cert.Dout0Ideal Cert.Dout0Ideal.Gen Cert.Dout0ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v7 (F := Ideal) x y (ix2 r j) = ∑ k : Fin 1024, x (ix2 r k) * y (ix3 0 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![0, t.val % 1, 0]) t)
  have h2 := congrFun ((by decide +kernel : ∀ t : Fin cfg0.N, win0_2.index t = ![t.val / 1, t.val % 1]) t)
  have ht : t.val < 2 := lt_of_lt_of_eq t.isLt N_0
  blk_simp
  rw [after0_2]
  unfold outsAt0
  frame_out
  obtain ⟨p, q, rfl⟩ : ∃ (p : Fin 2048) (q : Fin 1024), y = ix2 p q := ⟨y 0, y 1, eq_ix2 y⟩
  have hr : t.val / 1 * 2048 + p.val < 4096 := by omega
  have hj : t.val % 1 * 1024 + q.val < 1024 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 q k) = aY m c (ix3 0 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 1024 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 1024 q.val (h2 1)).symm

end Cert.Dout0

/-! ### Layer 1 -/

namespace Cert.Dout1

open Cert.Dout1Ideal Cert.Dout1Ideal.Gen Cert.Dout1ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v7 (F := Ideal) x y (ix2 r j) = ∑ k : Fin 1024, x (ix2 r k) * y (ix3 1 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![1, t.val % 1, 0]) t)
  have h2 := congrFun ((by decide +kernel : ∀ t : Fin cfg0.N, win0_2.index t = ![t.val / 1, t.val % 1]) t)
  have ht : t.val < 2 := lt_of_lt_of_eq t.isLt N_0
  blk_simp
  rw [after0_2]
  unfold outsAt0
  frame_out
  obtain ⟨p, q, rfl⟩ : ∃ (p : Fin 2048) (q : Fin 1024), y = ix2 p q := ⟨y 0, y 1, eq_ix2 y⟩
  have hr : t.val / 1 * 2048 + p.val < 4096 := by omega
  have hj : t.val % 1 * 1024 + q.val < 1024 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 q k) = aY m c (ix3 1 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 1024 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 1024 q.val (h2 1)).symm

end Cert.Dout1

/-! ### Layer 2 -/

namespace Cert.Dout2

open Cert.Dout2Ideal Cert.Dout2Ideal.Gen Cert.Dout2ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v7 (F := Ideal) x y (ix2 r j) = ∑ k : Fin 1024, x (ix2 r k) * y (ix3 2 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![2, t.val % 1, 0]) t)
  have h2 := congrFun ((by decide +kernel : ∀ t : Fin cfg0.N, win0_2.index t = ![t.val / 1, t.val % 1]) t)
  have ht : t.val < 2 := lt_of_lt_of_eq t.isLt N_0
  blk_simp
  rw [after0_2]
  unfold outsAt0
  frame_out
  obtain ⟨p, q, rfl⟩ : ∃ (p : Fin 2048) (q : Fin 1024), y = ix2 p q := ⟨y 0, y 1, eq_ix2 y⟩
  have hr : t.val / 1 * 2048 + p.val < 4096 := by omega
  have hj : t.val % 1 * 1024 + q.val < 1024 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 q k) = aY m c (ix3 2 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 1024 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 1024 q.val (h2 1)).symm

end Cert.Dout2

/-! ### Layer 3 -/

namespace Cert.Dout3

open Cert.Dout3Ideal Cert.Dout3Ideal.Gen Cert.Dout3ReferenceIdeal.Read

variable (m : (ℓ : Loc nD τ sig) → Buf (Elt Ideal) ℓ) (c : Dev nD)

/-- What a point writes: a product. -/
theorem pay (x : FVec Ideal S2048x1024 .bf16) (y : FVec Ideal S1x1024x1024 .bf16) (p : Fin 2048) (q : Fin 1024) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x1024x1024 .bf16 := m ((c.tc : Thread nD τ).loc main_arg1)

/-- The reference's entry. -/
theorem ref (x : FVec Ideal S4096x1024 .bf16) (y : FVec Ideal S4x1024x1024 .bf16) (r : Fin 4096) (j : Fin 1024) :
    val_main_v7 (F := Ideal) x y (ix2 r j) = ∑ k : Fin 1024, x (ix2 r k) * y (ix3 3 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 1, 0]) t)
  have h1 := congrFun ((by decide +kernel : ∀ t : Fin cfg0.N, win0_1.index t = ![3, t.val % 1, 0]) t)
  have h2 := congrFun ((by decide +kernel : ∀ t : Fin cfg0.N, win0_2.index t = ![t.val / 1, t.val % 1]) t)
  have ht : t.val < 2 := lt_of_lt_of_eq t.isLt N_0
  blk_simp
  rw [after0_2]
  unfold outsAt0
  frame_out
  obtain ⟨p, q, rfl⟩ : ∃ (p : Fin 2048) (q : Fin 1024), y = ix2 p q := ⟨y 0, y 1, eq_ix2 y⟩
  have hr : t.val / 1 * 2048 + p.val < 4096 := by omega
  have hj : t.val % 1 * 1024 + q.val < 1024 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x1024x1024 .bf16) (ix3 0 q k) = aY m c (ix3 3 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 1024 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 1024 q.val (h2 1)).symm

end Cert.Dout3

end
-- ==== Proof.Mm.Dact.lean ====
/- The gradient of the MLP's activation through the down projection, in one step: the array each layer's call leaves, and the reference's. -/
module

public import proofs.«01_k».proof.Proof.Mm.Step
public import proofs.«01_k».proof.Proof.Gen.Dact0Ideal.Value
public import proofs.«01_k».proof.Proof.Gen.Dact0ReferenceIdeal.Read
public import proofs.«01_k».proof.Proof.Gen.Dact1Ideal.Value
public import proofs.«01_k».proof.Proof.Gen.Dact1ReferenceIdeal.Read
public import proofs.«01_k».proof.Proof.Gen.Dact2Ideal.Value
public import proofs.«01_k».proof.Proof.Gen.Dact2ReferenceIdeal.Read
public import proofs.«01_k».proof.Proof.Gen.Dact3Ideal.Value
public import proofs.«01_k».proof.Proof.Gen.Dact3ReferenceIdeal.Read

@[expose] public section

set_option maxRecDepth 16384

noncomputable section

open Idealize.ShloMosaic Idealize.ShloMosaic.TcCoe Idealize.ShloMosaic.Tactic Idealize.SL.Sem

/-! ### Layer 0 -/

namespace Cert.Dact0

open Cert.Dact0Ideal Cert.Dact0Ideal.Gen Cert.Dact0ReferenceIdeal.Read

variable (m : (ℓ : Loc nD τ sig) → Buf (Elt Ideal) ℓ) (c : Dev nD)

/-- What a point writes: a product. -/
theorem pay (x : FVec Ideal S2048x1024 .bf16) (y : FVec Ideal S1x256x1024 .bf16) (p : Fin 2048) (q : Fin 256) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x2816x1024 .bf16 := m ((c.tc : Thread nD τ).loc main_arg1)

/-- The reference's entry. -/
theorem ref (x : FVec Ideal S4096x1024 .bf16) (y : FVec Ideal S4x2816x1024 .bf16) (r : Fin 4096) (j : Fin 2816) :
    val_main_v7 (F := Ideal) x y (ix2 r j) = ∑ k : Fin 1024, x (ix2 r k) * y (ix3 0 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![0, t.val % 11, 0]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x256x1024 .bf16) (ix3 0 q k) = aY m c (ix3 0 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 256 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Dact0

/-! ### Layer 1 -/

namespace Cert.Dact1

open Cert.Dact1Ideal Cert.Dact1Ideal.Gen Cert.Dact1ReferenceIdeal.Read

variable (m : (ℓ : Loc nD τ sig) → Buf (Elt Ideal) ℓ) (c : Dev nD)

/-- What a point writes: a product. -/
theorem pay (x : FVec Ideal S2048x1024 .bf16) (y : FVec Ideal S1x256x1024 .bf16) (p : Fin 2048) (q : Fin 256) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x2816x1024 .bf16 := m ((c.tc : Thread nD τ).loc main_arg1)

/-- The reference's entry. -/
theorem ref (x : FVec Ideal S4096x1024 .bf16) (y : FVec Ideal S4x2816x1024 .bf16) (r : Fin 4096) (j : Fin 2816) :
    val_main_v7 (F := Ideal) x y (ix2 r j) = ∑ k : Fin 1024, x (ix2 r k) * y (ix3 1 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![1, t.val % 11, 0]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x256x1024 .bf16) (ix3 0 q k) = aY m c (ix3 1 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 256 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Dact1

/-! ### Layer 2 -/

namespace Cert.Dact2

open Cert.Dact2Ideal Cert.Dact2Ideal.Gen Cert.Dact2ReferenceIdeal.Read

variable (m : (ℓ : Loc nD τ sig) → Buf (Elt Ideal) ℓ) (c : Dev nD)

/-- What a point writes: a product. -/
theorem pay (x : FVec Ideal S2048x1024 .bf16) (y : FVec Ideal S1x256x1024 .bf16) (p : Fin 2048) (q : Fin 256) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x2816x1024 .bf16 := m ((c.tc : Thread nD τ).loc main_arg1)

/-- The reference's entry. -/
theorem ref (x : FVec Ideal S4096x1024 .bf16) (y : FVec Ideal S4x2816x1024 .bf16) (r : Fin 4096) (j : Fin 2816) :
    val_main_v7 (F := Ideal) x y (ix2 r j) = ∑ k : Fin 1024, x (ix2 r k) * y (ix3 2 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![2, t.val % 11, 0]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x256x1024 .bf16) (ix3 0 q k) = aY m c (ix3 2 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 256 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Dact2

/-! ### Layer 3 -/

namespace Cert.Dact3

open Cert.Dact3Ideal Cert.Dact3Ideal.Gen Cert.Dact3ReferenceIdeal.Read

variable (m : (ℓ : Loc nD τ sig) → Buf (Elt Ideal) ℓ) (c : Dev nD)

/-- What a point writes: a product. -/
theorem pay (x : FVec Ideal S2048x1024 .bf16) (y : FVec Ideal S1x256x1024 .bf16) (p : Fin 2048) (q : Fin 256) : k0_pay1 (F := Ideal) x y (ix2 p q) = ∑ k : Fin 1024, x (ix2 p k) * y (ix3 0 q k) := by
  pointwise [k0_pay1]

/-- The call's two arrays. -/
abbrev aX : FVec Ideal S4096x1024 .bf16 := m ((c.tc : Thread nD τ).loc main_arg0)
abbrev aY : FVec Ideal S4x2816x1024 .bf16 := m ((c.tc : Thread nD τ).loc main_arg1)

/-- The reference's entry. -/
theorem ref (x : FVec Ideal S4096x1024 .bf16) (y : FVec Ideal S4x2816x1024 .bf16) (r : Fin 4096) (j : Fin 2816) :
    val_main_v7 (F := Ideal) x y (ix2 r j) = ∑ k : Fin 1024, x (ix2 r k) * y (ix3 3 j k) := by
  pointwise [val_main_v7, val_main_v6, val_main_v5, val_main_v3, val_main_v2, val_main_v1]

/-- The two arrays agree. -/
theorem equal : (dats m 0 c).arrAt 2 cfg0.N = val_main_v7 (F := Ideal) (aX m c) (aY m c) := by
  refine (dats m 0 c).arrAt_eq_of_covers 2 _ (by decide +kernel) fun t hf y => ?_
  have h0 := congrFun ((by decide +kernel : ∀ t : Fin cfg0.N, win0_0.index t = ![t.val / 11, 0]) t)
  have h1 := congrFun ((by decide +kernel : ∀ t : Fin cfg0.N, win0_1.index t = ![3, t.val % 11, 0]) t)
  have h2 := congrFun ((by decide +kernel : ∀ t : Fin cfg0.N, win0_2.index t = ![t.val / 11, t.val % 11]) t)
  have ht : t.val < 22 := lt_of_lt_of_eq t.isLt N_0
  blk_simp
  rw [after0_2]
  unfold outsAt0
  frame_out
  obtain ⟨p, q, rfl⟩ : ∃ (p : Fin 2048) (q : Fin 256), y = ix2 p q := ⟨y 0, y 1, eq_ix2 y⟩
  have hr : t.val / 11 * 2048 + p.val < 4096 := by omega
  have hj : t.val % 11 * 256 + q.val < 2816 := by omega
  have hb : ∀ k : Fin 1024, (iblk m c 0 t : FVec Ideal S2048x1024 .bf16) (ix2 p k) = aX m c (ix2 ⟨_, hr⟩ k) := fun k => by
    unfold iblk
    rw [View.read_apply]
    refine congrArg (aX m c) (funext fun a => Fin.ext ?_)
    match a with
    | ⟨0, _⟩ => exact Step.at_ 2048 p.val (h0 0)
    | ⟨1, _⟩ => exact Step.at0 1024 k.val (h0 1)
  have hw : ∀ k : Fin 1024, (iblk m c 1 t : FVec Ideal S1x256x1024 .bf16) (ix3 0 q k) = aY m c (ix3 3 ⟨_, hj⟩ k) := fun k => by
    unfold iblk
    rw [View.read_apply]
    refine congrArg (aY m c) (funext fun a => Fin.ext ?_)
    match a with
    | ⟨0, _⟩ => exact Step.at1 (h1 0)
    | ⟨1, _⟩ => exact Step.at_ 256 q.val (h1 1)
    | ⟨2, _⟩ => exact Step.at0 1024 k.val (h1 2)
  refine (pay _ _ p q).trans ((Step.sums hb hw).trans ?_)
  refine (ref (aX m c) (aY m c) ⟨_, hr⟩ ⟨_, hj⟩).symm.trans (congrArg _ (funext fun a => Fin.ext ?_))
  match a with
  | ⟨0, _⟩ => exact (Step.at_ 2048 p.val (h2 0)).symm
  | ⟨1, _⟩ => exact (Step.at_ 256 q.val (h2 1)).symm

end Cert.Dact3

end
-- ==== Proof.Fox.Setup.lean ====
/- The branch conditions of the gradient kernel in closed form, and names for its staging buffers and scratch. -/
module

public import proofs.«01_k».proof.Proof.Gen.KernelIdeal.Frame
public import proofs.«01_k».proof.Proof.Gen.KernelIdeal.Loops
public import Idealize.ShloMosaic.Lib.Pipeline.DatRel
public import Idealize.ShloMosaic.Lib.Claim

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 3#32)) 0#32) = 1#1
/-- It holds at the points ≡ 3 (mod 4) — by arithmetic of the point. -/
theorem hcond0_1 : ∀ t : Fin cfg0.N, cond0_1 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 3)

/-! ## The kernel body on any staging memrefs: a subtype the run finds -/

/-- One staging buffer of output window 8, through which its contents are stated (`View.read_writes_of_cover`: the
    choice does not matter). -/
abbrev VO0_8 : View sig .tc .vmem S3x4096x128 .bf16 := (Memref.whole cc0_stg8_0 : Memref sig .tc .vmem S3x4096x128 .bf16).view
/-- One staging buffer of output window 9, through which its contents are stated (`View.read_writes_of_cover`: the
    choice does not matter). -/
abbrev VO0_9 : View sig .tc .vmem S1x1024x128 .f32 := (Memref.whole cc0_stg9_0 : Memref sig .tc .vmem S1x1024x128 .f32).view
/-- One staging buffer of output window 10, through which its contents are stated (`View.read_writes_of_cover`: the
    choice does not matter). -/
abbrev VO0_10 : View sig .tc .vmem S1x2x4096 .f32 := (Memref.whole cc0_stg10_0 : Memref sig .tc .vmem S1x2x4096 .f32).view
/-- Each window's current staging memref at point `t`, spelled as the pipeline passes it (`bodyAt0`), and its wholeness. -/
abbrev ms0_0 (t : Fin cfg0.N) : Memref sig .tc .vmem S1x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x4096x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x4096 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S4096x128 .f32 := Memref.whole cc0_scratch0
abbrev scM0_1 : Memref sig .tc .vmem S4096x128 .f32 := Memref.whole cc0_scratch1
/-- The scratch `arg13` the kernel carries between points, as a view: what it holds is stated through it. -/
abbrev VS0_0 : View sig .tc .vmem S4096x128 .f32 := scM0_0.view
/-- The scratch `arg14` the kernel carries between points, as a view: what it holds is stated through it. -/
abbrev VS0_1 : View sig .tc .vmem S4096x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Fox

end
-- ==== Proof.Fox.RunA.lean ====
/- One run of the gradient kernel's body at first block of queries of a pair of heads: what it leaves in every buffer, as lists of stores. -/
module

public import proofs.«01_k».proof.Proof.Fox.Setup

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1088000 in
/-- What the body's stores leave in each output's staging memref, as pieces (last first) IN CASE A (`scf.if` 0 taken, `scf.if` 1 not taken: points 0, 4, … 28: 8 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    Σ' (L8 : List (View.Piece (Elt F) S3x4096x128 .bf16)), Σ' (L9 : List (View.Piece (Elt F) S1x1024x128 .f32)), Σ' (L10 : List (View.Piece (Elt F) S1x2x4096 .f32)), Σ' (LS0 : List (View.Piece (Elt F) S4096x128 .f32)), { LS1 : List (View.Piece (Elt F) S4096x128 .f32) //
      ∀ (xo8 : Vec F S3x4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread xo8) L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_fox_bwd_1 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xo8 E K => ?run⟩
  case run =>
    simp only [cc0_fox_bwd_1_eq_skeleton]; unfold cc0_fox_bwd_1_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexists _; iexact H9
    isplitl [H10]; · iexists _; iexact H10
    isplitl [HS0]; · iexists _; iexact HS0
    iexists _; iexact HS1

end Cert.Fox

end
-- ==== Proof.Fox.RunB.lean ====
/- One run of the gradient kernel's body at a middle block of queries: what it leaves in every buffer, as lists of stores. -/
module

public import proofs.«01_k».proof.Proof.Fox.RunA

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1052000 in
/-- What the body's stores leave in each output's staging memref, as pieces (last first) IN CASE B (`scf.if` 0 not taken, `scf.if` 1 not taken: points 1, 2, … 30: 16 of 32), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    Σ' (L8 : List (View.Piece (Elt F) S3x4096x128 .bf16)), Σ' (L9 : List (View.Piece (Elt F) S1x1024x128 .f32)), Σ' (L10 : List (View.Piece (Elt F) S1x2x4096 .f32)), Σ' (LS0 : List (View.Piece (Elt F) S4096x128 .f32)), { LS1 : List (View.Piece (Elt F) S4096x128 .f32) //
      ∀ (xo8 : Vec F S3x4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ (∃ d, owns (c : Thread nD τ) arg11 fullShare d) ∗ owns (c : Thread nD τ) arg12 fullShare xo10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread xo8) L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xo10) L10) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1)) -∗ K ⟨⟩))
          ⊢ wp frame (wpE (defs₀ (F := F)) Variants.none c none) E (cc0_fox_bwd_1 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xo8 E K => ?run⟩
  case run =>
    simp only [cc0_fox_bwd_1_eq_skeleton]; unfold cc0_fox_bwd_1_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexists _; iexact H9
    isplitl [H10]; · iexact H10
    isplitl [HS0]; · iexact HS0
    iexact HS1

end Cert.Fox

end
-- ==== Proof.Fox.RunC.lean ====
/- One run of the gradient kernel's body at the last block of queries: what it leaves in every buffer, as lists of stores. -/
module

public import proofs.«01_k».proof.Proof.Fox.RunB

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1084000 in
/-- What the body's stores leave in each output's staging memref, as pieces (last first) IN CASE C (`scf.if` 0 not taken, `scf.if` 1 taken: points 3, 7, … 31: 8 of 32), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    Σ' (L8 : List (View.Piece (Elt F) S3x4096x128 .bf16)), Σ' (L9 : List (View.Piece (Elt F) S1x1024x128 .f32)), Σ' (L10 : List (View.Piece (Elt F) S1x2x4096 .f32)), Σ' (LS0 : List (View.Piece (Elt F) S4096x128 .f32)), { LS1 : List (View.Piece (Elt F) S4096x128 .f32) //
      ∀ (xo8 : Vec F S3x4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ (∃ d, owns (c : Thread nD τ) arg11 fullShare d) ∗ owns (c : Thread nD τ) arg12 fullShare xo10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread xo8) L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xo10) L10) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1)) -∗ K ⟨⟩))
          ⊢ wp frame (wpE (defs₀ (F := F)) Variants.none c none) E (cc0_fox_bwd_1 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xo8 E K => ?run⟩
  case run =>
    simp only [cc0_fox_bwd_1_eq_skeleton]; unfold cc0_fox_bwd_1_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexists _; iexact H9
    isplitl [H10]; · iexact H10
    isplitl [HS0]; · iexact HS0
    iexact HS1

end Cert.Fox

end
-- ==== Proof.Fox.Outs.lean ====
/- What one run of the gradient kernel's body leaves in each output and in each scratch array, case by case. -/
module

public import proofs.«01_k».proof.Proof.Fox.RunC

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- What case A stores into output 8's staging buffer. -/
def out0_A_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : List (View.Piece (Elt F) S3x4096x128 .bf16) :=
  (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1

/-- Case A's pieces for output 9 tile its block (1 store of `S1x1024x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (y : S1x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 S1x1024x128.size (by sl_kernel_rfl) y

/-- What case A leaves in output 9's staging buffer: its pieces read back over junk. -/
def out0_A_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : Vec F S1x1024x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)

/-- Case A's pieces for output 10 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (y : S1x2x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 (by sl_whole_mem) y

/-- What case A leaves in output 10's staging buffer: its pieces read back over junk. -/
def out0_A_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : Vec F S1x2x4096 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)

/-- Case A's pieces for scratch `arg13`, which the kernel carries between points, cover it: one of them a store of the WHOLE buffer. -/
theorem scover0_A_0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1 (by sl_whole_mem) y

/-- What case A leaves in scratch `arg13`: its pieces read back over junk. -/
def sout0_A_0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : Vec F S4096x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1)

/-- Case A's pieces for scratch `arg14`, which the kernel carries between points, cover it: one of them a store of the WHOLE buffer. -/
theorem scover0_A_1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1 (by sl_whole_mem) y

/-- What case A leaves in scratch `arg14`: its pieces read back over junk. -/
def sout0_A_1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : Vec F S4096x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1)

/-- What case B stores into output 8's staging buffer. -/
def out0_B_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : List (View.Piece (Elt F) S3x4096x128 .bf16) :=
  (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).1

/-- Case B's pieces for output 9 tile its block (1 store of `S1x1024x128`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) (y : S1x1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1 S1x1024x128.size (by sl_kernel_rfl) y

/-- What case B leaves in output 9's staging buffer: its pieces read back over junk. -/
def out0_B_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S1x1024x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1)

/-- What case B leaves in output 10's staging buffer: its stores read back over what the point before left there (they do not cover the block). -/
def out0_B_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S1x2x4096 .f32 :=
  arg12.view.read (Elt F) (arg12.view.writes (Elt F) (harg12.unread xo10) (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.1)

/-- What case B leaves in scratch `arg13`: its pieces (stores, a counted loop's segment) read back over what the point before left there, which it read first. -/
def sout0_B_0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S4096x128 .f32 :=
  arg13.view.read (Elt F) (arg13.view.writes (Elt F) (harg13.unread xs0) (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.1)

/-- What case B leaves in scratch `arg14`: its pieces (stores, a counted loop's segment) read back over what the point before left there, which it read first. -/
def sout0_B_1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S4096x128 .f32 :=
  arg14.view.read (Elt F) (arg14.view.writes (Elt F) (harg14.unread xs1) (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.2.1)

/-- What case C stores into output 8's staging buffer. -/
def out0_C_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : List (View.Piece (Elt F) S3x4096x128 .bf16) :=
  (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).1

/-- Case C's pieces for output 9 tile its block (1 store of `S1x1024x128`, checked by the kernel's evaluation: Lib/Ring.lean `Piece.tiledL`, linear in the pieces, through a loop's `@[irreducible]` trip theorem too), so they cover it. -/
theorem cover0_C_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) (y : S1x1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1 S1x1024x128.size (by sl_kernel_rfl) y

/-- What case C leaves in output 9's staging buffer: its pieces read back over junk. -/
def out0_C_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S1x1024x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1)

/-- What case C leaves in output 10's staging buffer: its stores read back over what the point before left there (they do not cover the block). -/
def out0_C_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S1x2x4096 .f32 :=
  arg12.view.read (Elt F) (arg12.view.writes (Elt F) (harg12.unread xo10) (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.1)

/-- What case C leaves in scratch `arg13`: its pieces (stores, a counted loop's segment) read back over what the point before left there, which it read first. -/
def sout0_C_0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S4096x128 .f32 :=
  arg13.view.read (Elt F) (arg13.view.writes (Elt F) (harg13.unread xs0) (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.1)

/-- What case C leaves in scratch `arg14`: its pieces (stores, a counted loop's segment) read back over what the point before left there, which it read first. -/
def sout0_C_1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : Vec F S4096x128 .f32 :=
  arg14.view.read (Elt F) (arg14.view.writes (Elt F) (harg14.unread xs1) (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.2.1)

end Cert.Fox

end
-- ==== Proof.Fox.Frame.lean ====
/- The gradient kernel's run point by point, and its frame: it ends, leaves its arguments as they were and its semaphores at zero. -/
module

public import proofs.«01_k».proof.Proof.Fox.Outs

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → List (View.Piece (Elt F) S3x4096x128 .bf16) × Vec F S1x1024x128 .f32 × Vec F S1x2x4096 .f32 × Vec F S4096x128 .f32 × Vec F S4096x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : (n + 1) % 4 = 3 then
        False.elim (by have hN : n + 1 < 32 := lt_of_lt_of_eq hn (show cfg0.N = 32 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 4 = 3 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 4 = 0) (h1 : ¬t.val % 4 = 3) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a point of case B output 10's current staging buffer holds what the body left at the point before: the point is
    not the first, the buffer was not written back between (`flush0_10`), the window is live and uncut. -/
theorem before0_10_B (c : Dev nD) (t : Fin cfg0.N) (h0 : ¬t.val % 4 = 0) (h1 : ¬t.val % 4 = 3) (d) :
    (dats m 0 c).before 10 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-- At a point of case C output 10's current staging buffer holds what the body left at the point before: the point is
    not the first, the buffer was not written back between (`flush0_10`), the window is live and uncut. -/
theorem before0_10_C (c : Dev nD) (t : Fin cfg0.N) (h0 : ¬t.val % 4 = 0) (h1 : t.val % 4 = 3) (d) :
    (dats m 0 c).before 10 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The gradient's slabs: what every point of a group of four has stored so far -/

/-- The stores into output 8's block up to point `n` of its group of four points (last first): a group's first point starts afresh. -/
def soFar (c : Dev nD) : (n : ℕ) → n < cfg0.N → List (View.Piece (Elt F) S3x4096x128 .bf16)
  | 0, hn => (outsAt0 m c 0 hn).1
  | n + 1, hn => if (n + 1) % 4 = 0 then (outsAt0 m c (n + 1) hn).1
      else (outsAt0 m c (n + 1) hn).1 ++ soFar c n (Nat.lt_of_succ_lt hn)

theorem soFar_first (c : Dev nD) (t : Fin cfg0.N) (h0 : t.val % 4 = 0) : soFar m c t.val t.isLt = (outsAt0 m c t.val t.isLt).1 := by
  obtain ⟨n, hn⟩ := t
  cases n with
  | zero => rfl
  | succ n => exact if_pos h0

theorem soFar_later (c : Dev nD) (t : Fin cfg0.N) (h0 : ¬t.val % 4 = 0) :
    soFar m c t.val t.isLt = (outsAt0 m c t.val t.isLt).1 ++ soFar m c (t.val - 1) (Nat.lt_of_le_of_lt (Nat.sub_le _ _) t.isLt) := by
  obtain ⟨n, hn⟩ := t
  cases n with
  | zero => exact absurd (Nat.zero_mod _) h0
  | succ n => exact if_neg h0

/-- Output 8's block is held to a relation, its cells being stored by different points: every cell stored so far in the group holds
    the last value stored there. -/
def Held (c : Dev nD) (t : Fin cfg0.N) (X : Vec F S3x4096x128 .bf16) : Prop :=
  ∀ y, (∃ p ∈ soFar m c t.val t.isLt, y ∈ p.1.set) → X y = View.canon (soFar m c t.val t.isLt) y

/-- The window that is held to the relation. -/
def fgt (w : Fin cfg0.W) : Bool := match w with
  | ⟨8, _⟩ => true
  | _ => false

/-- The relation, window by window. -/
def Rl (c : Dev nD) (w : Fin cfg0.W) (t : Fin cfg0.N) : ((cfg0.win w).block.Idx → Elt F (cfg0.win w).elt) → Prop := match w with
  | ⟨8, _⟩ => fun X => Held m c t X
  | _ => fun _ => True

/-- Cells of a list of stores followed by another. -/
theorem canon_append {s : Shape} {e : EltTy} (L L' : List (View.Piece (Elt F) s e)) (y : s.Idx) :
    View.canon (L ++ L') y = if (∃ p ∈ L, y ∈ p.1.set) then View.canon L y else View.canon L' y := by
  induction L with
  | nil => simp
  | cons p L ih =>
    rw [List.cons_append]
    by_cases hy : y ∈ p.1.set
    · obtain ⟨r, w⟩ := p
      obtain ⟨x, rfl⟩ : ∃ x, r.emb x = y := r.exists_idx_of_mem hy
      rw [if_pos ⟨_, List.mem_cons_self, hy⟩, View.canon_cons_emb, View.canon_cons_emb]
    · rw [View.canon_cons_of_not_mem _ _ hy, View.canon_cons_of_not_mem _ _ hy, ih]
      have e : (∃ q ∈ L, y ∈ q.1.set) ↔ ∃ q ∈ p :: L, y ∈ q.1.set := by
        constructor
        · rintro ⟨q, hq, h⟩; exact ⟨q, List.mem_cons_of_mem _ hq, h⟩
        · rintro ⟨q, hq, h⟩
          rcases List.mem_cons.mp hq with rfl | hq
          · exact absurd h hy
          · exact ⟨q, hq, h⟩
      simp only [e]

/-- A group's first point establishes the relation, whatever the buffer held; -/
theorem held_first (c : Dev nD) (t : Fin cfg0.N) (h0 : t.val % 4 = 0) {sp : Space} (v : View sig .tc sp S3x4096x128 .bf16)
    (f : v.ty.Contents (Elt F)) (L : List (View.Piece (Elt F) S3x4096x128 .bf16)) (hL : (outsAt0 m c t.val t.isLt).1 = L) :
    Held m c t (v.read (Elt F) (v.writes (Elt F) f L)) := by
  intro y hy
  rw [soFar_first m c t h0, hL] at hy ⊢
  exact View.read_writes_apply_eq_canon v f y L hy

/-- and each later point preserves it. -/
theorem held_later (c : Dev nD) (t : Fin cfg0.N) (h0 : ¬t.val % 4 = 0) {sp : Space} (v : View sig .tc sp S3x4096x128 .bf16)
    (Y : Vec F S3x4096x128 .bf16) (f : v.ty.Contents (Elt F)) (hf : v.read (Elt F) f = Y)
    (hY : Held m c ⟨t.val - 1, Nat.lt_of_le_of_lt (Nat.sub_le _ _) t.isLt⟩ Y)
    (L : List (View.Piece (Elt F) S3x4096x128 .bf16)) (hL : (outsAt0 m c t.val t.isLt).1 = L) :
    Held m c t (v.read (Elt F) (v.writes (Elt F) f L)) := by
  intro y hy
  rw [soFar_later m c t h0, hL] at hy ⊢
  rw [canon_append]
  by_cases h : ∃ p ∈ L, y ∈ p.1.set
  · rw [if_pos h]; exact View.read_writes_apply_eq_canon v f y L h
  · rw [if_neg h, View.read_writes_apply_of_forall_not_mem v f y L (fun p hp hyp => h ⟨p, hp, hyp⟩), hf]
    apply hY
    obtain ⟨p, hp, hyp⟩ := hy
    rcases List.mem_append.mp hp with hp | hp
    · exact absurd ⟨p, hp, hyp⟩ h
    · exact ⟨p, hp, hyp⟩

/-- A point that is not a group's first finds output 8's block as the point before left it. -/
theorem finds0_8 (c : Dev nD) (t : Fin cfg0.N) (h0 : ¬t.val % 4 = 0) (Y) (h : ((dats m 0 c).toRRel fgt (Rl m c)).Finds 8 t Y) :
    Held m c ⟨t.val - 1, Nat.lt_of_le_of_lt (Nat.sub_le _ _) t.isLt⟩ Y := by
  have hN : t.val < 32 := lt_of_lt_of_eq t.isLt (show cfg0.N = 32 from N_0)
  rcases (RDat.finds_of_pos (w := 8) (t := t) _ rfl (by omega) Y).mp h with h | h
  · have := (flush0_8 _).mp h; dsimp only at this; omega
  · exact Dat.toRRel_leaves (dats m 0 c) (w := 8) rfl h

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel fgt (Rl m c)).Finds 8 t Y⌝ ∗ owns (c : Thread nD τ) (ms0_8 t) fullShare Y)
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Held m c t X⌝ ∗ owns (c : Thread nD τ) (ms0_8 t) fullShare X)
    ∗ owns (c : Thread nD τ) (ms0_9 t) fullShare ((dats m 0 c).after 9 t)
    ∗ owns (c : Thread nD τ) (ms0_10 t) fullShare ((dats m 0 c).after 10 t))

set_option maxHeartbeats 14400000 in

/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_9, after0_10]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · by_cases hz : t.val = 0
      · rw [PhiS_castSucc m c t, PhiS_zero m c _ _ hz, PhiA0_eq]
        rw [outsAt0_A m c t h0 h1]
        unfold out0_A_9 out0_A_10 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2 Y8 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, H6, H7, H8, ⟨%e9, H9⟩, ⟨%e10, H10⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · iexists _; isplitr
          swap
          · unfold owns; iexists _; isplitr
            swap; · iexact H8
            ipureintro; rfl
          ipureintro; exact held_first m c t h0 _ _ _ (by rw [outsAt0_A m c t h0 h1]; rfl)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_9 out0_A_10 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2 Y8 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexists _; iexact HS0
        isplitl [HS1]; · iexists _; iexact HS1
        iintro ⟨H0, H1, H2, H3, H4, H5, H6, H7, H8, ⟨%e9, H9⟩, ⟨%e10, H10⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · iexists _; isplitr
          swap
          · unfold owns; iexists _; isplitr
            swap; · iexact H8
            ipureintro; rfl
          ipureintro; exact held_first m c t h0 _ _ _ (by rw [outsAt0_A m c t h0 h1]; rfl)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _)
  · by_cases h1 : t.val % 4 = 3
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_10_C m c t h0 h1]
        unfold out0_C_9 out0_C_10 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%d10, H10⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _).2.2.2.2.2 Y8 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        isplitl [HS1]; · iexact HS1
        iintro ⟨H0, H1, H2, H3, H4, H5, H6, H7, H8, ⟨%e9, H9⟩, H10, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · iexists _; isplitr
          swap
          · unfold owns; iexists _; isplitr
            swap; · iexact H8
            ipureintro; rfl
          ipureintro; exact held_later m c t h0 _ Y8 _ ((hs0_8 t).read_unread _) (finds0_8 m c t h0 _ hY8) _ (by rw [outsAt0_C m c t h0 h1]; rfl)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _)
        unfold owns; iexists _; isplitr
        swap; · iexact H10
        ipureintro; rfl
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_10_B m c t h0 h1]
        unfold out0_B_9 out0_B_10 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%d10, H10⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2.2 Y8 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        isplitl [HS1]; · iexact HS1
        iintro ⟨H0, H1, H2, H3, H4, H5, H6, H7, H8, ⟨%e9, H9⟩, H10, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · iexists _; isplitr
          swap
          · unfold owns; iexists _; isplitr
            swap; · iexact H8
            ipureintro; rfl
          ipureintro; exact held_later m c t h0 _ Y8 _ ((hs0_8 t).read_unread _) (finds0_8 m c t h0 _ hY8) _ (by rw [outsAt0_B m c t h0 h1]; rfl)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _)
        unfold owns; iexists _; isplitr
        swap; · iexact H10
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- the launch theorem's implicit arguments are found by unifying its conclusion with this one, which takes unfolding plain
-- definitions in a metavariable's type
set_option backward.isDefEq.respectTransparency.types false in
/-- The launch: every execution ends, with the pipeline's arrays in the proof data's relation to what the region found and every
    semaphore counter at zero. -/
theorem run_main_quiescent : θ_run defs (onTc (τ := τ) (main (F := F))) (s₀ m ρ)
    (fun r => (RDat.FramePost cfg0 (fun c => (dats m 0 c).toRRel fgt (Rl m c)) (V m)) r ∧ r.2.sem = fun _ => 0) :=
  Pipeline.RDat.θ_run_frame_track_shared (Q' := _) cfgs (0 : Fin 1) launch₀0 defs₀ Variants.none
    (fun c => (dats m 0 c).toRRel fgt (Rl m c)) m ρ main
    (hbody := fun c => (body_obligation m c).toRRel) (hq := fun _ _ _ => rfl)
    (howed := fun _ _ => rfl) (V := V m) (hmain := hmain m Variants.none) (hA := A_eq m) (hin := hin m) (hout := hout m)

/-- What the launch's conclusion says of the arguments, for any proof data of these arrays. -/
theorem args_of (dat : (c : Dev nD) → Dat τ (Elt F) Unit ℕ (UR sig nD τ) ℕ cfg0 c) (hA : ∀ c w, (dat c).A w = V m c (Pipeline.arrRef spec0 w))
    (fg : Fin cfg0.W → Bool) (R : (c : Dev nD) → (w : Fin cfg0.W) → Fin cfg0.N → ((cfg0.win w).block.Idx → Elt F (cfg0.win w).elt) → Prop)
    (r : PUnit × MemSt nD τ sig (Elt F)) (h : RDat.FramePost cfg0 (fun c => (dat c).toRRel fg (R c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 2 rfl).trans ((hA c 2).trans (V_main_arg0 m c)),
    (RDat.FramePost.arr_in h c 4 rfl).trans ((hA c 4).trans (V_main_arg1 m c)),
    (RDat.FramePost.arr_in h c 6 rfl).trans ((hA c 6).trans (V_main_arg2 m c))⟩

/-- The frame at any values: every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_of m (dats m 0) (A_eq m) fgt (Rl m) r h.1, h.2⟩) (run_main_quiescent m ρ)

end Cert.Fox

end
-- ==== Proof.Fox.Compiled.lean ====
/- The compiled kernel's text is the ideal program's: one run serves both. -/
module
public import proofs.«01_k».proof.Defs
public import proofs.«01_k».proof.Proof.Gen.Kernel
public import proofs.«01_k».proof.Proof.Fox.Frame

@[expose] public section

set_option maxRecDepth 16384

noncomputable section

namespace Cert.Fox

open Idealize.ShloMosaic Idealize.SL.Sem

/-- The frame of the compiled kernel, in the words of the ideal program's text. -/
theorem frame_same : Cert.quiescent_Kernel (hKernel := Cert.Kernel.Gen.facts) = ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by sl_kernel_rfl

theorem frame_kernel : Cert.quiescent_Kernel (hKernel := Cert.Kernel.Gen.facts) := by
  rw [frame_same]; exact fun m ρ _ => frame (F := Bits) m ρ

end Cert.Fox

end
-- ==== Proof.Fox.Block.lean ====
/- One key block of the gradient: what the kernel computes of one block of 256 keys and values, for a block of 1024 queries, written once for the loop's trips and for the four blocks on the diagonal. -/
module

public import proofs.«01_k».proof.Proof.Fox.Setup

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

/-- What a grid point holds of its 1024 queries: the two heads' scaled queries and output gradients (each zero off
its own 64 lanes), the row sums `δ` of the output times its gradient, the cumulative gates `c` and the rows'
log-sums `l`, each for the pair's two heads. -/
structure QSide (F : FTy → Type) where
  q0 : FVec F S1024x128 .bf16
  q1 : FVec F S1024x128 .bf16
  d0 : FVec F S1024x128 .bf16
  d1 : FVec F S1024x128 .bf16
  δ0 : FVec F S1024x1 .f32
  δ1 : FVec F S1024x1 .f32
  c0 : FVec F S1024x1 .f32
  c1 : FVec F S1024x1 .f32
  l0 : FVec F S1024x1 .f32
  l1 : FVec F S1024x1 .f32

/-- The attention weights of one head on one key block, before a mask: `exp (q kᵀ + (c - ck) - l)`. -/
def blkE (q : FVec F S1024x128 .bf16) (c l : FVec F S1024x1 .f32) (k : FVec F S256x128 .bf16) (ck : Vec F S1x1x256 .f32) :
    FVec F S1024x256 .f32 :=
  exp (subf (addf (matmul dot_S1024x128_S256x128_S1024x256_1_1_0_0_n_n none q k (constant S1024x256 .f32 0x00000000#32))
    (subf (broadcastTo S1024x256 c broadcasts_S1024x1_S1024x256)
      (broadcastTo S1024x256 (shapeCast S1x256 ck shapeCasts_S1x1x256_S1x256) broadcasts_S1x256_S1024x256)))
    (broadcastTo S1024x256 l broadcasts_S1024x1_S1024x256))

/-- The gradient of one head's logits on one key block: `p (do vᵀ - δ)`. -/
def blkD (p : FVec F S1024x256 .f32) (d : FVec F S1024x128 .bf16) (δ : FVec F S1024x1 .f32) (v : FVec F S256x128 .bf16) :
    FVec F S1024x256 .f32 :=
  mulf p (subf (matmul dot_S1024x128_S256x128_S1024x256_1_1_0_0_n_n none d v (constant S1024x256 .f32 0x00000000#32))
    (broadcastTo S1024x256 δ broadcasts_S1024x1_S1024x256))

/-- A key gate's gradient over one block: what was there, less the column sums of `ds`. -/
def blkC (old : Vec F S1x1x256 .f32) (ds : FVec F S1024x256 .f32) : FVec F S1x1x256 .f32 :=
  shapeCast S1x1x256 (subf (shapeCast S1x256 old shapeCasts_S1x1x256_S1x256)
    (shapeCast S1x256 (multiReduction .add [0] S256 ds 0x00000000#32 reduces_S1024x256_S256 (.inl rfl) rfl) shapeCasts_S256_S1x256))
    shapeCasts_S1x256_S1x1x256

/-- A head's running row sums of `ds`. -/
def blkR (old : FVec F S1024x1 .f32) (ds : FVec F S1024x256 .f32) : FVec F S1024x1 .f32 :=
  addf old (shapeCast S1024x1 (multiReduction .add [1] S1024 ds 0x00000000#32 reduces_S1024x256_S1024 (.inl rfl) rfl) shapeCasts_S1024_S1024x1)

/-- The scaled keys of the block. -/
def blkKs (k : FVec F S256x128 .bf16) : FVec F S256x128 .bf16 :=
  mulf k (broadcast S256x128 (Scalar.ofBits .bf16 0x3E00#16))

/-- The scaled keys on the low head's lanes, -/
def blkK0 (k : FVec F S256x128 .bf16) : FVec F S256x128 .bf16 :=
  select (cmpi .slt (iota .tc S256x128 32 [1] iota_S256x128_d1_w32) (broadcast S256x128 64#32)) (blkKs k)
    (broadcast S256x128 (Scalar.ofBits .bf16 0x0000#16))

/-- and on the high head's lanes. -/
def blkK1 (k : FVec F S256x128 .bf16) : FVec F S256x128 .bf16 :=
  select (cmpi .slt (iota .tc S256x128 32 [1] iota_S256x128_d1_w32) (broadcast S256x128 64#32))
    (broadcast S256x128 (Scalar.ofBits .bf16 0x0000#16)) (blkKs k)

/-- The running gradient of the queries: both heads' `ds` against both heads' scaled keys. -/
def blkQ (old : FVec F S1024x128 .f32) (ds0 ds1 : FVec F S1024x256 .f32) (k : FVec F S256x128 .bf16) : FVec F S1024x128 .f32 :=
  addf old (matmul dot_S1024x512_S512x128_S1024x128_1_0_0_1_n_n none
    (concatenate S1024x512 1 [⟨S1024x256, truncf .bf16 ds0 bitsLt_bf16_f32⟩, ⟨S1024x256, truncf .bf16 ds1 bitsLt_bf16_f32⟩]
      concatenates_S1024x256_S1024x256_S1024x512_d1)
    (concatenate S512x128 0 [⟨S256x128, blkK0 k⟩, ⟨S256x128, blkK1 k⟩] concatenates_S256x128_S256x128_S512x128_d0)
    (constant S1024x128 .f32 0x00000000#32))

/-- The running gradient of the keys or values on one block: both heads' weights, transposed, against both heads'
queries or output gradients. -/
def blkKV (old : Vec F S256x128 .f32) (w0 w1 : FVec F S1024x256 .f32) (x0 x1 : FVec F S1024x128 .bf16) : FVec F S256x128 .f32 :=
  shapeCast S256x128 (addf old (matmul dot_S2048x256_S2048x128_S256x128_0_0_1_1_n_n none
    (concatenate S2048x256 0 [⟨S1024x256, truncf .bf16 w0 bitsLt_bf16_f32⟩, ⟨S1024x256, truncf .bf16 w1 bitsLt_bf16_f32⟩]
      concatenates_S1024x256_S1024x256_S2048x256_d0)
    (concatenate S2048x128 0 [⟨S1024x128, x0⟩, ⟨S1024x128, x1⟩] concatenates_S1024x128_S1024x128_S2048x128_d0)
    (constant S256x128 .f32 0x00000000#32))) shapeCasts_S256x128_S256x128

/-- The mask of the diagonal's block `n`: key `256 n + column` not after the row. -/
def blkMask (n : BitVec 32) : IVec S1024x256 1 :=
  cmpi .sle (addi (iota .tc S1024x256 32 [1] iota_S1024x256_d1_w32) (broadcast S1024x256 n)) (iota .tc S1024x256 32 [0] iota_S1024x256_d0_w32)

/-- A block's weights under a mask. -/
def masked (m : IVec S1024x256 1) (p : FVec F S1024x256 .f32) : FVec F S1024x256 .f32 :=
  select m p (broadcast S1024x256 (Scalar.ofBits .f32 0x00000000#32))

/-- The state carried from key block to key block: the query gradient and row sums, and the pieces stored so far into
the key gates' gradient and the two accumulators. -/
abbrev BlkState (F : FTy → Type) : Type :=
  (FVec F S1024x128 .f32 × FVec F S1024x1 .f32 × FVec F S1024x1 .f32)
    × List (View.Piece (Elt F) S1x2x4096 .f32) × List (View.Piece (Elt F) S4096x128 .f32) × List (View.Piece (Elt F) S4096x128 .f32)

section Step

variable (arg3 : Memref sig .tc .vmem S1x4096x128 .bf16) (arg4 : Memref sig .tc .vmem S1x4096x128 .bf16) (arg9 : Memref sig .tc .vmem S1x2x4096 .f32)
  (arg12 : Memref sig .tc .vmem S1x2x4096 .f32) (arg13 : Memref sig .tc .vmem S4096x128 .f32) (arg14 : Memref sig .tc .vmem S4096x128 .f32)
  (X3 : BufTy.Contents (Elt F) arg3.view.ty) (X4 : BufTy.Contents (Elt F) arg4.view.ty) (X9 : BufTy.Contents (Elt F) arg9.view.ty)
  (G12 : BufTy.Contents (Elt F) arg12.view.ty) (G13 : BufTy.Contents (Elt F) arg13.view.ty) (G14 : BufTy.Contents (Elt F) arg14.view.ty)

/-- One key block, of the keys and values at `o1`, the gates' rows at `o2`, `o3` and the accumulators' rows at `o4`;
`pm` masks its weights, `late` says whether the second gate row is read after the first one's store. -/
def blkStep (late : Bool) (Q : QSide F) (pm : FVec F S1024x256 .f32 → FVec F S1024x256 .f32)
    (o1 : Fin 3 → ℕ) (h1 : ∀ a, o1 a + S1x256x128.size a ≤ S1x4096x128.size a)
    (o2 : Fin 3 → ℕ) (h2 : ∀ a, o2 a + S1x1x256.size a ≤ S1x2x4096.size a)
    (o3 : Fin 3 → ℕ) (h3 : ∀ a, o3 a + S1x1x256.size a ≤ S1x2x4096.size a)
    (o4 : Fin 2 → ℕ) (h4 : ∀ a, o4 a + S256x128.size a ≤ S4096x128.size a)
    (st : BlkState F) : BlkState F :=
  let k := shapeCast S256x128 (View.readAt (Elt F) arg3.view (Rect.unit (s := S1x4096x128) o1 S1x256x128.size h1).toLoadRect X3) shapeCasts_S1x256x128_S256x128
  let v := shapeCast S256x128 (View.readAt (Elt F) arg4.view (Rect.unit (s := S1x4096x128) o1 S1x256x128.size h1).toLoadRect X4) shapeCasts_S1x256x128_S256x128
  let p0 := pm (blkE Q.q0 Q.c0 Q.l0 k (View.readAt (Elt F) arg9.view (Rect.unit (s := S1x2x4096) o2 S1x1x256.size h2).toLoadRect X9))
  let p1 := pm (blkE Q.q1 Q.c1 Q.l1 k (View.readAt (Elt F) arg9.view (Rect.unit (s := S1x2x4096) o3 S1x1x256.size h3).toLoadRect X9))
  let s0 := blkD p0 Q.d0 Q.δ0 v
  let s1 := blkD p1 Q.d1 Q.δ1 v
  let L12 : List (View.Piece (Elt F) S1x2x4096 .f32) := ⟨Rect.unit (s := S1x2x4096) o2 S1x1x256.size h2, blkC (View.readAt (Elt F) arg12.view (Rect.unit (s := S1x2x4096) o2 S1x1x256.size h2).toLoadRect (arg12.view.writes (Elt F) G12 st.2.1)) s0⟩ :: st.2.1
  ((blkQ st.1.1 s0 s1 k, blkR st.1.2.1 s0, blkR st.1.2.2 s1),
    ⟨Rect.unit (s := S1x2x4096) o3 S1x1x256.size h3, blkC (View.readAt (Elt F) arg12.view (Rect.unit (s := S1x2x4096) o3 S1x1x256.size h3).toLoadRect (arg12.view.writes (Elt F) G12 (bif late then L12 else st.2.1))) s1⟩ :: L12,
    ⟨Rect.unit (s := S4096x128) o4 S256x128.size h4, blkKV (View.readAt (Elt F) arg13.view (Rect.unit (s := S4096x128) o4 S256x128.size h4).toLoadRect (arg13.view.writes (Elt F) G13 st.2.2.1)) s0 s1 Q.q0 Q.q1⟩ :: st.2.2.1,
    ⟨Rect.unit (s := S4096x128) o4 S256x128.size h4, blkKV (View.readAt (Elt F) arg14.view (Rect.unit (s := S4096x128) o4 S256x128.size h4).toLoadRect (arg14.view.writes (Elt F) G14 st.2.2.2)) p0 p1 Q.d0 Q.d1⟩ :: st.2.2.2)

end Step

/-- The query side of a grid point, of its blocks of queries, saved output, output gradient, log-sums and gates and
the pair of heads' number. -/
def qside (hp : BitVec 32) (x0 : Vec F S1x1024x128 .bf16) (x3 x4 : Vec F S1024x128 .bf16) (x5 : Vec F S1x1024x128 .f32) (x6 : Vec F S1024x128 .f32) : QSide F where
  q0 := k0_pay55 x0
  q1 := k0_pay56 x0
  d0 := k0_pay58 x4
  d1 := k0_pay59 x4
  δ0 := k0_pay62 (k0_pay61 x4 x3)
  δ1 := k0_pay63 k0_pay51 (k0_pay60 x4 x3)
  c0 := k0_pay64 hp x6
  c1 := k0_pay65 hp x6
  l0 := k0_pay66 (k0_pay52 x5)
  l1 := k0_pay67 (k0_pay52 x5)

end Cert.Fox
-- ==== Proof.Fox.Trip.lean ====
/- The loop over the key blocks before the diagonal: one trip is one key block, and the second loop, the remainder of the first's unrolling, makes no trip. -/
module

public import proofs.«01_k».proof.Proof.Fox.Block

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

/-- One trip of the loop is one unmasked key block. -/
theorem trip_eq (𝒱 : Variants) (c : Dev nD) (bd : Option 𝒱.V) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (arg0 : BitVec 32) (arg1 : BitVec 32) (v5 : IVec S1024x128 1) (v8 : FVec F S1024x128 .f32) (v17 : FVec F S1024x128 .bf16) (v20 : FVec F S1024x128 .bf16) (v25 : Vec F S1024x128 .bf16) (v28 : FVec F S1024x128 .bf16) (v33 : FVec F S1024x128 .f32) (v35 : FVec F S1024x128 .f32) (v42 : Vec F S1024x128 .f32) (X_arg3 : BufTy.Contents (Elt F) arg3.view.ty) (X_arg4 : BufTy.Contents (Elt F) arg4.view.ty) (X_arg9 : BufTy.Contents (Elt F) arg9.view.ty) (G12 : BufTy.Contents (Elt F) arg12.view.ty) (G13 : BufTy.Contents (Elt F) arg13.view.ty) (G14 : BufTy.Contents (Elt F) arg14.view.ty) (k : Fin (k0_t1_loop i).trips) (st : BlkState F) :
    (tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 v5 v8 v17 v20 v25 v28 v33 v35 v42 X_arg3 X_arg4 X_arg9 k st.1 (arg12.view.writes (Elt F) G12 st.2.1) (arg13.view.writes (Elt F) G13 st.2.2.1) (arg14.view.writes (Elt F) G14 st.2.2.2),
      (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 v5 v8 v17 v20 v25 v28 v33 v35 v42 X_arg3 X_arg4 X_arg9 k st.1 (arg12.view.writes (Elt F) G12 st.2.1) (arg13.view.writes (Elt F) G13 st.2.2.1) (arg14.view.writes (Elt F) G14 st.2.2.2)).1 ++ st.2.1,
      (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 v5 v8 v17 v20 v25 v28 v33 v35 v42 X_arg3 X_arg4 X_arg9 k st.1 (arg12.view.writes (Elt F) G12 st.2.1) (arg13.view.writes (Elt F) G13 st.2.2.1) (arg14.view.writes (Elt F) G14 st.2.2.2)).2.1 ++ st.2.2.1,
      (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 v5 v8 v17 v20 v25 v28 v33 v35 v42 X_arg3 X_arg4 X_arg9 k st.1 (arg12.view.writes (Elt F) G12 st.2.1) (arg13.view.writes (Elt F) G13 st.2.2.1) (arg14.view.writes (Elt F) G14 st.2.2.2)).2.2 ++ st.2.2.2)
    = blkStep arg3 arg4 arg9 arg12 arg13 arg14 X_arg3 X_arg4 X_arg9 G12 G13 G14 false
        { q0 := v17, q1 := v20, d0 := v25, d1 := v28, δ0 := k0_pay62 v35, δ1 := k0_pay63 v5 v33, c0 := k0_pay64 arg0 v42, c1 := k0_pay65 arg0 v42, l0 := k0_pay66 v8, l1 := k0_pay67 v8 }
        (fun p => p) (k0_off1 i k) (k0_off1_inb i k) (k0_off2 i k) (k0_off2_inb i k) (k0_off3 i k) (k0_off3_inb i k) (k0_off4 i k) (k0_off4_inb i k) st := by
  unfold tripR_k0_t1 tripL_k0_t1
  sl_kernel_rfl

end Cert.Fox
-- ==== Proof.Fox.RunEq.lean ====
/- The run of a grid point, block by block: the loop over the key blocks before the diagonal, then the diagonal's four blocks. -/
module

public import proofs.«01_k».proof.Proof.Fox.Trip
public import proofs.«01_k».proof.Proof.Fox.Outs

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

/-- The query side of a grid point, as its run loads it. -/
def qRun (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : QSide F :=
  (qside (BitVec.ofNat 32 (i 0).val) (View.readAt (Elt F) arg2.view (Rect.unit (s := S1x1024x128) ![0, 0, 0] S1x1024x128.size inb_S1x1024x128_S1x1024x128_0_0_0).toLoadRect (harg2.unread x0)) (View.readAt (Elt F) arg5.view (Rect.unit (s := S1024x128) ![0, 0] S1024x128.size inb_S1024x128_S1024x128_0_0).toLoadRect (harg5.unread x3)) (View.readAt (Elt F) arg6.view (Rect.unit (s := S1024x128) ![0, 0] S1024x128.size inb_S1024x128_S1024x128_0_0).toLoadRect (harg6.unread x4)) (View.readAt (Elt F) arg7.view (Rect.unit (s := S1x1024x128) ![0, 0, 0] S1x1024x128.size inb_S1x1024x128_S1x1024x128_0_0_0).toLoadRect (harg7.unread x5)) (View.readAt (Elt F) arg8.view (Rect.unit (s := S1024x128) ![0, 0] S1024x128.size inb_S1024x128_S1024x128_0_0).toLoadRect (harg8.unread x6)))

/-- The state of the first loop after `n` trips, over contents `G12`, `G13`, `G14`. -/
def loopRun (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (n : ℕ) : BlkState F :=
  st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay51 (k0_pay52 (View.readAt (Elt F) arg7.view (Rect.unit (s := S1x1024x128) ![0, 0, 0] S1x1024x128.size inb_S1x1024x128_S1x1024x128_0_0_0).toLoadRect (harg7.unread x5))) (k0_pay55 (View.readAt (Elt F) arg2.view (Rect.unit (s := S1x1024x128) ![0, 0, 0] S1x1024x128.size inb_S1x1024x128_S1x1024x128_0_0_0).toLoadRect (harg2.unread x0))) (k0_pay56 (View.readAt (Elt F) arg2.view (Rect.unit (s := S1x1024x128) ![0, 0, 0] S1x1024x128.size inb_S1x1024x128_S1x1024x128_0_0_0).toLoadRect (harg2.unread x0))) (k0_pay58 (View.readAt (Elt F) arg6.view (Rect.unit (s := S1024x128) ![0, 0] S1024x128.size inb_S1024x128_S1024x128_0_0).toLoadRect (harg6.unread x4))) (k0_pay59 (View.readAt (Elt F) arg6.view (Rect.unit (s := S1024x128) ![0, 0] S1024x128.size inb_S1024x128_S1024x128_0_0).toLoadRect (harg6.unread x4))) (k0_pay60 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (k0_pay61 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (View.readAt (Elt F) arg8.view (Rect.unit (s := S1024x128) ![0, 0] S1024x128.size inb_S1024x128_S1024x128_0_0).toLoadRect (harg8.unread x6)) (harg3.unread x1) (harg4.unread x2) (harg9.unread x7) G12 G13 G14 (k0_pay69, k0_pay68, k0_pay68) n

/-- The state after both loops, the pieces those of the second over those of the first. -/
def loopsRun (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) : BlkState F :=
  let s := loopRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 (Scf.trips (k0_t1_loop i).lb (k0_t1_loop i).ub (k0_t1_loop i).st)
  let s' := st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay51 (k0_pay52 (View.readAt (Elt F) arg7.view (Rect.unit (s := S1x1024x128) ![0, 0, 0] S1x1024x128.size inb_S1x1024x128_S1x1024x128_0_0_0).toLoadRect (harg7.unread x5))) (k0_pay55 (View.readAt (Elt F) arg2.view (Rect.unit (s := S1x1024x128) ![0, 0, 0] S1x1024x128.size inb_S1x1024x128_S1x1024x128_0_0_0).toLoadRect (harg2.unread x0))) (k0_pay56 (View.readAt (Elt F) arg2.view (Rect.unit (s := S1x1024x128) ![0, 0, 0] S1x1024x128.size inb_S1x1024x128_S1x1024x128_0_0_0).toLoadRect (harg2.unread x0))) (k0_pay58 (View.readAt (Elt F) arg6.view (Rect.unit (s := S1024x128) ![0, 0] S1024x128.size inb_S1024x128_S1024x128_0_0).toLoadRect (harg6.unread x4))) (k0_pay59 (View.readAt (Elt F) arg6.view (Rect.unit (s := S1024x128) ![0, 0] S1024x128.size inb_S1024x128_S1024x128_0_0).toLoadRect (harg6.unread x4))) (k0_pay60 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (k0_pay61 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (View.readAt (Elt F) arg8.view (Rect.unit (s := S1024x128) ![0, 0] S1024x128.size inb_S1024x128_S1024x128_0_0).toLoadRect (harg8.unread x6)) (Scalar.addi 0#32 (Scalar.muli (Scalar.divsi (Scalar.subi (Scalar.muli (BitVec.ofNat 32 (i 1).val) 4#32) 0#32) 1#32) 1#32)) (harg3.unread x1) (harg4.unread x2) (harg9.unread x7) (arg12.view.writes (Elt F) G12 s.2.1) (arg13.view.writes (Elt F) G13 s.2.2.1) (arg14.view.writes (Elt F) G14 s.2.2.2) s.1 (Scf.trips (k0_t2_loop i).lb (k0_t2_loop i).ub (k0_t2_loop i).st)
  (s'.1, s'.2.1 ++ s.2.1, s'.2.2.1 ++ s.2.2.1, s'.2.2.2 ++ s.2.2.2)

/-- The state after both loops, the pieces put over those stored before the loops. -/
def loopsRunOver (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (B12 : List (View.Piece (Elt F) S1x2x4096 .f32)) (B13 B14 : List (View.Piece (Elt F) S4096x128 .f32)) : BlkState F :=
  let s := loopRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg12.view.writes (Elt F) G12 B12) (arg13.view.writes (Elt F) G13 B13) (arg14.view.writes (Elt F) G14 B14) (Scf.trips (k0_t1_loop i).lb (k0_t1_loop i).ub (k0_t1_loop i).st)
  let s' := st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay51 (k0_pay52 (View.readAt (Elt F) arg7.view (Rect.unit (s := S1x1024x128) ![0, 0, 0] S1x1024x128.size inb_S1x1024x128_S1x1024x128_0_0_0).toLoadRect (harg7.unread x5))) (k0_pay55 (View.readAt (Elt F) arg2.view (Rect.unit (s := S1x1024x128) ![0, 0, 0] S1x1024x128.size inb_S1x1024x128_S1x1024x128_0_0_0).toLoadRect (harg2.unread x0))) (k0_pay56 (View.readAt (Elt F) arg2.view (Rect.unit (s := S1x1024x128) ![0, 0, 0] S1x1024x128.size inb_S1x1024x128_S1x1024x128_0_0_0).toLoadRect (harg2.unread x0))) (k0_pay58 (View.readAt (Elt F) arg6.view (Rect.unit (s := S1024x128) ![0, 0] S1024x128.size inb_S1024x128_S1024x128_0_0).toLoadRect (harg6.unread x4))) (k0_pay59 (View.readAt (Elt F) arg6.view (Rect.unit (s := S1024x128) ![0, 0] S1024x128.size inb_S1024x128_S1024x128_0_0).toLoadRect (harg6.unread x4))) (k0_pay60 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (k0_pay61 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (View.readAt (Elt F) arg8.view (Rect.unit (s := S1024x128) ![0, 0] S1024x128.size inb_S1024x128_S1024x128_0_0).toLoadRect (harg8.unread x6)) (Scalar.addi 0#32 (Scalar.muli (Scalar.divsi (Scalar.subi (Scalar.muli (BitVec.ofNat 32 (i 1).val) 4#32) 0#32) 1#32) 1#32)) (harg3.unread x1) (harg4.unread x2) (harg9.unread x7) (arg12.view.writes (Elt F) G12 (s.2.1 ++ B12)) (arg13.view.writes (Elt F) G13 (s.2.2.1 ++ B13)) (arg14.view.writes (Elt F) G14 (s.2.2.2 ++ B14)) s.1 (Scf.trips (k0_t2_loop i).lb (k0_t2_loop i).ub (k0_t2_loop i).st)
  (s'.1, s'.2.1 ++ (s.2.1 ++ B12), s'.2.2.1 ++ (s.2.2.1 ++ B13), s'.2.2.2 ++ (s.2.2.2 ++ B14))

/-- The diagonal's block `n`. -/
def diagRun (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (n : Fin 4) (st : BlkState F) : BlkState F :=
  blkStep arg3 arg4 arg9 arg12 arg13 arg14 (harg3.unread x1) (harg4.unread x2) (harg9.unread x7) G12 G13 G14 true (qRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) (masked (blkMask (BitVec.ofNat 32 (256 * n.val))))
    (k0_off9 i (BitVec.ofNat 32 n.val)) (k0_off9_inb i n) (k0_off10 i (BitVec.ofNat 32 n.val)) (k0_off10_inb i n)
    (k0_off11 i (BitVec.ofNat 32 n.val)) (k0_off11_inb i n) (k0_off12 i (BitVec.ofNat 32 n.val)) (k0_off12_inb i n) st

/-- The diagonal's four blocks. -/
def diagsRun (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (st : BlkState F) : BlkState F :=
  let D := diagRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14
  D 3 (D 2 (D 1 (D 0 st)))

/-- The final state of a grid point of case B. -/
def finB (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : BlkState F :=
  (diagsRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg12.unread xo10) (harg13.unread xs0) (harg14.unread xs1) (loopsRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg12.unread xo10) (harg13.unread xs0) (harg14.unread xs1)))

theorem runB_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).1 = [⟨Rect.unit (s := S3x4096x128) (k0_off13 i) S1x1024x128.size (k0_off13_inb i), k0_pay165 (finB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).1.1⟩] := by
  sl_kernel_rfl

theorem runB_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1 = [⟨Rect.unit (s := S1x1024x128) ![0, 0, 0] ![1, 1024, 128] inb_S1x1024x128_S1x1024x128_0_0_0, k0_pay1 (k0_pay166 k0_pay51 (finB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).1.2.1 (finB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).1.2.2)⟩] := by
  sl_kernel_rfl

theorem runB_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.1 = (finB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.1 := by
  sl_kernel_rfl

theorem runB_s0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.1 = (finB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.2.1 := by
  sl_kernel_rfl

theorem runB_s1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.2.1 = (finB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.2.2 := by
  sl_kernel_rfl

/-- The final state of a grid point of case C. -/
def finC (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : BlkState F :=
  (diagsRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg12.unread xo10) (harg13.unread xs0) (harg14.unread xs1) (loopsRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg12.unread xo10) (harg13.unread xs0) (harg14.unread xs1)))

theorem runC_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).1 = ⟨Rect.unit (s := S3x4096x128) ![2, 0, 0] ![1, 4096, 128] inb_S3x4096x128_S1x4096x128_2_0_0, k0_pay3 (View.readAt (Elt F) arg14.view (Rect.unit (s := S4096x128) ![0, 0] S4096x128.size inb_S4096x128_S4096x128_0_0).toLoadRect (arg14.view.writes (Elt F) (harg14.unread xs1) (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.2.2))⟩ :: ⟨Rect.unit (s := S3x4096x128) ![1, 0, 0] ![1, 4096, 128] inb_S3x4096x128_S1x4096x128_1_0_0, k0_pay2 (View.readAt (Elt F) arg13.view (Rect.unit (s := S4096x128) ![0, 0] S4096x128.size inb_S4096x128_S4096x128_0_0).toLoadRect (arg13.view.writes (Elt F) (harg13.unread xs0) (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.2.1))⟩ :: [⟨Rect.unit (s := S3x4096x128) (k0_off13 i) S1x1024x128.size (k0_off13_inb i), k0_pay165 (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).1.1⟩] := by
  sl_kernel_rfl

theorem runC_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.1 = [⟨Rect.unit (s := S1x1024x128) ![0, 0, 0] ![1, 1024, 128] inb_S1x1024x128_S1x1024x128_0_0_0, k0_pay1 (k0_pay166 k0_pay51 (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).1.2.1 (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).1.2.2)⟩] := by
  sl_kernel_rfl

theorem runC_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.1 = (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.1 := by
  sl_kernel_rfl

theorem runC_s0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.1 = (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.2.1 := by
  sl_kernel_rfl

theorem runC_s1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).2.2.2.2.1 = (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1).2.2.2 := by
  sl_kernel_rfl

/-- The final state of a grid point of case A. -/
def finA (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : BlkState F :=
  (diagsRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 arg12.view.junk arg13.view.junk arg14.view.junk (loopsRunOver c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 arg12.view.junk arg13.view.junk arg14.view.junk [⟨Rect.unit (s := S1x2x4096) ![0, 0, 0] S1x2x4096.size inb_S1x2x4096_S1x2x4096_0_0_0, k0_pay50⟩] [⟨Rect.unit (s := S4096x128) ![0, 0] S4096x128.size inb_S4096x128_S4096x128_0_0, k0_pay48⟩] [⟨Rect.unit (s := S4096x128) ![0, 0] S4096x128.size inb_S4096x128_S4096x128_0_0, k0_pay49⟩]))

theorem runA_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 = [⟨Rect.unit (s := S3x4096x128) (k0_off13 i) S1x1024x128.size (k0_off13_inb i), k0_pay165 (finA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1.1⟩] := by
  sl_kernel_rfl

theorem runA_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 = [⟨Rect.unit (s := S1x1024x128) ![0, 0, 0] ![1, 1024, 128] inb_S1x1024x128_S1x1024x128_0_0_0, k0_pay1 (k0_pay166 k0_pay51 (finA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1.2.1 (finA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1.2.2)⟩] := by
  sl_kernel_rfl

theorem runA_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 = (finA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1 := by
  sl_kernel_rfl

theorem runA_s0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1 = (finA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 := by
  sl_kernel_rfl

theorem runA_s1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1 = (finA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2 := by
  sl_kernel_rfl

end Cert.Fox
-- ==== Proof.Fox.Abs.lean ====
/- The state of a grid point by values: what the key gates' gradient and the two accumulators hold after each key block, as plain arrays. -/
module

public import proofs.«01_k».proof.Proof.Fox.RunEq
public import Idealize.ShloMosaic.Lib.VecWindow

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

variable {F : FTy → Type} [FloatOps F]

/-- The query gradient and row sums, then the key gates' gradient, the keys' and the values' gradients. -/
abbrev AbsState (F : FTy → Type) : Type :=
  (FVec F S1024x128 .f32 × FVec F S1024x1 .f32 × FVec F S1024x1 .f32)
    × Vec F S1x2x4096 .f32 × Vec F S4096x128 .f32 × Vec F S4096x128 .f32

theorem inbK (b : Fin 16) : ∀ a : Fin 3, (![0, 256 * b.val, 0] : Fin 3 → ℕ) a + S1x256x128.size a ≤ S1x4096x128.size a := by
  have := b.isLt
  intro a; fin_cases a <;> simp <;> omega

theorem inbC (h : Fin 2) (b : Fin 16) : ∀ a : Fin 3, (![0, h.val, 256 * b.val] : Fin 3 → ℕ) a + S1x1x256.size a ≤ S1x2x4096.size a := by
  have := b.isLt
  have := h.isLt
  intro a; fin_cases a <;> simp <;> omega

theorem inbA (b : Fin 16) : ∀ a : Fin 2, (![256 * b.val, 0] : Fin 2 → ℕ) a + S256x128.size a ≤ S4096x128.size a := by
  have := b.isLt
  intro a; fin_cases a <;> simp <;> omega

/-- Key block `b` of the keys or values. -/
def kBlk (K : Vec F S1x4096x128 .bf16) (b : Fin 16) : FVec F S256x128 .bf16 :=
  shapeCast S256x128 (window (s := S1x4096x128) K ![0, 256 * b.val, 0] S1x256x128.size (inbK b)) shapeCasts_S1x256x128_S256x128

/-- Head `h`'s gates on key block `b`. -/
def cBlk (C : Vec F S1x2x4096 .f32) (h : Fin 2) (b : Fin 16) : Vec F S1x1x256 .f32 :=
  window (s := S1x2x4096) C ![0, h.val, 256 * b.val] S1x1x256.size (inbC h b)

/-- The accumulator's rows of key block `b`. -/
def aBlk (A : Vec F S4096x128 .f32) (b : Fin 16) : Vec F S256x128 .f32 :=
  window (s := S4096x128) A ![256 * b.val, 0] S256x128.size (inbA b)

/-- Key block `b`, by values. -/
def absStep (K V : Vec F S1x4096x128 .bf16) (CK : Vec F S1x2x4096 .f32) (Q : QSide F) (pm : FVec F S1024x256 .f32 → FVec F S1024x256 .f32)
    (b : Fin 16) (st : AbsState F) : AbsState F :=
  let p0 := pm (blkE Q.q0 Q.c0 Q.l0 (kBlk K b) (cBlk CK 0 b))
  let p1 := pm (blkE Q.q1 Q.c1 Q.l1 (kBlk K b) (cBlk CK 1 b))
  let s0 := blkD p0 Q.d0 Q.δ0 (kBlk V b)
  let s1 := blkD p1 Q.d1 Q.δ1 (kBlk V b)
  ((blkQ st.1.1 s0 s1 (kBlk K b), blkR st.1.2.1 s0, blkR st.1.2.2 s1),
    put (s := S1x2x4096) (put (s := S1x2x4096) st.2.1 ![0, 0, 256 * b.val] S1x1x256.size (blkC (cBlk st.2.1 0 b) s0)) ![0, 1, 256 * b.val] S1x1x256.size (blkC (cBlk st.2.1 1 b) s1),
    put (s := S4096x128) st.2.2.1 ![256 * b.val, 0] S256x128.size (blkKV (aBlk st.2.2.1 b) s0 s1 Q.q0 Q.q1),
    put (s := S4096x128) st.2.2.2 ![256 * b.val, 0] S256x128.size (blkKV (aBlk st.2.2.2 b) p0 p1 Q.d0 Q.d1))

section Step

variable (arg3 : Memref sig .tc .vmem S1x4096x128 .bf16) (arg4 : Memref sig .tc .vmem S1x4096x128 .bf16) (arg9 : Memref sig .tc .vmem S1x2x4096 .f32)
  (arg12 : Memref sig .tc .vmem S1x2x4096 .f32) (arg13 : Memref sig .tc .vmem S4096x128 .f32) (arg14 : Memref sig .tc .vmem S4096x128 .f32)
  (X3 : BufTy.Contents (Elt F) arg3.view.ty) (X4 : BufTy.Contents (Elt F) arg4.view.ty) (X9 : BufTy.Contents (Elt F) arg9.view.ty)
  (G12 : BufTy.Contents (Elt F) arg12.view.ty) (G13 : BufTy.Contents (Elt F) arg13.view.ty) (G14 : BufTy.Contents (Elt F) arg14.view.ty)

/-- The state of a list of pieces, by values. -/
def absOf (st : BlkState F) : AbsState F :=
  (st.1, arg12.view.read (Elt F) (arg12.view.writes (Elt F) G12 st.2.1), arg13.view.read (Elt F) (arg13.view.writes (Elt F) G13 st.2.2.1),
    arg14.view.read (Elt F) (arg14.view.writes (Elt F) G14 st.2.2.2))

/-- One key block's stores leave what the block does by values. -/
theorem absOf_blkStep (late : Bool) (Q : QSide F) (pm : FVec F S1024x256 .f32 → FVec F S1024x256 .f32) (b : Fin 16)
    (o1 : Fin 3 → ℕ) (h1 : ∀ a, o1 a + S1x256x128.size a ≤ S1x4096x128.size a)
    (o2 : Fin 3 → ℕ) (h2 : ∀ a, o2 a + S1x1x256.size a ≤ S1x2x4096.size a)
    (o3 : Fin 3 → ℕ) (h3 : ∀ a, o3 a + S1x1x256.size a ≤ S1x2x4096.size a)
    (o4 : Fin 2 → ℕ) (h4 : ∀ a, o4 a + S256x128.size a ≤ S4096x128.size a)
    (e1 : o1 = ![0, 256 * b.val, 0]) (e2 : o2 = ![0, 0, 256 * b.val]) (e3 : o3 = ![0, 1, 256 * b.val]) (e4 : o4 = ![256 * b.val, 0])
    (st : BlkState F) :
    absOf arg12 arg13 arg14 G12 G13 G14 (blkStep arg3 arg4 arg9 arg12 arg13 arg14 X3 X4 X9 G12 G13 G14 late Q pm o1 h1 o2 h2 o3 h3 o4 h4 st)
      = absStep (arg3.view.read (Elt F) X3) (arg4.view.read (Elt F) X4) (arg9.view.read (Elt F) X9) Q pm b (absOf arg12 arg13 arg14 G12 G13 G14 st) := by
  subst e1 e2 e3 e4
  have hd : ∀ (w : Vec F S1x1x256 .f32) (L : List (View.Piece (Elt F) S1x2x4096 .f32)),
      View.readAt (Elt F) arg12.view (Rect.unit (s := S1x2x4096) ![0, 1, 256 * b.val] S1x1x256.size h3).toLoadRect
        (arg12.view.writes (Elt F) G12 (⟨Rect.unit (s := S1x2x4096) ![0, 0, 256 * b.val] S1x1x256.size h2, w⟩ :: L))
      = View.readAt (Elt F) arg12.view (Rect.unit (s := S1x2x4096) ![0, 1, 256 * b.val] S1x1x256.size h3).toLoadRect (arg12.view.writes (Elt F) G12 L) := by
    intro w L
    rw [View.readAt_unit _ _ h3 rfl h3, View.readAt_unit _ _ h3 rfl h3, View.read_writes_cons_put _ _ h2 w L rfl]
    exact window_put_of_disjoint (s := S1x2x4096) _ ![0, 0, 256 * b.val] S1x1x256.size ![0, 1, 256 * b.val] S1x1x256.size h3 w 1 (Or.inr (le_refl 1))
  unfold absOf blkStep
  dsimp only
  rw [View.read_writes_cons_put _ _ h3 _ _ rfl, View.read_writes_cons_put _ _ h2 _ _ rfl, View.read_writes_cons_put _ _ h4 _ _ rfl,
    View.read_writes_cons_put _ _ h4 _ _ rfl]
  cases late
  · rfl
  · simp only [cond_true, hd]
    rfl

end Step

/-- How key block `n` is masked at the query block `qi`: not at all before the diagonal, and by the causal mask on it. -/
def pmOf (qi n : ℕ) : FVec F S1024x256 .f32 → FVec F S1024x256 .f32 :=
  if n < 4 * qi then fun p => p else masked (blkMask (BitVec.ofNat 32 (256 * (n - 4 * qi))))

/-- The first `n` key blocks at query block `qi`, by values. -/
def absRun (K V : Vec F S1x4096x128 .bf16) (CK : Vec F S1x2x4096 .f32) (Q : QSide F) (qi : ℕ) (st : AbsState F) : ℕ → AbsState F
  | 0 => st
  | n + 1 => if h : n < 16 then absStep K V CK Q (pmOf qi n) ⟨n, h⟩ (absRun K V CK Q qi st n) else absRun K V CK Q qi st n

theorem absRun_succ (K V : Vec F S1x4096x128 .bf16) (CK : Vec F S1x2x4096 .f32) (Q : QSide F) (qi : ℕ) (st : AbsState F) {n : ℕ} (h : n < 16) :
    absRun K V CK Q qi st (n + 1) = absStep K V CK Q (pmOf qi n) ⟨n, h⟩ (absRun K V CK Q qi st n) := dif_pos h

/-! ## The offsets in closed form -/

theorem trips_t1 (i : grid0.Coords) : (k0_t1_loop i).trips = 4 * (i 1).val := by
  have h : ∀ n : Fin 4, Scf.trips 0#32 (Scalar.addi 0#32 (Scalar.muli (Scalar.divsi (Scalar.subi (Scalar.muli (BitVec.ofNat 32 n.val) 4#32) 0#32) 1#32) 1#32)) 1#32 = 4 * n.val := by decide +kernel
  exact h (i 1)

theorem trips_t2 (i : grid0.Coords) : (k0_t2_loop i).trips = 0 := by
  have h : ∀ i1 : Fin 4, ∀ i0 : Fin 8, (k0_t2_loop (fun a => match a with | ⟨0, _⟩ => i0 | ⟨1, _⟩ => i1)).trips = 0 := by decide +kernel
  have e : i = (fun a => match a with | ⟨0, _⟩ => i 0 | ⟨1, _⟩ => i 1) := by
    funext a; fin_cases a <;> rfl
  rw [e]; exact h (i 1) (i 0)

theorem off1_eq (i : grid0.Coords) (k : Fin (k0_t1_loop i).trips) : k0_off1 i k = ![0, 256 * k.val, 0] := by
  have h : ∀ n : Fin 12, (Scalar.indexCast (Scalar.muli (Scf.iv 0#32 1#32 n.val) 256#32) : Index).toNat = 256 * n.val := by decide +kernel
  unfold k0_off1
  exact congrArg (fun x => ![0, x, 0]) (h ⟨k.val, Nat.lt_of_lt_of_le k.isLt (k0_t1_abs i).2.1⟩)

theorem off2_eq (i : grid0.Coords) (k : Fin (k0_t1_loop i).trips) : k0_off2 i k = ![0, 0, 256 * k.val] := by
  have h := congrFun (off1_eq i k) 1
  unfold k0_off2
  exact congrArg (fun x => ![0, 0, x]) h

theorem off3_eq (i : grid0.Coords) (k : Fin (k0_t1_loop i).trips) : k0_off3 i k = ![0, 1, 256 * k.val] := by
  have h := congrFun (off1_eq i k) 1
  unfold k0_off3
  exact congrArg (fun x => ![0, 1, x]) h

theorem off4_eq (i : grid0.Coords) (k : Fin (k0_t1_loop i).trips) : k0_off4 i k = ![256 * k.val, 0] := by
  have h := congrFun (off1_eq i k) 1
  unfold k0_off4
  exact congrArg (fun x => ![x, 0]) h

theorem off9_eq (i : grid0.Coords) (n : Fin 4) : k0_off9 i (BitVec.ofNat 32 n.val) = ![0, 256 * (4 * (i 1).val + n.val), 0] := by
  have h : ∀ q n : Fin 4, (Scalar.indexCast (Scalar.muli (Scalar.addi (Scalar.muli (BitVec.ofNat 32 q.val) 4#32) (BitVec.ofNat 32 n.val)) 256#32) : Index).toNat = 256 * (4 * q.val + n.val) := by decide +kernel
  unfold k0_off9
  exact congrArg (fun x => ![0, x, 0]) (h (i 1) n)

theorem off10_eq (i : grid0.Coords) (n : Fin 4) : k0_off10 i (BitVec.ofNat 32 n.val) = ![0, 0, 256 * (4 * (i 1).val + n.val)] := by
  have h := congrFun (off9_eq i n) 1
  unfold k0_off10
  exact congrArg (fun x => ![0, 0, x]) h

theorem off11_eq (i : grid0.Coords) (n : Fin 4) : k0_off11 i (BitVec.ofNat 32 n.val) = ![0, 1, 256 * (4 * (i 1).val + n.val)] := by
  have h := congrFun (off9_eq i n) 1
  unfold k0_off11
  exact congrArg (fun x => ![0, 1, x]) h

theorem off12_eq (i : grid0.Coords) (n : Fin 4) : k0_off12 i (BitVec.ofNat 32 n.val) = ![256 * (4 * (i 1).val + n.val), 0] := by
  have h := congrFun (off9_eq i n) 1
  unfold k0_off12
  exact congrArg (fun x => ![x, 0]) h

theorem off13_eq (i : grid0.Coords) : k0_off13 i = ![0, 1024 * (i 1).val, 0] := by
  have h : ∀ q : Fin 4, (Scalar.indexCast (Scalar.muli (BitVec.ofNat 32 q.val) 1024#32) : Index).toNat = 1024 * q.val := by decide +kernel
  unfold k0_off13
  exact congrArg (fun x => ![0, x, 0]) (h (i 1))

/-- The query side as the run loads it is the query side of the blocks. -/
theorem qRun_eq (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    qRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = qside (BitVec.ofNat 32 (i 0).val) x0 x3 x4 x5 x6 := by
  unfold qRun
  rw [View.readAt_full arg2.view, View.readAt_full arg5.view, View.readAt_full arg6.view, View.readAt_full arg7.view, View.readAt_full arg8.view,
    harg2.read_unread, harg5.read_unread, harg6.read_unread, harg7.read_unread, harg8.read_unread]

/-- The first loop after `n` trips, by values. -/
theorem loopRun_eq (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (n : ℕ) (hn : n ≤ 4 * (i 1).val) :
    absOf arg12 arg13 arg14 G12 G13 G14 (loopRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 n)
      = absRun x1 x2 x7 (qside (BitVec.ofNat 32 (i 0).val) x0 x3 x4 x5 x6) (i 1).val
          ((k0_pay69, k0_pay68, k0_pay68), arg12.view.read (Elt F) G12, arg13.view.read (Elt F) G13, arg14.view.read (Elt F) G14) n := by
  induction n with
  | zero => rfl
  | succ n ih =>
    have h1 : (i 1).val < 4 := (i 1).isLt
    have hk : n < (k0_t1_loop i).trips := by rw [trips_t1]; omega
    have e := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (BitVec.ofNat 32 (i 1).val) k0_pay51 (k0_pay52 (View.readAt (Elt F) arg7.view (Rect.unit (s := S1x1024x128) ![0, 0, 0] S1x1024x128.size inb_S1x1024x128_S1x1024x128_0_0_0).toLoadRect (harg7.unread x5))) (k0_pay55 (View.readAt (Elt F) arg2.view (Rect.unit (s := S1x1024x128) ![0, 0, 0] S1x1024x128.size inb_S1x1024x128_S1x1024x128_0_0_0).toLoadRect (harg2.unread x0))) (k0_pay56 (View.readAt (Elt F) arg2.view (Rect.unit (s := S1x1024x128) ![0, 0, 0] S1x1024x128.size inb_S1x1024x128_S1x1024x128_0_0_0).toLoadRect (harg2.unread x0))) (k0_pay58 (View.readAt (Elt F) arg6.view (Rect.unit (s := S1024x128) ![0, 0] S1024x128.size inb_S1024x128_S1024x128_0_0).toLoadRect (harg6.unread x4))) (k0_pay59 (View.readAt (Elt F) arg6.view (Rect.unit (s := S1024x128) ![0, 0] S1024x128.size inb_S1024x128_S1024x128_0_0).toLoadRect (harg6.unread x4))) (k0_pay60 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (k0_pay61 (View.readAt (Elt F) arg6.view (Rect.unit (s := S1024x128) ![0, 0] S1024x128.size inb_S1024x128_S1024x128_0_0).toLoadRect (harg6.unread x4)) (View.readAt (Elt F) arg5.view (Rect.unit (s := S1024x128) ![0, 0] S1024x128.size inb_S1024x128_S1024x128_0_0).toLoadRect (harg5.unread x3))) (View.readAt (Elt F) arg8.view (Rect.unit (s := S1024x128) ![0, 0] S1024x128.size inb_S1024x128_S1024x128_0_0).toLoadRect (harg8.unread x6)) (harg3.unread x1) (harg4.unread x2) (harg9.unread x7) G12 G13 G14 (k0_pay69, k0_pay68, k0_pay68) ⟨n, hk⟩
    rw [trip_eq] at e
    have e' : loopRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 (n + 1) = _ := e
    rw [e', absRun_succ _ _ _ _ _ _ (show n < 16 by omega), ← ih (by omega), ← qRun_eq i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7]
    have hp : pmOf (F := F) (i 1).val n = fun p => p := if_pos (by omega)
    rw [hp]
    refine (absOf_blkStep arg3 arg4 arg9 arg12 arg13 arg14 (harg3.unread x1) (harg4.unread x2) (harg9.unread x7) G12 G13 G14 false _ _ ⟨n, by omega⟩ _ _ _ _ _ _ _ _
      (off1_eq i ⟨n, hk⟩) (off2_eq i ⟨n, hk⟩) (off3_eq i ⟨n, hk⟩) (off4_eq i ⟨n, hk⟩) _).trans ?_
    rw [harg3.read_unread, harg4.read_unread, harg9.read_unread]
    rfl

/-- The second loop makes no trip. -/
theorem loopsRun_eq (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) :
    loopsRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 = loopRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 (4 * (i 1).val) := by
  unfold loopsRun
  rw [show (Scf.trips (k0_t2_loop i).lb (k0_t2_loop i).ub (k0_t2_loop i).st) = 0 from trips_t2 i, show (Scf.trips (k0_t1_loop i).lb (k0_t1_loop i).ub (k0_t1_loop i).st) = 4 * (i 1).val from trips_t1 i]
  rfl

theorem loopsRunOver_eq (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (B12 : List (View.Piece (Elt F) S1x2x4096 .f32)) (B13 B14 : List (View.Piece (Elt F) S4096x128 .f32)) :
    absOf arg12 arg13 arg14 G12 G13 G14 (loopsRunOver c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 B12 B13 B14)
      = absOf arg12 arg13 arg14 (arg12.view.writes (Elt F) G12 B12) (arg13.view.writes (Elt F) G13 B13) (arg14.view.writes (Elt F) G14 B14)
          (loopRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg12.view.writes (Elt F) G12 B12) (arg13.view.writes (Elt F) G13 B13) (arg14.view.writes (Elt F) G14 B14) (4 * (i 1).val)) := by
  unfold loopsRunOver absOf
  rw [show (Scf.trips (k0_t2_loop i).lb (k0_t2_loop i).ub (k0_t2_loop i).st) = 0 from trips_t2 i, show (Scf.trips (k0_t1_loop i).lb (k0_t1_loop i).ub (k0_t1_loop i).st) = 4 * (i 1).val from trips_t1 i]
  dsimp only [st_k0_t2]
  simp only [List.nil_append, View.writes_append]

theorem diagRun_eq (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (n : Fin 4) (st : BlkState F) :
    absOf arg12 arg13 arg14 G12 G13 G14 (diagRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 n st)
      = absStep x1 x2 x7 (qside (BitVec.ofNat 32 (i 0).val) x0 x3 x4 x5 x6) (pmOf (i 1).val (4 * (i 1).val + n.val))
          ⟨4 * (i 1).val + n.val, by have h1 : (i 1).val < 4 := (i 1).isLt; have := n.isLt; omega⟩ (absOf arg12 arg13 arg14 G12 G13 G14 st) := by
  unfold diagRun
  refine (absOf_blkStep arg3 arg4 arg9 arg12 arg13 arg14 (harg3.unread x1) (harg4.unread x2) (harg9.unread x7) G12 G13 G14 true _ _
    ⟨4 * (i 1).val + n.val, by have h1 : (i 1).val < 4 := (i 1).isLt; have := n.isLt; omega⟩ _ _ _ _ _ _ _ _
    (off9_eq i n) (off10_eq i n) (off11_eq i n) (off12_eq i n) _).trans ?_
  have hp : pmOf (F := F) (i 1).val (4 * (i 1).val + n.val) = masked (blkMask (BitVec.ofNat 32 (256 * n.val))) := by
    unfold pmOf
    rw [if_neg (by omega), Nat.add_sub_cancel_left]
  rw [harg3.read_unread, harg4.read_unread, harg9.read_unread, qRun_eq, hp]

theorem diagsRun_eq (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (G12 : BufTy.Contents (Elt F) arg12.view.ty) (G13 : BufTy.Contents (Elt F) arg13.view.ty) (G14 : BufTy.Contents (Elt F) arg14.view.ty) (st : BlkState F) (s0 : AbsState F)
    (h : absOf arg12 arg13 arg14 G12 G13 G14 st = absRun x1 x2 x7 (qside (BitVec.ofNat 32 (i 0).val) x0 x3 x4 x5 x6) (i 1).val s0 (4 * (i 1).val)) :
    absOf arg12 arg13 arg14 G12 G13 G14 (diagsRun i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G12 G13 G14 st)
      = absRun x1 x2 x7 (qside (BitVec.ofNat 32 (i 0).val) x0 x3 x4 x5 x6) (i 1).val s0 (4 * (i 1).val + 4) := by
  have h1 : (i 1).val < 4 := (i 1).isLt
  unfold diagsRun
  dsimp only
  rw [diagRun_eq, diagRun_eq, diagRun_eq, diagRun_eq, h]
  rw [absRun_succ _ _ _ _ _ _ (show 4 * (i 1).val + 3 < 16 by omega), absRun_succ _ _ _ _ _ _ (show 4 * (i 1).val + 2 < 16 by omega),
    absRun_succ _ _ _ _ _ _ (show 4 * (i 1).val + 1 < 16 by omega), absRun_succ _ _ _ _ _ _ (show 4 * (i 1).val < 16 by omega)]
  rfl

/-- What a grid point of case B leaves, by values. -/
theorem finB_eq (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    absOf arg12 arg13 arg14 (harg12.unread xo10) (harg13.unread xs0) (harg14.unread xs1) (finB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1)
      = absRun x1 x2 x7 (qside (BitVec.ofNat 32 (i 0).val) x0 x3 x4 x5 x6) (i 1).val ((k0_pay69, k0_pay68, k0_pay68), xo10, xs0, xs1) (4 * (i 1).val + 4) := by
  unfold finB
  refine diagsRun_eq i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ _ _ _ ?_
  rw [loopsRun_eq, loopRun_eq _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ le_rfl, harg12.read_unread, harg13.read_unread, harg14.read_unread]

/-- What a grid point of case C leaves, by values. -/
theorem finC_eq (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) :
    absOf arg12 arg13 arg14 (harg12.unread xo10) (harg13.unread xs0) (harg14.unread xs1) (finC c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1)
      = absRun x1 x2 x7 (qside (BitVec.ofNat 32 (i 0).val) x0 x3 x4 x5 x6) (i 1).val ((k0_pay69, k0_pay68, k0_pay68), xo10, xs0, xs1) (4 * (i 1).val + 4) := by
  unfold finC
  refine diagsRun_eq i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ _ _ _ ?_
  rw [loopsRun_eq, loopRun_eq _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ le_rfl, harg12.read_unread, harg13.read_unread, harg14.read_unread]

/-- What a grid point of case A leaves, by values: it starts from zeros. -/
theorem finA_eq (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) :
    absOf arg12 arg13 arg14 arg12.view.junk arg13.view.junk arg14.view.junk (finA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)
      = absRun x1 x2 x7 (qside (BitVec.ofNat 32 (i 0).val) x0 x3 x4 x5 x6) (i 1).val ((k0_pay69, k0_pay68, k0_pay68), k0_pay50, k0_pay48, k0_pay49) (4 * (i 1).val + 4) := by
  unfold finA
  refine diagsRun_eq i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ _ _ _ ?_
  rw [loopsRunOver_eq, loopRun_eq _ _ arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ le_rfl, View.read_writes_full, View.read_writes_full, View.read_writes_full]

end Cert.Fox
-- ==== Proof.Fox.Point.lean ====
/- What every grid point leaves, by values: the point's key blocks run over what the point before left. -/
module

public import proofs.«01_k».proof.Proof.Fox.Abs
public import proofs.«01_k».proof.Proof.Fox.Frame

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

variable {F : FTy → Type} [FloatOps F]

/-- What a grid point's key blocks leave, from its input blocks and from what the outputs and scratch held. -/
def ptState (i : grid0.Coords) (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32)
    (g : Vec F S1x2x4096 .f32) (k : Vec F S4096x128 .f32) (v : Vec F S4096x128 .f32) : AbsState F :=
  absRun x1 x2 x7 (qside (BitVec.ofNat 32 (i 0).val) x0 x3 x4 x5 x6) (i 1).val ((k0_pay69, k0_pay68, k0_pay68), g, k, v) (4 * (i 1).val + 4)

/-- The row sums as the kernel stores them: the low head's on its lanes, the high head's on the others. -/
def rowTile (S : AbsState F) : Vec F S1x1024x128 .f32 := k0_pay1 (k0_pay166 k0_pay51 S.1.2.1 S.1.2.2)

/-- The piece of the queries' gradient. -/
def dqPiece (i : grid0.Coords) (S : AbsState F) : View.Piece (Elt F) S3x4096x128 .bf16 :=
  ⟨Rect.unit (s := S3x4096x128) (k0_off13 i) S1x1024x128.size (k0_off13_inb i), k0_pay165 S.1.1⟩

/-- The pieces of the keys' and values' gradients. -/
def dkvPieces (S : AbsState F) : List (View.Piece (Elt F) S3x4096x128 .bf16) :=
  [⟨Rect.unit (s := S3x4096x128) ![2, 0, 0] ![1, 4096, 128] inb_S3x4096x128_S1x4096x128_2_0_0, k0_pay3 S.2.2.2⟩,
    ⟨Rect.unit (s := S3x4096x128) ![1, 0, 0] ![1, 4096, 128] inb_S3x4096x128_S1x4096x128_1_0_0, k0_pay2 S.2.2.1⟩]

theorem pointA_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = [dqPiece i (ptState i x0 x1 x2 x3 x4 x5 x6 x7 k0_pay50 k0_pay48 k0_pay49)] := by
  have h := finA_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
  have h1 : (_ : AbsState F).1.1 = (ptState i x0 x1 x2 x3 x4 x5 x6 x7 k0_pay50 k0_pay48 k0_pay49).1.1 := congrArg (fun s => s.1.1) h
  refine (runA_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).trans ?_
  unfold dqPiece
  rw [← h1]
  rfl

theorem pointA_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = rowTile (ptState i x0 x1 x2 x3 x4 x5 x6 x7 k0_pay50 k0_pay48 k0_pay49) := by
  have h := finA_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
  have h1 : (_ : AbsState F).1 = (ptState i x0 x1 x2 x3 x4 x5 x6 x7 k0_pay50 k0_pay48 k0_pay49).1 := congrArg (fun s => s.1) h
  unfold out0_A_9
  rw [runA_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7]
  refine (View.read_writes_full _ _ _ _ _).trans ?_
  unfold rowTile
  rw [← h1]
  rfl

theorem pointA_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = (ptState i x0 x1 x2 x3 x4 x5 x6 x7 k0_pay50 k0_pay48 k0_pay49).2.1 := by
  have h := finA_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
  have h1 : (_ : AbsState F).2.1 = (ptState i x0 x1 x2 x3 x4 x5 x6 x7 k0_pay50 k0_pay48 k0_pay49).2.1 := congrArg (fun s => s.2.1) h
  unfold out0_A_10
  rw [View.read_writes_of_cover _ _ arg12.view arg12.view.junk _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  rw [runA_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7]
  exact h1

theorem pointA_s0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = (ptState i x0 x1 x2 x3 x4 x5 x6 x7 k0_pay50 k0_pay48 k0_pay49).2.2.1 := by
  have h := finA_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
  have h1 : (_ : AbsState F).2.2.1 = (ptState i x0 x1 x2 x3 x4 x5 x6 x7 k0_pay50 k0_pay48 k0_pay49).2.2.1 := congrArg (fun s => s.2.2.1) h
  unfold sout0_A_0
  rw [View.read_writes_of_cover _ _ arg13.view arg13.view.junk _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  rw [runA_s0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7]
  exact h1

theorem pointA_s1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) : sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = (ptState i x0 x1 x2 x3 x4 x5 x6 x7 k0_pay50 k0_pay48 k0_pay49).2.2.2 := by
  have h := finA_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
  have h1 : (_ : AbsState F).2.2.2 = (ptState i x0 x1 x2 x3 x4 x5 x6 x7 k0_pay50 k0_pay48 k0_pay49).2.2.2 := congrArg (fun s => s.2.2.2) h
  unfold sout0_A_1
  rw [View.read_writes_of_cover _ _ arg14.view arg14.view.junk _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  rw [runA_s1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7]
  exact h1

theorem pointB_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = [dqPiece i (ptState i x0 x1 x2 x3 x4 x5 x6 x7 xo10 xs0 xs1)] := by
  have h := finB_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).1.1 = (ptState i x0 x1 x2 x3 x4 x5 x6 x7 xo10 xs0 xs1).1.1 := congrArg (fun s => s.1.1) h
  refine (runB_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).trans ?_
  unfold dqPiece
  rw [← h1]
  rfl

theorem pointB_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = rowTile (ptState i x0 x1 x2 x3 x4 x5 x6 x7 xo10 xs0 xs1) := by
  have h := finB_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).1 = (ptState i x0 x1 x2 x3 x4 x5 x6 x7 xo10 xs0 xs1).1 := congrArg (fun s => s.1) h
  unfold out0_B_9
  rw [runB_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  refine (View.read_writes_full _ _ _ _ _).trans ?_
  unfold rowTile
  rw [← h1]
  rfl

theorem pointB_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = (ptState i x0 x1 x2 x3 x4 x5 x6 x7 xo10 xs0 xs1).2.1 := by
  have h := finB_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).2.1 = (ptState i x0 x1 x2 x3 x4 x5 x6 x7 xo10 xs0 xs1).2.1 := congrArg (fun s => s.2.1) h
  unfold out0_B_10
  rw [runB_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  exact h1

theorem pointB_s0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = (ptState i x0 x1 x2 x3 x4 x5 x6 x7 xo10 xs0 xs1).2.2.1 := by
  have h := finB_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).2.2.1 = (ptState i x0 x1 x2 x3 x4 x5 x6 x7 xo10 xs0 xs1).2.2.1 := congrArg (fun s => s.2.2.1) h
  unfold sout0_B_0
  rw [runB_s0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  exact h1

theorem pointB_s1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : ¬cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = (ptState i x0 x1 x2 x3 x4 x5 x6 x7 xo10 xs0 xs1).2.2.2 := by
  have h := finB_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).2.2.2 = (ptState i x0 x1 x2 x3 x4 x5 x6 x7 xo10 xs0 xs1).2.2.2 := congrArg (fun s => s.2.2.2) h
  unfold sout0_B_1
  rw [runB_s1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  exact h1

theorem pointC_8 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = dkvPieces (ptState i x0 x1 x2 x3 x4 x5 x6 x7 xo10 xs0 xs1) ++ [dqPiece i (ptState i x0 x1 x2 x3 x4 x5 x6 x7 xo10 xs0 xs1)] := by
  have h := finC_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).1.1 = (ptState i x0 x1 x2 x3 x4 x5 x6 x7 xo10 xs0 xs1).1.1 := congrArg (fun s => s.1.1) h
  have h3 : (_ : AbsState F).2.2.1 = (ptState i x0 x1 x2 x3 x4 x5 x6 x7 xo10 xs0 xs1).2.2.1 := congrArg (fun s => s.2.2.1) h
  have h4 : (_ : AbsState F).2.2.2 = (ptState i x0 x1 x2 x3 x4 x5 x6 x7 xo10 xs0 xs1).2.2.2 := congrArg (fun s => s.2.2.2) h
  refine (runC_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1).trans ?_
  rw [View.readAt_full arg13.view, View.readAt_full arg14.view]
  unfold dqPiece dkvPieces
  rw [← h1, ← h3, ← h4]
  rfl

theorem pointC_9 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = rowTile (ptState i x0 x1 x2 x3 x4 x5 x6 x7 xo10 xs0 xs1) := by
  have h := finC_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).1 = (ptState i x0 x1 x2 x3 x4 x5 x6 x7 xo10 xs0 xs1).1 := congrArg (fun s => s.1) h
  unfold out0_C_9
  rw [runC_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  refine (View.read_writes_full _ _ _ _ _).trans ?_
  unfold rowTile
  rw [← h1]
  rfl

theorem pointC_10 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = (ptState i x0 x1 x2 x3 x4 x5 x6 x7 xo10 xs0 xs1).2.1 := by
  have h := finC_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).2.1 = (ptState i x0 x1 x2 x3 x4 x5 x6 x7 xo10 xs0 xs1).2.1 := congrArg (fun s => s.2.1) h
  unfold out0_C_10
  rw [runC_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  exact h1

theorem pointC_s0 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = (ptState i x0 x1 x2 x3 x4 x5 x6 x7 xo10 xs0 xs1).2.2.1 := by
  have h := finC_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).2.2.1 = (ptState i x0 x1 x2 x3 x4 x5 x6 x7 xo10 xs0 xs1).2.2.1 := congrArg (fun s => s.2.2.1) h
  unfold sout0_C_0
  rw [runC_s0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  exact h1

theorem pointC_s1 (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1024x128 .f32) (harg8 : arg8.IsWhole) (arg9 : Memref sig .tc .vmem S1x2x4096 .f32) (harg9 : arg9.IsWhole) (arg10 : Memref sig .tc .vmem S3x4096x128 .bf16) (harg10 : arg10.IsWhole) (arg11 : Memref sig .tc .vmem S1x1024x128 .f32) (harg11 : arg11.IsWhole) (arg12 : Memref sig .tc .vmem S1x2x4096 .f32) (harg12 : arg12.IsWhole) (arg13 : Memref sig .tc .vmem S4096x128 .f32) (harg13 : arg13.IsWhole) (arg14 : Memref sig .tc .vmem S4096x128 .f32) (harg14 : arg14.IsWhole) (hc0 : ¬cond0_0 i) (hc1 : cond0_1 i)
    (x0 : Vec F S1x1024x128 .bf16) (x1 : Vec F S1x4096x128 .bf16) (x2 : Vec F S1x4096x128 .bf16) (x3 : Vec F S1024x128 .bf16) (x4 : Vec F S1024x128 .bf16) (x5 : Vec F S1x1024x128 .f32) (x6 : Vec F S1024x128 .f32) (x7 : Vec F S1x2x4096 .f32) (xo10 : Vec F S1x2x4096 .f32) (xs0 : Vec F S4096x128 .f32) (xs1 : Vec F S4096x128 .f32) : sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1 = (ptState i x0 x1 x2 x3 x4 x5 x6 x7 xo10 xs0 xs1).2.2.2 := by
  have h := finC_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo10 xs0 xs1
  have h1 : (_ : AbsState F).2.2.2 = (ptState i x0 x1 x2 x3 x4 x5 x6 x7 xo10 xs0 xs1).2.2.2 := congrArg (fun s => s.2.2.2) h
  unfold sout0_C_1
  rw [runC_s1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo10 xs0 xs1]
  exact h1

variable (m : (ℓ : Loc nD τ sig) → Buf (Elt F) ℓ)

/-- A point's state over what was there before. -/
def stAt (c : Dev nD) (t : Fin cfg0.N) (g : Vec F S1x2x4096 .f32) (k : Vec F S4096x128 .f32) (v : Vec F S4096x128 .f32) : AbsState F :=
  ptState (grid0.coords t) (iblk m c 0 t) (iblk m c 1 t) (iblk m c 2 t) (iblk m c 3 t) (iblk m c 4 t) (iblk m c 5 t) (iblk m c 6 t) (iblk m c 7 t) g k v

/-- The first query block of a head pair. -/
theorem outs_first (c : Dev nD) (t : Fin cfg0.N) (h0 : t.val % 4 = 0) :
    outsAt0 m c t.val t.isLt = ([dqPiece (grid0.coords t) (stAt m c t k0_pay50 k0_pay48 k0_pay49)], rowTile (stAt m c t k0_pay50 k0_pay48 k0_pay49),
      (stAt m c t k0_pay50 k0_pay48 k0_pay49).2) := by
  rw [outsAt0_A m c t h0 (by omega), pointA_8, pointA_9, pointA_10, pointA_s0, pointA_s1]
  rfl

/-- A middle query block, over what the point before left. -/
theorem outs_mid (c : Dev nD) (t : Fin cfg0.N) (h0 : ¬t.val % 4 = 0) (h1 : ¬t.val % 4 = 3) (p : AbsState F)
    (hp : (outsAt0 m c (t.val - 1) (Nat.lt_of_le_of_lt (Nat.sub_le _ _) t.isLt)).2.2 = p.2) :
    outsAt0 m c t.val t.isLt = ([dqPiece (grid0.coords t) (stAt m c t p.2.1 p.2.2.1 p.2.2.2)], rowTile (stAt m c t p.2.1 p.2.2.1 p.2.2.2),
      (stAt m c t p.2.1 p.2.2.1 p.2.2.2).2) := by
  rw [outsAt0_B m c t h0 h1, pointB_8, pointB_9, pointB_10, pointB_s0, pointB_s1, ← hp]
  rfl

/-- The last query block, over what the point before left. -/
theorem outs_last (c : Dev nD) (t : Fin cfg0.N) (h1 : t.val % 4 = 3) (p : AbsState F)
    (hp : (outsAt0 m c (t.val - 1) (Nat.lt_of_le_of_lt (Nat.sub_le _ _) t.isLt)).2.2 = p.2) :
    outsAt0 m c t.val t.isLt = (dkvPieces (stAt m c t p.2.1 p.2.2.1 p.2.2.2) ++ [dqPiece (grid0.coords t) (stAt m c t p.2.1 p.2.2.1 p.2.2.2)],
      rowTile (stAt m c t p.2.1 p.2.2.1 p.2.2.2), (stAt m c t p.2.1 p.2.2.1 p.2.2.2).2) := by
  rw [outsAt0_C m c t (by omega) h1, pointC_8, pointC_9, pointC_10, pointC_s0, pointC_s1, ← hp]
  rfl

end Cert.Fox
-- ==== Proof.Fox.Closed.lean ====
/- One key block over the extended reals, each of its quantities read at an index. -/
module

public import proofs.«01_k».proof.Proof.Fox.Abs
public import Idealize.ShloMosaic.Lib.Pointwise
public import Idealize.ShloMosaic.Lib.WordCmp

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

theorem eighth : Ideal.ofBits .bf16 0x3E00#16 = ((1 / 8 : ℝ) : EReal) := by
  simp [Ideal.ofBits, Ideal.ieee, -EReal.coe_mul]; norm_num

/-- A lane of the low head, as the kernel tells it. -/
theorem select_low {α : Type} (e : Fin 128) (x y : α) :
    Scalar.select (IntOp.cmpi .slt (BitVec.ofNat 32 e.val) 64#32) x y = if e.val < 64 then x else y := by
  have h : ∀ e : Fin 128, IntOp.cmpi .slt (BitVec.ofNat 32 e.val) 64#32 = if e.val < 64 then 1#1 else 0#1 := by decide +kernel
  rw [h]
  split <;> rfl

theorem blkE_apply (q : FVec Ideal S1024x128 .bf16) (c l : FVec Ideal S1024x1 .f32) (k : FVec Ideal S256x128 .bf16) (ck : Vec Ideal S1x1x256 .f32)
    (t : Fin 1024) (s : Fin 256) :
    blkE q c l k ck (ix2 t s) = Ideal.exp ((∑ e : Fin 128, q (ix2 t e) * k (ix2 s e)) + (c (ix2 t 0) - ck (ix3 0 0 s)) - l (ix2 t 0)) := by
  pointwise [blkE]

theorem blkD_apply (p : FVec Ideal S1024x256 .f32) (d : FVec Ideal S1024x128 .bf16) (δ : FVec Ideal S1024x1 .f32) (v : FVec Ideal S256x128 .bf16)
    (t : Fin 1024) (s : Fin 256) :
    blkD p d δ v (ix2 t s) = p (ix2 t s) * ((∑ e : Fin 128, d (ix2 t e) * v (ix2 s e)) - δ (ix2 t 0)) := by
  pointwise [blkD]

theorem blkC_apply (old : Vec Ideal S1x1x256 .f32) (ds : FVec Ideal S1024x256 .f32) (s : Fin 256) :
    blkC old ds (ix3 0 0 s) = (show EReal from old (ix3 0 0 s)) - ∑ t : Fin 1024, ds (ix2 t s) := by
  pointwise [blkC]

theorem blkR_apply (old : FVec Ideal S1024x1 .f32) (ds : FVec Ideal S1024x256 .f32) (t : Fin 1024) :
    blkR old ds (ix2 t 0) = old (ix2 t 0) + ∑ s : Fin 256, ds (ix2 t s) := by
  pointwise [blkR]

theorem blkQ_apply (old : FVec Ideal S1024x128 .f32) (ds0 ds1 : FVec Ideal S1024x256 .f32) (k : FVec Ideal S256x128 .bf16) (t : Fin 1024) (e : Fin 128) :
    blkQ old ds0 ds1 k (ix2 t e) = old (ix2 t e) + ((∑ s : Fin 256, ds0 (ix2 t s) * blkK0 k (ix2 s e)) + ∑ s : Fin 256, ds1 (ix2 t s) * blkK1 k (ix2 s e)) := by
  pointwise [blkQ]

theorem blkK0_apply (k : FVec Ideal S256x128 .bf16) (s : Fin 256) (e : Fin 128) :
    blkK0 k (ix2 s e) = if e.val < 64 then k (ix2 s e) * ((1 / 8 : ℝ) : EReal) else 0 := by
  pointwise [blkK0, blkKs]
  rw [eighth, select_low]

theorem blkK1_apply (k : FVec Ideal S256x128 .bf16) (s : Fin 256) (e : Fin 128) :
    blkK1 k (ix2 s e) = if e.val < 64 then 0 else k (ix2 s e) * ((1 / 8 : ℝ) : EReal) := by
  pointwise [blkK1, blkKs]
  rw [eighth, select_low]

theorem blkKV_apply (old : Vec Ideal S256x128 .f32) (w0 w1 : FVec Ideal S1024x256 .f32) (x0 x1 : FVec Ideal S1024x128 .bf16) (s : Fin 256) (e : Fin 128) :
    blkKV old w0 w1 x0 x1 (ix2 s e) = (show EReal from old (ix2 s e)) + ((∑ t : Fin 1024, w0 (ix2 t s) * x0 (ix2 t e)) + ∑ t : Fin 1024, w1 (ix2 t s) * x1 (ix2 t e)) := by
  pointwise [blkKV]

theorem masked_apply (n : ℕ) (hn : n < 4) (p : FVec Ideal S1024x256 .f32) (t : Fin 1024) (s : Fin 256) :
    masked (blkMask (BitVec.ofNat 32 (256 * n))) p (ix2 t s) = if 256 * n + s.val ≤ t.val then p (ix2 t s) else 0 := by
  pointwise [masked, blkMask]
  have ht := t.isLt
  have hs := s.isLt
  have e : IntOp.addi (BitVec.ofNat 32 s.val) (BitVec.ofNat 32 (256 * n)) = BitVec.ofNat 32 (256 * n + s.val) := by
    rw [Nat.add_comm]; exact (BitVec.ofNat_add _ _).symm
  rw [e, WordCmp.cmpi_sle_ofNat (by omega) (by omega), WordCmp.select_ofBool]
  by_cases h : 256 * n + s.val ≤ t.val
  · rw [if_pos h, if_pos (by exact decide_eq_true h)]
  · rw [if_neg h, if_neg (by simpa using h)]

theorem drop_unit (W : Vec Ideal S1x256x128 .bf16) (s : Fin 256) (e : Fin 128) :
    shapeCast S256x128 W shapeCasts_S1x256x128_S256x128 (ix2 s e) = W (ix3 0 s e) := by
  pointwise []

theorem kBlk_apply (K : Vec Ideal S1x4096x128 .bf16) (b : Fin 16) (s : Fin 256) (e : Fin 128) :
    kBlk K b (ix2 s e) = K (ix3 0 ⟨256 * b.val + s.val, by omega⟩ e) := by
  unfold kBlk
  rw [drop_unit]
  unfold VecWindow.window
  refine congrArg K ?_
  funext a
  fin_cases a <;> apply Fin.ext <;> simp [Rect.unit, Rect.emb, ix2, ix3]

theorem cBlk_apply (C : Vec Ideal S1x2x4096 .f32) (h : Fin 2) (b : Fin 16) (s : Fin 256) :
    cBlk C h b (ix3 0 0 s) = C (ix3 0 h ⟨256 * b.val + s.val, by omega⟩) := by
  unfold cBlk VecWindow.window
  refine congrArg C ?_
  funext a
  fin_cases a <;> apply Fin.ext <;> simp [Rect.unit, Rect.emb, ix2, ix3]

theorem aBlk_apply (A : Vec Ideal S4096x128 .f32) (b : Fin 16) (s : Fin 256) (e : Fin 128) :
    aBlk A b (ix2 s e) = A (ix2 ⟨256 * b.val + s.val, by omega⟩ e) := by
  unfold aBlk VecWindow.window
  refine congrArg A ?_
  funext a
  fin_cases a <;> apply Fin.ext <;> simp [Rect.unit, Rect.emb, ix2, ix3]

theorem putC_apply (C : Vec Ideal S1x2x4096 .f32) (h : Fin 2) (b : Fin 16) (w : Vec Ideal S1x1x256 .f32) (h' : Fin 2) (s : Fin 4096) :
    put (s := S1x2x4096) C ![0, h.val, 256 * b.val] S1x1x256.size w (ix3 0 h' s)
      = if g : h' = h ∧ 256 * b.val ≤ s.val ∧ s.val < 256 * b.val + 256 then w (ix3 0 0 ⟨s.val - 256 * b.val, by omega⟩) else C (ix3 0 h' s) := by
  unfold VecWindow.put
  by_cases g : h' = h ∧ 256 * b.val ≤ s.val ∧ s.val < 256 * b.val + 256
  · rw [dif_pos g, dif_pos]
    · refine congrArg w ?_
      funext a
      fin_cases a <;> apply Fin.ext <;> simp [Rect.unitLocal, ix3, g.1]
    · obtain ⟨rfl, g1, g2⟩ := g
      intro a
      fin_cases a <;> simp [ix3] <;> omega
  · rw [dif_neg g, dif_neg]
    intro k
    apply g
    have k1 := k 1
    have k2 := k 2
    simp [ix3] at k1 k2
    exact ⟨Fin.ext (by omega), by omega, by omega⟩

theorem putA_apply (A : Vec Ideal S4096x128 .f32) (b : Fin 16) (w : Vec Ideal S256x128 .f32) (s : Fin 4096) (e : Fin 128) :
    put (s := S4096x128) A ![256 * b.val, 0] S256x128.size w (ix2 s e)
      = if g : 256 * b.val ≤ s.val ∧ s.val < 256 * b.val + 256 then w (ix2 ⟨s.val - 256 * b.val, by omega⟩ e) else A (ix2 s e) := by
  unfold VecWindow.put
  by_cases g : 256 * b.val ≤ s.val ∧ s.val < 256 * b.val + 256
  · rw [dif_pos g, dif_pos]
    · refine congrArg w ?_
      funext a
      fin_cases a <;> apply Fin.ext <;> simp [Rect.unitLocal, ix2]
    · intro a
      fin_cases a <;> simp [ix2] <;> omega
  · rw [dif_neg g, dif_neg]
    intro k
    apply g
    have k1 := k 0
    simp [ix2] at k1
    exact ⟨by omega, by omega⟩

end Cert.Fox
-- ==== Proof.Fox.Sums.lean ====
/- What a grid point's key blocks add up to: sums over the keys, and over the point's queries, of the attention weights and of the logits' gradient. -/
module

public import proofs.«01_k».proof.Proof.Fox.Closed

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

/-- The sum over the keys before `N`. -/
def upTo (f : Fin 4096 → EReal) (N : ℕ) : EReal := ∑ m ∈ Finset.range N, if h : m < 4096 then f ⟨m, h⟩ else 0

theorem upTo_zero (f : Fin 4096 → EReal) : upTo f 0 = 0 := rfl

theorem upTo_block (f : Fin 4096 → EReal) (n : ℕ) (hn : n < 16) :
    upTo f (256 * (n + 1)) = upTo f (256 * n) + ∑ j : Fin 256, f ⟨256 * n + j.val, by omega⟩ := by
  unfold upTo
  rw [show 256 * (n + 1) = 256 * n + 256 by ring, Finset.sum_range_add]
  congr 1
  rw [← Fin.sum_univ_eq_sum_range (fun x => if h : 256 * n + x < 4096 then f ⟨256 * n + x, h⟩ else 0) 256]
  exact Finset.sum_congr rfl fun j _ => dif_pos (by omega)

namespace QSide

/-- Head `h`'s scaled queries, output gradients, row sums, gates and log-sums. -/
def q (Q : QSide Ideal) (h : Fin 2) : FVec Ideal S1024x128 .bf16 := if h = 0 then Q.q0 else Q.q1
def d (Q : QSide Ideal) (h : Fin 2) : FVec Ideal S1024x128 .bf16 := if h = 0 then Q.d0 else Q.d1
def δ (Q : QSide Ideal) (h : Fin 2) : FVec Ideal S1024x1 .f32 := if h = 0 then Q.δ0 else Q.δ1
def c (Q : QSide Ideal) (h : Fin 2) : FVec Ideal S1024x1 .f32 := if h = 0 then Q.c0 else Q.c1
def l (Q : QSide Ideal) (h : Fin 2) : FVec Ideal S1024x1 .f32 := if h = 0 then Q.l0 else Q.l1

end QSide

section

variable (K V : Vec Ideal S1x4096x128 .bf16) (CK : Vec Ideal S1x2x4096 .f32) (Q : QSide Ideal) (qi : ℕ)

/-- The attention weight of head `h`, of the block's query `t` and key `s`: zero after the query. -/
def wgt (h : Fin 2) (t : Fin 1024) (s : Fin 4096) : EReal :=
  if s.val ≤ 1024 * qi + t.val then
    Ideal.exp ((∑ e : Fin 128, Q.q h (ix2 t e) * K (ix3 0 s e)) + (Q.c h (ix2 t 0) - CK (ix3 0 h s)) - Q.l h (ix2 t 0))
  else 0

/-- The gradient of that logit. -/
def dlg (h : Fin 2) (t : Fin 1024) (s : Fin 4096) : EReal :=
  wgt K CK Q qi h t s * ((∑ e : Fin 128, Q.d h (ix2 t e) * V (ix3 0 s e)) - Q.δ h (ix2 t 0))

/-- Head `h`'s scaled keys, on its own lanes. -/
def keyS (h : Fin 2) (s : Fin 4096) (e : Fin 128) : EReal := if e.val / 64 = h.val then K (ix3 0 s e) * ((1 / 8 : ℝ) : EReal) else 0

variable {qi}

theorem pmOf_apply (hq : qi < 4) {n : ℕ} (hn : n < 4 * qi + 4) (p : FVec Ideal S1024x256 .f32) (t : Fin 1024) (j : Fin 256) :
    pmOf qi n p (ix2 t j) = if 256 * n + j.val ≤ 1024 * qi + t.val then p (ix2 t j) else 0 := by
  have hj := j.isLt
  unfold pmOf
  by_cases h : n < 4 * qi
  · rw [if_pos h, if_pos (by omega)]
  · rw [if_neg h, masked_apply _ (by omega)]
    by_cases g : 256 * (n - 4 * qi) + j.val ≤ t.val
    · rw [if_pos g, if_pos (by omega)]
    · rw [if_neg g, if_neg (by omega)]

theorem wgt_blk (hq : qi < 4) {n : ℕ} (hn : n < 4 * qi + 4) (h : Fin 2) (t : Fin 1024) (j : Fin 256) :
    pmOf qi n (blkE (Q.q h) (Q.c h) (Q.l h) (kBlk K ⟨n, by omega⟩) (cBlk CK h ⟨n, by omega⟩)) (ix2 t j) = wgt K CK Q qi h t ⟨256 * n + j.val, by omega⟩ := by
  rw [pmOf_apply hq hn, blkE_apply, cBlk_apply]
  simp only [kBlk_apply]
  rfl

theorem dlg_blk (hq : qi < 4) {n : ℕ} (hn : n < 4 * qi + 4) (h : Fin 2) (t : Fin 1024) (j : Fin 256) :
    blkD (pmOf qi n (blkE (Q.q h) (Q.c h) (Q.l h) (kBlk K ⟨n, by omega⟩) (cBlk CK h ⟨n, by omega⟩))) (Q.d h) (Q.δ h) (kBlk V ⟨n, by omega⟩) (ix2 t j)
      = dlg K V CK Q qi h t ⟨256 * n + j.val, by omega⟩ := by
  rw [blkD_apply, wgt_blk K CK Q hq hn]
  simp only [kBlk_apply]
  rfl

theorem keyS_zero (b : Fin 16) (j : Fin 256) (e : Fin 128) : blkK0 (kBlk K b) (ix2 j e) = keyS K 0 ⟨256 * b.val + j.val, by omega⟩ e := by
  rw [blkK0_apply, kBlk_apply]
  unfold keyS
  by_cases h : e.val < 64
  · rw [if_pos h, if_pos (by show e.val / 64 = 0; omega)]
  · rw [if_neg h, if_neg (by show ¬ e.val / 64 = 0; omega)]

theorem keyS_one (b : Fin 16) (j : Fin 256) (e : Fin 128) : blkK1 (kBlk K b) (ix2 j e) = keyS K 1 ⟨256 * b.val + j.val, by omega⟩ e := by
  rw [blkK1_apply, kBlk_apply]
  unfold keyS
  by_cases h : e.val < 64
  · rw [if_pos h, if_neg (by show ¬ e.val / 64 = 1; omega)]
  · rw [if_neg h, if_pos (by show e.val / 64 = 1; omega)]

/-- What the state is after the keys before `N`. -/
structure Vals (N : ℕ) (st st' : AbsState Ideal) : Prop where
  dq : ∀ t e, st'.1.1 (ix2 t e) = st.1.1 (ix2 t e) + upTo (fun s => dlg K V CK Q qi 0 t s * keyS K 0 s e + dlg K V CK Q qi 1 t s * keyS K 1 s e) N
  r0 : ∀ t, st'.1.2.1 (ix2 t 0) = st.1.2.1 (ix2 t 0) + upTo (dlg K V CK Q qi 0 t) N
  r1 : ∀ t, st'.1.2.2 (ix2 t 0) = st.1.2.2 (ix2 t 0) + upTo (dlg K V CK Q qi 1 t) N
  c : ∀ (h : Fin 2) (s : Fin 4096), st'.2.1 (ix3 0 h s)
    = if s.val < N then (show EReal from st.2.1 (ix3 0 h s)) - ∑ t : Fin 1024, dlg K V CK Q qi h t s else st.2.1 (ix3 0 h s)
  k : ∀ (s : Fin 4096) (e : Fin 128), st'.2.2.1 (ix2 s e)
    = if s.val < N then (show EReal from st.2.2.1 (ix2 s e))
        + ((∑ t : Fin 1024, dlg K V CK Q qi 0 t s * Q.q 0 (ix2 t e)) + ∑ t : Fin 1024, dlg K V CK Q qi 1 t s * Q.q 1 (ix2 t e))
      else st.2.2.1 (ix2 s e)
  v : ∀ (s : Fin 4096) (e : Fin 128), st'.2.2.2 (ix2 s e)
    = if s.val < N then (show EReal from st.2.2.2 (ix2 s e))
        + ((∑ t : Fin 1024, wgt K CK Q qi 0 t s * Q.d 0 (ix2 t e)) + ∑ t : Fin 1024, wgt K CK Q qi 1 t s * Q.d 1 (ix2 t e))
      else st.2.2.2 (ix2 s e)

/-- The key blocks' sums, by induction on the blocks. -/
theorem absRun_vals (hq : qi < 4) (st : AbsState Ideal) : ∀ n, n ≤ 4 * qi + 4 → Vals (qi := qi) K V CK Q (256 * n) st (absRun K V CK Q qi st n) := by
  intro n
  induction n with
  | zero =>
    intro _
    constructor <;> intros <;> simp [absRun, upTo_zero]
  | succ n ih =>
    intro hn
    have hn' : n < 4 * qi + 4 := by omega
    have h16 : n < 16 := by omega
    have ih := ih (by omega)
    have w0 := wgt_blk K CK Q hq hn' 0
    have w1 := wgt_blk K CK Q hq hn' 1
    have d0 := dlg_blk K V CK Q hq hn' 0
    have d1 := dlg_blk K V CK Q hq hn' 1
    rw [absRun_succ _ _ _ _ _ _ h16]
    set S := absRun K V CK Q qi st n with hS
    constructor
    · intro t e
      refine (blkQ_apply _ _ _ _ t e).trans ?_
      simp only [keyS_zero, keyS_one]
      rw [upTo_block _ n h16, ih.dq, add_assoc, Finset.sum_add_distrib]
      refine congrArg (_ + ·) (congrArg (_ + ·) (congrArg₂ (· + ·) ?_ ?_))
      · exact Finset.sum_congr rfl fun j _ => congrArg (· * _) (d0 t j)
      · exact Finset.sum_congr rfl fun j _ => congrArg (· * _) (d1 t j)
    · intro t
      refine (blkR_apply _ _ t).trans ?_
      rw [upTo_block _ n h16, ih.r0, add_assoc]
      refine congrArg (_ + ·) (congrArg (_ + ·) (Finset.sum_congr rfl fun j _ => d0 t j))
    · intro t
      refine (blkR_apply _ _ t).trans ?_
      rw [upTo_block _ n h16, ih.r1, add_assoc]
      refine congrArg (_ + ·) (congrArg (_ + ·) (Finset.sum_congr rfl fun j _ => d1 t j))
    · intro h s
      have hs := s.isLt
      show put (s := S1x2x4096) (put (s := S1x2x4096) S.2.1 ![0, (0 : Fin 2).val, 256 * (⟨n, h16⟩ : Fin 16).val] S1x1x256.size _)
        ![0, (1 : Fin 2).val, 256 * (⟨n, h16⟩ : Fin 16).val] S1x1x256.size _ (ix3 0 h s) = _
      rw [putC_apply, putC_apply]
      by_cases hb : 256 * n ≤ s.val ∧ s.val < 256 * n + 256
      · have es : (⟨256 * n + (s.val - 256 * n), by omega⟩ : Fin 4096) = s := Fin.ext (by show 256 * n + (s.val - 256 * n) = s.val; omega)
        rw [if_pos (by omega : s.val < 256 * (n + 1))]
        by_cases h0 : h = 0
        · subst h0
          rw [dif_neg (by simp), dif_pos ⟨rfl, hb⟩, blkC_apply, cBlk_apply]
          dsimp only
          rw [es, ih.c, if_neg (by omega)]
          refine congrArg (_ - ·) (Finset.sum_congr rfl fun t _ => (d0 t _).trans ?_)
          rw [es]
        · obtain rfl : h = 1 := by omega
          rw [dif_pos ⟨rfl, hb⟩, blkC_apply, cBlk_apply]
          dsimp only
          rw [es, ih.c, if_neg (by omega)]
          refine congrArg (_ - ·) (Finset.sum_congr rfl fun t _ => (d1 t _).trans ?_)
          rw [es]
      · rw [dif_neg (fun g => hb g.2), dif_neg (fun g => hb g.2), ih.c]
        by_cases hl : s.val < 256 * n
        · rw [if_pos hl, if_pos (by omega)]
        · rw [if_neg hl, if_neg (by omega)]
    · intro s e
      have hs := s.isLt
      show put (s := S4096x128) S.2.2.1 ![256 * (⟨n, h16⟩ : Fin 16).val, 0] S256x128.size _ (ix2 s e) = _
      rw [putA_apply]
      by_cases hb : 256 * n ≤ s.val ∧ s.val < 256 * n + 256
      · have es : (⟨256 * n + (s.val - 256 * n), by omega⟩ : Fin 4096) = s := Fin.ext (by show 256 * n + (s.val - 256 * n) = s.val; omega)
        rw [if_pos (by omega : s.val < 256 * (n + 1)), dif_pos hb, blkKV_apply, aBlk_apply]
        dsimp only
        rw [es, ih.k, if_neg (by omega)]
        refine congrArg (_ + ·) (congrArg₂ (· + ·) (Finset.sum_congr rfl fun t _ => congrArg (· * _) ((d0 t _).trans ?_)) (Finset.sum_congr rfl fun t _ => congrArg (· * _) ((d1 t _).trans ?_))) <;> rw [es]
      · rw [dif_neg hb, ih.k]
        by_cases hl : s.val < 256 * n
        · rw [if_pos hl, if_pos (by omega)]
        · rw [if_neg hl, if_neg (by omega)]
    · intro s e
      have hs := s.isLt
      show put (s := S4096x128) S.2.2.2 ![256 * (⟨n, h16⟩ : Fin 16).val, 0] S256x128.size _ (ix2 s e) = _
      rw [putA_apply]
      by_cases hb : 256 * n ≤ s.val ∧ s.val < 256 * n + 256
      · have es : (⟨256 * n + (s.val - 256 * n), by omega⟩ : Fin 4096) = s := Fin.ext (by show 256 * n + (s.val - 256 * n) = s.val; omega)
        rw [if_pos (by omega : s.val < 256 * (n + 1)), dif_pos hb, blkKV_apply, aBlk_apply]
        dsimp only
        rw [es, ih.v, if_neg (by omega)]
        refine congrArg (_ + ·) (congrArg₂ (· + ·) (Finset.sum_congr rfl fun t _ => congrArg (· * _) ((w0 t _).trans ?_)) (Finset.sum_congr rfl fun t _ => congrArg (· * _) ((w1 t _).trans ?_))) <;> rw [es]
      · rw [dif_neg hb, ih.v]
        by_cases hl : s.val < 256 * n
        · rw [if_pos hl, if_pos (by omega)]
        · rw [if_neg hl, if_neg (by omega)]

end

/-! ## The query side in closed form -/

section

variable (hp : Fin 8) (x0 : Vec Ideal S1x1024x128 .bf16) (x3 x4 : Vec Ideal S1024x128 .bf16) (x5 : Vec Ideal S1x1024x128 .f32) (x6 : Vec Ideal S1024x128 .f32)

theorem qside_q (h : Fin 2) (t : Fin 1024) (e : Fin 128) :
    (qside (BitVec.ofNat 32 hp.val) x0 x3 x4 x5 x6).q h (ix2 t e) = if e.val / 64 = h.val then x0 (ix3 0 t e) * ((1 / 8 : ℝ) : EReal) else 0 := by
  fin_cases h
  · show k0_pay55 x0 (ix2 t e) = if e.val / 64 = 0 then _ else _
    pointwise [k0_pay55, k0_pay53, k0_pay54]
    rw [eighth, select_low]
    by_cases h : e.val < 64
    · rw [if_pos h, if_pos (by omega)]
    · rw [if_neg h, if_neg (by omega)]
  · show k0_pay56 x0 (ix2 t e) = if e.val / 64 = 1 then _ else _
    pointwise [k0_pay56, k0_pay53, k0_pay54]
    rw [eighth, select_low]
    by_cases h : e.val < 64
    · rw [if_pos h, if_neg (by omega)]
    · rw [if_neg h, if_pos (by omega)]

theorem qside_d (h : Fin 2) (t : Fin 1024) (e : Fin 128) :
    (qside (BitVec.ofNat 32 hp.val) x0 x3 x4 x5 x6).d h (ix2 t e) = if e.val / 64 = h.val then x4 (ix2 t e) else 0 := by
  fin_cases h
  · show k0_pay58 x4 (ix2 t e) = if e.val / 64 = 0 then _ else _
    pointwise [k0_pay58, k0_pay57]
    rw [select_low]
    by_cases h : e.val < 64
    · rw [if_pos h, if_pos (by omega)]
    · rw [if_neg h, if_neg (by omega)]
  · show k0_pay59 x4 (ix2 t e) = if e.val / 64 = 1 then _ else _
    pointwise [k0_pay59, k0_pay57]
    rw [select_low]
    by_cases h : e.val < 64
    · rw [if_pos h, if_neg (by omega)]
    · rw [if_neg h, if_pos (by omega)]

theorem qside_δ (h : Fin 2) (t : Fin 1024) :
    (qside (BitVec.ofNat 32 hp.val) x0 x3 x4 x5 x6).δ h (ix2 t 0) = ∑ e : Fin 128, if e.val / 64 = h.val then x4 (ix2 t e) * x3 (ix2 t e) else 0 := by
  fin_cases h
  · show k0_pay62 (k0_pay61 x4 x3) (ix2 t 0) = ∑ e : Fin 128, if e.val / 64 = 0 then _ else _
    pointwise [k0_pay62, k0_pay61, k0_pay60, k0_pay51]
    refine Finset.sum_congr rfl fun e _ => ?_
    rw [select_low]
    by_cases h : e.val < 64
    · rw [if_pos h, if_pos (by omega)]
    · rw [if_neg h, if_neg (by omega)]
  · show k0_pay63 k0_pay51 (k0_pay60 x4 x3) (ix2 t 0) = ∑ e : Fin 128, if e.val / 64 = 1 then _ else _
    pointwise [k0_pay63, k0_pay60, k0_pay51]
    refine Finset.sum_congr rfl fun e _ => ?_
    rw [select_low]
    by_cases h : e.val < 64
    · rw [if_pos h, if_neg (by omega)]
    · rw [if_neg h, if_pos (by omega)]

theorem select_lane (hp : Fin 8) (r : Fin 2) (f : Fin 128 → EReal) :
    (∑ e : Fin 128, Scalar.select (IntOp.cmpi .eq (BitVec.ofNat 32 e.val) (Scalar.addi (Scalar.muli 2#32 (BitVec.ofNat 32 hp.val)) (BitVec.ofNat 32 r.val))) (f e) 0)
      = f ⟨2 * hp.val + r.val, by omega⟩ := by
  have h : ∀ (hp : Fin 8) (r : Fin 2) (e : Fin 128), IntOp.cmpi .eq (BitVec.ofNat 32 e.val) (Scalar.addi (Scalar.muli 2#32 (BitVec.ofNat 32 hp.val)) (BitVec.ofNat 32 r.val))
      = if e = ⟨2 * hp.val + r.val, by omega⟩ then 1#1 else 0#1 := by decide +kernel
  have g : ∀ e : Fin 128, Scalar.select (IntOp.cmpi .eq (BitVec.ofNat 32 e.val) (Scalar.addi (Scalar.muli 2#32 (BitVec.ofNat 32 hp.val)) (BitVec.ofNat 32 r.val))) (f e) 0
      = if e = ⟨2 * hp.val + r.val, by omega⟩ then f e else 0 := by
    intro e; rw [h]; split <;> rfl
  simp only [g]
  rw [Finset.sum_ite_eq' Finset.univ]
  simp

theorem qside_c (h : Fin 2) (t : Fin 1024) :
    (qside (BitVec.ofNat 32 hp.val) x0 x3 x4 x5 x6).c h (ix2 t 0) = x6 (ix2 t ⟨2 * hp.val + h.val, by omega⟩) := by
  fin_cases h
  · show k0_pay64 (BitVec.ofNat 32 hp.val) x6 (ix2 t 0) = _
    pointwise [k0_pay64]
    exact select_lane hp 0 fun e => x6 (ix2 t e)
  · show k0_pay65 (BitVec.ofNat 32 hp.val) x6 (ix2 t 0) = _
    pointwise [k0_pay65]
    exact select_lane hp 1 fun e => x6 (ix2 t e)

theorem qside_l (h : Fin 2) (t : Fin 1024) :
    (qside (BitVec.ofNat 32 hp.val) x0 x3 x4 x5 x6).l h (ix2 t 0) = x5 (ix3 0 t ⟨64 * h.val, by omega⟩) := by
  fin_cases h
  · show k0_pay66 (k0_pay52 x5) (ix2 t 0) = _
    pointwise [k0_pay66, k0_pay52]
  · show k0_pay67 (k0_pay52 x5) (ix2 t 0) = _
    pointwise [k0_pay67, k0_pay52]

end

end Cert.Fox
-- ==== Proof.Fox.Arrays.lean ====
/- The input blocks of a grid point as parts of the arrays, and the states a pair of heads goes through over its four query blocks. -/
module

public import proofs.«01_k».proof.Proof.Fox.Point
public import proofs.«01_k».proof.Proof.Fox.Sums
public import Idealize.ShloMosaic.Lib.Pipeline.ValueKit

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

/-- Grid point `q` of head pair `hp`. -/
def pt (hp : Fin 8) (q : Fin 4) : Fin cfg0.N := ⟨4 * hp.val + q.val, by have h : cfg0.N = 32 := N_0; omega⟩

theorem pt_mod (hp : Fin 8) (q : Fin 4) : (pt hp q).val % 4 = q.val := by show (4 * hp.val + q.val) % 4 = q.val; omega

theorem coord0 (hp : Fin 8) (q : Fin 4) : ((grid0.coords (pt hp q)) 0).val = hp.val := by
  have h : ((grid0.coords (pt hp q)) 0).val = (pt hp q).val / 4 % 8 := Pipeline.Grid.coords_val (pt hp q) (0 : Fin 2) (by decide) rfl
  refine h.trans ?_
  show (4 * hp.val + q.val) / 4 % 8 = hp.val
  omega

theorem coord1 (hp : Fin 8) (q : Fin 4) : ((grid0.coords (pt hp q)) 1).val = q.val := by
  have h : ((grid0.coords (pt hp q)) 1).val = (pt hp q).val / 1 % 4 := Pipeline.Grid.coords_val (pt hp q) (1 : Fin 2) (by decide) rfl
  refine h.trans ?_
  show (4 * hp.val + q.val) / 1 % 4 = q.val
  omega

/-- The row of the sequence that query `t` of query block `q` is. -/
def row (q : Fin 4) (t : Fin 1024) : Fin 4096 := ⟨1024 * q.val + t.val, by omega⟩

/-- The column of the model's width that lane `e` of head pair `hp` is. -/
def col (hp : Fin 8) (e : Fin 128) : Fin 1024 := ⟨128 * hp.val + e.val, by omega⟩

theorem idx_0 : ∀ t : Fin cfg0.N, win0_0.index t = ![0, (grid0.coords t 1).val, (grid0.coords t 0).val] := by decide +kernel
theorem idx_1 : ∀ t : Fin cfg0.N, win0_1.index t = ![1, 0, (grid0.coords t 0).val] := by decide +kernel
theorem idx_2 : ∀ t : Fin cfg0.N, win0_2.index t = ![2, 0, (grid0.coords t 0).val] := by decide +kernel
theorem idx_3 : ∀ t : Fin cfg0.N, win0_3.index t = ![(grid0.coords t 1).val, (grid0.coords t 0).val] := by decide +kernel
theorem idx_4 : ∀ t : Fin cfg0.N, win0_4.index t = ![(grid0.coords t 1).val, (grid0.coords t 0).val] := by decide +kernel
theorem idx_5 : ∀ t : Fin cfg0.N, win0_5.index t = ![(grid0.coords t 0).val, (grid0.coords t 1).val, 0] := by decide +kernel
theorem idx_6 : ∀ t : Fin cfg0.N, win0_6.index t = ![(grid0.coords t 1).val, 0] := by decide +kernel
theorem idx_7 : ∀ t : Fin cfg0.N, win0_7.index t = ![(grid0.coords t 0).val, 0, 0] := by decide +kernel
theorem idx_8 : ∀ t : Fin cfg0.N, win0_8.index t = ![0, 0, (grid0.coords t 0).val] := by decide +kernel
theorem idx_9 : ∀ t : Fin cfg0.N, win0_9.index t = ![(grid0.coords t 0).val, (grid0.coords t 1).val, 0] := by decide +kernel
theorem idx_10 : ∀ t : Fin cfg0.N, win0_10.index t = ![(grid0.coords t 0).val, 0, 0] := by decide +kernel

section Blocks

variable {F : FTy → Type} [FloatOps F]
variable (m : (ℓ : Loc nD τ sig) → Buf (Elt F) ℓ) (c : Dev nD) (hp : Fin 8) (q : Fin 4)

/-- The arrays the kernel reads, as the region finds them. -/
def aX : Vec F S3x4096x1024 .bf16 := V m c main_arg0
def aO : Vec F S4096x1024 .bf16 := V m c main_v45
def aG : Vec F S4096x1024 .bf16 := V m c main_arg1
def aL : Vec F S8x4096x128 .f32 := V m c main_v49
def aC : Vec F S4096x128 .f32 := V m c main_arg2
def aK : Vec F S8x2x4096 .f32 := V m c main_v52

theorem iblk_0 (t : Fin 1024) (e : Fin 128) : (iblk m c 0 (pt hp q) : Vec F S1x1024x128 .bf16) (ix3 0 t e) = aX m c (ix3 0 (row q t) (col hp e)) := by
  have e0 := coord0 hp q
  have e1 := coord1 hp q
  unfold aX
  blk_ext [iblk, idx_0 (pt hp q), row, col]

theorem iblk_1 (s : Fin 4096) (e : Fin 128) : (iblk m c 1 (pt hp q) : Vec F S1x4096x128 .bf16) (ix3 0 s e) = aX m c (ix3 1 s (col hp e)) := by
  have e0 := coord0 hp q
  have e1 := coord1 hp q
  unfold aX
  blk_ext [iblk, idx_1 (pt hp q), row, col]

theorem iblk_2 (s : Fin 4096) (e : Fin 128) : (iblk m c 2 (pt hp q) : Vec F S1x4096x128 .bf16) (ix3 0 s e) = aX m c (ix3 2 s (col hp e)) := by
  have e0 := coord0 hp q
  have e1 := coord1 hp q
  unfold aX
  blk_ext [iblk, idx_2 (pt hp q), row, col]

theorem iblk_3 (t : Fin 1024) (e : Fin 128) : (iblk m c 3 (pt hp q) : Vec F S1024x128 .bf16) (ix2 t e) = aO m c (ix2 (row q t) (col hp e)) := by
  have e0 := coord0 hp q
  have e1 := coord1 hp q
  unfold aO
  blk_ext [iblk, idx_3 (pt hp q), row, col]

theorem iblk_4 (t : Fin 1024) (e : Fin 128) : (iblk m c 4 (pt hp q) : Vec F S1024x128 .bf16) (ix2 t e) = aG m c (ix2 (row q t) (col hp e)) := by
  have e0 := coord0 hp q
  have e1 := coord1 hp q
  unfold aG
  blk_ext [iblk, idx_4 (pt hp q), row, col]

theorem iblk_5 (t : Fin 1024) (e : Fin 128) : (iblk m c 5 (pt hp q) : Vec F S1x1024x128 .f32) (ix3 0 t e) = aL m c (ix3 hp (row q t) e) := by
  have e0 := coord0 hp q
  have e1 := coord1 hp q
  unfold aL
  blk_ext [iblk, idx_5 (pt hp q), row, col]

theorem iblk_6 (t : Fin 1024) (e : Fin 128) : (iblk m c 6 (pt hp q) : Vec F S1024x128 .f32) (ix2 t e) = aC m c (ix2 (row q t) e) := by
  have e0 := coord0 hp q
  have e1 := coord1 hp q
  unfold aC
  blk_ext [iblk, idx_6 (pt hp q), row, col]

theorem iblk_7 (h : Fin 2) (s : Fin 4096) : (iblk m c 7 (pt hp q) : Vec F S1x2x4096 .f32) (ix3 0 h s) = aK m c (ix3 hp h s) := by
  have e0 := coord0 hp q
  have e1 := coord1 hp q
  unfold aK
  blk_ext [iblk, idx_7 (pt hp q), row, col]

end Blocks

section Seq

variable {F : FTy → Type} [FloatOps F]
variable (m : (ℓ : Loc nD τ sig) → Buf (Elt F) ℓ) (c : Dev nD) (hp : Fin 8)

/-- The states after the four query blocks of a pair of heads: each over the key side the one before left. -/
def seq : Fin 4 → AbsState F
  | ⟨0, _⟩ => stAt m c (pt hp 0) k0_pay50 k0_pay48 k0_pay49
  | ⟨1, _⟩ => stAt m c (pt hp 1) (stAt m c (pt hp 0) k0_pay50 k0_pay48 k0_pay49).2.1 (stAt m c (pt hp 0) k0_pay50 k0_pay48 k0_pay49).2.2.1 (stAt m c (pt hp 0) k0_pay50 k0_pay48 k0_pay49).2.2.2
  | ⟨2, _⟩ => let p := stAt m c (pt hp 1) (stAt m c (pt hp 0) k0_pay50 k0_pay48 k0_pay49).2.1 (stAt m c (pt hp 0) k0_pay50 k0_pay48 k0_pay49).2.2.1 (stAt m c (pt hp 0) k0_pay50 k0_pay48 k0_pay49).2.2.2
      stAt m c (pt hp 2) p.2.1 p.2.2.1 p.2.2.2
  | ⟨_ + 3, _⟩ => let p := stAt m c (pt hp 1) (stAt m c (pt hp 0) k0_pay50 k0_pay48 k0_pay49).2.1 (stAt m c (pt hp 0) k0_pay50 k0_pay48 k0_pay49).2.2.1 (stAt m c (pt hp 0) k0_pay50 k0_pay48 k0_pay49).2.2.2
      let p := stAt m c (pt hp 2) p.2.1 p.2.2.1 p.2.2.2
      stAt m c (pt hp 3) p.2.1 p.2.2.1 p.2.2.2

theorem seq_zero : seq m c hp 0 = stAt m c (pt hp 0) k0_pay50 k0_pay48 k0_pay49 := rfl
theorem seq_one : seq m c hp 1 = stAt m c (pt hp 1) (seq m c hp 0).2.1 (seq m c hp 0).2.2.1 (seq m c hp 0).2.2.2 := rfl
theorem seq_two : seq m c hp 2 = stAt m c (pt hp 2) (seq m c hp 1).2.1 (seq m c hp 1).2.2.1 (seq m c hp 1).2.2.2 := rfl
theorem seq_three : seq m c hp 3 = stAt m c (pt hp 3) (seq m c hp 2).2.1 (seq m c hp 2).2.2.1 (seq m c hp 2).2.2.2 := rfl

theorem outs_congr {n n' : ℕ} (e : n = n') (h : n < cfg0.N) (h' : n' < cfg0.N) : outsAt0 m c n h = outsAt0 m c n' h' := by subst e; rfl
theorem soFar_congr {n n' : ℕ} (e : n = n') (h : n < cfg0.N) (h' : n' < cfg0.N) : soFar m c n h = soFar m c n' h' := by subst e; rfl

theorem outs_zero : outsAt0 m c (pt hp 0).val (pt hp 0).isLt = ([dqPiece (grid0.coords (pt hp 0)) (seq m c hp 0)], rowTile (seq m c hp 0), (seq m c hp 0).2) :=
  outs_first m c (pt hp 0) (pt_mod hp 0)

theorem outs_one : outsAt0 m c (pt hp 1).val (pt hp 1).isLt = ([dqPiece (grid0.coords (pt hp 1)) (seq m c hp 1)], rowTile (seq m c hp 1), (seq m c hp 1).2) :=
  outs_mid m c (pt hp 1) (by rw [pt_mod]; decide) (by rw [pt_mod]; decide) (seq m c hp 0) (congrArg (fun x => x.2.2) ((outs_congr m c (by show 4 * hp.val + 1 - 1 = 4 * hp.val + 0; omega) _ _).trans (outs_zero m c hp)))

theorem outs_two : outsAt0 m c (pt hp 2).val (pt hp 2).isLt = ([dqPiece (grid0.coords (pt hp 2)) (seq m c hp 2)], rowTile (seq m c hp 2), (seq m c hp 2).2) :=
  outs_mid m c (pt hp 2) (by rw [pt_mod]; decide) (by rw [pt_mod]; decide) (seq m c hp 1) (congrArg (fun x => x.2.2) ((outs_congr m c (by show 4 * hp.val + 2 - 1 = 4 * hp.val + 1; omega) _ _).trans (outs_one m c hp)))

theorem outs_three : outsAt0 m c (pt hp 3).val (pt hp 3).isLt
    = (dkvPieces (seq m c hp 3) ++ [dqPiece (grid0.coords (pt hp 3)) (seq m c hp 3)], rowTile (seq m c hp 3), (seq m c hp 3).2) :=
  outs_last m c (pt hp 3) (by rw [pt_mod]; decide) (seq m c hp 2) (congrArg (fun x => x.2.2) ((outs_congr m c (by show 4 * hp.val + 3 - 1 = 4 * hp.val + 2; omega) _ _).trans (outs_two m c hp)))

/-- What the first result's buffer holds of the pair when it is written back. -/
theorem soFar_three : soFar m c (pt hp 3).val (pt hp 3).isLt
    = dkvPieces (seq m c hp 3) ++ [dqPiece (grid0.coords (pt hp 3)) (seq m c hp 3), dqPiece (grid0.coords (pt hp 2)) (seq m c hp 2),
        dqPiece (grid0.coords (pt hp 1)) (seq m c hp 1), dqPiece (grid0.coords (pt hp 0)) (seq m c hp 0)] := by
  have h0 : soFar m c (pt hp 0).val (pt hp 0).isLt = [dqPiece (grid0.coords (pt hp 0)) (seq m c hp 0)] := by
    rw [soFar_first m c (pt hp 0) (pt_mod hp 0), outs_zero]
  have h1 : soFar m c (pt hp 1).val (pt hp 1).isLt = [dqPiece (grid0.coords (pt hp 1)) (seq m c hp 1)] ++ [dqPiece (grid0.coords (pt hp 0)) (seq m c hp 0)] := by
    rw [soFar_later m c (pt hp 1) (by rw [pt_mod]; decide), outs_one]
    exact congrArg _ ((soFar_congr m c (by show 4 * hp.val + 1 - 1 = 4 * hp.val + 0; omega) _ _).trans h0)
  have h2 : soFar m c (pt hp 2).val (pt hp 2).isLt
      = [dqPiece (grid0.coords (pt hp 2)) (seq m c hp 2)] ++ ([dqPiece (grid0.coords (pt hp 1)) (seq m c hp 1)] ++ [dqPiece (grid0.coords (pt hp 0)) (seq m c hp 0)]) := by
    rw [soFar_later m c (pt hp 2) (by rw [pt_mod]; decide), outs_two]
    exact congrArg _ ((soFar_congr m c (by show 4 * hp.val + 2 - 1 = 4 * hp.val + 1; omega) _ _).trans h1)
  rw [soFar_later m c (pt hp 3) (by rw [pt_mod]; decide), outs_three]
  refine (congrArg (fun l => _ ++ l) ((soFar_congr m c (by show 4 * hp.val + 3 - 1 = 4 * hp.val + 2; omega) _ _).trans h2)).trans ?_
  rw [List.append_assoc]
  rfl

end Seq

end Cert.Fox
-- ==== Proof.Fox.Totals.lean ====
/- What the four query blocks of a pair of heads leave, as sums over the whole sequence of the attention weights and of the logits' gradient. -/
module

public import proofs.«01_k».proof.Proof.Fox.Arrays

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

section Maths

variable (X : Vec Ideal S3x4096x1024 .bf16) (O G : Vec Ideal S4096x1024 .bf16) (L : Vec Ideal S8x4096x128 .f32) (C : Vec Ideal S4096x128 .f32) (CK : Vec Ideal S8x2x4096 .f32)
variable (hp : Fin 8) (h : Fin 2)

/-- Head `h` of pair `hp`: its scaled query, on its own lanes. -/
def gq (r : Fin 4096) (e : Fin 128) : EReal := if e.val / 64 = h.val then X (ix3 0 r (col hp e)) * ((1 / 8 : ℝ) : EReal) else 0
/-- Its scaled key, on its own lanes. -/
def gk (s : Fin 4096) (e : Fin 128) : EReal := if e.val / 64 = h.val then X (ix3 1 s (col hp e)) * ((1 / 8 : ℝ) : EReal) else 0
/-- Its output's gradient, on its own lanes. -/
def gd (r : Fin 4096) (e : Fin 128) : EReal := if e.val / 64 = h.val then G (ix2 r (col hp e)) else 0
/-- Its row sum of output times gradient. -/
def gδ (r : Fin 4096) : EReal := ∑ e : Fin 128, if e.val / 64 = h.val then G (ix2 r (col hp e)) * O (ix2 r (col hp e)) else 0
/-- Its attention weight of query `r` for key `s`. -/
def gW (r s : Fin 4096) : EReal :=
  if s.val ≤ r.val then
    Ideal.exp ((∑ e : Fin 128, gq X hp h r e * X (ix3 1 s (col hp e))) + (C (ix2 r ⟨2 * hp.val + h.val, by omega⟩) - CK (ix3 hp h s)) - L (ix3 hp r ⟨64 * h.val, by omega⟩))
  else 0
/-- The gradient of that logit. -/
def gD (r s : Fin 4096) : EReal :=
  gW X L C CK hp h r s * ((∑ e : Fin 128, gd G hp h r e * X (ix3 2 s (col hp e))) - gδ O G hp h r)

theorem gW_later {r s : Fin 4096} (hs : r.val < s.val) : gW X L C CK hp h r s = 0 := if_neg (by omega)
theorem gD_later {r s : Fin 4096} (hs : r.val < s.val) : gD X O G L C CK hp h r s = 0 := by unfold gD; rw [gW_later X L C CK hp h hs]; exact zero_mul _

end Maths

theorem upTo_full (f : Fin 4096 → EReal) (N : ℕ) (hN : N ≤ 4096) (hf : ∀ s : Fin 4096, N ≤ s.val → f s = 0) : upTo f N = ∑ s : Fin 4096, f s := by
  unfold upTo
  rw [Finset.sum_fin_eq_sum_range]
  refine Finset.sum_subset (Finset.range_mono hN) fun x hx hx' => ?_
  have h1 := Finset.mem_range.mp hx
  have h2 : N ≤ x := by simpa using hx'
  rw [dif_pos h1]
  exact hf _ h2

section Seq

variable (m : (ℓ : Loc nD τ sig) → Buf (Elt Ideal) ℓ) (c : Dev nD) (hp : Fin 8)

/-- The query side of a grid point. -/
def ptQ (q : Fin 4) : QSide Ideal := qside (F := Ideal) (BitVec.ofNat 32 hp.val) (iblk m c 0 (pt hp q)) (iblk m c 3 (pt hp q)) (iblk m c 4 (pt hp q)) (iblk m c 5 (pt hp q)) (iblk m c 6 (pt hp q))

/-- The logits' gradient and the weights, off the arrays the kernel reads. -/
def kW (h : Fin 2) (r s : Fin 4096) : EReal := gW (aX m c) (aL m c) (aC m c) (aK m c) hp h r s
def kD (h : Fin 2) (r s : Fin 4096) : EReal := gD (aX m c) (aO m c) (aG m c) (aL m c) (aC m c) (aK m c) hp h r s

theorem ptQ_q (q : Fin 4) (h : Fin 2) (t : Fin 1024) (e : Fin 128) : (ptQ m c hp q).q h (ix2 t e) = gq (aX m c) hp h (row q t) e := by
  unfold ptQ gq
  refine (qside_q hp _ _ _ _ _ h t e).trans ?_
  rw [iblk_0]

theorem ptQ_d (q : Fin 4) (h : Fin 2) (t : Fin 1024) (e : Fin 128) : (ptQ m c hp q).d h (ix2 t e) = gd (aG m c) hp h (row q t) e := by
  unfold ptQ gd
  refine (qside_d hp _ _ _ _ _ h t e).trans ?_
  rw [iblk_4]

theorem wgt_eq (q : Fin 4) (h : Fin 2) (t : Fin 1024) (s : Fin 4096) :
    wgt (iblk m c 1 (pt hp q)) (iblk m c 7 (pt hp q)) (ptQ m c hp q) q.val h t s = kW m c hp h (row q t) s := by
  unfold wgt kW gW
  have hc : (ptQ m c hp q).c h (ix2 t 0) = _ := qside_c hp _ _ _ _ _ h t
  have hl : (ptQ m c hp q).l h (ix2 t 0) = _ := qside_l hp _ _ _ _ _ h t
  rw [hc, hl, iblk_5, iblk_6, iblk_7]
  have hz : (∑ e : Fin 128, (ptQ m c hp q).q h (ix2 t e) * (show EReal from iblk m c 1 (pt hp q) (ix3 0 s e)))
      = ∑ e : Fin 128, gq (aX m c) hp h (row q t) e * aX m c (ix3 1 s (col hp e)) :=
    Finset.sum_congr rfl fun e _ => by rw [ptQ_q]; exact congrArg _ (iblk_1 m c hp q s e)
  exact congrArg (fun z => if s.val ≤ 1024 * q.val + t.val then Ideal.exp (z + _ - _) else 0) hz

theorem dlg_eq (q : Fin 4) (h : Fin 2) (t : Fin 1024) (s : Fin 4096) :
    dlg (iblk m c 1 (pt hp q)) (iblk m c 2 (pt hp q)) (iblk m c 7 (pt hp q)) (ptQ m c hp q) q.val h t s = kD m c hp h (row q t) s := by
  unfold dlg kD gD
  rw [wgt_eq]
  have hδ : (ptQ m c hp q).δ h (ix2 t 0) = gδ (aO m c) (aG m c) hp h (row q t) := by
    refine (qside_δ hp _ _ _ _ _ h t).trans ?_
    unfold gδ
    exact Finset.sum_congr rfl fun e _ => by rw [iblk_3, iblk_4]
  have hz : (∑ e : Fin 128, (ptQ m c hp q).d h (ix2 t e) * (show EReal from iblk m c 2 (pt hp q) (ix3 0 s e)))
      = ∑ e : Fin 128, gd (aG m c) hp h (row q t) e * aX m c (ix3 2 s (col hp e)) :=
    Finset.sum_congr rfl fun e _ => by rw [ptQ_d]; exact congrArg _ (iblk_2 m c hp q s e)
  rw [hδ]
  exact congrArg (fun z => kW m c hp h (row q t) s * (z - _)) hz

theorem keyS_eq (q : Fin 4) (h : Fin 2) (s : Fin 4096) (e : Fin 128) : keyS (iblk m c 1 (pt hp q)) h s e = gk (aX m c) hp h s e := by
  unfold keyS gk
  rw [iblk_1]

/-- The gradient of the scaled queries before the keys' scale is put back: the sum over the keys. -/
def tDQ (r : Fin 4096) (e : Fin 128) : EReal :=
  ∑ s : Fin 4096, (kD m c hp 0 r s * gk (aX m c) hp 0 s e + kD m c hp 1 r s * gk (aX m c) hp 1 s e)
/-- The row sums of the logits' gradient. -/
def tDR (h : Fin 2) (r : Fin 4096) : EReal := ∑ s : Fin 4096, kD m c hp h r s
/-- One query block's share of the keys' gradient. -/
def tK (q : Fin 4) (s : Fin 4096) (e : Fin 128) : EReal :=
  (∑ t : Fin 1024, kD m c hp 0 (row q t) s * gq (aX m c) hp 0 (row q t) e) + ∑ t : Fin 1024, kD m c hp 1 (row q t) s * gq (aX m c) hp 1 (row q t) e
/-- One query block's share of the values' gradient. -/
def tV (q : Fin 4) (s : Fin 4096) (e : Fin 128) : EReal :=
  (∑ t : Fin 1024, kW m c hp 0 (row q t) s * gd (aG m c) hp 0 (row q t) e) + ∑ t : Fin 1024, kW m c hp 1 (row q t) s * gd (aG m c) hp 1 (row q t) e
/-- One query block's share of the gates' gradient. -/
def tC (q : Fin 4) (h : Fin 2) (s : Fin 4096) : EReal := ∑ t : Fin 1024, kD m c hp h (row q t) s

/-- What a grid point leaves over what was there before. -/
structure Point (q : Fin 4) (g : Vec Ideal S1x2x4096 .f32) (k v : Vec Ideal S4096x128 .f32) (S : AbsState Ideal) : Prop where
  dq : ∀ t e, S.1.1 (ix2 t e) = tDQ m c hp (row q t) e
  r0 : ∀ t, S.1.2.1 (ix2 t 0) = tDR m c hp 0 (row q t)
  r1 : ∀ t, S.1.2.2 (ix2 t 0) = tDR m c hp 1 (row q t)
  gate : ∀ (h : Fin 2) (s : Fin 4096), S.2.1 (ix3 0 h s) = (show EReal from g (ix3 0 h s)) - tC m c hp q h s
  k : ∀ (s : Fin 4096) (e : Fin 128), S.2.2.1 (ix2 s e) = (show EReal from k (ix2 s e)) + tK m c hp q s e
  v : ∀ (s : Fin 4096) (e : Fin 128), S.2.2.2 (ix2 s e) = (show EReal from v (ix2 s e)) + tV m c hp q s e

theorem zero_fill (t : Fin 1024) (e : Fin 128) : (k0_pay69 : FVec Ideal S1024x128 .f32) (ix2 t e) = 0 := by
  pointwise [k0_pay69]

theorem zero_row (t : Fin 1024) : (k0_pay68 : FVec Ideal S1024x1 .f32) (ix2 t 0) = 0 := by
  pointwise [k0_pay68]

theorem zero_k (s : Fin 4096) (e : Fin 128) : (k0_pay48 : FVec Ideal S4096x128 .f32) (ix2 s e) = 0 := by
  pointwise [k0_pay48]

theorem zero_v (s : Fin 4096) (e : Fin 128) : (k0_pay49 : FVec Ideal S4096x128 .f32) (ix2 s e) = 0 := by
  pointwise [k0_pay49]

theorem zero_c (h : Fin 2) (s : Fin 4096) : (k0_pay50 : FVec Ideal S1x2x4096 .f32) (ix3 0 h s) = 0 := by
  pointwise [k0_pay50]

theorem kD_later (q : Fin 4) (h : Fin 2) (t : Fin 1024) (s : Fin 4096) (hs : 256 * (4 * q.val + 4) ≤ s.val) : kD m c hp h (row q t) s = 0 :=
  gD_later _ _ _ _ _ _ hp h (by show 1024 * q.val + t.val < s.val; omega)

theorem kW_later (q : Fin 4) (h : Fin 2) (t : Fin 1024) (s : Fin 4096) (hs : 256 * (4 * q.val + 4) ≤ s.val) : kW m c hp h (row q t) s = 0 :=
  gW_later _ _ _ _ hp h (by show 1024 * q.val + t.val < s.val; omega)

theorem stAt_point (q : Fin 4) (g : Vec Ideal S1x2x4096 .f32) (k v : Vec Ideal S4096x128 .f32) :
    Point m c hp q g k v (stAt m c (pt hp q) g k v) := by
  have e : stAt m c (pt hp q) g k v = absRun (iblk m c 1 (pt hp q)) (iblk m c 2 (pt hp q)) (iblk m c 7 (pt hp q)) (ptQ m c hp q) q.val
      ((k0_pay69, k0_pay68, k0_pay68), g, k, v) (4 * q.val + 4) := by
    unfold stAt ptState ptQ
    rw [coord0, coord1]
  have w := absRun_vals (iblk m c 1 (pt hp q)) (iblk m c 2 (pt hp q)) (iblk m c 7 (pt hp q)) (ptQ m c hp q) q.isLt ((k0_pay69, k0_pay68, k0_pay68), g, k, v) (4 * q.val + 4) (le_refl _)
  rw [← e] at w
  have hN : 256 * (4 * q.val + 4) ≤ 4096 := by omega
  constructor
  · intro t e
    rw [w.dq t e]
    refine (congrArg₂ (· + ·) (zero_fill t e) ?_).trans (zero_add _)
    unfold tDQ
    refine Eq.trans ?_ (upTo_full _ (256 * (4 * q.val + 4)) hN fun s hs => ?_)
    · refine congrArg (fun f => upTo f _) (funext fun s => ?_)
      rw [dlg_eq, dlg_eq, keyS_eq, keyS_eq]
    · rw [kD_later m c hp q 0 t s hs, kD_later m c hp q 1 t s hs, zero_mul, zero_mul, add_zero]
  · intro t
    rw [w.r0 t]
    refine (congrArg₂ (· + ·) (zero_row t) ?_).trans (zero_add _)
    refine Eq.trans ?_ (upTo_full _ (256 * (4 * q.val + 4)) hN fun s hs => kD_later m c hp q 0 t s hs)
    exact congrArg (fun f => upTo f _) (funext fun s => dlg_eq m c hp q 0 t s)
  · intro t
    rw [w.r1 t]
    refine (congrArg₂ (· + ·) (zero_row t) ?_).trans (zero_add _)
    refine Eq.trans ?_ (upTo_full _ (256 * (4 * q.val + 4)) hN fun s hs => kD_later m c hp q 1 t s hs)
    exact congrArg (fun f => upTo f _) (funext fun s => dlg_eq m c hp q 1 t s)
  · intro h s
    rw [w.c h s]
    unfold tC
    split_ifs with hs
    · exact congrArg (fun x => (show EReal from g (ix3 0 h s)) - x) (Finset.sum_congr rfl fun t _ => dlg_eq m c hp q h t s)
    · rw [Finset.sum_eq_zero fun t _ => kD_later m c hp q h t s (by omega), sub_zero]
  · intro s e
    rw [w.k s e]
    unfold tK
    split_ifs with hs
    · refine congrArg (fun x => (show EReal from k (ix2 s e)) + x) (congrArg₂ (· + ·) ?_ ?_)
      · exact Finset.sum_congr rfl fun t _ => by rw [dlg_eq, ptQ_q]
      · exact Finset.sum_congr rfl fun t _ => by rw [dlg_eq, ptQ_q]
    · rw [Finset.sum_eq_zero fun t _ => by rw [kD_later m c hp q 0 t s (by omega), zero_mul],
        Finset.sum_eq_zero fun t _ => by rw [kD_later m c hp q 1 t s (by omega), zero_mul], add_zero, add_zero]
  · intro s e
    rw [w.v s e]
    unfold tV
    split_ifs with hs
    · refine congrArg (fun x => (show EReal from v (ix2 s e)) + x) (congrArg₂ (· + ·) ?_ ?_)
      · exact Finset.sum_congr rfl fun t _ => by rw [wgt_eq, ptQ_d]
      · exact Finset.sum_congr rfl fun t _ => by rw [wgt_eq, ptQ_d]
    · rw [Finset.sum_eq_zero fun t _ => by rw [kW_later m c hp q 0 t s (by omega), zero_mul],
        Finset.sum_eq_zero fun t _ => by rw [kW_later m c hp q 1 t s (by omega), zero_mul], add_zero, add_zero]

theorem seq_dq (q : Fin 4) (t : Fin 1024) (e : Fin 128) : (seq m c hp q).1.1 (ix2 t e) = tDQ m c hp (row q t) e := by
  fin_cases q <;> exact (stAt_point m c hp _ _ _ _).dq t e

theorem seq_r0 (q : Fin 4) (t : Fin 1024) : (seq m c hp q).1.2.1 (ix2 t 0) = tDR m c hp 0 (row q t) := by
  fin_cases q <;> exact (stAt_point m c hp _ _ _ _).r0 t

theorem seq_r1 (q : Fin 4) (t : Fin 1024) : (seq m c hp q).1.2.2 (ix2 t 0) = tDR m c hp 1 (row q t) := by
  fin_cases q <;> exact (stAt_point m c hp _ _ _ _).r1 t

theorem seq_c (h : Fin 2) (s : Fin 4096) :
    (seq m c hp 3).2.1 (ix3 0 h s) = 0 - tC m c hp 0 h s - tC m c hp 1 h s - tC m c hp 2 h s - tC m c hp 3 h s := by
  have h0 := (stAt_point m c hp 0 (k0_pay50 (F := Ideal)) (k0_pay48 (F := Ideal)) (k0_pay49 (F := Ideal))).gate h s
  have h1 := (stAt_point m c hp 1 (seq m c hp 0).2.1 (seq m c hp 0).2.2.1 (seq m c hp 0).2.2.2).gate h s
  have h2 := (stAt_point m c hp 2 (seq m c hp 1).2.1 (seq m c hp 1).2.2.1 (seq m c hp 1).2.2.2).gate h s
  have h3 := (stAt_point m c hp 3 (seq m c hp 2).2.1 (seq m c hp 2).2.2.1 (seq m c hp 2).2.2.2).gate h s
  rw [← seq_zero, zero_c] at h0
  rw [← seq_one, h0] at h1
  rw [← seq_two, h1] at h2
  rw [← seq_three, h2] at h3
  exact h3

/-- A sum over the sequence, query block by query block. -/
theorem sum_rows (f : Fin 4096 → EReal) : ∑ r, f r = (∑ t : Fin 1024, f (row 0 t)) + (∑ t : Fin 1024, f (row 1 t)) + (∑ t : Fin 1024, f (row 2 t)) + ∑ t : Fin 1024, f (row 3 t) := by
  have h := Fin.sum_univ_tiles 4 1024 rfl f
  rw [h, Fin.sum_univ_four]
  rfl

theorem seq_k (s : Fin 4096) (e : Fin 128) :
    (seq m c hp 3).2.2.1 (ix2 s e) = ∑ r : Fin 4096, (kD m c hp 0 r s * gq (aX m c) hp 0 r e + kD m c hp 1 r s * gq (aX m c) hp 1 r e) := by
  have h0 := (stAt_point m c hp 0 (k0_pay50 (F := Ideal)) (k0_pay48 (F := Ideal)) (k0_pay49 (F := Ideal))).k s e
  have h1 := (stAt_point m c hp 1 (seq m c hp 0).2.1 (seq m c hp 0).2.2.1 (seq m c hp 0).2.2.2).k s e
  have h2 := (stAt_point m c hp 2 (seq m c hp 1).2.1 (seq m c hp 1).2.2.1 (seq m c hp 1).2.2.2).k s e
  have h3 := (stAt_point m c hp 3 (seq m c hp 2).2.1 (seq m c hp 2).2.2.1 (seq m c hp 2).2.2.2).k s e
  rw [← seq_zero, zero_k] at h0
  rw [← seq_one, h0] at h1
  rw [← seq_two, h1] at h2
  rw [← seq_three, h2] at h3
  rw [h3, sum_rows]
  unfold tK
  simp only [Finset.sum_add_distrib, zero_add]

theorem seq_v (s : Fin 4096) (e : Fin 128) :
    (seq m c hp 3).2.2.2 (ix2 s e) = ∑ r : Fin 4096, (kW m c hp 0 r s * gd (aG m c) hp 0 r e + kW m c hp 1 r s * gd (aG m c) hp 1 r e) := by
  have h0 := (stAt_point m c hp 0 (k0_pay50 (F := Ideal)) (k0_pay48 (F := Ideal)) (k0_pay49 (F := Ideal))).v s e
  have h1 := (stAt_point m c hp 1 (seq m c hp 0).2.1 (seq m c hp 0).2.2.1 (seq m c hp 0).2.2.2).v s e
  have h2 := (stAt_point m c hp 2 (seq m c hp 1).2.1 (seq m c hp 1).2.2.1 (seq m c hp 1).2.2.2).v s e
  have h3 := (stAt_point m c hp 3 (seq m c hp 2).2.1 (seq m c hp 2).2.2.1 (seq m c hp 2).2.2.2).v s e
  rw [← seq_zero, zero_v] at h0
  rw [← seq_one, h0] at h1
  rw [← seq_two, h1] at h2
  rw [← seq_three, h2] at h3
  rw [h3, sum_rows]
  unfold tV
  simp only [Finset.sum_add_distrib, zero_add]

end Seq

end Cert.Fox
-- ==== Proof.Fox.Results.lean ====
/- The three arrays the kernel returns, read at an element. -/
module

public import proofs.«01_k».proof.Proof.Fox.Totals
public import Idealize.ShloMosaic.Lib.Pipeline.ArrRel

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

variable (m : (ℓ : Loc nD τ sig) → Buf (Elt Ideal) ℓ) (c : Dev nD)

/-- A pair of heads' part of the first result: the gradients of the queries, the keys and the values. -/
def pairOut (hp : Fin 8) (a : Fin 3) (r : Fin 4096) (e : Fin 128) : EReal :=
  if a.val = 0 then tDQ m c hp r e
  else if a.val = 1 then ∑ t : Fin 4096, (kD m c hp 0 t r * gq (aX m c) hp 0 t e + kD m c hp 1 t r * gq (aX m c) hp 1 t e)
  else ∑ t : Fin 4096, (kW m c hp 0 t r * gd (aG m c) hp 0 t e + kW m c hp 1 t r * gd (aG m c) hp 1 t e)

theorem unit_val {s : Shape} (off size : Fin s.rank → ℕ) (inb) (x : (Rect.unit (s := s) off size inb).shape.Idx) (a : Fin s.rank) :
    ((Rect.unit (s := s) off size inb).emb x a : ℕ) = off a + (x a).val := by
  simp [Rect.unit, Rect.emb]

/-- A row of the first result lies in one query block. -/
theorem row_of (r : Fin 4096) : ∃ q : Fin 4, ∃ t : Fin 1024, r = row q t :=
  ⟨⟨r.val / 1024, by omega⟩, ⟨r.val % 1024, by omega⟩, Fin.ext (by show r.val = 1024 * (r.val / 1024) + r.val % 1024; omega)⟩

theorem dq_piece (hp : Fin 8) (q : Fin 4) (a : Fin 3) (r : Fin 4096) (e : Fin 128)
    (x : (Rect.unit (s := S3x4096x128) (k0_off13 (grid0.coords (pt hp q))) S1x1024x128.size (k0_off13_inb (grid0.coords (pt hp q)))).shape.Idx)
    (hx : (Rect.unit (s := S3x4096x128) (k0_off13 (grid0.coords (pt hp q))) S1x1024x128.size (k0_off13_inb (grid0.coords (pt hp q)))).emb x = ix3 a r e) :
    k0_pay165 (F := Ideal) (seq m c hp q).1.1 x = pairOut m c hp a r e := by
  have h0 := congrArg (fun y => (y 0).val) hx
  have h1 := congrArg (fun y => (y 1).val) hx
  have h2 := congrArg (fun y => (y 2).val) hx
  dsimp only at h0 h1 h2
  rw [unit_val] at h0 h1 h2
  have o0 : k0_off13 (grid0.coords (pt hp q)) 0 = 0 := congrFun (off13_eq _) 0
  have o1 : k0_off13 (grid0.coords (pt hp q)) 1 = 1024 * ((grid0.coords (pt hp q)) 1).val := congrFun (off13_eq _) 1
  have o2 : k0_off13 (grid0.coords (pt hp q)) 2 = 0 := congrFun (off13_eq _) 2
  rw [o0] at h0
  rw [o1] at h1
  rw [o2] at h2
  have x0 : (x 0).val < 1 := (x 0).isLt
  have x1 : (x 1).val < 1024 := (x 1).isLt
  have x2 : (x 2).val < 128 := (x 2).isLt
  have c1 := coord1 hp q
  have h1' : 1024 * ((grid0.coords (pt hp q)) 1).val + (x 1).val = r.val := h1
  have h0' : 0 + (x 0).val = a.val := h0
  have h2' : 0 + (x 2).val = e.val := h2
  have ha : a = 0 := Fin.ext (by show a.val = 0; omega)
  have hr : r = row q ⟨(x 1).val, x1⟩ := Fin.ext (by show r.val = 1024 * q.val + (x 1).val; omega)
  have he : x = ix3 0 ⟨(x 1).val, x1⟩ e := by
    funext b
    fin_cases b
    · exact Fin.ext (by show (x 0).val = 0; omega)
    · rfl
    · exact Fin.ext (by show (x 2).val = e.val; omega)
  rw [ha]
  refine Eq.trans ?_ (if_pos rfl).symm
  rw [hr, ← seq_dq]
  refine (congrArg (k0_pay165 (F := Ideal) (seq m c hp q).1.1) he).trans ?_
  pointwise [k0_pay165]

theorem dk_piece (hp : Fin 8) (a : Fin 3) (r : Fin 4096) (e : Fin 128)
    (x : (Rect.unit (s := S3x4096x128) ![1, 0, 0] ![1, 4096, 128] inb_S3x4096x128_S1x4096x128_1_0_0).shape.Idx)
    (hx : (Rect.unit (s := S3x4096x128) ![1, 0, 0] ![1, 4096, 128] inb_S3x4096x128_S1x4096x128_1_0_0).emb x = ix3 a r e) :
    k0_pay2 (F := Ideal) (seq m c hp 3).2.2.1 x = pairOut m c hp a r e := by
  have h0 := congrArg (fun y => (y 0).val) hx
  have h1 := congrArg (fun y => (y 1).val) hx
  have h2 := congrArg (fun y => (y 2).val) hx
  dsimp only at h0 h1 h2
  rw [unit_val] at h0 h1 h2
  have x0 : (x 0).val < 1 := (x 0).isLt
  have x1 : (x 1).val < 4096 := (x 1).isLt
  have x2 : (x 2).val < 128 := (x 2).isLt
  have h0' : 1 + (x 0).val = a.val := h0
  have h1' : 0 + (x 1).val = r.val := h1
  have h2' : 0 + (x 2).val = e.val := h2
  have ha : a = 1 := Fin.ext (by show a.val = 1; omega)
  have he : x = ix3 0 r e := by
    funext b
    fin_cases b
    · exact Fin.ext (by show (x 0).val = 0; omega)
    · exact Fin.ext (by show (x 1).val = r.val; omega)
    · exact Fin.ext (by show (x 2).val = e.val; omega)
  rw [ha, he]
  refine Eq.trans ?_ ((if_neg (by decide)).trans (if_pos rfl)).symm
  rw [← seq_k]
  pointwise [k0_pay2]

theorem dv_piece (hp : Fin 8) (a : Fin 3) (r : Fin 4096) (e : Fin 128)
    (x : (Rect.unit (s := S3x4096x128) ![2, 0, 0] ![1, 4096, 128] inb_S3x4096x128_S1x4096x128_2_0_0).shape.Idx)
    (hx : (Rect.unit (s := S3x4096x128) ![2, 0, 0] ![1, 4096, 128] inb_S3x4096x128_S1x4096x128_2_0_0).emb x = ix3 a r e) :
    k0_pay3 (F := Ideal) (seq m c hp 3).2.2.2 x = pairOut m c hp a r e := by
  have h0 := congrArg (fun y => (y 0).val) hx
  have h1 := congrArg (fun y => (y 1).val) hx
  have h2 := congrArg (fun y => (y 2).val) hx
  dsimp only at h0 h1 h2
  rw [unit_val] at h0 h1 h2
  have x0 : (x 0).val < 1 := (x 0).isLt
  have x1 : (x 1).val < 4096 := (x 1).isLt
  have x2 : (x 2).val < 128 := (x 2).isLt
  have h0' : 2 + (x 0).val = a.val := h0
  have h1' : 0 + (x 1).val = r.val := h1
  have h2' : 0 + (x 2).val = e.val := h2
  have ha : a = 2 := Fin.ext (by show a.val = 2; omega)
  have he : x = ix3 0 r e := by
    funext b
    fin_cases b
    · exact Fin.ext (by show (x 0).val = 0; omega)
    · exact Fin.ext (by show (x 1).val = r.val; omega)
    · exact Fin.ext (by show (x 2).val = e.val; omega)
  rw [ha, he]
  refine Eq.trans ?_ ((if_neg (by decide)).trans (if_neg (by decide))).symm
  rw [← seq_v]
  pointwise [k0_pay3]

theorem mem_dq (hp : Fin 8) (q : Fin 4) (S : AbsState Ideal) (t : Fin 1024) (e : Fin 128) : ix3 0 (row q t) e ∈ (dqPiece (grid0.coords (pt hp q)) S).1.set := by
  refine (Rect.mem_set_unit (inb := k0_off13_inb (grid0.coords (pt hp q)))).mpr fun b => ?_
  have c1 := coord1 hp q
  rw [off13_eq]
  fin_cases b
  · exact ⟨Nat.zero_le _, Nat.zero_lt_one⟩
  · refine ⟨?_, ?_⟩
    · show 1024 * ((grid0.coords (pt hp q)) 1).val ≤ 1024 * q.val + t.val
      omega
    · show 1024 * q.val + t.val < 1024 * ((grid0.coords (pt hp q)) 1).val + 1024
      omega
  · exact ⟨Nat.zero_le _, by show e.val < 0 + 128; omega⟩

/-- What the first result's buffer holds when it is written back. -/
theorem held_pair (hp : Fin 8) (Y : Vec Ideal S3x4096x128 .bf16) (hY : Held m c (pt hp 3) Y) (a : Fin 3) (r : Fin 4096) (e : Fin 128) :
    Y (ix3 a r e) = pairOut m c hp a r e := by
  have hL := soFar_three m c hp
  have hc : ∃ p ∈ soFar m c (pt hp 3).val (pt hp 3).isLt, ix3 a r e ∈ p.1.set := by
    rw [hL]
    match a with
    | ⟨0, _⟩ =>
      obtain ⟨q, t, rfl⟩ := row_of r
      have hm : dqPiece (grid0.coords (pt hp q)) (seq m c hp q) ∈ dkvPieces (seq m c hp 3) ++ [dqPiece (grid0.coords (pt hp 3)) (seq m c hp 3), dqPiece (grid0.coords (pt hp 2)) (seq m c hp 2),
        dqPiece (grid0.coords (pt hp 1)) (seq m c hp 1), dqPiece (grid0.coords (pt hp 0)) (seq m c hp 0)] := by
        refine List.mem_append_right _ ?_
        match q with
        | ⟨0, _⟩ => exact List.mem_cons_of_mem _ (List.mem_cons_of_mem _ (List.mem_cons_of_mem _ List.mem_cons_self))
        | ⟨1, _⟩ => exact List.mem_cons_of_mem _ (List.mem_cons_of_mem _ List.mem_cons_self)
        | ⟨2, _⟩ => exact List.mem_cons_of_mem _ List.mem_cons_self
        | ⟨3, _⟩ => exact List.mem_cons_self
      exact ⟨_, hm, mem_dq hp q _ t e⟩
    | ⟨1, _⟩ =>
      refine ⟨_, List.mem_append_left _ (List.mem_cons_of_mem _ List.mem_cons_self), (Rect.mem_set_unit (inb := inb_S3x4096x128_S1x4096x128_1_0_0)).mpr fun b => ?_⟩
      fin_cases b
      · exact ⟨le_refl _, Nat.lt_succ_self _⟩
      · exact ⟨Nat.zero_le _, by show r.val < 0 + 4096; omega⟩
      · exact ⟨Nat.zero_le _, by show e.val < 0 + 128; omega⟩
    | ⟨2, _⟩ =>
      refine ⟨_, List.mem_append_left _ List.mem_cons_self, (Rect.mem_set_unit (inb := inb_S3x4096x128_S1x4096x128_2_0_0)).mpr fun b => ?_⟩
      fin_cases b
      · exact ⟨le_refl _, Nat.lt_succ_self _⟩
      · exact ⟨Nat.zero_le _, by show r.val < 0 + 4096; omega⟩
      · exact ⟨Nat.zero_le _, by show e.val < 0 + 128; omega⟩
  refine (hY _ hc).trans (View.canon_eq_of_allAt _ _ _ hc ?_)
  rw [hL]
  intro p hp' x hx
  rcases List.mem_append.mp hp' with h | h
  · unfold dkvPieces at h
    rcases List.mem_cons.mp h with rfl | h
    · exact dv_piece m c hp a r e x hx
    · rcases List.mem_cons.mp h with rfl | h
      · exact dk_piece m c hp a r e x hx
      · exact absurd h List.not_mem_nil
  · rcases List.mem_cons.mp h with rfl | h
    · exact dq_piece m c hp 3 a r e x hx
    rcases List.mem_cons.mp h with rfl | h
    · exact dq_piece m c hp 2 a r e x hx
    rcases List.mem_cons.mp h with rfl | h
    · exact dq_piece m c hp 1 a r e x hx
    rcases List.mem_cons.mp h with rfl | h
    · exact dq_piece m c hp 0 a r e x hx
    exact absurd h List.not_mem_nil

/-- A point at which a pair of heads is written back is the pair's last. -/
theorem pt_of_last (t : Fin cfg0.N) (h : t.val % 4 = 3) : ∃ hp : Fin 8, t = pt hp 3 := by
  have hN : cfg0.N = 32 := N_0
  exact ⟨⟨t.val / 4, by omega⟩, Fin.ext (by show t.val = 4 * (t.val / 4) + 3; omega)⟩

theorem pt_of (t : Fin cfg0.N) : ∃ hp : Fin 8, ∃ q : Fin 4, t = pt hp q := by
  have hN : cfg0.N = 32 := N_0
  exact ⟨⟨t.val / 4, by omega⟩, ⟨t.val % 4, by omega⟩, Fin.ext (by show t.val = 4 * (t.val / 4) + t.val % 4; omega)⟩

/-- The first result. -/
def out8 : Vec Ideal S3x4096x1024 .bf16 := fun j => pairOut m c ⟨(j 2).val / 128, by have h : (j 2).val < 1024 := (j 2).isLt; omega⟩ (j 0) (j 1) ⟨(j 2).val % 128, by omega⟩
/-- The second: the row sums of the logits' gradient, each on its head's 64 lanes. -/
def out9 : Vec Ideal S8x4096x128 .f32 := fun j => if (j 2).val < 64 then tDR m c (j 0) 0 (j 1) else tDR m c (j 0) 1 (j 1)
/-- The third: minus the column sums. -/
def out10 : Vec Ideal S8x2x4096 .f32 := fun j => 0 - tC m c (j 0) 0 (j 1) (j 2) - tC m c (j 0) 1 (j 1) (j 2) - tC m c (j 0) 2 (j 1) (j 2) - tC m c (j 0) 3 (j 1) (j 2)

theorem rowTile_apply (S : AbsState Ideal) (t : Fin 1024) (e : Fin 128) :
    rowTile S (ix3 0 t e) = if e.val < 64 then S.1.2.1 (ix2 t 0) else S.1.2.2 (ix2 t 0) := by
  unfold rowTile
  pointwise [k0_pay1, k0_pay166, k0_pay51]
  exact select_low e _ _

theorem arr9 : (dats m 0 c).arrAt 9 cfg0.N = out9 m c := by
  refine (dats m 0 c).arrAt_eq_of_covers 9 _ (by decide +kernel) fun t hf y => ?_
  obtain ⟨hp, q, rfl⟩ := pt_of t
  blk_simp
  rw [after0_9]
  change S1x1024x128.Idx at y
  obtain ⟨t, e, rfl⟩ : ∃ (t : Fin 1024) (e : Fin 128), y = ix3 0 t e := by
    idx_vars y
    exact ⟨_, _, by congr 1; exact Fin.ext (by omega)⟩
  have e0 := coord0 hp q
  have e1 := coord1 hp q
  have he : (win0_9.blk (pt hp q)).view.emb (ix3 0 t e) = ix3 hp (row q t) e := by
    blk_ext [idx_9 (pt hp q), row]
  have ho : outsAt0 m c (pt hp q).val (pt hp q).isLt = _ := rfl
  have hr : (outsAt0 m c (pt hp q).val (pt hp q).isLt).2.1 = rowTile (seq m c hp q) := by
    match q with
    | ⟨0, _⟩ => exact congrArg (fun x => x.2.1) (outs_zero m c hp)
    | ⟨1, _⟩ => exact congrArg (fun x => x.2.1) (outs_one m c hp)
    | ⟨2, _⟩ => exact congrArg (fun x => x.2.1) (outs_two m c hp)
    | ⟨3, _⟩ => exact congrArg (fun x => x.2.1) (outs_three m c hp)
  rw [hr]
  refine Eq.trans ?_ (congrArg (out9 m c) he).symm
  rw [rowTile_apply, seq_r0, seq_r1]
  rfl

theorem arr10 : (dats m 0 c).arrAt 10 cfg0.N = out10 m c := by
  refine (dats m 0 c).arrAt_eq_of_covers 10 _ (by decide +kernel) fun t hf y => ?_
  obtain ⟨hp, rfl⟩ := pt_of_last t ((flush0_10 t).mp hf)
  blk_simp
  rw [after0_10]
  change S1x2x4096.Idx at y
  obtain ⟨h, s, rfl⟩ : ∃ (h : Fin 2) (s : Fin 4096), y = ix3 0 h s := by
    idx_vars y
    exact ⟨_, _, by congr 1; exact Fin.ext (by omega)⟩
  have e0 := coord0 hp 3
  have he : (win0_10.blk (pt hp 3)).view.emb (ix3 0 h s) = ix3 hp h s := by
    blk_ext [idx_10 (pt hp 3)]
  rw [outs_three]
  refine Eq.trans ?_ (congrArg (out10 m c) he).symm
  exact seq_c m c hp h s

variable (r : PUnit × MemSt nD τ sig (Elt Ideal)) (h : RDat.FramePost cfg0 (fun c => (dats m 0 c).toRRel fgt (Rl m c)) (V m) r)

include h in
theorem final8 : r.2.mem ((c.tc : Thread nD τ).loc main_v53_0) = out8 m c := by
  obtain ⟨after, hl, ha⟩ := RDat.FramePost.exists_exact h c
  refine (ha 8).trans ?_
  refine Dat.arrAt_eq_of_covers _ 8 _ (by decide +kernel) fun t hf y => ?_
  obtain ⟨hp, rfl⟩ := pt_of_last t ((flush0_8 t).mp hf)
  have hx : Held m c (pt hp 3) (after 8 (pt hp 3)) := (dats m 0 c).toRRel_leaves rfl (hl 8 (pt hp 3) hf)
  blk_simp
  change S3x4096x128.Idx at y
  obtain ⟨a, s, e, rfl⟩ : ∃ (a : Fin 3) (s : Fin 4096) (e : Fin 128), y = ix3 a s e := by
    idx_vars y
    exact ⟨_, _, _, rfl⟩
  have e0 := coord0 hp 3
  have he : (win0_8.blk (pt hp 3)).view.emb (ix3 a s e) = ix3 a s (col hp e) := by
    blk_ext [idx_8 (pt hp 3), col]
  refine (held_pair m c hp _ hx a s e).trans (Eq.trans ?_ (congrArg (out8 m c) he).symm)
  unfold out8
  have h1 : (⟨(col hp e).val / 128, by have := (col hp e).isLt; omega⟩ : Fin 8) = hp := Fin.ext (by show (128 * hp.val + e.val) / 128 = hp.val; omega)
  have h2 : (⟨(col hp e).val % 128, by omega⟩ : Fin 128) = e := Fin.ext (by show (128 * hp.val + e.val) % 128 = e.val; omega)
  show pairOut m c hp a s e = pairOut m c ⟨(col hp e).val / 128, _⟩ a s ⟨(col hp e).val % 128, _⟩
  rw [h1, h2]

include h in
theorem final9 : r.2.mem ((c.tc : Thread nD τ).loc main_v53_1) = out9 m c := by
  refine Eq.trans ?_ (arr9 m c)
  exact ((dats m 0 c).toR_arrAt_iff 9 _ _).mp (((dats m 0 c).toR.override_arrAt rfl _ _).mp ((h c).1 9))

include h in
theorem final10 : r.2.mem ((c.tc : Thread nD τ).loc main_v53_2) = out10 m c := by
  refine Eq.trans ?_ (arr10 m c)
  exact ((dats m 0 c).toR_arrAt_iff 10 _ _).mp (((dats m 0 c).toR.override_arrAt rfl _ _).mp ((h c).1 10))

end Cert.Fox
-- ==== Proof.Fox.Stages.lean ====
module

public import proofs.«01_k».proof.Proof.Fox.Results

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat RDat Cfg Window BodyObligation BodyObligationRel cellOf)

section Stages

/-- The cumulative log gates by head. -/
def hGate (X : FVec Ideal S3x4096x1024 .bf16) (C : FVec Ideal S4096x128 .f32) : FVec Ideal S16x4096 .f32 :=
  transpose S16x4096 [1, 0] (extractStridedSlice S4096x16 ![0, 0] C slices_S4096x128_S4096x16_0_0) transposes_S4096x16_S16x4096_1_0

/-- The queries by head. -/
def hQ (X : FVec Ideal S3x4096x1024 .bf16) (C : FVec Ideal S4096x128 .f32) : FVec Ideal S16x4096x64 .f32 :=
  transpose S16x4096x64 [1, 0, 2] (shapeCast _ (extf (F := Ideal) .f32 (shapeCast _ (extractStridedSlice S1x4096x1024 ![0, 0, 0] X slices_S3x4096x1024_S1x4096x1024_0_0_0) shapeCasts_S1x4096x1024_S4096x1024) bitsLt_bf16_f32) shapeCasts_S4096x1024_S4096x16x64) transposes_S4096x16x64_S16x4096x64_1_0_2

/-- The keys by head. -/
def hK (X : FVec Ideal S3x4096x1024 .bf16) (C : FVec Ideal S4096x128 .f32) : FVec Ideal S16x4096x64 .f32 :=
  transpose S16x4096x64 [1, 0, 2] (shapeCast _ (extf (F := Ideal) .f32 (shapeCast _ (extractStridedSlice S1x4096x1024 ![1, 0, 0] X slices_S3x4096x1024_S1x4096x1024_1_0_0) shapeCasts_S1x4096x1024_S4096x1024) bitsLt_bf16_f32) shapeCasts_S4096x1024_S4096x16x64) transposes_S4096x16x64_S16x4096x64_1_0_2

/-- Whether a key is no later than the query. -/
def hSeen (X : FVec Ideal S3x4096x1024 .bf16) (C : FVec Ideal S4096x128 .f32) : IVec S4096x4096 1 :=
  (cmpi .sle) ((iotaInDim S4096x4096 32 1)) ((iotaInDim S4096x4096 32 0))

/-- The logits before the mask. -/
def hLogit (X : FVec Ideal S3x4096x1024 .bf16) (C : FVec Ideal S4096x128 .f32) : FVec Ideal S16x4096x4096 .f32 :=
  (addf) ((mulf) (((fun l r => Host.dotGeneral dot_S16x4096x64_S16x4096x64_S16x4096x4096_2_2_1_1_0_0 none l r)) (hQ X C) (hK X C)) ((broadcastInDim S16x4096x4096 ![] bcast_S_S16x4096x4096) ((constant (F := Ideal) S_ .f32 0x3E000000#32)))) ((subf) ((broadcastInDim S16x4096x4096 ![0, 1, 2] bcast_S16x4096x1_S16x4096x4096_0_1_2) ((broadcastInDim S16x4096x1 ![0, 1] bcast_S16x4096_S16x4096x1_0_1) (hGate X C))) ((broadcastInDim S16x4096x4096 ![0, 1, 2] bcast_S16x1x4096_S16x4096x4096_0_1_2) ((broadcastInDim S16x1x4096 ![0, 2] bcast_S16x4096_S16x1x4096_0_2) (hGate X C))))

/-- The logits, a later key masked to minus infinity. -/
def hMasked (X : FVec Ideal S3x4096x1024 .bf16) (C : FVec Ideal S4096x128 .f32) : FVec Ideal S16x4096x4096 .f32 :=
  (select) (((broadcastInDim S16x4096x4096 ![0, 1, 2] bcast_S1x4096x4096_S16x4096x4096_0_1_2)) ((broadcastInDim S1x4096x4096 ![1, 2] bcast_S4096x4096_S1x4096x4096_1_2) (hSeen X C))) (hLogit X C) (((broadcastInDim S16x4096x4096 ![] bcast_S_S16x4096x4096)) (id ((constant (F := Ideal) S_ .f32 0xFF800000#32))))

/-- The greatest logit of a row. -/
def hMax (X : FVec Ideal S3x4096x1024 .bf16) (C : FVec Ideal S4096x128 .f32) : FVec Ideal S16x4096 .f32 :=
  ((fun x v => Host.reduce FloatOps.maximumf x v reducesTo_S16x4096x4096_S16x4096_d2 h_S_)) (hMasked X C) ((constant (F := Ideal) S_ .f32 0xFF800000#32))

/-- The exponentials of the logits above that. -/
def hExp (X : FVec Ideal S3x4096x1024 .bf16) (C : FVec Ideal S4096x128 .f32) : FVec Ideal S16x4096x4096 .f32 :=
  (Host.exp) ((subf) (hMasked X C) ((broadcastInDim S16x4096x4096 ![0, 1, 2] bcast_S16x4096x1_S16x4096x4096_0_1_2) ((broadcastInDim S16x4096x1 ![0, 1] bcast_S16x4096_S16x4096x1_0_1) (hMax X C))))

/-- Their sum by row. -/
def hSum (X : FVec Ideal S3x4096x1024 .bf16) (C : FVec Ideal S4096x128 .f32) : FVec Ideal S16x4096 .f32 :=
  ((fun x v => Host.reduceAdd x v reducesTo_S16x4096x4096_S16x4096_d2 h_S_)) (hExp X C) ((constant (F := Ideal) S_ .f32 0x00000000#32))

/-- The attention weights. -/
def hProb (X : FVec Ideal S3x4096x1024 .bf16) (C : FVec Ideal S4096x128 .f32) : FVec Ideal S16x4096x4096 .f32 :=
  (Host.divf) (hExp X C) ((broadcastInDim S16x4096x4096 ![0, 1, 2] bcast_S16x4096x1_S16x4096x4096_0_1_2) ((broadcastInDim S16x4096x1 ![0, 1] bcast_S16x4096_S16x4096x1_0_1) (hSum X C)))

/-- The values by head. -/
def hV (X : FVec Ideal S3x4096x1024 .bf16) (C : FVec Ideal S4096x128 .f32) : FVec Ideal S16x4096x64 .f32 :=
  transpose S16x4096x64 [1, 0, 2] (shapeCast _ (extf (F := Ideal) .f32 (shapeCast _ (extractStridedSlice S1x4096x1024 ![2, 0, 0] X slices_S3x4096x1024_S1x4096x1024_2_0_0) shapeCasts_S1x4096x1024_S4096x1024) bitsLt_bf16_f32) shapeCasts_S4096x1024_S4096x16x64) transposes_S4096x16x64_S16x4096x64_1_0_2

/-- The output by head. -/
def hOut (X : FVec Ideal S3x4096x1024 .bf16) (C : FVec Ideal S4096x128 .f32) : FVec Ideal S16x4096x64 .f32 :=
  ((fun l r => Host.dotGeneral dot_S16x4096x4096_S16x4096x64_S16x4096x64_2_1_1_2_0_0 none l r)) (hProb X C) (hV X C)

/-- The log-sum of a row. -/
def hLse (X : FVec Ideal S3x4096x1024 .bf16) (C : FVec Ideal S4096x128 .f32) : FVec Ideal S16x4096 .f32 :=
  (addf) (hMax X C) ((Host.log) (hSum X C))

/-- The output as the forward pass saved it. -/
def hSaved (X : FVec Ideal S3x4096x1024 .bf16) (C : FVec Ideal S4096x128 .f32) : FVec Ideal S4096x1024 .bf16 :=
  truncf (F := Ideal) .bf16 (shapeCast _ (transpose S4096x16x64 [1, 0, 2] (hOut X C) transposes_S16x4096x64_S4096x16x64_1_0_2) shapeCasts_S4096x16x64_S4096x1024) bitsLt_bf16_f32

/-- The log-sums, over the lanes of their head. -/
def hLseLanes (X : FVec Ideal S3x4096x1024 .bf16) (C : FVec Ideal S4096x128 .f32) : FVec Ideal S8x4096x128 .f32 :=
  shapeCast _ ((broadcastInDim S8x4096x2x64 ![0, 1, 2] bcast_S8x4096x2_S8x4096x2x64_0_1_2) (transpose S8x4096x2 [0, 2, 1] (shapeCast _ (hLse X C) shapeCasts_S16x4096_S8x2x4096) transposes_S8x2x4096_S8x4096x2_0_2_1)) shapeCasts_S8x4096x2x64_S8x4096x128

/-- The gates by pair of heads. -/
def hPairGate (X : FVec Ideal S3x4096x1024 .bf16) (C : FVec Ideal S4096x128 .f32) : FVec Ideal S8x2x4096 .f32 :=
  shapeCast _ (transpose S16x4096 [1, 0] (extractStridedSlice S4096x16 ![0, 0] C slices_S4096x128_S4096x16_0_0) transposes_S4096x16_S16x4096_1_0) shapeCasts_S16x4096_S8x2x4096

end Stages

variable (m : (ℓ : Loc nD τ sig) → Buf (Elt Ideal) ℓ) (c : Dev nD)

set_option maxHeartbeats 52000000
set_option maxRecDepth 131072

theorem V_main_v45 : V m c main_v45 = hSaved (m ((c.tc : Thread nD τ).loc main_arg0)) (m ((c.tc : Thread nD τ).loc main_arg2)) := by
  unfold V
  simp only [hostOps0, hostOps0_1, hostOps0_2, List.flatten_cons, List.flatten_nil, List.cons_append, List.nil_append, TRef.nullary, TRef.ternary, TRef.unary, TRef.toBuf, TRef.ofBuf, cast_eq]
  after_results_simp <;> (try dsimp only [Matrix.cons_val]) <;> (try after_results_simp) <;>
    (unfold hSaved hOut hProb hSum hExp hMax hMasked hLogit hSeen hV hK hQ hGate; rfl)

theorem V_main_v49 : V m c main_v49 = hLseLanes (m ((c.tc : Thread nD τ).loc main_arg0)) (m ((c.tc : Thread nD τ).loc main_arg2)) := by
  unfold V
  simp only [hostOps0, hostOps0_1, hostOps0_2, List.flatten_cons, List.flatten_nil, List.cons_append, List.nil_append, TRef.nullary, TRef.ternary, TRef.unary, TRef.toBuf, TRef.ofBuf, cast_eq]
  after_results_simp <;> (try dsimp only [Matrix.cons_val]) <;> (try after_results_simp) <;>
    (unfold hLseLanes hLse hSum hExp hMax hMasked hLogit hSeen hK hQ hGate; rfl)

theorem V_main_v52 : V m c main_v52 = hPairGate (m ((c.tc : Thread nD τ).loc main_arg0)) (m ((c.tc : Thread nD τ).loc main_arg2)) := by
  unfold V
  simp only [hostOps0, hostOps0_1, hostOps0_2, List.flatten_cons, List.flatten_nil, List.cons_append, List.nil_append, TRef.nullary, TRef.ternary, TRef.unary, TRef.toBuf, TRef.ofBuf, cast_eq]
  after_results_simp <;> (try dsimp only [Matrix.cons_val]) <;> (try after_results_simp) <;>
    (unfold hPairGate; rfl)

end Cert.Fox
-- ==== Proof.Fox.Real.lean ====
/- Causal attention with a forget gate and its gradient, for one head, over the real numbers. -/
module

public import Mathlib.Analysis.SpecialFunctions.Log.Basic
public import Mathlib.Algebra.BigOperators.Field

@[expose] public section

noncomputable section

namespace Cert.Fox.Head

/-- One head: query, key, value, the gradient of the output, and the cumulative log gate. -/
structure _root_.Cert.Fox.Head where
  q : Fin 4096 → Fin 64 → ℝ
  k : Fin 4096 → Fin 64 → ℝ
  v : Fin 4096 → Fin 64 → ℝ
  g : Fin 4096 → Fin 64 → ℝ
  gate : Fin 4096 → ℝ

variable (a : Cert.Fox.Head)

/-- The logit of query `r` and key `s`. -/
def z (r s : Fin 4096) : ℝ := (∑ d, a.q r d * a.k s d) * (1 / 8) + (a.gate r - a.gate s)

/-- The keys a query sees. -/
def seen (r : Fin 4096) : Finset (Fin 4096) := Finset.univ.filter fun s => s.val ≤ r.val

theorem seen_nonempty (r : Fin 4096) : (seen r).Nonempty := ⟨r, by simp [seen]⟩

/-- The greatest logit a query sees. -/
def M (r : Fin 4096) : ℝ := (seen r).sup' (seen_nonempty r) (a.z r)

/-- The exponential of a logit above the greatest; nothing of a later key. -/
def E (r s : Fin 4096) : ℝ := if s.val ≤ r.val then Real.exp (a.z r s - a.M r) else 0

/-- Their sum over the keys. -/
def S (r : Fin 4096) : ℝ := ∑ s, a.E r s

theorem E_nonneg (r s : Fin 4096) : 0 ≤ a.E r s := by
  unfold E; split
  · exact (Real.exp_pos _).le
  · exact le_refl _

theorem S_pos (r : Fin 4096) : 0 < a.S r := by
  refine Finset.sum_pos' (fun s _ => a.E_nonneg r s) ⟨r, Finset.mem_univ r, ?_⟩
  unfold E; rw [if_pos (le_refl _)]; exact Real.exp_pos _

/-- The attention weight. -/
def W (r s : Fin 4096) : ℝ := a.E r s * (1 / a.S r)

/-- The attention's output. -/
def o (r : Fin 4096) (d : Fin 64) : ℝ := ∑ s, a.W r s * a.v s d

/-- The gradient of a weight. -/
def dp (r s : Fin 4096) : ℝ := ∑ d, a.g r d * a.v s d

/-- The gradient of a logit. -/
def D (r s : Fin 4096) : ℝ := a.W r s * (a.dp r s - ∑ s', a.W r s' * a.dp r s')

/-- The gradients of the query, the key, the value; of the gate as the query's and as the key's. -/
def dq (r : Fin 4096) (d : Fin 64) : ℝ := ∑ s, a.D r s * (1 / 8) * a.k s d
def dk (s : Fin 4096) (d : Fin 64) : ℝ := ∑ r, a.D r s * (1 / 8) * a.q r d
def dv (s : Fin 4096) (d : Fin 64) : ℝ := ∑ r, a.W r s * a.g r d
def dcq (r : Fin 4096) : ℝ := ∑ s, a.D r s
def dck (s : Fin 4096) : ℝ := -∑ r, a.D r s

/-- The weight out of the saved log-sum. -/
theorem exp_lse {r s : Fin 4096} (h : s.val ≤ r.val) : Real.exp (a.z r s - (a.M r + Real.log (a.S r))) = a.W r s := by
  unfold W E
  rw [if_pos h, ← sub_sub, Real.exp_sub, Real.exp_log (a.S_pos r), div_eq_mul_one_div]

theorem W_later {r s : Fin 4096} (h : ¬ s.val ≤ r.val) : a.W r s = 0 := by
  unfold W E; rw [if_neg h, zero_mul]

/-- The row sum of output times gradient is that of weights times their gradients. -/
theorem delta (r : Fin 4096) : ∑ d, a.g r d * a.o r d = ∑ s, a.W r s * a.dp r s := by
  unfold o dp
  simp only [Finset.mul_sum]
  rw [Finset.sum_comm]
  exact Finset.sum_congr rfl fun s _ => Finset.sum_congr rfl fun d _ => by ring

/-- The logits' gradient as differentiating the quotient of exponential and sum gives it. -/
theorem D_quotient (r s : Fin 4096) :
    (-(∑ s', a.dp r s' * (1 / (a.S r * a.S r)) * a.E r s') + a.dp r s * (1 / a.S r)) * a.E r s = a.D r s := by
  have hS : a.S r ≠ 0 := (a.S_pos r).ne'
  have h : ∑ s', a.W r s' * a.dp r s' = a.S r * ∑ s', a.dp r s' * (1 / (a.S r * a.S r)) * a.E r s' := by
    rw [Finset.mul_sum]
    refine Finset.sum_congr rfl fun s' _ => ?_
    unfold W; field_simp
  unfold D
  rw [h]
  unfold W
  field_simp
  ring

end Cert.Fox.Head
-- ==== Proof.Fox.Cast.lean ====
/- Finite arrays as arrays of real numbers: the heads cut from them, and the steps of a masked softmax read off at real logits. -/
module

public import proofs.«01_k».proof.Proof.Fox.Closed
public import proofs.«01_k».proof.Proof.Fox.Real

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

/-- The column of the model's width that lane `d` of head `n` is. -/
def lane (n : Fin 16) (d : Fin 64) : Fin 1024 := ⟨n.val * 64 + d.val, by omega⟩

/-- Head `h` of pair `hp`. -/
def headOf (hp : Fin 8) (h : Fin 2) : Fin 16 := ⟨hp.val * 2 + h.val, by omega⟩

/-- The column of head `n` among the gates. -/
abbrev gateCol (n : Fin 16) : Fin 128 := ⟨n.val, by omega⟩

/-- The first lane of head `h` of a pair. -/
abbrev firstLane (h : Fin 2) : Fin 128 := ⟨64 * h.val, by omega⟩

/-- Head `n` of real projections `x`, output gradient `g` and cumulative log gates `c`. -/
def head (x : Fin 3 → Fin 4096 → Fin 1024 → ℝ) (g : Fin 4096 → Fin 1024 → ℝ) (c : Fin 4096 → Fin 16 → ℝ) (n : Fin 16) : Head where
  q r d := x 0 r (lane n d)
  k r d := x 1 r (lane n d)
  v r d := x 2 r (lane n d)
  g r d := g r (lane n d)
  gate r := c r n

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem eighth32 : Ideal.ofBits .f32 1040187392#32 = ((1 / 8 : ℝ) : EReal) := by
  simp [Ideal.ofBits, Ideal.ieee, -EReal.coe_mul]; norm_num

theorem negInf32 : Ideal.ofBits .f32 4286578688#32 = ⊥ := by
  simp [Ideal.ofBits, Ideal.ieee]

/-- The causal mask, as both programs tell it. -/
theorem select_seen {α : Type} (r s : Fin 4096) (x y : α) :
    Scalar.select (IntOp.cmpi .sle (BitVec.ofNat 32 s.val) (BitVec.ofNat 32 r.val)) x y = if s.val ≤ r.val then x else y := by
  rw [WordCmp.cmpi_sle_ofNat (by omega) (by omega), WordCmp.select_ofBool]
  simp

/-- A row's greatest logit. -/
theorem fold_masked (a : Head) (r : Fin 4096) :
    Finset.univ.fold max (⊥ : EReal) (fun s : Fin 4096 => if s.val ≤ r.val then ((a.z r s : ℝ) : EReal) else ⊥) = ((a.M r : ℝ) : EReal) := by
  refine le_antisymm ?_ ?_
  · rw [Finset.fold_max_le]
    refine ⟨bot_le, fun s _ => ?_⟩
    split
    · rename_i h
      exact EReal.coe_le_coe_iff.mpr (Finset.le_sup' (a.z r) (Finset.mem_filter.mpr ⟨Finset.mem_univ s, h⟩))
    · exact bot_le
  · obtain ⟨s, hs, e⟩ := Finset.exists_mem_eq_sup' (Head.seen_nonempty r) (a.z r)
    rw [Finset.le_fold_max]
    have h : s.val ≤ r.val := (Finset.mem_filter.mp hs).2
    exact Or.inr ⟨s, Finset.mem_univ s, by rw [if_pos h]; exact EReal.coe_le_coe_iff.mpr (le_of_eq e)⟩

/-- A row's exponentials. -/
theorem exp_masked (a : Head) (r s : Fin 4096) :
    Ideal.exp ((if s.val ≤ r.val then ((a.z r s : ℝ) : EReal) else ⊥) - ((a.M r : ℝ) : EReal)) = ((a.E r s : ℝ) : EReal) := by
  unfold Head.E
  split
  · rw [← EReal.coe_sub, Ideal.exp_coe]
  · rw [EReal.bot_sub, Ideal.exp_bot, EReal.coe_zero]

end Cert.Fox
-- ==== Proof.Fox.Forward.lean ====
/- The host's forward pass at finite arrays: every stage is a real number of the head it belongs to. -/
module

public import proofs.«01_k».proof.Proof.Fox.Stages
public import proofs.«01_k».proof.Proof.Fox.Cast

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

open Idealize.ShloMosaic.VecWindow

section Stages

variable (X : FVec Ideal S3x4096x1024 .bf16) (C : FVec Ideal S4096x128 .f32)
variable (x : Fin 3 → Fin 4096 → Fin 1024 → ℝ) (g : Fin 4096 → Fin 1024 → ℝ) (c : Fin 4096 → Fin 16 → ℝ)

theorem hSeen_apply (r s : Fin 4096) : hSeen X C (ix2 r s) = IntOp.cmpi .sle (BitVec.ofNat 32 s.val) (BitVec.ofNat 32 r.val) := by
  pointwise [hSeen]

theorem hSaved_apply (r : Fin 4096) (e : Fin 1024) : hSaved X C (ix2 r e) = hOut X C (ix3 ⟨e.val / 64, by omega⟩ r ⟨e.val % 64, by omega⟩) := by
  pointwise [hSaved]

theorem addf_log (a b : FVec Ideal S16x4096 .f32) (i : S16x4096.Idx) : addf a (Host.log b) i = a i + Ideal.log (b i) := rfl

theorem hLse_apply (i : S16x4096.Idx) : hLse X C i = hMax X C i + Ideal.log (hSum X C i) := by
  unfold hLse; exact addf_log _ _ _

variable (hX : ∀ i r e, X (ix3 i r e) = ((x i r e : ℝ) : EReal)) (hC : ∀ (r : Fin 4096) (n : Fin 16), C (ix2 r (gateCol n)) = ((c r n : ℝ) : EReal))

include hX in
theorem hQ_eq (n : Fin 16) (r : Fin 4096) (d : Fin 64) : hQ X C (ix3 n r d) = (((head x g c n).q r d : ℝ) : EReal) := by
  pointwise [hQ]
  exact hX 0 r (lane n d)

include hX in
theorem hK_eq (n : Fin 16) (r : Fin 4096) (d : Fin 64) : hK X C (ix3 n r d) = (((head x g c n).k r d : ℝ) : EReal) := by
  pointwise [hK]
  exact hX 1 r (lane n d)

include hX in
theorem hV_eq (n : Fin 16) (r : Fin 4096) (d : Fin 64) : hV X C (ix3 n r d) = (((head x g c n).v r d : ℝ) : EReal) := by
  pointwise [hV]
  exact hX 2 r (lane n d)

include hC in
theorem hGate_eq (n : Fin 16) (r : Fin 4096) : hGate X C (ix2 n r) = (((head x g c n).gate r : ℝ) : EReal) := by
  pointwise [hGate]
  exact hC r n

include hX hC in
theorem hLogit_eq (n : Fin 16) (r s : Fin 4096) : hLogit X C (ix3 n r s) = (((head x g c n).z r s : ℝ) : EReal) := by
  pointwise [hLogit]
  simp only [hQ_eq X C x g c hX, hK_eq X C x g c hX, hGate_eq X C x g c hC, eighth32]
  simp only [← EReal.coe_mul, ← EReal.coe_sub, ← EReal.coe_add, coe_sum]
  rfl

include hX hC in
theorem hMasked_eq (n : Fin 16) (r s : Fin 4096) : hMasked X C (ix3 n r s) = if s.val ≤ r.val then (((head x g c n).z r s : ℝ) : EReal) else ⊥ := by
  pointwise [hMasked]
  rw [hSeen_apply, select_seen, hLogit_eq X C x g c hX hC]
  exact if_congr Iff.rfl rfl negInf32

include hX hC in
theorem hMax_eq (n : Fin 16) (r : Fin 4096) : hMax X C (ix2 n r) = (((head x g c n).M r : ℝ) : EReal) := by
  pointwise [hMax]
  simp only [hMasked_eq X C x g c hX hC, negInf32]
  exact fold_masked _ r

include hX hC in
theorem hExp_eq (n : Fin 16) (r s : Fin 4096) : hExp X C (ix3 n r s) = (((head x g c n).E r s : ℝ) : EReal) := by
  pointwise [hExp]
  rw [hMasked_eq X C x g c hX hC, hMax_eq X C x g c hX hC]
  exact exp_masked _ r s

include hX hC in
theorem hSum_eq (n : Fin 16) (r : Fin 4096) : hSum X C (ix2 n r) = (((head x g c n).S r : ℝ) : EReal) := by
  pointwise [hSum]
  simp only [hExp_eq X C x g c hX hC, coe_sum]
  rfl

include hX hC in
theorem hProb_eq (n : Fin 16) (r s : Fin 4096) : hProb X C (ix3 n r s) = (((head x g c n).W r s : ℝ) : EReal) := by
  pointwise [hProb]
  rw [hExp_eq X C x g c hX hC, hSum_eq X C x g c hX hC, Ideal.div_coe ((head x g c n).S_pos r).ne', ← EReal.coe_mul]
  rfl

include hX hC in
theorem hOut_eq (n : Fin 16) (r : Fin 4096) (d : Fin 64) : hOut X C (ix3 n r d) = (((head x g c n).o r d : ℝ) : EReal) := by
  pointwise [hOut]
  simp only [hProb_eq X C x g c hX hC, hV_eq X C x g c hX, ← EReal.coe_mul, coe_sum]
  rfl

include hX hC in
theorem hLse_eq (n : Fin 16) (r : Fin 4096) : hLse X C (ix2 n r) = (((head x g c n).M r + Real.log ((head x g c n).S r) : ℝ) : EReal) := by
  rw [hLse_apply]
  rw [hMax_eq X C x g c hX hC, hSum_eq X C x g c hX hC, Ideal.log_coe, if_neg (not_le.mpr ((head x g c n).S_pos r)), ← EReal.coe_add]

include hX hC in
/-- The saved output. -/
theorem hSaved_eq (n : Fin 16) (r : Fin 4096) (d : Fin 64) : hSaved X C (ix2 r (lane n d)) = (((head x g c n).o r d : ℝ) : EReal) := by
  rw [hSaved_apply, hOut_eq X C x g c hX hC]
  have h1 : (⟨(lane n d).val / 64, by omega⟩ : Fin 16) = n := Fin.ext (by show (n.val * 64 + d.val) / 64 = n.val; omega)
  have h2 : (⟨(lane n d).val % 64, by omega⟩ : Fin 64) = d := Fin.ext (by show (n.val * 64 + d.val) % 64 = d.val; omega)
  rw [h1, h2]

include hX hC in
/-- The saved log-sums. -/
theorem hLseLanes_eq (hp : Fin 8) (h : Fin 2) (r : Fin 4096) :
    hLseLanes X C (ix3 hp r (firstLane h)) = (((head x g c (headOf hp h)).M r + Real.log ((head x g c (headOf hp h)).S r) : ℝ) : EReal) := by
  have e : ∀ e : Fin 128, hLseLanes X C (ix3 hp r e) = hLse X C (ix2 ⟨hp.val * 2 + e.val / 64, by omega⟩ r) := by
    intro e; pointwise [hLseLanes]
  rw [e, hLse_eq X C x g c hX hC]
  have h1 : (⟨hp.val * 2 + 64 * h.val / 64, by omega⟩ : Fin 16) = headOf hp h := Fin.ext (by show hp.val * 2 + 64 * h.val / 64 = hp.val * 2 + h.val; omega)
  rw [h1]

include hC in
theorem hPairGate_eq (hp : Fin 8) (h : Fin 2) (r : Fin 4096) : hPairGate X C (ix3 hp h r) = (((head x g c (headOf hp h)).gate r : ℝ) : EReal) := by
  pointwise [hPairGate]
  exact hC r (headOf hp h)

end Stages

end Cert.Fox
-- ==== Proof.Fox.Agree.lean ====
/- What the kernel sums up, at finite arrays: the attention weights, the logits' gradient and the totals are those of the heads. -/
module

public import proofs.«01_k».proof.Proof.Fox.Forward

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

/-- Lane `d` of head `h` of a pair. -/
def half (h : Fin 2) (d : Fin 64) : Fin 128 := ⟨64 * h.val + d.val, by omega⟩

theorem col_half (hp : Fin 8) (h : Fin 2) (d : Fin 64) : col hp (half h d) = lane (headOf hp h) d :=
  Fin.ext (by show 128 * hp.val + (64 * h.val + d.val) = (hp.val * 2 + h.val) * 64 + d.val; omega)

/-- A sum over a pair's lanes that counts one head's only. -/
theorem sum_half {R : Type} [AddCommMonoid R] (h : Fin 2) (f : Fin 128 → R) :
    (∑ e : Fin 128, if e.val / 64 = h.val then f e else 0) = ∑ d : Fin 64, f (half h d) := by
  symm
  refine Finset.sum_of_injOn (half h) (fun a _ b _ e => ?_) (fun _ _ => Finset.mem_coe.mpr (Finset.mem_univ _)) (fun e _ he => if_neg fun h' => he ?_) (fun d _ => ?_)
  · have := congrArg Fin.val e
    exact Fin.ext (by simp only [half] at this; omega)
  · exact ⟨⟨e.val % 64, by omega⟩, Finset.mem_coe.mpr (Finset.mem_univ _), Fin.ext (by show 64 * h.val + e.val % 64 = e.val; omega)⟩
  · rw [if_pos (by show (64 * h.val + d.val) / 64 = h.val; omega)]

/-- Of two heads' products the one whose lane it is. -/
theorem pick (A : Fin 2 → EReal) (u : EReal) (e : Fin 128) :
    A 0 * (if e.val / 64 = (0 : Fin 2).val then u else 0) + A 1 * (if e.val / 64 = (1 : Fin 2).val then u else 0) = A ⟨e.val / 64, by omega⟩ * u := by
  by_cases h : e.val / 64 = (0 : Fin 2).val
  · rw [if_pos h, if_neg (by have h0 : e.val / 64 = 0 := h; show ¬ e.val / 64 = 1; omega), mul_zero, add_zero]
    exact congrArg (fun k => A k * u) (Fin.ext h.symm)
  · have h1 : e.val / 64 = (1 : Fin 2).val := by
      have h0 : ¬ e.val / 64 = 0 := h
      show e.val / 64 = 1
      omega
    rw [if_neg h, if_pos h1, mul_zero, zero_add]
    exact congrArg (fun k => A k * u) (Fin.ext h1.symm)

theorem col_lane (hp : Fin 8) (e : Fin 128) : col hp e = lane (headOf hp ⟨e.val / 64, by omega⟩) ⟨e.val % 64, by omega⟩ :=
  Fin.ext (by show 128 * hp.val + e.val = (hp.val * 2 + e.val / 64) * 64 + e.val % 64; omega)

section Maths

variable (X : Vec Ideal S3x4096x1024 .bf16) (O G : Vec Ideal S4096x1024 .bf16) (L : Vec Ideal S8x4096x128 .f32) (C : Vec Ideal S4096x128 .f32) (CK : Vec Ideal S8x2x4096 .f32)
variable (x : Fin 3 → Fin 4096 → Fin 1024 → ℝ) (g : Fin 4096 → Fin 1024 → ℝ) (c : Fin 4096 → Fin 16 → ℝ)

/-- What the kernel reads is what the heads of these real arrays leave it. -/
structure Given : Prop where
  hX : ∀ i r e, X (ix3 i r e) = ((x i r e : ℝ) : EReal)
  hG : ∀ r e, G (ix2 r e) = ((g r e : ℝ) : EReal)
  hC : ∀ (r : Fin 4096) (n : Fin 16), C (ix2 r (gateCol n)) = ((c r n : ℝ) : EReal)
  hO : ∀ n r d, O (ix2 r (lane n d)) = (((head x g c n).o r d : ℝ) : EReal)
  hL : ∀ (hp : Fin 8) (h : Fin 2) (r : Fin 4096), L (ix3 hp r (firstLane h)) = (((head x g c (headOf hp h)).M r + Real.log ((head x g c (headOf hp h)).S r) : ℝ) : EReal)
  hK : ∀ (hp : Fin 8) (h : Fin 2) (r : Fin 4096), CK (ix3 hp h r) = (((head x g c (headOf hp h)).gate r : ℝ) : EReal)

variable {X O G L C CK x g c} (H : Given X O G L C CK x g c) (hp : Fin 8) (h : Fin 2)

include H in
theorem dot_qk (r s : Fin 4096) : (∑ e : Fin 128, gq X hp h r e * X (ix3 1 s (col hp e))) = (((∑ d, (head x g c (headOf hp h)).q r d * (head x g c (headOf hp h)).k s d) * (1 / 8) : ℝ) : EReal) := by
  have e : ∀ e : Fin 128, gq X hp h r e * X (ix3 1 s (col hp e)) = if e.val / 64 = h.val then X (ix3 0 r (col hp e)) * ((1 / 8 : ℝ) : EReal) * X (ix3 1 s (col hp e)) else 0 := by
    intro e; unfold gq; split
    · rfl
    · exact zero_mul _
  simp only [e]
  rw [sum_half h fun e => X (ix3 0 r (col hp e)) * ((1 / 8 : ℝ) : EReal) * X (ix3 1 s (col hp e))]
  simp only [H.hX, ← EReal.coe_mul, coe_sum, col_half]
  refine congrArg _ ?_
  rw [Finset.sum_mul]
  refine Finset.sum_congr rfl fun d _ => ?_
  show x 0 r (lane (headOf hp h) d) * (1 / 8) * x 1 s (lane (headOf hp h) d) = x 0 r (lane (headOf hp h) d) * x 1 s (lane (headOf hp h) d) * (1 / 8)
  ring

include H in
theorem dot_gv (r s : Fin 4096) : (∑ e : Fin 128, gd G hp h r e * X (ix3 2 s (col hp e))) = (((head x g c (headOf hp h)).dp r s : ℝ) : EReal) := by
  have e : ∀ e : Fin 128, gd G hp h r e * X (ix3 2 s (col hp e)) = if e.val / 64 = h.val then G (ix2 r (col hp e)) * X (ix3 2 s (col hp e)) else 0 := by
    intro e; unfold gd; split
    · rfl
    · exact zero_mul _
  simp only [e]
  rw [sum_half h fun e => G (ix2 r (col hp e)) * X (ix3 2 s (col hp e))]
  simp only [H.hX, H.hG, ← EReal.coe_mul, coe_sum, col_half]
  rfl

include H in
theorem gδ_eq (r : Fin 4096) : gδ O G hp h r = ((∑ s, (head x g c (headOf hp h)).W r s * (head x g c (headOf hp h)).dp r s : ℝ) : EReal) := by
  unfold gδ
  rw [sum_half h fun e => G (ix2 r (col hp e)) * O (ix2 r (col hp e))]
  simp only [col_half, H.hG, H.hO, ← EReal.coe_mul, coe_sum]
  exact congrArg _ ((head x g c (headOf hp h)).delta r)

include H in
/-- The attention weights. -/
theorem gW_eq (r s : Fin 4096) : gW X L C CK hp h r s = (((head x g c (headOf hp h)).W r s : ℝ) : EReal) := by
  unfold gW
  split
  · rename_i hs
    have hc : C (ix2 r ⟨2 * hp.val + h.val, by omega⟩) = (((head x g c (headOf hp h)).gate r : ℝ) : EReal) := by
      refine Eq.trans (congrArg (fun k => C (ix2 r k)) (Fin.ext ?_)) (H.hC r (headOf hp h))
      show 2 * hp.val + h.val = hp.val * 2 + h.val
      omega
    rw [dot_qk H, hc, H.hK, H.hL, ← EReal.coe_sub, ← EReal.coe_add, ← EReal.coe_sub, Ideal.exp_coe, ← Head.exp_lse _ hs]
    rfl
  · rename_i hs
    rw [Head.W_later _ hs, EReal.coe_zero]

include H in
/-- The gradient of the logits. -/
theorem gD_eq (r s : Fin 4096) : gD X O G L C CK hp h r s = (((head x g c (headOf hp h)).D r s : ℝ) : EReal) := by
  unfold gD
  rw [gW_eq H, dot_gv H, gδ_eq H, ← EReal.coe_sub, ← EReal.coe_mul]
  rfl

end Maths

section Program

variable (m : (ℓ : Loc nD τ sig) → Buf (Elt Ideal) ℓ) (c : Dev nD)
variable {x : Fin 3 → Fin 4096 → Fin 1024 → ℝ} {g : Fin 4096 → Fin 1024 → ℝ} {γ : Fin 4096 → Fin 16 → ℝ}

/-- The arrays the kernel is launched on are given so, when the arguments are real. -/
theorem given (hX : ∀ i r e, (m ((c.tc : Thread nD τ).loc main_arg0) : FVec Ideal S3x4096x1024 .bf16) (ix3 i r e) = ((x i r e : ℝ) : EReal))
    (hG : ∀ r e, (m ((c.tc : Thread nD τ).loc main_arg1) : FVec Ideal S4096x1024 .bf16) (ix2 r e) = ((g r e : ℝ) : EReal))
    (hC : ∀ (r : Fin 4096) (n : Fin 16), (m ((c.tc : Thread nD τ).loc main_arg2) : FVec Ideal S4096x128 .f32) (ix2 r (gateCol n)) = ((γ r n : ℝ) : EReal)) :
    Given (aX m c) (aO m c) (aG m c) (aL m c) (aC m c) (aK m c) x g γ where
  hX := by unfold aX; rw [V_main_arg0]; exact hX
  hG := by unfold aG; rw [V_main_arg1]; exact hG
  hC := by unfold aC; rw [V_main_arg2]; exact hC
  hO := by unfold aO; rw [V_main_v45]; exact hSaved_eq _ _ x g γ hX hC
  hL := by unfold aL; rw [V_main_v49]; exact hLseLanes_eq _ _ x g γ hX hC
  hK := by unfold aK; rw [V_main_v52]; exact hPairGate_eq _ _ x g γ hC

variable {m c} (H : Given (aX m c) (aO m c) (aG m c) (aL m c) (aC m c) (aK m c) x g γ) (hp : Fin 8)

include H in
theorem pair_dq (r : Fin 4096) (e : Fin 128) : pairOut m c hp 0 r e = (((head x g γ (headOf hp ⟨e.val / 64, by omega⟩)).dq r ⟨e.val % 64, by omega⟩ : ℝ) : EReal) := by
  show tDQ m c hp r e = _
  unfold tDQ kD gk
  simp only [gD_eq H, H.hX, ← EReal.coe_mul]
  refine Eq.trans (Finset.sum_congr rfl fun s _ => pick (fun h => (((head x g γ (headOf hp h)).D r s : ℝ) : EReal)) _ e) ?_
  simp only [← EReal.coe_mul, coe_sum]
  refine congrArg _ (Finset.sum_congr rfl fun s _ => ?_)
  rw [col_lane]
  show _ * (x 1 s _ * (1 / 8)) = _ * (1 / 8) * x 1 s _
  ring

include H in
theorem pair_dk (r : Fin 4096) (e : Fin 128) : pairOut m c hp 1 r e = (((head x g γ (headOf hp ⟨e.val / 64, by omega⟩)).dk r ⟨e.val % 64, by omega⟩ : ℝ) : EReal) := by
  show (∑ t : Fin 4096, (kD m c hp 0 t r * gq (aX m c) hp 0 t e + kD m c hp 1 t r * gq (aX m c) hp 1 t e)) = _
  unfold kD gq
  simp only [gD_eq H, H.hX, ← EReal.coe_mul]
  refine Eq.trans (Finset.sum_congr rfl fun s _ => pick (fun h => (((head x g γ (headOf hp h)).D s r : ℝ) : EReal)) _ e) ?_
  simp only [← EReal.coe_mul, coe_sum]
  refine congrArg _ (Finset.sum_congr rfl fun s _ => ?_)
  rw [col_lane]
  show _ * (x 0 s _ * (1 / 8)) = _ * (1 / 8) * x 0 s _
  ring

include H in
theorem pair_dv (r : Fin 4096) (e : Fin 128) : pairOut m c hp 2 r e = (((head x g γ (headOf hp ⟨e.val / 64, by omega⟩)).dv r ⟨e.val % 64, by omega⟩ : ℝ) : EReal) := by
  show (∑ t : Fin 4096, (kW m c hp 0 t r * gd (aG m c) hp 0 t e + kW m c hp 1 t r * gd (aG m c) hp 1 t e)) = _
  unfold kW gd
  simp only [gW_eq H, H.hG]
  refine Eq.trans (Finset.sum_congr rfl fun s _ => pick (fun h => (((head x g γ (headOf hp h)).W s r : ℝ) : EReal)) _ e) ?_
  simp only [← EReal.coe_mul, coe_sum]
  refine congrArg _ (Finset.sum_congr rfl fun s _ => ?_)
  rw [col_lane]
  rfl

include H in
theorem row_total (h : Fin 2) (r : Fin 4096) : tDR m c hp h r = (((head x g γ (headOf hp h)).dcq r : ℝ) : EReal) := by
  unfold tDR kD
  simp only [gD_eq H, coe_sum]
  rfl

theorem sum_rows_real (f : Fin 4096 → ℝ) : ∑ r, f r = (∑ t : Fin 1024, f (row 0 t)) + (∑ t : Fin 1024, f (row 1 t)) + (∑ t : Fin 1024, f (row 2 t)) + ∑ t : Fin 1024, f (row 3 t) := by
  rw [Fin.sum_univ_tiles 4 1024 rfl f, Fin.sum_univ_four]
  rfl

include H in
theorem column_total (h : Fin 2) (s : Fin 4096) :
    0 - tC m c hp 0 h s - tC m c hp 1 h s - tC m c hp 2 h s - tC m c hp 3 h s = (((head x g γ (headOf hp h)).dck s : ℝ) : EReal) := by
  unfold tC kD
  simp only [gD_eq H, coe_sum]
  rw [← EReal.coe_zero, ← EReal.coe_sub, ← EReal.coe_sub, ← EReal.coe_sub, ← EReal.coe_sub]
  refine congrArg _ ?_
  unfold Head.dck
  rw [sum_rows_real]
  ring

end Program

end Cert.Fox
-- ==== Proof.Fox.Ref.lean ====
/- The reference at finite arrays: reverse differentiation of the attention, stage by stage, as real numbers of the head each belongs to. -/
module

public import proofs.«01_k».proof.Proof.Gen.ReferenceIdeal.Read
public import proofs.«01_k».proof.Proof.Fox.Cast

@[expose] public section

set_option maxRecDepth 16384

noncomputable section

namespace Cert.Fox.Ref

open Cert.ReferenceIdeal Cert.ReferenceIdeal.Gen Cert.ReferenceIdeal.Read
open Idealize.ShloMosaic Idealize.ShloMosaic.TcCoe Idealize.ShloMosaic.Tactic

variable (X : (⟨S3x4096x1024, .bf16⟩ : BufTy).Contents (Elt Ideal)) (G : (⟨S4096x1024, .bf16⟩ : BufTy).Contents (Elt Ideal)) (C : (⟨S4096x128, .f32⟩ : BufTy).Contents (Elt Ideal))
variable (x : Fin 3 → Fin 4096 → Fin 1024 → ℝ) (g : Fin 4096 → Fin 1024 → ℝ) (c : Fin 4096 → Fin 16 → ℝ)

/-- The arrays are the real ones. -/
structure Real3 : Prop where
  hX : ∀ i r e, X (ix3 i r e) = ((x i r e : ℝ) : EReal)
  hG : ∀ r e, G (ix2 r e) = ((g r e : ℝ) : EReal)
  hC : ∀ (r : Fin 4096) (n : Fin 16), C (ix2 r (gateCol n)) = ((c r n : ℝ) : EReal)

variable {X G C x g c} (H : Real3 X G C x g c)

include H in
/-- The gates by head. -/
theorem gate_eq (n : Fin 16) (r : Fin 4096) : val_main_v1 C (ix2 n r) = (((head x g c n).gate r : ℝ) : EReal) := by
  pointwise [val_main_v1, val_main_v0]
  exact H.hC r n

include H in
/-- The queries by head. -/
theorem q_eq (n : Fin 16) (r : Fin 4096) (d : Fin 64) : val_main_v12 X (ix3 n r d) = (((head x g c n).q r d : ℝ) : EReal) := by
  pointwise [val_main_v12, val_main_v11, val_main_v4, val_main_v3, val_main_v2]
  exact H.hX 0 r (lane n d)

include H in
/-- The keys by head. -/
theorem k_eq (n : Fin 16) (r : Fin 4096) (d : Fin 64) : val_main_v14 X (ix3 n r d) = (((head x g c n).k r d : ℝ) : EReal) := by
  pointwise [val_main_v14, val_main_v13, val_main_v6, val_main_v5, val_main_v2]
  exact H.hX 1 r (lane n d)

include H in
/-- The values by head. -/
theorem v_eq (n : Fin 16) (r : Fin 4096) (d : Fin 64) : val_main_v56 X (ix3 n r d) = (((head x g c n).v r d : ℝ) : EReal) := by
  pointwise [val_main_v56, val_main_v55, val_main_v8, val_main_v7, val_main_v2]
  exact H.hX 2 r (lane n d)

include H in
/-- The output's gradient by head. -/
theorem g_eq (n : Fin 16) (r : Fin 4096) (d : Fin 64) : val_main_v60 G (ix3 n r d) = (((head x g c n).g r d : ℝ) : EReal) := by
  pointwise [val_main_v60, val_main_v59, val_main_v58]
  exact H.hG r (lane n d)

include H in
theorem qk_eq (n : Fin 16) (r s : Fin 4096) : val_main_v15 X (ix3 n r s) = ((∑ d, (head x g c n).q r d * (head x g c n).k s d : ℝ) : EReal) := by
  pointwise [val_main_v15]
  simp only [q_eq H, k_eq H, ← EReal.coe_mul, coe_sum]

include H in
/-- The logits. -/
theorem z_eq (n : Fin 16) (r s : Fin 4096) : val_main_v25 X C (ix3 n r s) = (((head x g c n).z r s : ℝ) : EReal) := by
  pointwise [val_main_v25, val_main_v17, val_main_v24, val_main_v22, val_main_v20, val_main_v23, val_main_v21, val_main_v16, val_main_cst]
  rw [qk_eq H, gate_eq H, gate_eq H, eighth32]
  simp only [← EReal.coe_mul, ← EReal.coe_sub, ← EReal.coe_add]
  rfl

theorem mask_eq (n : Fin 16) (r s : Fin 4096) : (val_main_v26_1 (F := Ideal) (ix3 n r s) : BitVec 1) = IntOp.cmpi .sle (BitVec.ofNat 32 s.val) (BitVec.ofNat 32 r.val) := by
  pointwise [val_main_v26_1, val_main_v19, val_main_v18, val_main_v9, val_main_v10]

include H in
/-- The logits under the mask. -/
theorem masked_eq (n : Fin 16) (r s : Fin 4096) : val_main_v26_0 X C (ix3 n r s) = if s.val ≤ r.val then (((head x g c n).z r s : ℝ) : EReal) else ⊥ := by
  pointwise [val_main_v26_0, val_main_call0_v2, val_main_call0_v0, val_main_cst_0]
  rw [mask_eq, select_seen, z_eq H]
  exact if_congr Iff.rfl rfl negInf32

include H in
/-- A row's greatest logit. -/
theorem rowMax_eq (n : Fin 16) (r : Fin 4096) : val_main_v27 X C (ix2 n r) = (((head x g c n).M r : ℝ) : EReal) := by
  pointwise [val_main_v27]
  simp only [masked_eq H]
  refine Eq.trans ?_ (fold_masked (head x g c n) r)
  exact congrArg (fun b => Finset.fold max b _ Finset.univ) negInf32

include H in
theorem max_eq (n : Fin 16) (r : Fin 4096) : val_main_v34 X C (ix2 n r) = (((head x g c n).M r : ℝ) : EReal) := by
  rw [val_main_v34_apply, rowMax_eq H, val_main_v33_apply]
  refine Eq.trans (congrArg (fun b : EReal => max b _) negInf32) ?_
  exact max_eq_right bot_le

include H in
/-- The exponentials. -/
theorem E_eq (n : Fin 16) (r s : Fin 4096) : val_main_v47 X C (ix3 n r s) = (((head x g c n).E r s : ℝ) : EReal) := by
  pointwise [val_main_v47, val_main_v46, val_main_v45, val_main_v44]
  rw [masked_eq H, max_eq H]
  exact exp_masked _ r s

include H in
/-- Their row sum. -/
theorem S_eq (n : Fin 16) (r : Fin 4096) : val_main_v48 X C (ix2 n r) = (((head x g c n).S r : ℝ) : EReal) := by
  pointwise [val_main_v48]
  simp only [E_eq H, coe_sum]
  refine Eq.trans (congrArg (fun b : EReal => b + _) (Ideal.ofBits_zero .f32)) ?_
  exact zero_add _

include H in
/-- The weights. -/
theorem W_eq (n : Fin 16) (r s : Fin 4096) : val_main_v51 X C (ix3 n r s) = (((head x g c n).W r s : ℝ) : EReal) := by
  pointwise [val_main_v51, val_main_v50, val_main_v49]
  rw [E_eq H, S_eq H, Ideal.div_coe ((head x g c n).S_pos r).ne', ← EReal.coe_mul]
  rfl

include H in
/-- The gradient of the values by head. -/
theorem dv_eq (n : Fin 16) (r : Fin 4096) (d : Fin 64) : val_main_v62 X G C (ix3 n r d) = (((head x g c n).dv r d : ℝ) : EReal) := by
  pointwise [val_main_v62, val_main_v61]
  simp only [g_eq H, W_eq H, ← EReal.coe_mul, coe_sum]
  exact congrArg _ (Finset.sum_congr rfl fun t _ => mul_comm _ _)

include H in
/-- The gradient of the weights. -/
theorem dp_eq (n : Fin 16) (r s : Fin 4096) : val_main_v63 X G (ix3 n r s) = (((head x g c n).dp r s : ℝ) : EReal) := by
  pointwise [val_main_v63]
  simp only [g_eq H, v_eq H, ← EReal.coe_mul, coe_sum]
  rfl

include H in
theorem inv_eq (n : Fin 16) (r : Fin 4096) : val_main_v54 X C (ix3 n r 0) = ((1 / ((head x g c n).S r * (head x g c n).S r) : ℝ) : EReal) := by
  pointwise [val_main_v54, val_main_v53, val_main_cst_10, val_main_v52, val_main_v49]
  rw [S_eq H, ← EReal.coe_mul, Ideal.div_coe (mul_pos ((head x g c n).S_pos r) ((head x g c n).S_pos r)).ne']
  exact one_mul _

include H in
/-- The gradient of a row's sum, up to its sign. -/
theorem rowDot_eq (n : Fin 16) (r : Fin 4096) : val_main_v69 X G C (ix2 n r) = ((∑ s, (head x g c n).dp r s * (1 / ((head x g c n).S r * (head x g c n).S r)) * (head x g c n).E r s : ℝ) : EReal) := by
  pointwise [val_main_v69, val_main_v68, val_main_v67, val_main_v66, val_main_cst_11]
  simp only [dp_eq H, inv_eq H, E_eq H, ← EReal.coe_mul, coe_sum]

include H in
theorem negDot_eq (n : Fin 16) (r : Fin 4096) : val_main_v74 X G C (ix2 n r) = ((-∑ s, (head x g c n).dp r s * (1 / ((head x g c n).S r * (head x g c n).S r)) * (head x g c n).E r s : ℝ) : EReal) := by
  pointwise [val_main_v74, val_main_v71, val_main_v70, val_main_cst_12]
  rw [rowDot_eq H, Fin.sum_univ_one, ← EReal.coe_neg]

include H in
/-- The gradient of the logits. -/
theorem D_eq (n : Fin 16) (r s : Fin 4096) : val_main_v78 X G C (ix3 n r s) = (((head x g c n).D r s : ℝ) : EReal) := by
  have h76 : val_main_v76 X G C (ix3 n r s) = (((head x g c n).dp r s * (1 / (head x g c n).S r) + -∑ s', (head x g c n).dp r s' * (1 / ((head x g c n).S r * (head x g c n).S r)) * (head x g c n).E r s' : ℝ) : EReal) := by
    pointwise [val_main_v76, val_main_v75, val_main_v73, val_main_v72]
    have h49 : val_main_v49 X C (ix3 n r 0) = val_main_v48 X C (ix2 n r) := by pointwise [val_main_v49]
    rw [dp_eq H, negDot_eq H, h49, S_eq H, Ideal.div_coe ((head x g c n).S_pos r).ne', ← EReal.coe_mul, ← EReal.coe_add]
  pointwise [val_main_v78, val_main_v77, val_main_call1_v0, val_main_call1_cst]
  rw [mask_eq, select_seen, h76, E_eq H, ← EReal.coe_mul, ← (head x g c n).D_quotient r s]
  split
  · rw [add_comm]
  · rename_i h
    rw [show (head x g c n).E r s = 0 from if_neg h, mul_zero, EReal.coe_zero]

include H in
/-- The gradient of the keys by head. -/
theorem dk_eq (n : Fin 16) (r : Fin 4096) (d : Fin 64) : val_main_v88 X G C (ix3 n r d) = (((head x g c n).dk r d : ℝ) : EReal) := by
  pointwise [val_main_v88, val_main_v87, val_main_v86, val_main_cst_17]
  simp only [D_eq H, q_eq H, eighth32, ← EReal.coe_mul, coe_sum]
  rfl

include H in
/-- The gradient of the queries by head. -/
theorem dq_eq (n : Fin 16) (r : Fin 4096) (d : Fin 64) : val_main_v89 X G C (ix3 n r d) = (((head x g c n).dq r d : ℝ) : EReal) := by
  pointwise [val_main_v89, val_main_v87, val_main_v86, val_main_cst_17]
  simp only [D_eq H, k_eq H, eighth32, ← EReal.coe_mul, coe_sum]
  rfl

include H in
theorem dq_flat (r : Fin 4096) (e : Fin 1024) : val_main_v93 X G C (ix2 r e) = (((head x g c ⟨e.val / 64, by omega⟩).dq r ⟨e.val % 64, by omega⟩ : ℝ) : EReal) := by
  pointwise [val_main_v93, val_main_v92]
  exact dq_eq H ⟨e.val / 64, by omega⟩ r ⟨e.val % 64, by omega⟩

include H in
theorem dk_flat (r : Fin 4096) (e : Fin 1024) : val_main_v91 X G C (ix2 r e) = (((head x g c ⟨e.val / 64, by omega⟩).dk r ⟨e.val % 64, by omega⟩ : ℝ) : EReal) := by
  pointwise [val_main_v91, val_main_v90]
  exact dk_eq H ⟨e.val / 64, by omega⟩ r ⟨e.val % 64, by omega⟩

include H in
theorem dv_flat (r : Fin 4096) (e : Fin 1024) : val_main_v65 X G C (ix2 r e) = (((head x g c ⟨e.val / 64, by omega⟩).dv r ⟨e.val % 64, by omega⟩ : ℝ) : EReal) := by
  pointwise [val_main_v65, val_main_v64]
  exact dv_eq H ⟨e.val / 64, by omega⟩ r ⟨e.val % 64, by omega⟩

include H in
theorem stack_dq (r : Fin 4096) (e : Fin 1024) : val_main_v98 X G C (ix3 0 r e) = (((head x g c ⟨e.val / 64, by omega⟩).dq r ⟨e.val % 64, by omega⟩ : ℝ) : EReal) := by
  pointwise [val_main_v98, val_main_v97, val_main_v94, val_main_v95, val_main_v96]
  exact dq_flat H r e

include H in
theorem stack_dk (r : Fin 4096) (e : Fin 1024) : val_main_v98 X G C (ix3 1 r e) = (((head x g c ⟨e.val / 64, by omega⟩).dk r ⟨e.val % 64, by omega⟩ : ℝ) : EReal) := by
  pointwise [val_main_v98, val_main_v97, val_main_v94, val_main_v95, val_main_v96]
  exact dk_flat H r e

include H in
theorem stack_dv (r : Fin 4096) (e : Fin 1024) : val_main_v98 X G C (ix3 2 r e) = (((head x g c ⟨e.val / 64, by omega⟩).dv r ⟨e.val % 64, by omega⟩ : ℝ) : EReal) := by
  pointwise [val_main_v98, val_main_v97, val_main_v94, val_main_v95, val_main_v96]
  exact dv_flat H r e

include H in
/-- The gradient of the gates as the queries', over the lanes of their head. -/
theorem dcq_lanes (hp : Fin 8) (r : Fin 4096) (e : Fin 128) : val_main_v102 X G C (ix3 hp r e) = (((head x g c (headOf hp ⟨e.val / 64, by omega⟩)).dcq r : ℝ) : EReal) := by
  pointwise [val_main_v102, val_main_v101, val_main_v100, val_main_v99]
  have h : ∀ n : Fin 16, val_main_v85 X G C (ix2 n r) = (((head x g c n).dcq r : ℝ) : EReal) := by
    intro n
    have h79 : val_main_v79 X G C (ix2 n r) = (((head x g c n).dcq r : ℝ) : EReal) := by
      pointwise [val_main_v79, val_main_cst_13]
      simp only [D_eq H, coe_sum]
      rfl
    pointwise [val_main_v85, val_main_v80, val_main_cst_16]
    rw [Fin.sum_univ_one, h79]
  exact h (headOf hp ⟨e.val / 64, by omega⟩)

include H in
/-- The gradient of the gates as the keys', by pair of heads. -/
theorem dck_pairs (hp : Fin 8) (h : Fin 2) (s : Fin 4096) : val_main_v103 X G C (ix3 hp h s) = (((head x g c (headOf hp h)).dck s : ℝ) : EReal) := by
  pointwise [val_main_v103]
  have h : ∀ n : Fin 16, val_main_v84 X G C (ix2 n s) = (((head x g c n).dck s : ℝ) : EReal) := by
    intro n
    have h82 : val_main_v82 X G C (ix2 n s) = (((head x g c n).dck s : ℝ) : EReal) := by
      pointwise [val_main_v82, val_main_v81, val_main_cst_14]
      simp only [D_eq H, ← EReal.coe_neg, coe_sum]
      rw [Finset.sum_neg_distrib]
      rfl
    pointwise [val_main_v84, val_main_v83, val_main_cst_15]
    rw [Fin.sum_univ_one, h82]
  exact h (headOf hp _)

end Cert.Fox.Ref
-- ==== Proof.Fox.Equal.lean ====
/- From finite arguments: the real arrays they are, and the kernel's three results as the reference's. -/
module

public import proofs.«01_k».proof.Pre_finite
public import proofs.«01_k».proof.Proof.Fox.Agree
public import proofs.«01_k».proof.Proof.Fox.Ref
public import Idealize.ShloMosaic.Lib.ReduceAll

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

/-- The side conditions the precondition's operations state. -/
theorem preFacts : Cert.Pre_finite.Facts where
  slices_S4096x128_S4096x16_0_0 := by decide
  bcast_S_S4096x16 := by decide
  reducesTo_S4096x16_S_d0_1 := by decide
  h_S_ := by decide
  bitsLt_bf16_f32 := by decide
  bcast_S_S3x4096x1024 := by decide
  reducesTo_S3x4096x1024_S_d0_1_2 := by decide
  bcast_S_S4096x1024 := by decide
  reducesTo_S4096x1024_S_d0_1 := by decide

theorem posInf32 : Ideal.ofBits .f32 2139095040#32 = ⊤ := by
  simp [Ideal.ofBits, Ideal.ieee]

/-- A value whose magnitude is below infinity is a real number. -/
theorem real_of_lt (v : EReal) (h : BitVec.ofBool (decide (max v (-v) < Ideal.ofBits .f32 2139095040#32)) = 1#1) : ((v.toReal : ℝ) : EReal) = v := by
  have hl : max v (-v) < ⊤ := by
    rw [posInf32] at h
    by_contra hn
    rw [decide_eq_false hn] at h
    exact absurd h (by decide)
  refine EReal.coe_toReal (fun e => ?_) (fun e => ?_)
  · subst e; simp at hl
  · subst e; simp at hl

/-- The precondition, read back. -/
theorem real_of_pre [hf : Cert.Pre_finite.Facts] (X : FVec Ideal S3x4096x1024 .bf16) (G : FVec Ideal S4096x1024 .bf16) (C : FVec Ideal S4096x128 .f32)
    (h : Cert.Pre_finite.fn (F := Ideal) X G C = fun _ => 1#1) :
    (∀ i r e, X (ix3 i r e) = (((X (ix3 i r e) : EReal).toReal : ℝ) : EReal)) ∧ (∀ r e, G (ix2 r e) = (((G (ix2 r e) : EReal).toReal : ℝ) : EReal))
      ∧ ∀ (r : Fin 4096) (n : Fin 16), C (ix2 r (gateCol n)) = (((C (ix2 r (gateCol n)) : EReal).toReal : ℝ) : EReal) := by
  have h0 := congrFun h ix0
  unfold Cert.Pre_finite.fn at h0
  dsimp only at h0
  have h1 := IntOp.andi_eq_one.1 h0
  have h2 := IntOp.andi_eq_one.1 h1.1
  have a := Host.reduce_andi_all _ _ _ _ _ h1.2
  have b := Host.reduce_andi_all _ _ _ _ _ h2.2
  have c := Host.reduce_andi_all _ _ _ _ _ h2.1
  refine ⟨fun i r e => (real_of_lt _ (b (ix3 i r e))).symm, fun r e => (real_of_lt _ (a (ix2 r e))).symm, fun r n => (real_of_lt _ ?_).symm⟩
  have c' := c (ix2 r n)
  pointwise at c'
  exact c'

variable (m : (ℓ : Loc nD τ sig) → Buf (Elt Ideal) ℓ) (c : Dev nD)
variable {x : Fin 3 → Fin 4096 → Fin 1024 → ℝ} {g : Fin 4096 → Fin 1024 → ℝ} {γ : Fin 4096 → Fin 16 → ℝ}
variable (H : Ref.Real3 (m ((c.tc : Thread nD τ).loc main_arg0)) (m ((c.tc : Thread nD τ).loc main_arg1)) (m ((c.tc : Thread nD τ).loc main_arg2)) x g γ)

theorem pair_col (e : Fin 1024) : headOf ⟨e.val / 128, by omega⟩ ⟨e.val % 128 / 64, by omega⟩ = ⟨e.val / 64, by omega⟩ :=
  Fin.ext (by show e.val / 128 * 2 + e.val % 128 / 64 = e.val / 64; omega)
theorem pair_lane (e : Fin 1024) : (⟨e.val % 128 % 64, by omega⟩ : Fin 64) = ⟨e.val % 64, by omega⟩ :=
  Fin.ext (by show e.val % 128 % 64 = e.val % 64; omega)

include H in
/-- The gradients of q, k and v. -/
theorem equal8 : out8 m c = Cert.ReferenceIdeal.Read.val_main_v98 (F := Ideal) (m ((c.tc : Thread nD τ).loc main_arg0)) (m ((c.tc : Thread nD τ).loc main_arg1)) (m ((c.tc : Thread nD τ).loc main_arg2)) := by
  have K := given m c H.hX H.hG H.hC
  funext j
  obtain ⟨a, r, e, rfl⟩ : ∃ (a : Fin 3) (r : Fin 4096) (e : Fin 1024), j = ix3 a r e := ⟨j 0, j 1, j 2, eq_ix3 j⟩
  show pairOut m c ⟨e.val / 128, _⟩ a r ⟨e.val % 128, _⟩ = _
  fin_cases a
  · refine (pair_dq K _ r _).trans (Eq.trans ?_ (Ref.stack_dq H r e).symm)
    rw [pair_col, pair_lane]
  · refine (pair_dk K _ r _).trans (Eq.trans ?_ (Ref.stack_dk H r e).symm)
    rw [pair_col, pair_lane]
  · refine (pair_dv K _ r _).trans (Eq.trans ?_ (Ref.stack_dv H r e).symm)
    rw [pair_col, pair_lane]

include H in
/-- The gradient of the gates as the queries', over the lanes of their head. -/
theorem equal9 : out9 m c = Cert.ReferenceIdeal.Read.val_main_v102 (F := Ideal) (m ((c.tc : Thread nD τ).loc main_arg0)) (m ((c.tc : Thread nD τ).loc main_arg1)) (m ((c.tc : Thread nD τ).loc main_arg2)) := by
  have K := given m c H.hX H.hG H.hC
  funext j
  obtain ⟨hp, r, e, rfl⟩ : ∃ (hp : Fin 8) (r : Fin 4096) (e : Fin 128), j = ix3 hp r e := ⟨j 0, j 1, j 2, eq_ix3 j⟩
  refine Eq.trans ?_ (Ref.dcq_lanes H hp r e).symm
  show (if e.val < 64 then tDR m c hp 0 r else tDR m c hp 1 r) = _
  split
  · rename_i h
    rw [row_total K]
    exact congrArg (fun h : Fin 2 => (((head x g γ (headOf hp h)).dcq r : ℝ) : EReal)) (Fin.ext (by show 0 = e.val / 64; omega))
  · rename_i h
    rw [row_total K]
    exact congrArg (fun h : Fin 2 => (((head x g γ (headOf hp h)).dcq r : ℝ) : EReal)) (Fin.ext (by show 1 = e.val / 64; omega))

include H in
/-- The gradient of the gates as the keys'. -/
theorem equal10 : out10 m c = Cert.ReferenceIdeal.Read.val_main_v103 (F := Ideal) (m ((c.tc : Thread nD τ).loc main_arg0)) (m ((c.tc : Thread nD τ).loc main_arg1)) (m ((c.tc : Thread nD τ).loc main_arg2)) := by
  have K := given m c H.hX H.hG H.hC
  funext j
  obtain ⟨hp, h, s, rfl⟩ : ∃ (hp : Fin 8) (h : Fin 2) (s : Fin 4096), j = ix3 hp h s := ⟨j 0, j 1, j 2, eq_ix3 j⟩
  exact (column_total K hp h s).trans (Ref.dck_pairs H hp h s).symm

end Cert.Fox
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Mm.Down
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Mm.Up
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Mm.Out
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Mm.Proj
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Mm.Norm
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Mm.Post
public import proofs.«01_k».proof.Proof.Mm.Qkv
public import proofs.«01_k».proof.Proof.Gen.Qkv0
public import proofs.«01_k».proof.Proof.Gen.Qkv0.Frame
public import proofs.«01_k».proof.Proof.Gen.Qkv0Ideal
public import proofs.«01_k».proof.Proof.Gen.Qkv0Ideal.Frame
public import proofs.«01_k».proof.Proof.Gen.Qkv0Ideal.Value
public import proofs.«01_k».proof.Proof.Gen.Qkv0ReferenceIdeal
public import proofs.«01_k».proof.Proof.Gen.Qkv0ReferenceIdeal.Run
public import proofs.«01_k».proof.Proof.Gen.Qkv0ReferenceIdeal.Read
public import proofs.«01_k».proof.Proof.Gen.Qkv1
public import proofs.«01_k».proof.Proof.Gen.Qkv1.Frame
public import proofs.«01_k».proof.Proof.Gen.Qkv1Ideal
public import proofs.«01_k».proof.Proof.Gen.Qkv1Ideal.Frame
public import proofs.«01_k».proof.Proof.Gen.Qkv1Ideal.Value
public import proofs.«01_k».proof.Proof.Gen.Qkv1ReferenceIdeal
public import proofs.«01_k».proof.Proof.Gen.Qkv1ReferenceIdeal.Run
public import proofs.«01_k».proof.Proof.Gen.Qkv1ReferenceIdeal.Read
public import proofs.«01_k».proof.Proof.Gen.Qkv2
public import proofs.«01_k».proof.Proof.Gen.Qkv2.Frame
public import proofs.«01_k».proof.Proof.Gen.Qkv2Ideal
public import proofs.«01_k».proof.Proof.Gen.Qkv2Ideal.Frame
public import proofs.«01_k».proof.Proof.Gen.Qkv2Ideal.Value
public import proofs.«01_k».proof.Proof.Gen.Qkv2ReferenceIdeal
public import proofs.«01_k».proof.Proof.Gen.Qkv2ReferenceIdeal.Run
public import proofs.«01_k».proof.Proof.Gen.Qkv2ReferenceIdeal.Read
public import proofs.«01_k».proof.Proof.Gen.Qkv3
public import proofs.«01_k».proof.Proof.Gen.Qkv3.Frame
public import proofs.«01_k».proof.Proof.Gen.Qkv3Ideal
public import proofs.«01_k».proof.Proof.Gen.Qkv3Ideal.Frame
public import proofs.«01_k».proof.Proof.Gen.Qkv3Ideal.Value
public import proofs.«01_k».proof.Proof.Gen.Qkv3ReferenceIdeal
public import proofs.«01_k».proof.Proof.Gen.Qkv3ReferenceIdeal.Run
public import proofs.«01_k».proof.Proof.Gen.Qkv3ReferenceIdeal.Read
public import proofs.«01_k».proof.Proof.Mm.Attn
public import proofs.«01_k».proof.Proof.Gen.Attn0
public import proofs.«01_k».proof.Proof.Gen.Attn0.Frame
public import proofs.«01_k».proof.Proof.Gen.Attn0Ideal
public import proofs.«01_k».proof.Proof.Gen.Attn0Ideal.Frame
public import proofs.«01_k».proof.Proof.Gen.Attn0Ideal.Value
public import proofs.«01_k».proof.Proof.Gen.Attn0ReferenceIdeal
public import proofs.«01_k».proof.Proof.Gen.Attn0ReferenceIdeal.Run
public import proofs.«01_k».proof.Proof.Gen.Attn0ReferenceIdeal.Read
public import proofs.«01_k».proof.Proof.Gen.Attn1
public import proofs.«01_k».proof.Proof.Gen.Attn1.Frame
public import proofs.«01_k».proof.Proof.Gen.Attn1Ideal
public import proofs.«01_k».proof.Proof.Gen.Attn1Ideal.Frame
public import proofs.«01_k».proof.Proof.Gen.Attn1Ideal.Value
public import proofs.«01_k».proof.Proof.Gen.Attn1ReferenceIdeal
public import proofs.«01_k».proof.Proof.Gen.Attn1ReferenceIdeal.Run
public import proofs.«01_k».proof.Proof.Gen.Attn1ReferenceIdeal.Read
public import proofs.«01_k».proof.Proof.Gen.Attn2
public import proofs.«01_k».proof.Proof.Gen.Attn2.Frame
public import proofs.«01_k».proof.Proof.Gen.Attn2Ideal
public import proofs.«01_k».proof.Proof.Gen.Attn2Ideal.Frame
public import proofs.«01_k».proof.Proof.Gen.Attn2Ideal.Value
public import proofs.«01_k».proof.Proof.Gen.Attn2ReferenceIdeal
public import proofs.«01_k».proof.Proof.Gen.Attn2ReferenceIdeal.Run
public import proofs.«01_k».proof.Proof.Gen.Attn2ReferenceIdeal.Read
public import proofs.«01_k».proof.Proof.Gen.Attn3
public import proofs.«01_k».proof.Proof.Gen.Attn3.Frame
public import proofs.«01_k».proof.Proof.Gen.Attn3Ideal
public import proofs.«01_k».proof.Proof.Gen.Attn3Ideal.Frame
public import proofs.«01_k».proof.Proof.Gen.Attn3Ideal.Value
public import proofs.«01_k».proof.Proof.Gen.Attn3ReferenceIdeal
public import proofs.«01_k».proof.Proof.Gen.Attn3ReferenceIdeal.Run
public import proofs.«01_k».proof.Proof.Gen.Attn3ReferenceIdeal.Read
public import proofs.«01_k».proof.Proof.Mm.Ffn
public import proofs.«01_k».proof.Proof.Gen.Ffn0
public import proofs.«01_k».proof.Proof.Gen.Ffn0.Frame
public import proofs.«01_k».proof.Proof.Gen.Ffn0Ideal
public import proofs.«01_k».proof.Proof.Gen.Ffn0Ideal.Frame
public import proofs.«01_k».proof.Proof.Gen.Ffn0Ideal.Value
public import proofs.«01_k».proof.Proof.Gen.Ffn0ReferenceIdeal
public import proofs.«01_k».proof.Proof.Gen.Ffn0ReferenceIdeal.Run
public import proofs.«01_k».proof.Proof.Gen.Ffn0ReferenceIdeal.Read
public import proofs.«01_k».proof.Proof.Gen.Ffn1
public import proofs.«01_k».proof.Proof.Gen.Ffn1.Frame
public import proofs.«01_k».proof.Proof.Gen.Ffn1Ideal
public import proofs.«01_k».proof.Proof.Gen.Ffn1Ideal.Frame
public import proofs.«01_k».proof.Proof.Gen.Ffn1Ideal.Value
public import proofs.«01_k».proof.Proof.Gen.Ffn1ReferenceIdeal
public import proofs.«01_k».proof.Proof.Gen.Ffn1ReferenceIdeal.Run
public import proofs.«01_k».proof.Proof.Gen.Ffn1ReferenceIdeal.Read
public import proofs.«01_k».proof.Proof.Gen.Ffn2
public import proofs.«01_k».proof.Proof.Gen.Ffn2.Frame
public import proofs.«01_k».proof.Proof.Gen.Ffn2Ideal
public import proofs.«01_k».proof.Proof.Gen.Ffn2Ideal.Frame
public import proofs.«01_k».proof.Proof.Gen.Ffn2Ideal.Value
public import proofs.«01_k».proof.Proof.Gen.Ffn2ReferenceIdeal
public import proofs.«01_k».proof.Proof.Gen.Ffn2ReferenceIdeal.Run
public import proofs.«01_k».proof.Proof.Gen.Ffn2ReferenceIdeal.Read
public import proofs.«01_k».proof.Proof.Gen.Ffn3
public import proofs.«01_k».proof.Proof.Gen.Ffn3.Frame
public import proofs.«01_k».proof.Proof.Gen.Ffn3Ideal
public import proofs.«01_k».proof.Proof.Gen.Ffn3Ideal.Frame
public import proofs.«01_k».proof.Proof.Gen.Ffn3Ideal.Value
public import proofs.«01_k».proof.Proof.Gen.Ffn3ReferenceIdeal
public import proofs.«01_k».proof.Proof.Gen.Ffn3ReferenceIdeal.Run
public import proofs.«01_k».proof.Proof.Gen.Ffn3ReferenceIdeal.Read
public import proofs.«01_k».proof.Proof.Mm.Dout
public import proofs.«01_k».proof.Proof.Gen.Dout0
public import proofs.«01_k».proof.Proof.Gen.Dout0.Frame
public import proofs.«01_k».proof.Proof.Gen.Dout0Ideal
public import proofs.«01_k».proof.Proof.Gen.Dout0Ideal.Frame
public import proofs.«01_k».proof.Proof.Gen.Dout0Ideal.Value
public import proofs.«01_k».proof.Proof.Gen.Dout0ReferenceIdeal
public import proofs.«01_k».proof.Proof.Gen.Dout0ReferenceIdeal.Run
public import proofs.«01_k».proof.Proof.Gen.Dout0ReferenceIdeal.Read
public import proofs.«01_k».proof.Proof.Gen.Dout1
public import proofs.«01_k».proof.Proof.Gen.Dout1.Frame
public import proofs.«01_k».proof.Proof.Gen.Dout1Ideal
public import proofs.«01_k».proof.Proof.Gen.Dout1Ideal.Frame
public import proofs.«01_k».proof.Proof.Gen.Dout1Ideal.Value
public import proofs.«01_k».proof.Proof.Gen.Dout1ReferenceIdeal
public import proofs.«01_k».proof.Proof.Gen.Dout1ReferenceIdeal.Run
public import proofs.«01_k».proof.Proof.Gen.Dout1ReferenceIdeal.Read
public import proofs.«01_k».proof.Proof.Gen.Dout2
public import proofs.«01_k».proof.Proof.Gen.Dout2.Frame
public import proofs.«01_k».proof.Proof.Gen.Dout2Ideal
public import proofs.«01_k».proof.Proof.Gen.Dout2Ideal.Frame
public import proofs.«01_k».proof.Proof.Gen.Dout2Ideal.Value
public import proofs.«01_k».proof.Proof.Gen.Dout2ReferenceIdeal
public import proofs.«01_k».proof.Proof.Gen.Dout2ReferenceIdeal.Run
public import proofs.«01_k».proof.Proof.Gen.Dout2ReferenceIdeal.Read
public import proofs.«01_k».proof.Proof.Gen.Dout3
public import proofs.«01_k».proof.Proof.Gen.Dout3.Frame
public import proofs.«01_k».proof.Proof.Gen.Dout3Ideal
public import proofs.«01_k».proof.Proof.Gen.Dout3Ideal.Frame
public import proofs.«01_k».proof.Proof.Gen.Dout3Ideal.Value
public import proofs.«01_k».proof.Proof.Gen.Dout3ReferenceIdeal
public import proofs.«01_k».proof.Proof.Gen.Dout3ReferenceIdeal.Run
public import proofs.«01_k».proof.Proof.Gen.Dout3ReferenceIdeal.Read
public import proofs.«01_k».proof.Proof.Mm.Dact
public import proofs.«01_k».proof.Proof.Gen.Dact0
public import proofs.«01_k».proof.Proof.Gen.Dact0.Frame
public import proofs.«01_k».proof.Proof.Gen.Dact0Ideal
public import proofs.«01_k».proof.Proof.Gen.Dact0Ideal.Frame
public import proofs.«01_k».proof.Proof.Gen.Dact0Ideal.Value
public import proofs.«01_k».proof.Proof.Gen.Dact0ReferenceIdeal
public import proofs.«01_k».proof.Proof.Gen.Dact0ReferenceIdeal.Run
public import proofs.«01_k».proof.Proof.Gen.Dact0ReferenceIdeal.Read
public import proofs.«01_k».proof.Proof.Gen.Dact1
public import proofs.«01_k».proof.Proof.Gen.Dact1.Frame
public import proofs.«01_k».proof.Proof.Gen.Dact1Ideal
public import proofs.«01_k».proof.Proof.Gen.Dact1Ideal.Frame
public import proofs.«01_k».proof.Proof.Gen.Dact1Ideal.Value
public import proofs.«01_k».proof.Proof.Gen.Dact1ReferenceIdeal
public import proofs.«01_k».proof.Proof.Gen.Dact1ReferenceIdeal.Run
public import proofs.«01_k».proof.Proof.Gen.Dact1ReferenceIdeal.Read
public import proofs.«01_k».proof.Proof.Gen.Dact2
public import proofs.«01_k».proof.Proof.Gen.Dact2.Frame
public import proofs.«01_k».proof.Proof.Gen.Dact2Ideal
public import proofs.«01_k».proof.Proof.Gen.Dact2Ideal.Frame
public import proofs.«01_k».proof.Proof.Gen.Dact2Ideal.Value
public import proofs.«01_k».proof.Proof.Gen.Dact2ReferenceIdeal
public import proofs.«01_k».proof.Proof.Gen.Dact2ReferenceIdeal.Run
public import proofs.«01_k».proof.Proof.Gen.Dact2ReferenceIdeal.Read
public import proofs.«01_k».proof.Proof.Gen.Dact3
public import proofs.«01_k».proof.Proof.Gen.Dact3.Frame
public import proofs.«01_k».proof.Proof.Gen.Dact3Ideal
public import proofs.«01_k».proof.Proof.Gen.Dact3Ideal.Frame
public import proofs.«01_k».proof.Proof.Gen.Dact3Ideal.Value
public import proofs.«01_k».proof.Proof.Gen.Dact3ReferenceIdeal
public import proofs.«01_k».proof.Proof.Gen.Dact3ReferenceIdeal.Run
public import proofs.«01_k».proof.Proof.Gen.Dact3ReferenceIdeal.Read
public import proofs.«01_k».proof.Proof.Fox.Compiled
public import proofs.«01_k».proof.Proof.Fox.Equal
public import Idealize.ShloMosaic.Adequacy
public import Idealize.ShloMosaic.Init

@[expose] public section

noncomputable section

namespace Cert.Proof

open Idealize.ShloMosaic Idealize.SL.Sem Cert.Kernel

/-- The kernel over the reals. -/
theorem frame_kernelIdeal : Cert.quiescent_KernelIdeal := fun m ρ _ => Cert.Fox.frame (F := Ideal) m ρ

/-- The reference over the reals: its run leaves its arguments, and it declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- One function over the reals: under the precondition the kernel's three results are the reference's. -/
theorem algebraic : Cert.algebraic_KernelIdeal_ReferenceIdeal_pre_finite (hPre_finite := Cert.Fox.preFacts) := fun m ρ m' ρ' hpre hargs => by
  haveI : Cert.Pre_finite.Facts := Cert.Fox.preFacts
  have H (c : Dev Cert.KernelIdeal.nD) := Cert.Fox.real_of_pre _ _ _ (hpre c)
  have R (c : Dev Cert.KernelIdeal.nD) := Cert.Fox.Ref.Real3.mk (H c).1 (H c).2.1 (H c).2.2
  refine ⟨fun c => Cert.Fox.out8 m c, fun c => Cert.Fox.out9 m c, fun c => Cert.Fox.out10 m c,
    (θ_run Cert.KernelIdeal.defs _ _).mono (fun r h c =>
      ⟨Cert.Fox.final8 m c r h.1, Cert.Fox.final9 m c r h.1, Cert.Fox.final10 m c r h.1,
        Cert.Fox.args_of m (Cert.Fox.dats m 0) (Cert.Fox.A_eq m) Cert.Fox.fgt (Cert.Fox.Rl m) r h.1 c⟩) (Cert.Fox.run_main_quiescent m ρ),
    (θ_run Cert.ReferenceIdeal.defs _ _).mono (fun r h c => ?_) (Cert.ReferenceIdeal.Value.run (F := Ideal) m' ρ')⟩
  obtain ⟨h0, h1, h2⟩ := hargs c
  refine ⟨(h c).1.trans ?_, (h c).2.1.trans ?_, (h c).2.2.1.trans ?_, (h c).2.2.2⟩
  · rw [Cert.ReferenceIdeal.Read.val_main_v98_eq, h0, h1, h2]
    exact (Cert.Fox.equal8 m c (R c)).symm
  · rw [Cert.ReferenceIdeal.Read.val_main_v102_eq, h0, h1, h2]
    exact (Cert.Fox.equal9 m c (R c)).symm
  · rw [Cert.ReferenceIdeal.Read.val_main_v103_eq, h0, h1, h2]
    exact (Cert.Fox.equal10 m c (R c)).symm

/-! ### The gradient of the MLP's down projection's weight -/

theorem frame_Down : quiescent_Down := fun m ρ _ => Down.Gen.frame m ρ
theorem frame_DownIdeal : quiescent_DownIdeal := fun m ρ _ => DownIdeal.Gen.frame m ρ
theorem frame_DownReference : quiescent_DownReferenceIdeal := fun m ρ _ =>
  (θ_run DownReferenceIdeal.defs _ _).mono
    (fun r h => ⟨fun c => (h c).2, sem_eq_zero_of_no_sems (by decide) r.2⟩)
    (DownReferenceIdeal.Value.run (F := Ideal) m ρ)

/-- One function over the reals: the array the steps leave is the product's gradient. -/
theorem algebraic_Down : algebraic_DownIdeal_DownReferenceIdeal := fun m ρ m' ρ' _ hargs => by
  refine ⟨fun c => DownIdeal.Value.G2 m c, DownIdeal.Value.run m ρ,
    (θ_run DownReferenceIdeal.defs _ _).mono (fun r h c => ⟨(h c).1.trans ?_, (h c).2⟩) (DownReferenceIdeal.Value.run (F := Ideal) m' ρ')⟩
  obtain ⟨h0, h1⟩ := hargs c
  rw [DownReferenceIdeal.Read.val_main_v6_eq, h0, h1]
  exact (Down.equal m c).symm

/-! ### The gradient of the MLP's gate and up projections' weight -/

theorem frame_Up : quiescent_Up := fun m ρ _ => Up.Gen.frame m ρ
theorem frame_UpIdeal : quiescent_UpIdeal := fun m ρ _ => UpIdeal.Gen.frame m ρ
theorem frame_UpReference : quiescent_UpReferenceIdeal := fun m ρ _ =>
  (θ_run UpReferenceIdeal.defs _ _).mono
    (fun r h => ⟨fun c => (h c).2, sem_eq_zero_of_no_sems (by decide) r.2⟩)
    (UpReferenceIdeal.Value.run (F := Ideal) m ρ)

/-- One function over the reals: the array the steps leave is the product's gradient. -/
theorem algebraic_Up : algebraic_UpIdeal_UpReferenceIdeal := fun m ρ m' ρ' _ hargs => by
  refine ⟨fun c => UpIdeal.Value.G2 m c, UpIdeal.Value.run m ρ,
    (θ_run UpReferenceIdeal.defs _ _).mono (fun r h c => ⟨(h c).1.trans ?_, (h c).2⟩) (UpReferenceIdeal.Value.run (F := Ideal) m' ρ')⟩
  obtain ⟨h0, h1⟩ := hargs c
  rw [UpReferenceIdeal.Read.val_main_v6_eq, h0, h1]
  exact (Up.equal m c).symm

/-! ### The gradient of the attention's output projection's weight -/

theorem frame_Out : quiescent_Out := fun m ρ _ => Out.Gen.frame m ρ
theorem frame_OutIdeal : quiescent_OutIdeal := fun m ρ _ => OutIdeal.Gen.frame m ρ
theorem frame_OutReference : quiescent_OutReferenceIdeal := fun m ρ _ =>
  (θ_run OutReferenceIdeal.defs _ _).mono
    (fun r h => ⟨fun c => (h c).2, sem_eq_zero_of_no_sems (by decide) r.2⟩)
    (OutReferenceIdeal.Value.run (F := Ideal) m ρ)

/-- One function over the reals: the array the steps leave is the product's gradient. -/
theorem algebraic_Out : algebraic_OutIdeal_OutReferenceIdeal := fun m ρ m' ρ' _ hargs => by
  refine ⟨fun c => OutIdeal.Value.G2 m c, OutIdeal.Value.run m ρ,
    (θ_run OutReferenceIdeal.defs _ _).mono (fun r h c => ⟨(h c).1.trans ?_, (h c).2⟩) (OutReferenceIdeal.Value.run (F := Ideal) m' ρ')⟩
  obtain ⟨h0, h1⟩ := hargs c
  rw [OutReferenceIdeal.Read.val_main_v6_eq, h0, h1]
  exact (Out.equal m c).symm

/-! ### The gradient of the attention's q, k and v projections' weight -/

theorem frame_Proj : quiescent_Proj := fun m ρ _ => Proj.Gen.frame m ρ
theorem frame_ProjIdeal : quiescent_ProjIdeal := fun m ρ _ => ProjIdeal.Gen.frame m ρ
theorem frame_ProjReference : quiescent_ProjReferenceIdeal := fun m ρ _ =>
  (θ_run ProjReferenceIdeal.defs _ _).mono
    (fun r h => ⟨fun c => (h c).2, sem_eq_zero_of_no_sems (by decide) r.2⟩)
    (ProjReferenceIdeal.Value.run (F := Ideal) m ρ)

/-- One function over the reals: the array the steps leave is the product's gradient. -/
theorem algebraic_Proj : algebraic_ProjIdeal_ProjReferenceIdeal := fun m ρ m' ρ' _ hargs => by
  refine ⟨fun c => ProjIdeal.Value.G2 m c, ProjIdeal.Value.run m ρ,
    (θ_run ProjReferenceIdeal.defs _ _).mono (fun r h c => ⟨(h c).1.trans ?_, (h c).2⟩) (ProjReferenceIdeal.Value.run (F := Ideal) m' ρ')⟩
  obtain ⟨h0, h1⟩ := hargs c
  rw [ProjReferenceIdeal.Read.val_main_v8_eq, h0, h1]
  exact (Proj.equal m c).symm

/-! ### The gradient of the norm before the attention -/

theorem frame_Norm : quiescent_Norm := fun m ρ _ => Norm.Gen.frame m ρ
theorem frame_NormIdeal : quiescent_NormIdeal := fun m ρ _ => NormIdeal.Gen.frame m ρ
theorem frame_NormReference : quiescent_NormReferenceIdeal := fun m ρ _ =>
  (θ_run NormReferenceIdeal.defs _ _).mono
    (fun r h => ⟨fun c => (h c).2.2.2.2, sem_eq_zero_of_no_sems (by decide) r.2⟩)
    (NormReferenceIdeal.Value.run (F := Ideal) m ρ)

/-- One function over the extended reals: the arrays the tiles leave are the pull-back's results. -/
theorem algebraic_Norm : algebraic_NormIdeal_NormReferenceIdeal := fun m ρ m' ρ' _ hargs => by
  refine ⟨fun c => (NormIdeal.Gen.dats m 0 c).arrAt 5 NormIdeal.cfg0.N, fun c => (NormIdeal.Gen.dats m 0 c).arrAt 6 NormIdeal.cfg0.N, fun c => (NormIdeal.Gen.dats m 0 c).arrAt 7 NormIdeal.cfg0.N, fun c => (NormIdeal.Gen.dats m 0 c).arrAt 8 NormIdeal.cfg0.N, NormIdeal.Value.run_blocks m ρ,
    (θ_run NormReferenceIdeal.defs _ _).mono (fun r h c => ⟨(h c).1.trans ?_, (h c).2.1.trans ?_, (h c).2.2.1.trans ?_, (h c).2.2.2.1.trans ?_, (h c).2.2.2.2⟩) (NormReferenceIdeal.Value.run (F := Ideal) m' ρ')⟩
  all_goals obtain ⟨h0, h1, h2, h3, h4⟩ := hargs c
  · rw [NormReferenceIdeal.Read.val_main_v49_eq, h0, h1, h2, h3, h4]
    exact (Norm.arr5 m c).symm
  · rw [h0]
    exact (NormReferenceIdeal.Read.val_main_v24_eq _).trans (Norm.arr6 m c).symm
  · rw [h0, h1, h2]
    exact (NormReferenceIdeal.Read.val_main_v27_eq _ _ _).trans (Norm.arr7 m c).symm
  · rw [h0, h1, h3]
    exact (NormReferenceIdeal.Read.val_main_v32_eq _ _ _).trans (Norm.arr8 m c).symm

/-! ### The gradient of the norm and the gate after the attention -/

theorem frame_Post : quiescent_Post := fun m ρ _ => Post.Gen.frame m ρ
theorem frame_PostIdeal : quiescent_PostIdeal := fun m ρ _ => PostIdeal.Gen.frame m ρ
theorem frame_PostReference : quiescent_PostReferenceIdeal := fun m ρ _ =>
  (θ_run PostReferenceIdeal.defs _ _).mono
    (fun r h => ⟨fun c => (h c).2.2.2, sem_eq_zero_of_no_sems (by decide) r.2⟩)
    (PostReferenceIdeal.Value.run (F := Ideal) m ρ)

/-- One function over the extended reals: the arrays the tiles leave are the pull-back's results. -/
theorem algebraic_Post : algebraic_PostIdeal_PostReferenceIdeal := fun m ρ m' ρ' _ hargs => by
  refine ⟨fun c => (PostIdeal.Gen.dats m 0 c).arrAt 4 PostIdeal.cfg0.N, fun c => (PostIdeal.Gen.dats m 0 c).arrAt 5 PostIdeal.cfg0.N, fun c => (PostIdeal.Gen.dats m 0 c).arrAt 6 PostIdeal.cfg0.N, PostIdeal.Value.run_blocks m ρ,
    (θ_run PostReferenceIdeal.defs _ _).mono (fun r h c => ⟨(h c).1.trans ?_, (h c).2.1.trans ?_, (h c).2.2.1.trans ?_, (h c).2.2.2⟩) (PostReferenceIdeal.Value.run (F := Ideal) m' ρ')⟩
  all_goals obtain ⟨h0, h1, h2, h3⟩ := hargs c
  · rw [PostReferenceIdeal.Read.val_main_v41_eq, h0, h1, h2, h3]
    exact (Post.arr4 m c).symm
  · rw [h0, h1, h2]
    exact (PostReferenceIdeal.Read.val_main_v21_eq _ _ _).trans (Post.arr5 m c).symm
  · rw [h0, h1, h3]
    exact (PostReferenceIdeal.Read.val_main_v24_eq _ _ _).trans (Post.arr6 m c).symm

/-! ### The attention's q, k and v projections, one theorem for each layer -/

theorem frame_Qkv0Reference : quiescent_Qkv0ReferenceIdeal := fun m ρ _ =>
  (θ_run Qkv0ReferenceIdeal.defs _ _).mono (fun r h => ⟨fun c => (h c).2, sem_eq_zero_of_no_sems (by decide) r.2⟩) (Qkv0ReferenceIdeal.Value.run (F := Ideal) m ρ)

theorem algebraic_Qkv0 : algebraic_Qkv0Ideal_Qkv0ReferenceIdeal := fun m ρ m' ρ' _ hargs => by
  refine ⟨fun c => (Qkv0Ideal.Gen.dats m 0 c).arrAt 2 Qkv0Ideal.cfg0.N, Qkv0Ideal.Value.run_blocks m ρ,
    (θ_run Qkv0ReferenceIdeal.defs _ _).mono (fun r h c => ⟨(h c).1.trans ?_, (h c).2⟩) (Qkv0ReferenceIdeal.Value.run (F := Ideal) m' ρ')⟩
  obtain ⟨h0, h1⟩ := hargs c
  rw [Qkv0ReferenceIdeal.Read.val_main_v7_eq, h0, h1]
  exact (Qkv0.equal m c).symm

theorem frame_Qkv1Reference : quiescent_Qkv1ReferenceIdeal := fun m ρ _ =>
  (θ_run Qkv1ReferenceIdeal.defs _ _).mono (fun r h => ⟨fun c => (h c).2, sem_eq_zero_of_no_sems (by decide) r.2⟩) (Qkv1ReferenceIdeal.Value.run (F := Ideal) m ρ)

theorem algebraic_Qkv1 : algebraic_Qkv1Ideal_Qkv1ReferenceIdeal := fun m ρ m' ρ' _ hargs => by
  refine ⟨fun c => (Qkv1Ideal.Gen.dats m 0 c).arrAt 2 Qkv1Ideal.cfg0.N, Qkv1Ideal.Value.run_blocks m ρ,
    (θ_run Qkv1ReferenceIdeal.defs _ _).mono (fun r h c => ⟨(h c).1.trans ?_, (h c).2⟩) (Qkv1ReferenceIdeal.Value.run (F := Ideal) m' ρ')⟩
  obtain ⟨h0, h1⟩ := hargs c
  rw [Qkv1ReferenceIdeal.Read.val_main_v7_eq, h0, h1]
  exact (Qkv1.equal m c).symm

theorem frame_Qkv2Reference : quiescent_Qkv2ReferenceIdeal := fun m ρ _ =>
  (θ_run Qkv2ReferenceIdeal.defs _ _).mono (fun r h => ⟨fun c => (h c).2, sem_eq_zero_of_no_sems (by decide) r.2⟩) (Qkv2ReferenceIdeal.Value.run (F := Ideal) m ρ)

theorem algebraic_Qkv2 : algebraic_Qkv2Ideal_Qkv2ReferenceIdeal := fun m ρ m' ρ' _ hargs => by
  refine ⟨fun c => (Qkv2Ideal.Gen.dats m 0 c).arrAt 2 Qkv2Ideal.cfg0.N, Qkv2Ideal.Value.run_blocks m ρ,
    (θ_run Qkv2ReferenceIdeal.defs _ _).mono (fun r h c => ⟨(h c).1.trans ?_, (h c).2⟩) (Qkv2ReferenceIdeal.Value.run (F := Ideal) m' ρ')⟩
  obtain ⟨h0, h1⟩ := hargs c
  rw [Qkv2ReferenceIdeal.Read.val_main_v7_eq, h0, h1]
  exact (Qkv2.equal m c).symm

theorem frame_Qkv3Reference : quiescent_Qkv3ReferenceIdeal := fun m ρ _ =>
  (θ_run Qkv3ReferenceIdeal.defs _ _).mono (fun r h => ⟨fun c => (h c).2, sem_eq_zero_of_no_sems (by decide) r.2⟩) (Qkv3ReferenceIdeal.Value.run (F := Ideal) m ρ)

theorem algebraic_Qkv3 : algebraic_Qkv3Ideal_Qkv3ReferenceIdeal := fun m ρ m' ρ' _ hargs => by
  refine ⟨fun c => (Qkv3Ideal.Gen.dats m 0 c).arrAt 2 Qkv3Ideal.cfg0.N, Qkv3Ideal.Value.run_blocks m ρ,
    (θ_run Qkv3ReferenceIdeal.defs _ _).mono (fun r h c => ⟨(h c).1.trans ?_, (h c).2⟩) (Qkv3ReferenceIdeal.Value.run (F := Ideal) m' ρ')⟩
  obtain ⟨h0, h1⟩ := hargs c
  rw [Qkv3ReferenceIdeal.Read.val_main_v7_eq, h0, h1]
  exact (Qkv3.equal m c).symm

/-! ### The attention's output projection, one theorem for each layer -/

theorem frame_Attn0Reference : quiescent_Attn0ReferenceIdeal := fun m ρ _ =>
  (θ_run Attn0ReferenceIdeal.defs _ _).mono (fun r h => ⟨fun c => (h c).2, sem_eq_zero_of_no_sems (by decide) r.2⟩) (Attn0ReferenceIdeal.Value.run (F := Ideal) m ρ)

theorem algebraic_Attn0 : algebraic_Attn0Ideal_Attn0ReferenceIdeal := fun m ρ m' ρ' _ hargs => by
  refine ⟨fun c => (Attn0Ideal.Gen.dats m 0 c).arrAt 2 Attn0Ideal.cfg0.N, Attn0Ideal.Value.run_blocks m ρ,
    (θ_run Attn0ReferenceIdeal.defs _ _).mono (fun r h c => ⟨(h c).1.trans ?_, (h c).2⟩) (Attn0ReferenceIdeal.Value.run (F := Ideal) m' ρ')⟩
  obtain ⟨h0, h1⟩ := hargs c
  rw [Attn0ReferenceIdeal.Read.val_main_v4_eq, h0, h1]
  exact (Attn0.equal m c).symm

theorem frame_Attn1Reference : quiescent_Attn1ReferenceIdeal := fun m ρ _ =>
  (θ_run Attn1ReferenceIdeal.defs _ _).mono (fun r h => ⟨fun c => (h c).2, sem_eq_zero_of_no_sems (by decide) r.2⟩) (Attn1ReferenceIdeal.Value.run (F := Ideal) m ρ)

theorem algebraic_Attn1 : algebraic_Attn1Ideal_Attn1ReferenceIdeal := fun m ρ m' ρ' _ hargs => by
  refine ⟨fun c => (Attn1Ideal.Gen.dats m 0 c).arrAt 2 Attn1Ideal.cfg0.N, Attn1Ideal.Value.run_blocks m ρ,
    (θ_run Attn1ReferenceIdeal.defs _ _).mono (fun r h c => ⟨(h c).1.trans ?_, (h c).2⟩) (Attn1ReferenceIdeal.Value.run (F := Ideal) m' ρ')⟩
  obtain ⟨h0, h1⟩ := hargs c
  rw [Attn1ReferenceIdeal.Read.val_main_v4_eq, h0, h1]
  exact (Attn1.equal m c).symm

theorem frame_Attn2Reference : quiescent_Attn2ReferenceIdeal := fun m ρ _ =>
  (θ_run Attn2ReferenceIdeal.defs _ _).mono (fun r h => ⟨fun c => (h c).2, sem_eq_zero_of_no_sems (by decide) r.2⟩) (Attn2ReferenceIdeal.Value.run (F := Ideal) m ρ)

theorem algebraic_Attn2 : algebraic_Attn2Ideal_Attn2ReferenceIdeal := fun m ρ m' ρ' _ hargs => by
  refine ⟨fun c => (Attn2Ideal.Gen.dats m 0 c).arrAt 2 Attn2Ideal.cfg0.N, Attn2Ideal.Value.run_blocks m ρ,
    (θ_run Attn2ReferenceIdeal.defs _ _).mono (fun r h c => ⟨(h c).1.trans ?_, (h c).2⟩) (Attn2ReferenceIdeal.Value.run (F := Ideal) m' ρ')⟩
  obtain ⟨h0, h1⟩ := hargs c
  rw [Attn2ReferenceIdeal.Read.val_main_v4_eq, h0, h1]
  exact (Attn2.equal m c).symm

theorem frame_Attn3Reference : quiescent_Attn3ReferenceIdeal := fun m ρ _ =>
  (θ_run Attn3ReferenceIdeal.defs _ _).mono (fun r h => ⟨fun c => (h c).2, sem_eq_zero_of_no_sems (by decide) r.2⟩) (Attn3ReferenceIdeal.Value.run (F := Ideal) m ρ)

theorem algebraic_Attn3 : algebraic_Attn3Ideal_Attn3ReferenceIdeal := fun m ρ m' ρ' _ hargs => by
  refine ⟨fun c => (Attn3Ideal.Gen.dats m 0 c).arrAt 2 Attn3Ideal.cfg0.N, Attn3Ideal.Value.run_blocks m ρ,
    (θ_run Attn3ReferenceIdeal.defs _ _).mono (fun r h c => ⟨(h c).1.trans ?_, (h c).2⟩) (Attn3ReferenceIdeal.Value.run (F := Ideal) m' ρ')⟩
  obtain ⟨h0, h1⟩ := hargs c
  rw [Attn3ReferenceIdeal.Read.val_main_v4_eq, h0, h1]
  exact (Attn3.equal m c).symm

/-! ### The MLP's gate and up projections, one theorem for each layer -/

theorem frame_Ffn0Reference : quiescent_Ffn0ReferenceIdeal := fun m ρ _ =>
  (θ_run Ffn0ReferenceIdeal.defs _ _).mono (fun r h => ⟨fun c => (h c).2, sem_eq_zero_of_no_sems (by decide) r.2⟩) (Ffn0ReferenceIdeal.Value.run (F := Ideal) m ρ)

theorem algebraic_Ffn0 : algebraic_Ffn0Ideal_Ffn0ReferenceIdeal := fun m ρ m' ρ' _ hargs => by
  refine ⟨fun c => (Ffn0Ideal.Gen.dats m 0 c).arrAt 2 Ffn0Ideal.cfg0.N, Ffn0Ideal.Value.run_blocks m ρ,
    (θ_run Ffn0ReferenceIdeal.defs _ _).mono (fun r h c => ⟨(h c).1.trans ?_, (h c).2⟩) (Ffn0ReferenceIdeal.Value.run (F := Ideal) m' ρ')⟩
  obtain ⟨h0, h1⟩ := hargs c
  rw [Ffn0ReferenceIdeal.Read.val_main_v5_eq, h0, h1]
  exact (Ffn0.equal m c).symm

theorem frame_Ffn1Reference : quiescent_Ffn1ReferenceIdeal := fun m ρ _ =>
  (θ_run Ffn1ReferenceIdeal.defs _ _).mono (fun r h => ⟨fun c => (h c).2, sem_eq_zero_of_no_sems (by decide) r.2⟩) (Ffn1ReferenceIdeal.Value.run (F := Ideal) m ρ)

theorem algebraic_Ffn1 : algebraic_Ffn1Ideal_Ffn1ReferenceIdeal := fun m ρ m' ρ' _ hargs => by
  refine ⟨fun c => (Ffn1Ideal.Gen.dats m 0 c).arrAt 2 Ffn1Ideal.cfg0.N, Ffn1Ideal.Value.run_blocks m ρ,
    (θ_run Ffn1ReferenceIdeal.defs _ _).mono (fun r h c => ⟨(h c).1.trans ?_, (h c).2⟩) (Ffn1ReferenceIdeal.Value.run (F := Ideal) m' ρ')⟩
  obtain ⟨h0, h1⟩ := hargs c
  rw [Ffn1ReferenceIdeal.Read.val_main_v5_eq, h0, h1]
  exact (Ffn1.equal m c).symm

theorem frame_Ffn2Reference : quiescent_Ffn2ReferenceIdeal := fun m ρ _ =>
  (θ_run Ffn2ReferenceIdeal.defs _ _).mono (fun r h => ⟨fun c => (h c).2, sem_eq_zero_of_no_sems (by decide) r.2⟩) (Ffn2ReferenceIdeal.Value.run (F := Ideal) m ρ)

theorem algebraic_Ffn2 : algebraic_Ffn2Ideal_Ffn2ReferenceIdeal := fun m ρ m' ρ' _ hargs => by
  refine ⟨fun c => (Ffn2Ideal.Gen.dats m 0 c).arrAt 2 Ffn2Ideal.cfg0.N, Ffn2Ideal.Value.run_blocks m ρ,
    (θ_run Ffn2ReferenceIdeal.defs _ _).mono (fun r h c => ⟨(h c).1.trans ?_, (h c).2⟩) (Ffn2ReferenceIdeal.Value.run (F := Ideal) m' ρ')⟩
  obtain ⟨h0, h1⟩ := hargs c
  rw [Ffn2ReferenceIdeal.Read.val_main_v5_eq, h0, h1]
  exact (Ffn2.equal m c).symm

theorem frame_Ffn3Reference : quiescent_Ffn3ReferenceIdeal := fun m ρ _ =>
  (θ_run Ffn3ReferenceIdeal.defs _ _).mono (fun r h => ⟨fun c => (h c).2, sem_eq_zero_of_no_sems (by decide) r.2⟩) (Ffn3ReferenceIdeal.Value.run (F := Ideal) m ρ)

theorem algebraic_Ffn3 : algebraic_Ffn3Ideal_Ffn3ReferenceIdeal := fun m ρ m' ρ' _ hargs => by
  refine ⟨fun c => (Ffn3Ideal.Gen.dats m 0 c).arrAt 2 Ffn3Ideal.cfg0.N, Ffn3Ideal.Value.run_blocks m ρ,
    (θ_run Ffn3ReferenceIdeal.defs _ _).mono (fun r h c => ⟨(h c).1.trans ?_, (h c).2⟩) (Ffn3ReferenceIdeal.Value.run (F := Ideal) m' ρ')⟩
  obtain ⟨h0, h1⟩ := hargs c
  rw [Ffn3ReferenceIdeal.Read.val_main_v5_eq, h0, h1]
  exact (Ffn3.equal m c).symm

/-! ### The gradient of the attention's output projection's input, one theorem for each layer -/

theorem frame_Dout0Reference : quiescent_Dout0ReferenceIdeal := fun m ρ _ =>
  (θ_run Dout0ReferenceIdeal.defs _ _).mono (fun r h => ⟨fun c => (h c).2, sem_eq_zero_of_no_sems (by decide) r.2⟩) (Dout0ReferenceIdeal.Value.run (F := Ideal) m ρ)

theorem algebraic_Dout0 : algebraic_Dout0Ideal_Dout0ReferenceIdeal := fun m ρ m' ρ' _ hargs => by
  refine ⟨fun c => (Dout0Ideal.Gen.dats m 0 c).arrAt 2 Dout0Ideal.cfg0.N, Dout0Ideal.Value.run_blocks m ρ,
    (θ_run Dout0ReferenceIdeal.defs _ _).mono (fun r h c => ⟨(h c).1.trans ?_, (h c).2⟩) (Dout0ReferenceIdeal.Value.run (F := Ideal) m' ρ')⟩
  obtain ⟨h0, h1⟩ := hargs c
  rw [Dout0ReferenceIdeal.Read.val_main_v7_eq, h0, h1]
  exact (Dout0.equal m c).symm

theorem frame_Dout1Reference : quiescent_Dout1ReferenceIdeal := fun m ρ _ =>
  (θ_run Dout1ReferenceIdeal.defs _ _).mono (fun r h => ⟨fun c => (h c).2, sem_eq_zero_of_no_sems (by decide) r.2⟩) (Dout1ReferenceIdeal.Value.run (F := Ideal) m ρ)

theorem algebraic_Dout1 : algebraic_Dout1Ideal_Dout1ReferenceIdeal := fun m ρ m' ρ' _ hargs => by
  refine ⟨fun c => (Dout1Ideal.Gen.dats m 0 c).arrAt 2 Dout1Ideal.cfg0.N, Dout1Ideal.Value.run_blocks m ρ,
    (θ_run Dout1ReferenceIdeal.defs _ _).mono (fun r h c => ⟨(h c).1.trans ?_, (h c).2⟩) (Dout1ReferenceIdeal.Value.run (F := Ideal) m' ρ')⟩
  obtain ⟨h0, h1⟩ := hargs c
  rw [Dout1ReferenceIdeal.Read.val_main_v7_eq, h0, h1]
  exact (Dout1.equal m c).symm

theorem frame_Dout2Reference : quiescent_Dout2ReferenceIdeal := fun m ρ _ =>
  (θ_run Dout2ReferenceIdeal.defs _ _).mono (fun r h => ⟨fun c => (h c).2, sem_eq_zero_of_no_sems (by decide) r.2⟩) (Dout2ReferenceIdeal.Value.run (F := Ideal) m ρ)

theorem algebraic_Dout2 : algebraic_Dout2Ideal_Dout2ReferenceIdeal := fun m ρ m' ρ' _ hargs => by
  refine ⟨fun c => (Dout2Ideal.Gen.dats m 0 c).arrAt 2 Dout2Ideal.cfg0.N, Dout2Ideal.Value.run_blocks m ρ,
    (θ_run Dout2ReferenceIdeal.defs _ _).mono (fun r h c => ⟨(h c).1.trans ?_, (h c).2⟩) (Dout2ReferenceIdeal.Value.run (F := Ideal) m' ρ')⟩
  obtain ⟨h0, h1⟩ := hargs c
  rw [Dout2ReferenceIdeal.Read.val_main_v7_eq, h0, h1]
  exact (Dout2.equal m c).symm

theorem frame_Dout3Reference : quiescent_Dout3ReferenceIdeal := fun m ρ _ =>
  (θ_run Dout3ReferenceIdeal.defs _ _).mono (fun r h => ⟨fun c => (h c).2, sem_eq_zero_of_no_sems (by decide) r.2⟩) (Dout3ReferenceIdeal.Value.run (F := Ideal) m ρ)

theorem algebraic_Dout3 : algebraic_Dout3Ideal_Dout3ReferenceIdeal := fun m ρ m' ρ' _ hargs => by
  refine ⟨fun c => (Dout3Ideal.Gen.dats m 0 c).arrAt 2 Dout3Ideal.cfg0.N, Dout3Ideal.Value.run_blocks m ρ,
    (θ_run Dout3ReferenceIdeal.defs _ _).mono (fun r h c => ⟨(h c).1.trans ?_, (h c).2⟩) (Dout3ReferenceIdeal.Value.run (F := Ideal) m' ρ')⟩
  obtain ⟨h0, h1⟩ := hargs c
  rw [Dout3ReferenceIdeal.Read.val_main_v7_eq, h0, h1]
  exact (Dout3.equal m c).symm

/-! ### The gradient of the MLP's down projection's input, one theorem for each layer -/

theorem frame_Dact0Reference : quiescent_Dact0ReferenceIdeal := fun m ρ _ =>
  (θ_run Dact0ReferenceIdeal.defs _ _).mono (fun r h => ⟨fun c => (h c).2, sem_eq_zero_of_no_sems (by decide) r.2⟩) (Dact0ReferenceIdeal.Value.run (F := Ideal) m ρ)

theorem algebraic_Dact0 : algebraic_Dact0Ideal_Dact0ReferenceIdeal := fun m ρ m' ρ' _ hargs => by
  refine ⟨fun c => (Dact0Ideal.Gen.dats m 0 c).arrAt 2 Dact0Ideal.cfg0.N, Dact0Ideal.Value.run_blocks m ρ,
    (θ_run Dact0ReferenceIdeal.defs _ _).mono (fun r h c => ⟨(h c).1.trans ?_, (h c).2⟩) (Dact0ReferenceIdeal.Value.run (F := Ideal) m' ρ')⟩
  obtain ⟨h0, h1⟩ := hargs c
  rw [Dact0ReferenceIdeal.Read.val_main_v7_eq, h0, h1]
  exact (Dact0.equal m c).symm

theorem frame_Dact1Reference : quiescent_Dact1ReferenceIdeal := fun m ρ _ =>
  (θ_run Dact1ReferenceIdeal.defs _ _).mono (fun r h => ⟨fun c => (h c).2, sem_eq_zero_of_no_sems (by decide) r.2⟩) (Dact1ReferenceIdeal.Value.run (F := Ideal) m ρ)

theorem algebraic_Dact1 : algebraic_Dact1Ideal_Dact1ReferenceIdeal := fun m ρ m' ρ' _ hargs => by
  refine ⟨fun c => (Dact1Ideal.Gen.dats m 0 c).arrAt 2 Dact1Ideal.cfg0.N, Dact1Ideal.Value.run_blocks m ρ,
    (θ_run Dact1ReferenceIdeal.defs _ _).mono (fun r h c => ⟨(h c).1.trans ?_, (h c).2⟩) (Dact1ReferenceIdeal.Value.run (F := Ideal) m' ρ')⟩
  obtain ⟨h0, h1⟩ := hargs c
  rw [Dact1ReferenceIdeal.Read.val_main_v7_eq, h0, h1]
  exact (Dact1.equal m c).symm

theorem frame_Dact2Reference : quiescent_Dact2ReferenceIdeal := fun m ρ _ =>
  (θ_run Dact2ReferenceIdeal.defs _ _).mono (fun r h => ⟨fun c => (h c).2, sem_eq_zero_of_no_sems (by decide) r.2⟩) (Dact2ReferenceIdeal.Value.run (F := Ideal) m ρ)

theorem algebraic_Dact2 : algebraic_Dact2Ideal_Dact2ReferenceIdeal := fun m ρ m' ρ' _ hargs => by
  refine ⟨fun c => (Dact2Ideal.Gen.dats m 0 c).arrAt 2 Dact2Ideal.cfg0.N, Dact2Ideal.Value.run_blocks m ρ,
    (θ_run Dact2ReferenceIdeal.defs _ _).mono (fun r h c => ⟨(h c).1.trans ?_, (h c).2⟩) (Dact2ReferenceIdeal.Value.run (F := Ideal) m' ρ')⟩
  obtain ⟨h0, h1⟩ := hargs c
  rw [Dact2ReferenceIdeal.Read.val_main_v7_eq, h0, h1]
  exact (Dact2.equal m c).symm

theorem frame_Dact3Reference : quiescent_Dact3ReferenceIdeal := fun m ρ _ =>
  (θ_run Dact3ReferenceIdeal.defs _ _).mono (fun r h => ⟨fun c => (h c).2, sem_eq_zero_of_no_sems (by decide) r.2⟩) (Dact3ReferenceIdeal.Value.run (F := Ideal) m ρ)

theorem algebraic_Dact3 : algebraic_Dact3Ideal_Dact3ReferenceIdeal := fun m ρ m' ρ' _ hargs => by
  refine ⟨fun c => (Dact3Ideal.Gen.dats m 0 c).arrAt 2 Dact3Ideal.cfg0.N, Dact3Ideal.Value.run_blocks m ρ,
    (θ_run Dact3ReferenceIdeal.defs _ _).mono (fun r h c => ⟨(h c).1.trans ?_, (h c).2⟩) (Dact3ReferenceIdeal.Value.run (F := Ideal) m' ρ')⟩
  obtain ⟨h0, h1⟩ := hargs c
  rw [Dact3ReferenceIdeal.Read.val_main_v7_eq, h0, h1]
  exact (Dact3.equal m c).symm

theorem claim : Cert.Claim :=
  ⟨Kernel.Gen.facts, KernelIdeal.Gen.facts, ReferenceIdeal.Gen.facts, Down.Gen.facts, DownIdeal.Gen.facts, DownReferenceIdeal.Gen.facts, Up.Gen.facts, UpIdeal.Gen.facts, UpReferenceIdeal.Gen.facts, Out.Gen.facts, OutIdeal.Gen.facts, OutReferenceIdeal.Gen.facts, Proj.Gen.facts, ProjIdeal.Gen.facts, ProjReferenceIdeal.Gen.facts, Norm.Gen.facts, NormIdeal.Gen.facts, NormReferenceIdeal.Gen.facts, Post.Gen.facts, PostIdeal.Gen.facts, PostReferenceIdeal.Gen.facts, Qkv0.Gen.facts, Qkv0Ideal.Gen.facts, Qkv0ReferenceIdeal.Gen.facts, Qkv1.Gen.facts, Qkv1Ideal.Gen.facts, Qkv1ReferenceIdeal.Gen.facts, Qkv2.Gen.facts, Qkv2Ideal.Gen.facts, Qkv2ReferenceIdeal.Gen.facts, Qkv3.Gen.facts, Qkv3Ideal.Gen.facts, Qkv3ReferenceIdeal.Gen.facts, Attn0.Gen.facts, Attn0Ideal.Gen.facts, Attn0ReferenceIdeal.Gen.facts, Attn1.Gen.facts, Attn1Ideal.Gen.facts, Attn1ReferenceIdeal.Gen.facts, Attn2.Gen.facts, Attn2Ideal.Gen.facts, Attn2ReferenceIdeal.Gen.facts, Attn3.Gen.facts, Attn3Ideal.Gen.facts, Attn3ReferenceIdeal.Gen.facts, Ffn0.Gen.facts, Ffn0Ideal.Gen.facts, Ffn0ReferenceIdeal.Gen.facts, Ffn1.Gen.facts, Ffn1Ideal.Gen.facts, Ffn1ReferenceIdeal.Gen.facts, Ffn2.Gen.facts, Ffn2Ideal.Gen.facts, Ffn2ReferenceIdeal.Gen.facts, Ffn3.Gen.facts, Ffn3Ideal.Gen.facts, Ffn3ReferenceIdeal.Gen.facts, Dout0.Gen.facts, Dout0Ideal.Gen.facts, Dout0ReferenceIdeal.Gen.facts, Dout1.Gen.facts, Dout1Ideal.Gen.facts, Dout1ReferenceIdeal.Gen.facts, Dout2.Gen.facts, Dout2Ideal.Gen.facts, Dout2ReferenceIdeal.Gen.facts, Dout3.Gen.facts, Dout3Ideal.Gen.facts, Dout3ReferenceIdeal.Gen.facts, Dact0.Gen.facts, Dact0Ideal.Gen.facts, Dact0ReferenceIdeal.Gen.facts, Dact1.Gen.facts, Dact1Ideal.Gen.facts, Dact1ReferenceIdeal.Gen.facts, Dact2.Gen.facts, Dact2Ideal.Gen.facts, Dact2ReferenceIdeal.Gen.facts, Dact3.Gen.facts, Dact3Ideal.Gen.facts, Dact3ReferenceIdeal.Gen.facts, Fox.preFacts,
    Fox.frame_kernel, frame_kernelIdeal, fun m ρ _ => frame_kernelIdeal m ρ trivial, frame_reference, fun m ρ _ => frame_reference m ρ trivial,
    frame_Down, frame_DownIdeal, frame_DownReference, frame_Up, frame_UpIdeal, frame_UpReference, frame_Out, frame_OutIdeal, frame_OutReference, frame_Proj, frame_ProjIdeal, frame_ProjReference, frame_Norm, frame_NormIdeal, frame_NormReference, frame_Post, frame_PostIdeal, frame_PostReference,
    fun m ρ _ => Qkv0.Gen.frame m ρ, fun m ρ _ => Qkv0Ideal.Gen.frame m ρ, frame_Qkv0Reference,
    fun m ρ _ => Qkv1.Gen.frame m ρ, fun m ρ _ => Qkv1Ideal.Gen.frame m ρ, frame_Qkv1Reference,
    fun m ρ _ => Qkv2.Gen.frame m ρ, fun m ρ _ => Qkv2Ideal.Gen.frame m ρ, frame_Qkv2Reference,
    fun m ρ _ => Qkv3.Gen.frame m ρ, fun m ρ _ => Qkv3Ideal.Gen.frame m ρ, frame_Qkv3Reference,
    fun m ρ _ => Attn0.Gen.frame m ρ, fun m ρ _ => Attn0Ideal.Gen.frame m ρ, frame_Attn0Reference,
    fun m ρ _ => Attn1.Gen.frame m ρ, fun m ρ _ => Attn1Ideal.Gen.frame m ρ, frame_Attn1Reference,
    fun m ρ _ => Attn2.Gen.frame m ρ, fun m ρ _ => Attn2Ideal.Gen.frame m ρ, frame_Attn2Reference,
    fun m ρ _ => Attn3.Gen.frame m ρ, fun m ρ _ => Attn3Ideal.Gen.frame m ρ, frame_Attn3Reference,
    fun m ρ _ => Ffn0.Gen.frame m ρ, fun m ρ _ => Ffn0Ideal.Gen.frame m ρ, frame_Ffn0Reference,
    fun m ρ _ => Ffn1.Gen.frame m ρ, fun m ρ _ => Ffn1Ideal.Gen.frame m ρ, frame_Ffn1Reference,
    fun m ρ _ => Ffn2.Gen.frame m ρ, fun m ρ _ => Ffn2Ideal.Gen.frame m ρ, frame_Ffn2Reference,
    fun m ρ _ => Ffn3.Gen.frame m ρ, fun m ρ _ => Ffn3Ideal.Gen.frame m ρ, frame_Ffn3Reference,
    fun m ρ _ => Dout0.Gen.frame m ρ, fun m ρ _ => Dout0Ideal.Gen.frame m ρ, frame_Dout0Reference,
    fun m ρ _ => Dout1.Gen.frame m ρ, fun m ρ _ => Dout1Ideal.Gen.frame m ρ, frame_Dout1Reference,
    fun m ρ _ => Dout2.Gen.frame m ρ, fun m ρ _ => Dout2Ideal.Gen.frame m ρ, frame_Dout2Reference,
    fun m ρ _ => Dout3.Gen.frame m ρ, fun m ρ _ => Dout3Ideal.Gen.frame m ρ, frame_Dout3Reference,
    fun m ρ _ => Dact0.Gen.frame m ρ, fun m ρ _ => Dact0Ideal.Gen.frame m ρ, frame_Dact0Reference,
    fun m ρ _ => Dact1.Gen.frame m ρ, fun m ρ _ => Dact1Ideal.Gen.frame m ρ, frame_Dact1Reference,
    fun m ρ _ => Dact2.Gen.frame m ρ, fun m ρ _ => Dact2Ideal.Gen.frame m ρ, frame_Dact2Reference,
    fun m ρ _ => Dact3.Gen.frame m ρ, fun m ρ _ => Dact3Ideal.Gen.frame m ρ, frame_Dact3Reference,
    trivial, algebraic, trivial, algebraic_Down, trivial, algebraic_Up, trivial, algebraic_Out, trivial, algebraic_Proj, trivial, algebraic_Norm, trivial, algebraic_Post, trivial, algebraic_Qkv0, trivial, algebraic_Qkv1, trivial, algebraic_Qkv2, trivial, algebraic_Qkv3, trivial, algebraic_Attn0, trivial, algebraic_Attn1, trivial, algebraic_Attn2, trivial, algebraic_Attn3, trivial, algebraic_Ffn0, trivial, algebraic_Ffn1, trivial, algebraic_Ffn2, trivial, algebraic_Ffn3, trivial, algebraic_Dout0, trivial, algebraic_Dout1, trivial, algebraic_Dout2, trivial, algebraic_Dout3, trivial, algebraic_Dact0, trivial, algebraic_Dact1, trivial, algebraic_Dact2, trivial, algebraic_Dact3⟩

end Cert.Proof

end
